-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite [hPre_routed_and_finite : Cert.Pre_routed_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite [hPre_routed_and_finite : Cert.Pre_routed_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_norms [hPre_finite_norms : Cert.Pre_finite_norms.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_norms.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_norms [hPre_finite_norms : Cert.Pre_finite_norms.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_norms.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_routed_and_finite [hKernelIdeal : Cert.KernelIdeal.Facts] [hPre_routed_and_finite : Cert.Pre_routed_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routed_and_finite [hReferenceIdeal : Cert.ReferenceIdeal.Facts] [hPre_routed_and_finite : Cert.Pre_routed_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Kernel3Ideal_pre_finite_norms [hKernel3Ideal : Cert.Kernel3Ideal.Facts] [hPre_finite_norms : Cert.Pre_finite_norms.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_norms m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Reference3Ideal_pre_finite_norms [hReference3Ideal : Cert.Reference3Ideal.Facts] [hPre_finite_norms : Cert.Pre_finite_norms.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_norms m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_routed_and_finite [hKernelIdeal : Cert.KernelIdeal.Facts] [hReferenceIdeal : Cert.ReferenceIdeal.Facts] [hPre_routed_and_finite : Cert.Pre_routed_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v26)) (v1 : (c : Dev Cert.Kernel2Ideal.nD) → Buf (Elt Ideal) ((c.tc : Thread Cert.Kernel2Ideal.nD Cert.Kernel2Ideal.τ).loc Cert.Kernel2Ideal.main_v22_0)) (v2 : (c : Dev Cert.Kernel2Ideal.nD) → Buf (Elt Ideal) ((c.tc : Thread Cert.Kernel2Ideal.nD Cert.Kernel2Ideal.τ).loc Cert.Kernel2Ideal.main_v22_1)) (v3 : (c : Dev Cert.Kernel2Ideal.nD) → Buf (Elt Ideal) ((c.tc : Thread Cert.Kernel2Ideal.nD Cert.Kernel2Ideal.τ).loc Cert.Kernel2Ideal.main_v22_2)) (v4 : (c : Dev Cert.Kernel2Ideal.nD) → Buf (Elt Ideal) ((c.tc : Thread Cert.Kernel2Ideal.nD Cert.Kernel2Ideal.τ).loc Cert.Kernel2Ideal.main_v22_3)) (v5 : (c : Dev Cert.Kernel2Ideal.nD) → Buf (Elt Ideal) ((c.tc : Thread Cert.Kernel2Ideal.nD Cert.Kernel2Ideal.τ).loc Cert.Kernel2Ideal.main_v22_4)) (v6 : (c : Dev Cert.Kernel2Ideal.nD) → Buf (Elt Ideal) ((c.tc : Thread Cert.Kernel2Ideal.nD Cert.Kernel2Ideal.τ).loc Cert.Kernel2Ideal.main_v25_0)) (v7 : (c : Dev Cert.Kernel2Ideal.nD) → Buf (Elt Ideal) ((c.tc : Thread Cert.Kernel2Ideal.nD Cert.Kernel2Ideal.τ).loc Cert.Kernel2Ideal.main_v25_1)) (v8 : (c : Dev Cert.Kernel2Ideal.nD) → Buf (Elt Ideal) ((c.tc : Thread Cert.Kernel2Ideal.nD Cert.Kernel2Ideal.τ).loc Cert.Kernel2Ideal.main_v25_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_v22_0) = v1 c
          ∧ r.2.mem ((c.tc : Thread Cert.Kernel2Ideal.nD Cert.Kernel2Ideal.τ).loc Cert.Kernel2Ideal.main_v22_1) = v2 c
          ∧ r.2.mem ((c.tc : Thread Cert.Kernel2Ideal.nD Cert.Kernel2Ideal.τ).loc Cert.Kernel2Ideal.main_v22_2) = v3 c
          ∧ r.2.mem ((c.tc : Thread Cert.Kernel2Ideal.nD Cert.Kernel2Ideal.τ).loc Cert.Kernel2Ideal.main_v22_3) = v4 c
          ∧ r.2.mem ((c.tc : Thread Cert.Kernel2Ideal.nD Cert.Kernel2Ideal.τ).loc Cert.Kernel2Ideal.main_v22_4) = v5 c
          ∧ r.2.mem ((c.tc : Thread Cert.Kernel2Ideal.nD Cert.Kernel2Ideal.τ).loc Cert.Kernel2Ideal.main_v25_0) = v6 c
          ∧ r.2.mem ((c.tc : Thread Cert.Kernel2Ideal.nD Cert.Kernel2Ideal.τ).loc Cert.Kernel2Ideal.main_v25_1) = v7 c
          ∧ r.2.mem ((c.tc : Thread Cert.Kernel2Ideal.nD Cert.Kernel2Ideal.τ).loc Cert.Kernel2Ideal.main_v25_2) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v74) = v5 c
          ∧ r.2.mem ((c.tc : Thread Cert.Reference2Ideal.nD Cert.Reference2Ideal.τ).loc Cert.Reference2Ideal.main_v75) = v6 c
          ∧ r.2.mem ((c.tc : Thread Cert.Reference2Ideal.nD Cert.Reference2Ideal.τ).loc Cert.Reference2Ideal.main_v76) = v7 c
          ∧ r.2.mem ((c.tc : Thread Cert.Reference2Ideal.nD Cert.Reference2Ideal.τ).loc Cert.Reference2Ideal.main_v78) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_norms [hKernel3Ideal : Cert.Kernel3Ideal.Facts] [hReference3Ideal : Cert.Reference3Ideal.Facts] [hPre_finite_norms : Cert.Pre_finite_norms.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_norms m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v100) = v1 c
          ∧ r.2.mem ((c.tc : Thread Cert.Reference3Ideal.nD Cert.Reference3Ideal.τ).loc Cert.Reference3Ideal.main_v101) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v50)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v252) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed_and_finite : Cert.Pre_routed_and_finite.Facts) (hPre_finite_norms : Cert.Pre_finite_norms.Facts) (hPre_finite_scores : Cert.Pre_finite_scores.Facts),
    quiescent_Kernel (hKernel := hKernel)
    ∧ quiescent_KernelIdeal (hKernelIdeal := hKernelIdeal)
    ∧ quiescent_KernelIdeal_pre_routed_and_finite (hKernelIdeal := hKernelIdeal) (hPre_routed_and_finite := hPre_routed_and_finite)
    ∧ quiescent_ReferenceIdeal (hReferenceIdeal := hReferenceIdeal)
    ∧ quiescent_ReferenceIdeal_pre_routed_and_finite (hReferenceIdeal := hReferenceIdeal) (hPre_routed_and_finite := hPre_routed_and_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_norms (hKernel3Ideal := hKernel3Ideal) (hPre_finite_norms := hPre_finite_norms)
    ∧ quiescent_Reference3Ideal (hReference3Ideal := hReference3Ideal)
    ∧ quiescent_Reference3Ideal_pre_finite_norms (hReference3Ideal := hReference3Ideal) (hPre_finite_norms := hPre_finite_norms)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ preserves_Kernel_KernelIdeal
    ∧ algebraic_KernelIdeal_ReferenceIdeal_pre_routed_and_finite (hKernelIdeal := hKernelIdeal) (hReferenceIdeal := hReferenceIdeal) (hPre_routed_and_finite := hPre_routed_and_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_norms (hKernel3Ideal := hKernel3Ideal) (hReference3Ideal := hReference3Ideal) (hPre_finite_norms := hPre_finite_norms)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
-- ==== Pre_finite_norms.lean ====
abbrev S32x2048x512 : Shape := ⟨3, ![32, 2048, 512]⟩
abbrev S32x2048x384 : Shape := ⟨3, ![32, 2048, 384]⟩
abbrev S32x2048x2048 : Shape := ⟨3, ![32, 2048, 2048]⟩
abbrev S32x2048x1024 : Shape := ⟨3, ![32, 2048, 1024]⟩
abbrev S32x6144 : Shape := ⟨2, ![32, 6144]⟩
abbrev S1x512 : Shape := ⟨2, ![1, 512]⟩
abbrev S1x128x512 : Shape := ⟨3, ![1, 128, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S32x2048 : Shape := ⟨2, ![32, 2048]⟩
abbrev S_ : Shape := ⟨0, ![]⟩

class Facts : Prop where
  slices_S32x6144_S32x2048_0_3072 : S32x6144.Slices ![0, 3072] S32x2048
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x16 : S_.BroadcastsInDim S1x1024x16 (![] : Fin 0 → Fin S1x1024x16.rank)
  reducesTo_S1x1024x16_S_d0_1_2 : S1x1024x16.ReducesTo [0, 1, 2] S_

variable [Facts]

def fn_part1 {F : FTy → Type} [FloatOps F] (main_arg15 : FVec F S1x1024x16 .f32) (main_v4 : IVec S_ 1) (main_v8 : IVec S_ 1) (main_v12 : IVec S_ 1) (main_v15 : IVec S1x1024 1) (main_c_5 : IVec S_ 1) : IVec S_ 1 :=
  let main_v16 : IVec S_ 1 := (fun x v => Host.reduce IntOp.andi x v reducesTo_S1x1024_S_d0_1 h_S_) main_v15 main_c_5
  let main_v17 : FVec F S1x1024x16 .f32 := Host.absf main_arg15
  let main_cst_6 : FVec F S_ .f32 := constant S_ .f32 0x7F800000#32
  let main_v18 : FVec F S1x1024x16 .f32 := broadcastInDim S1x1024x16 ![] bcast_S_S1x1024x16 main_cst_6
  let main_v19 : IVec S1x1024x16 1 := cmpf .olt main_v17 main_v18
  let main_c_7 : IVec S_ 1 := constantI S_ 1 1#1
  let main_v20 : IVec S_ 1 := (fun x v => Host.reduce IntOp.andi x v reducesTo_S1x1024x16_S_d0_1_2 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S32x2048x512 .f32) (main_arg1 : FVec F S32x2048x512 .f32) (main_arg2 : FVec F S32x2048x512 .f32) (main_arg3 : FVec F S32x2048x384 .f32) (main_arg4 : FVec F S32x2048x512 .f32) (main_arg5 : FVec F S32x2048x2048 .f32) (main_arg6 : FVec F S32x2048x1024 .f32) (main_arg7 : FVec F S32x6144 .f32) (main_arg8 : FVec F S1x512 .f32) (main_arg9 : FVec F S1x512 .f32) (main_arg10 : FVec F S1x128x512 .f32) (main_arg11 : FVec F S1x512x1024 .f32) (main_arg12 : FVec F S1x512x1024 .f32) (main_arg13 : FVec F S1x1024x1024 .f32) (main_arg14 : FVec F S1x1024 .f32) (main_arg15 : FVec F S1x1024x16 .f32) : IVec S_ 1 :=
  let main_v0 : FVec F S32x2048 .f32 := (extractStridedSlice S32x2048 ![0, 3072] · slices_S32x6144_S32x2048_0_3072) main_arg7
  let main_v1 : FVec F S32x2048x512 .f32 := Host.absf main_arg0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x2048x512 .f32 := Host.absf main_arg1
  let main_cst_0 : FVec F S_ .f32 := constant S_ .f32 0x7F800000#32
  let main_v6 : FVec F S32x2048x512 .f32 := broadcastInDim S32x2048x512 ![] bcast_S_S32x2048x512 main_cst_0
  let main_v7 : IVec S32x2048x512 1 := cmpf .olt main_v5 main_v6
  let main_c_1 : IVec S_ 1 := constantI S_ 1 1#1
  let main_v8 : IVec S_ 1 := (fun x v => Host.reduce IntOp.andi x v reducesTo_S32x2048x512_S_d0_1_2 h_S_) main_v7 main_c_1
  let main_v9 : FVec F S32x2048 .f32 := Host.absf main_v0
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : FVec F S1x1024 .f32 := Host.absf main_arg14
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_arg15 main_v4 main_v8 main_v12 main_v15 main_c_5
-- ==== Pre_finite_scores.lean ====
abbrev S32x2048x512 : Shape := ⟨3, ![32, 2048, 512]⟩
abbrev S32x2048x256 : Shape := ⟨3, ![32, 2048, 256]⟩
abbrev S32x256x256 : Shape := ⟨3, ![32, 256, 256]⟩
abbrev S1x64 : Shape := ⟨2, ![1, 64]⟩
abbrev S1x8 : Shape := ⟨2, ![1, 8]⟩
abbrev S32x2048x128 : Shape := ⟨3, ![32, 2048, 128]⟩
abbrev S32x256x128 : Shape := ⟨3, ![32, 256, 128]⟩
abbrev S_ : Shape := ⟨0, ![]⟩

class Facts : Prop where
  slices_S32x2048x256_S32x2048x128_0_0_0 : S32x2048x256.Slices ![0, 0, 0] S32x2048x128
  slices_S32x256x256_S32x256x128_0_0_0 : S32x256x256.Slices ![0, 0, 0] S32x256x128
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_
  bcast_S_S32x256x128 : S_.BroadcastsInDim S32x256x128 (![] : Fin 0 → Fin S32x256x128.rank)
  reducesTo_S32x256x128_S_d0_1_2 : S32x256x128.ReducesTo [0, 1, 2] S_
  bcast_S_S1x64 : S_.BroadcastsInDim S1x64 (![] : Fin 0 → Fin S1x64.rank)
  reducesTo_S1x64_S_d0_1 : S1x64.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x64 .f32) (main_arg5 : FVec F S1x8 .f32) (main_v5 : IVec S_ 1) (main_v9 : IVec S_ 1) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : FVec F S1x64 .f32 := Host.absf main_arg4
  let main_cst_6 : FVec F S_ .f32 := constant S_ .f32 0x7F800000#32
  let main_v19 : FVec F S1x64 .f32 := broadcastInDim S1x64 ![] bcast_S_S1x64 main_cst_6
  let main_v20 : IVec S1x64 1 := cmpf .olt main_v18 main_v19
  let main_c_7 : IVec S_ 1 := constantI S_ 1 1#1
  let main_v21 : IVec S_ 1 := (fun x v => Host.reduce IntOp.andi x v reducesTo_S1x64_S_d0_1 h_S_) main_v20 main_c_7
  let main_v22 : FVec F S1x8 .f32 := Host.absf main_arg5
  let main_cst_8 : FVec F S_ .f32 := constant S_ .f32 0x7F800000#32
  let main_v23 : FVec F S1x8 .f32 := broadcastInDim S1x8 ![] bcast_S_S1x8 main_cst_8
  let main_v24 : IVec S1x8 1 := cmpf .olt main_v22 main_v23
  let main_c_9 : IVec S_ 1 := constantI S_ 1 1#1
  let main_v25 : IVec S_ 1 := (fun x v => Host.reduce IntOp.andi x v reducesTo_S1x8_S_d0_1 h_S_) main_v24 main_c_9
  let main_v26 : IVec S_ 1 := andi main_v5 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S32x2048x512 .f32) (main_arg1 : FVec F S32x2048x256 .f32) (main_arg2 : FVec F S32x256x256 .f32) (main_arg3 : FVec F S1x64 .f32) (main_arg4 : FVec F S1x64 .f32) (main_arg5 : FVec F S1x8 .f32) : IVec S_ 1 :=
  let main_v0 : FVec F S32x2048x128 .f32 := (extractStridedSlice S32x2048x128 ![0, 0, 0] · slices_S32x2048x256_S32x2048x128_0_0_0) main_arg1
  let main_v1 : FVec F S32x256x128 .f32 := (extractStridedSlice S32x256x128 ![0, 0, 0] · slices_S32x256x256_S32x256x128_0_0_0) main_arg2
  let main_v2 : FVec F S32x2048x512 .f32 := Host.absf main_arg0
  let main_cst : FVec F S_ .f32 := constant S_ .f32 0x7F800000#32
  let main_v3 : FVec F S32x2048x512 .f32 := broadcastInDim S32x2048x512 ![] bcast_S_S32x2048x512 main_cst
  let main_v4 : IVec S32x2048x512 1 := cmpf .olt main_v2 main_v3
  let main_c : IVec S_ 1 := constantI S_ 1 1#1
  let main_v5 : IVec S_ 1 := (fun x v => Host.reduce IntOp.andi x v reducesTo_S32x2048x512_S_d0_1_2 h_S_) main_v4 main_c
  let main_v6 : FVec F S32x2048x128 .f32 := Host.absf main_v0
  let main_cst_0 : FVec F S_ .f32 := constant S_ .f32 0x7F800000#32
  let main_v7 : FVec F S32x2048x128 .f32 := broadcastInDim S32x2048x128 ![] bcast_S_S32x2048x128 main_cst_0
  let main_v8 : IVec S32x2048x128 1 := cmpf .olt main_v6 main_v7
  let main_c_1 : IVec S_ 1 := constantI S_ 1 1#1
  let main_v9 : IVec S_ 1 := (fun x v => Host.reduce IntOp.andi x v reducesTo_S32x2048x128_S_d0_1_2 h_S_) main_v8 main_c_1
  let main_v10 : FVec F S32x256x128 .f32 := Host.absf main_v1
  let main_cst_2 : FVec F S_ .f32 := constant S_ .f32 0x7F800000#32
  let main_v11 : FVec F S32x256x128 .f32 := broadcastInDim S32x256x128 ![] bcast_S_S32x256x128 main_cst_2
  let main_v12 : IVec S32x256x128 1 := cmpf .olt main_v10 main_v11
  let main_c_3 : IVec S_ 1 := constantI S_ 1 1#1
  let main_v13 : IVec S_ 1 := (fun x v => Host.reduce IntOp.andi x v reducesTo_S32x256x128_S_d0_1_2 h_S_) main_v12 main_c_3
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_v5 main_v9 main_v13 main_v16
-- ==== Pre_routed_and_finite.lean ====
abbrev S32x16x2048 : Shape := ⟨3, ![32, 16, 2048]⟩
abbrev S32x2048x1024 : Shape := ⟨3, ![32, 2048, 1024]⟩
abbrev S32x6144 : Shape := ⟨2, ![32, 6144]⟩
abbrev S16x1024x1536 : Shape := ⟨3, ![16, 1024, 1536]⟩
abbrev S16x1536x1024 : Shape := ⟨3, ![16, 1536, 1024]⟩
abbrev S32x16x256 : Shape := ⟨3, ![32, 16, 256]⟩
abbrev S32x16x256x2048 : Shape := ⟨4, ![32, 16, 256, 2048]⟩
abbrev S32x16x1x2048 : Shape := ⟨4, ![32, 16, 1, 2048]⟩
abbrev S32x16x256x1 : Shape := ⟨4, ![32, 16, 256, 1]⟩
abbrev S_ : Shape := ⟨0, ![]⟩
abbrev S32x1024 : Shape := ⟨2, ![32, 1024]⟩

class Facts : Prop where
  sliceFits_S32x16x2048_S32x16x256 : S32x16x2048.Slices (fun _ => 0) S32x16x256
  bcast_S32x16x2048_S32x16x1x2048_0_1_3 : S32x16x2048.BroadcastsInDim S32x16x1x2048 (![0, 1, 3] : Fin 3 → Fin S32x16x1x2048.rank)
  bcast_S32x16x1x2048_S32x16x256x2048_0_1_2_3 : S32x16x1x2048.BroadcastsInDim S32x16x256x2048 (![0, 1, 2, 3] : Fin 4 → Fin S32x16x256x2048.rank)
  bcast_S32x16x256_S32x16x256x1_0_1_2 : S32x16x256.BroadcastsInDim S32x16x256x1 (![0, 1, 2] : Fin 3 → Fin S32x16x256x1.rank)
  bcast_S32x16x256x1_S32x16x256x2048_0_1_2_3 : S32x16x256x1.BroadcastsInDim S32x16x256x2048 (![0, 1, 2, 3] : Fin 4 → Fin S32x16x256x2048.rank)
  reducesTo_S32x16x256x2048_S_d0_1_2_3 : S32x16x256x2048.ReducesTo [0, 1, 2, 3] S_
  h_S_ : 0 < S_.numel
  slices_S32x6144_S32x1024_0_5120 : S32x6144.Slices ![0, 5120] S32x1024
  bcast_S_S32x16x2048 : S_.BroadcastsInDim S32x16x2048 (![] : Fin 0 → Fin S32x16x2048.rank)
  reducesTo_S32x16x2048_S_d0_1_2 : S32x16x2048.ReducesTo [0, 1, 2] S_
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S16x1024x1536 : S_.BroadcastsInDim S16x1024x1536 (![] : Fin 0 → Fin S16x1024x1536.rank)
  reducesTo_S16x1024x1536_S_d0_1_2 : S16x1024x1536.ReducesTo [0, 1, 2] S_
  bcast_S_S16x1536x1024 : S_.BroadcastsInDim S16x1536x1024 (![] : Fin 0 → Fin S16x1536x1024.rank)
  reducesTo_S16x1536x1024_S_d0_1_2 : S16x1536x1024.ReducesTo [0, 1, 2] S_

variable [Facts]

def comparator_i32_d2 : BitVec 32 → BitVec 32 → BitVec 1 :=
  fun l r =>
    let v1 := IntOp.cmpi .slt l r
    v1
def fn_sort {F : FTy → Type} [FloatOps F] (arg0 : IVec S32x16x256 32) : IVec S32x16x256 32 :=
  let v0 : IVec S32x16x256 32 := (fun x => Host.sort S32x16x256 2 comparator_i32_d2 x) arg0
  v0

def fn_part2 {F : FTy → Type} [FloatOps F] (main_v10 : IVec S_ 1) (main_v15 : IVec S_ 1) (main_v19 : IVec S_ 1) (main_v23 : IVec S_ 1) (main_v27 : IVec S_ 1) (main_v31 : IVec S_ 1) (main_v32 : FVec F S16x1536x1024 .f32) (main_v33 : FVec F S16x1536x1024 .f32) : IVec S_ 1 :=
  let main_v34 : IVec S16x1536x1024 1 := cmpf .olt main_v32 main_v33
  let main_c_10 : IVec S_ 1 := constantI S_ 1 1#1
  let main_v35 : IVec S_ 1 := (fun x v => Host.reduce IntOp.andi x v reducesTo_S16x1536x1024_S_d0_1_2 h_S_) main_v34 main_c_10
  let main_v36 : IVec S_ 1 := andi main_v10 main_v15
  let main_v37 : IVec S_ 1 := andi main_v36 main_v19
  let main_v38 : IVec S_ 1 := andi main_v37 main_v23
  let main_v39 : IVec S_ 1 := andi main_v38 main_v27
  let main_v40 : IVec S_ 1 := andi main_v39 main_v31
  let main_v41 : IVec S_ 1 := andi main_v40 main_v35
  main_v41

def fn_part1 {F : FTy → Type} [FloatOps F] (main_arg5 : FVec F S16x1024x1536 .f32) (main_arg6 : FVec F S16x1024x1536 .f32) (main_arg7 : FVec F S16x1536x1024 .f32) (main_v10 : IVec S_ 1) (main_v11 : FVec F S32x1024 .f32) (main_v15 : IVec S_ 1) (main_v16 : FVec F S32x2048x1024 .f32) (main_v17 : FVec F S32x2048x1024 .f32) : IVec S_ 1 :=
  let main_v18 : IVec S32x2048x1024 1 := cmpf .olt main_v16 main_v17
  let main_c_2 : IVec S_ 1 := constantI S_ 1 1#1
  let main_v19 : IVec S_ 1 := (fun x v => Host.reduce IntOp.andi x v reducesTo_S32x2048x1024_S_d0_1_2 h_S_) main_v18 main_c_2
  let main_v20 : FVec F S32x1024 .f32 := Host.absf main_v11
  let main_cst_3 : FVec F S_ .f32 := constant S_ .f32 0x7F800000#32
  let main_v21 : FVec F S32x1024 .f32 := broadcastInDim S32x1024 ![] bcast_S_S32x1024 main_cst_3
  let main_v22 : IVec S32x1024 1 := cmpf .olt main_v20 main_v21
  let main_c_4 : IVec S_ 1 := constantI S_ 1 1#1
  let main_v23 : IVec S_ 1 := (fun x v => Host.reduce IntOp.andi x v reducesTo_S32x1024_S_d0_1 h_S_) main_v22 main_c_4
  let main_v24 : FVec F S16x1024x1536 .f32 := Host.absf main_arg5
  let main_cst_5 : FVec F S_ .f32 := constant S_ .f32 0x7F800000#32
  let main_v25 : FVec F S16x1024x1536 .f32 := broadcastInDim S16x1024x1536 ![] bcast_S_S16x1024x1536 main_cst_5
  let main_v26 : IVec S16x1024x1536 1 := cmpf .olt main_v24 main_v25
  let main_c_6 : IVec S_ 1 := constantI S_ 1 1#1
  let main_v27 : IVec S_ 1 := (fun x v => Host.reduce IntOp.andi x v reducesTo_S16x1024x1536_S_d0_1_2 h_S_) main_v26 main_c_6
  let main_v28 : FVec F S16x1024x1536 .f32 := Host.absf main_arg6
  let main_cst_7 : FVec F S_ .f32 := constant S_ .f32 0x7F800000#32
  let main_v29 : FVec F S16x1024x1536 .f32 := broadcastInDim S16x1024x1536 ![] bcast_S_S16x1024x1536 main_cst_7
  let main_v30 : IVec S16x1024x1536 1 := cmpf .olt main_v28 main_v29
  let main_c_8 : IVec S_ 1 := constantI S_ 1 1#1
  let main_v31 : IVec S_ 1 := (fun x v => Host.reduce IntOp.andi x v reducesTo_S16x1024x1536_S_d0_1_2 h_S_) main_v30 main_c_8
  let main_v32 : FVec F S16x1536x1024 .f32 := Host.absf main_arg7
  let main_cst_9 : FVec F S_ .f32 := constant S_ .f32 0x7F800000#32
  let main_v33 : FVec F S16x1536x1024 .f32 := broadcastInDim S16x1536x1024 ![] bcast_S_S16x1536x1024 main_cst_9
  fn_part2 (F := F) main_v10 main_v15 main_v19 main_v23 main_v27 main_v31 main_v32 main_v33

def fn {F : FTy → Type} [FloatOps F] (main_arg0 : IVec S32x16x2048 32) (main_arg1 : FVec F S32x16x2048 .f32) (main_arg2 : FVec F S32x2048x1024 .f32) (main_arg3 : FVec F S32x2048x1024 .f32) (main_arg4 : FVec F S32x6144 .f32) (main_arg5 : FVec F S16x1024x1536 .f32) (main_arg6 : FVec F S16x1024x1536 .f32) (main_arg7 : FVec F S16x1536x1024 .f32) : IVec S_ 1 :=
  let main_values : FVec F S32x16x256 .f32 := (fun x => (Host.topK S32x16x256 2 (FloatOps.cmpfTotal .gt) x sliceFits_S32x16x2048_S32x16x256).1) main_arg1
  let main_indices : IVec S32x16x256 32 := (fun x => (Host.topK S32x16x256 2 (FloatOps.cmpfTotal .gt) x sliceFits_S32x16x2048_S32x16x256).2) main_arg1
  let main_v0 : IVec S32x16x256 32 := fn_sort (F := F) main_indices
  let main_v1 : IVec S32x16x256x2048 32 := iotaInDim S32x16x256x2048 32 2
  let main_v2 : IVec S32x16x256x2048 32 := iotaInDim S32x16x256x2048 32 3
  let main_v3 : IVec S32x16x1x2048 32 := broadcastInDim S32x16x1x2048 ![0, 1, 3] bcast_S32x16x2048_S32x16x1x2048_0_1_3 main_arg0
  let main_v4 : IVec S32x16x256x2048 32 := broadcastInDim S32x16x256x2048 ![0, 1, 2, 3] bcast_S32x16x1x2048_S32x16x256x2048_0_1_2_3 main_v3
  let main_v5 : IVec S32x16x256x2048 1 := cmpi .eq main_v4 main_v1
  let main_v6 : IVec S32x16x256x1 32 := broadcastInDim S32x16x256x1 ![0, 1, 2] bcast_S32x16x256_S32x16x256x1_0_1_2 main_v0
  let main_v7 : IVec S32x16x256x2048 32 := broadcastInDim S32x16x256x2048 ![0, 1, 2, 3] bcast_S32x16x256x1_S32x16x256x2048_0_1_2_3 main_v6
  let main_v8 : IVec S32x16x256x2048 1 := cmpi .eq main_v7 main_v2
  let main_v9 : IVec S32x16x256x2048 1 := cmpi .eq main_v5 main_v8
  let main_c : IVec S_ 1 := constantI S_ 1 1#1
  let main_v10 : IVec S_ 1 := (fun x v => Host.reduce IntOp.andi x v reducesTo_S32x16x256x2048_S_d0_1_2_3 h_S_) main_v9 main_c
  let main_v11 : FVec F S32x1024 .f32 := (extractStridedSlice S32x1024 ![0, 5120] · slices_S32x6144_S32x1024_0_5120) main_arg4
  let main_v12 : FVec F S32x16x2048 .f32 := Host.absf main_arg1
  let main_cst : FVec F S_ .f32 := constant S_ .f32 0x7F800000#32
  let main_v13 : FVec F S32x16x2048 .f32 := broadcastInDim S32x16x2048 ![] bcast_S_S32x16x2048 main_cst
  let main_v14 : IVec S32x16x2048 1 := cmpf .olt main_v12 main_v13
  let main_c_0 : IVec S_ 1 := constantI S_ 1 1#1
  let main_v15 : IVec S_ 1 := (fun x v => Host.reduce IntOp.andi x v reducesTo_S32x16x2048_S_d0_1_2 h_S_) main_v14 main_c_0
  let main_v16 : FVec F S32x2048x1024 .f32 := Host.absf main_arg2
  let main_cst_1 : FVec F S_ .f32 := constant S_ .f32 0x7F800000#32
  let main_v17 : FVec F S32x2048x1024 .f32 := broadcastInDim S32x2048x1024 ![] bcast_S_S32x2048x1024 main_cst_1
  fn_part1 (F := F) main_arg5 main_arg6 main_arg7 main_v10 main_v11 main_v15 main_v16 main_v17
-- ==== Kernel.lean ====
abbrev S32x16x2048 : Shape := ⟨3, ![32, 16, 2048]⟩
abbrev S32x2048x1024 : Shape := ⟨3, ![32, 2048, 1024]⟩
abbrev S32x6144 : Shape := ⟨2, ![32, 6144]⟩
abbrev S16x1024x1536 : Shape := ⟨3, ![16, 1024, 1536]⟩
abbrev S16x1536x1024 : Shape := ⟨3, ![16, 1536, 1024]⟩
abbrev S32x6x1024 : Shape := ⟨3, ![32, 6, 1024]⟩
abbrev S1x16x2048 : Shape := ⟨3, ![1, 16, 2048]⟩
abbrev S1x2048x1024 : Shape := ⟨3, ![1, 2048, 1024]⟩
abbrev S1x6x1024 : Shape := ⟨3, ![1, 6, 1024]⟩
abbrev S1x1024x1536 : Shape := ⟨3, ![1, 1024, 1536]⟩
abbrev S1x1536x1024 : Shape := ⟨3, ![1, 1536, 1024]⟩
abbrev S1x1x2048 : Shape := ⟨3, ![1, 1, 2048]⟩
abbrev S1x2048 : Shape := ⟨2, ![1, 2048]⟩
abbrev S256x2048 : Shape := ⟨2, ![256, 2048]⟩
abbrev S2048x1024 : Shape := ⟨2, ![2048, 1024]⟩
abbrev S256x1024 : Shape := ⟨2, ![256, 1024]⟩
abbrev S1024x1536 : Shape := ⟨2, ![1024, 1536]⟩
abbrev S256x1536 : Shape := ⟨2, ![256, 1536]⟩
abbrev S1536x1024 : Shape := ⟨2, ![1536, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S1x512x1024 : Shape := ⟨3, ![1, 512, 1024]⟩
abbrev S512x1024 : Shape := ⟨2, ![512, 1024]⟩
abbrev S256x512 : Shape := ⟨2, ![256, 512]⟩

abbrev nBuf : Space → Nat
  | .hbm => 14
  | .vmem => 16
  | .smem => 0
  | _ => 0

abbrev bufTy : (tb : Table) → Fin (tcTables nBuf tb) → BufTy
  | .hbm, ⟨0, _⟩ => ⟨S32x16x2048, .i32⟩
  | .hbm, ⟨1, _⟩ => ⟨S32x16x2048, .f32⟩
  | .hbm, ⟨2, _⟩ => ⟨S32x2048x1024, .f32⟩
  | .hbm, ⟨3, _⟩ => ⟨S32x2048x1024, .f32⟩
  | .hbm, ⟨4, _⟩ => ⟨S32x6144, .f32⟩
  | .hbm, ⟨5, _⟩ => ⟨S16x1024x1536, .f32⟩
  | .hbm, ⟨6, _⟩ => ⟨S16x1024x1536, .f32⟩
  | .hbm, ⟨7, _⟩ => ⟨S16x1536x1024, .f32⟩
  | .hbm, ⟨8, _⟩ => ⟨S32x2048x1024, .bf16⟩
  | .hbm, ⟨9, _⟩ => ⟨S32x6x1024, .f32⟩
  | .hbm, ⟨10, _⟩ => ⟨S16x1024x1536, .bf16⟩
  | .hbm, ⟨11, _⟩ => ⟨S16x1024x1536, .bf16⟩
  | .hbm, ⟨12, _⟩ => ⟨S16x1536x1024, .bf16⟩
  | .hbm, ⟨13, _⟩ => ⟨S32x2048x1024, .f32⟩
  | .local _ .vmem, ⟨0, _⟩ => ⟨S1x16x2048, .i32⟩
  | .local _ .vmem, ⟨1, _⟩ => ⟨S1x16x2048, .i32⟩
  | .local _ .vmem, ⟨2, _⟩ => ⟨S1x2048x1024, .bf16⟩
  | .local _ .vmem, ⟨3, _⟩ => ⟨S1x2048x1024, .f32⟩
  | .local _ .vmem, ⟨4, _⟩ => ⟨S1x16x2048, .f32⟩
  | .local _ .vmem, ⟨5, _⟩ => ⟨S1x16x2048, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x1536, .bf16⟩
  | .local _ .vmem, ⟨9, _⟩ => ⟨S1x1024x1536, .bf16⟩
  | .local _ .vmem, ⟨10, _⟩ => ⟨S1x1024x1536, .bf16⟩
  | .local _ .vmem, ⟨11, _⟩ => ⟨S1x1024x1536, .bf16⟩
  | .local _ .vmem, ⟨12, _⟩ => ⟨S1x1536x1024, .bf16⟩
  | .local _ .vmem, ⟨13, _⟩ => ⟨S1x1536x1024, .bf16⟩
  | .local _ .vmem, ⟨14, _⟩ => ⟨S1x2048x1024, .f32⟩
  | .local _ .vmem, ⟨15, _⟩ => ⟨S1x2048x1024, .f32⟩
  | _, _ => ⟨S32x16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 16], ![false, false]⟩

def k0_off1 (i : grid0.Coords) : Fin 3 → Nat :=
  let c0 : Index := 0#32
  let arg1 : BitVec 32 := BitVec.ofNat 32 (i 1).val
  let v3 : Index := Scalar.indexCast arg1
  let c0_1 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1536x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32x16x2048 : Shape := ⟨3, ![32, 16, 2048]⟩
abbrev S32x2048x1024 : Shape := ⟨3, ![32, 2048, 1024]⟩
abbrev S32x6144 : Shape := ⟨2, ![32, 6144]⟩
abbrev S16x1024x1536 : Shape := ⟨3, ![16, 1024, 1536]⟩
abbrev S16x1536x1024 : Shape := ⟨3, ![16, 1536, 1024]⟩
abbrev S32x1x6144 : Shape := ⟨3, ![32, 1, 6144]⟩
abbrev S32x1x1024 : Shape := ⟨3, ![32, 1, 1024]⟩
abbrev S32x16x256 : Shape := ⟨3, ![32, 16, 256]⟩
abbrev S16x32x256 : Shape := ⟨3, ![16, 32, 256]⟩
abbrev S_ : Shape := ⟨0, ![]⟩
abbrev S16x32x256x1 : Shape := ⟨4, ![16, 32, 256, 1]⟩
abbrev S16x32x256x1024 : Shape := ⟨4, ![16, 32, 256, 1024]⟩
abbrev S16x32x256x1536 : Shape := ⟨4, ![16, 32, 256, 1536]⟩
abbrev S32 : Shape := ⟨1, ![32]⟩
abbrev S1x32x1 : Shape := ⟨3, ![1, 32, 1]⟩
abbrev S131072 : Shape := ⟨1, ![131072]⟩
abbrev S65536x1024 : Shape := ⟨2, ![65536, 1024]⟩
abbrev S131072x1024 : Shape := ⟨2, ![131072, 1024]⟩
abbrev S131072x1 : Shape := ⟨2, ![131072, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x16x2048, .i32⟩
  | .hbm, ⟨1, _⟩ => ⟨S32x16x2048, .f32⟩
  | .hbm, ⟨2, _⟩ => ⟨S32x2048x1024, .f32⟩
  | .hbm, ⟨3, _⟩ => ⟨S32x2048x1024, .f32⟩
  | .hbm, ⟨4, _⟩ => ⟨S32x6144, .f32⟩
  | .hbm, ⟨5, _⟩ => ⟨S16x1024x1536, .f32⟩
  | .hbm, ⟨6, _⟩ => ⟨S16x1024x1536, .f32⟩
  | .hbm, ⟨7, _⟩ => ⟨S16x1536x1024, .f32⟩
  | .hbm, ⟨8, _⟩ => ⟨S32x1x6144, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x16x256, .f32⟩
  | .hbm, ⟨16, _⟩ => ⟨S32x16x256, .i32⟩
  | .hbm, ⟨17, _⟩ => ⟨S16x32x256, .i32⟩
  | .hbm, ⟨18, _⟩ => ⟨S16x32x256, .f32⟩
  | .hbm, ⟨19, _⟩ => ⟨S_, .i32⟩
  | .hbm, ⟨20, _⟩ => ⟨S16x32x256, .i32⟩
  | .hbm, ⟨21, _⟩ => ⟨S16x32x256, .i1⟩
  | .hbm, ⟨22, _⟩ => ⟨S_, .i32⟩
  | .hbm, ⟨23, _⟩ => ⟨S16x32x256, .i32⟩
  | .hbm, ⟨24, _⟩ => ⟨S16x32x256, .i32⟩
  | .hbm, ⟨25, _⟩ => ⟨S16x32x256, .i32⟩
  | .hbm, ⟨26, _⟩ => ⟨S16x32x256x1, .i32⟩
  | .hbm, ⟨27, _⟩ => ⟨S16x32x256x1024, .f32⟩
  | .hbm, ⟨28, _⟩ => ⟨S16x32x256x1536, .f32⟩
  | .hbm, ⟨29, _⟩ => ⟨S16x32x256x1536, .f32⟩
  | .hbm, ⟨30, _⟩ => ⟨S16x32x256x1536, .f32⟩
  | .hbm, ⟨31, _⟩ => ⟨S_, .f32⟩
  | .hbm, ⟨32, _⟩ => ⟨S16x32x256x1536, .f32⟩
  | .hbm, ⟨33, _⟩ => ⟨S16x32x256x1536, .f32⟩
  | .hbm, ⟨34, _⟩ => ⟨S_, .f32⟩
  | .hbm, ⟨35, _⟩ => ⟨S16x32x256x1536, .f32⟩
  | .hbm, ⟨36, _⟩ => ⟨S16x32x256x1536, .f32⟩
  | .hbm, ⟨37, _⟩ => ⟨S16x32x256x1536, .f32⟩
  | .hbm, ⟨38, _⟩ => ⟨S16x32x256x1536, .f32⟩
  | .hbm, ⟨39, _⟩ => ⟨S16x32x256x1536, .f32⟩
  | .hbm, ⟨40, _⟩ => ⟨S16x32x256x1024, .f32⟩
  | .hbm, ⟨41, _⟩ => ⟨S16x32x256x1, .f32⟩
  | .hbm, ⟨42, _⟩ => ⟨S16x32x256x1024, .f32⟩
  | .hbm, ⟨43, _⟩ => ⟨S16x32x256x1024, .f32⟩
  | .hbm, ⟨44, _⟩ => ⟨S32, .i32⟩
  | .hbm, ⟨45, _⟩ => ⟨S1x32x1, .i32⟩
  | .hbm, ⟨46, _⟩ => ⟨S_, .i32⟩
  | .hbm, ⟨47, _⟩ => ⟨S1x32x1, .i32⟩
  | .hbm, ⟨48, _⟩ => ⟨S1x32x1, .i32⟩
  | .hbm, ⟨49, _⟩ => ⟨S16x32x256, .i32⟩
  | .hbm, ⟨50, _⟩ => ⟨S16x32x256, .i32⟩
  | .hbm, ⟨51, _⟩ => ⟨S131072, .i32⟩
  | .hbm, ⟨52, _⟩ => ⟨S_, .f32⟩
  | .hbm, ⟨53, _⟩ => ⟨S65536x1024, .f32⟩
  | .hbm, ⟨54, _⟩ => ⟨S131072x1024, .f32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S131072x1, .i32⟩
  | .hbm, ⟨63, _⟩ => ⟨S65536x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | _, _ => ⟨S32x16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_values : Ref sig .tc := ⟨.hbm, 15, rfl⟩
abbrev main_indices : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_c_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x1024 : Shape := ⟨2, ![32, 1024]⟩
abbrev S32x256x1024 : Shape := ⟨3, ![32, 256, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x4736 : Shape := ⟨3, ![1, 1024, 4736]⟩
abbrev S_ : Shape := ⟨0, ![]⟩
abbrev S40x1024 : Shape := ⟨2, ![40, 1024]⟩
abbrev S1 : Shape := ⟨1, ![1]⟩
abbrev S1024x6144 : Shape := ⟨2, ![1024, 6144]⟩
abbrev S6144 : Shape := ⟨1, ![6144]⟩
abbrev S40x6144 : Shape := ⟨2, ![40, 6144]⟩
abbrev S1024x512 : Shape := ⟨2, ![1024, 512]⟩
abbrev S1x512 : Shape := ⟨2, ![1, 512]⟩
abbrev S40x512 : Shape := ⟨2, ![40, 512]⟩
abbrev S32x6144 : Shape := ⟨2, ![32, 6144]⟩
abbrev S32x6x1024 : Shape := ⟨3, ![32, 6, 1024]⟩
abbrev S1x6x1024 : Shape := ⟨3, ![1, 6, 1024]⟩
abbrev S1024x4736 : Shape := ⟨2, ![1024, 4736]⟩
abbrev S1024x1536 : Shape := ⟨2, ![1024, 1536]⟩
abbrev S1024x384 : Shape := ⟨2, ![1024, 384]⟩
abbrev S1024x256 : Shape := ⟨2, ![1024, 256]⟩
abbrev S1024x2048 : Shape := ⟨2, ![1024, 2048]⟩
abbrev S32x2048x1536 : Shape := ⟨3, ![32, 2048, 1536]⟩
abbrev S32x2048x384 : Shape := ⟨3, ![32, 2048, 384]⟩
abbrev S32x2048x512 : Shape := ⟨3, ![32, 2048, 512]⟩
abbrev S32x2048x256 : Shape := ⟨3, ![32, 2048, 256]⟩
abbrev S32x2048x2048 : Shape := ⟨3, ![32, 2048, 2048]⟩
abbrev S1x256x1024 : Shape := ⟨3, ![1, 256, 1024]⟩
abbrev S1x256x1536 : Shape := ⟨3, ![1, 256, 1536]⟩
abbrev S1x256x384 : Shape := ⟨3, ![1, 256, 384]⟩
abbrev S1x256x512 : Shape := ⟨3, ![1, 256, 512]⟩
abbrev S1x256x256 : Shape := ⟨3, ![1, 256, 256]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x1536 : Shape := ⟨2, ![256, 1536]⟩
abbrev S256x384 : Shape := ⟨2, ![256, 384]⟩
abbrev S256x512 : Shape := ⟨2, ![256, 512]⟩
abbrev S256x256 : Shape := ⟨2, ![256, 256]⟩
abbrev S256x2048 : Shape := ⟨2, ![256, 2048]⟩
abbrev S32x256x1536 : Shape := ⟨3, ![32, 256, 1536]⟩
abbrev S32x256x384 : Shape := ⟨3, ![32, 256, 384]⟩
abbrev S32x256x256 : Shape := ⟨3, ![32, 256, 256]⟩

abbrev nBuf : Space → Nat
  | .hbm => 44
  | .vmem => 40
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x256x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x4736, .f32⟩
  | .hbm, ⟨8, _⟩ => ⟨S_, .f32⟩
  | .hbm, ⟨9, _⟩ => ⟨S40x1024, .f32⟩
  | .hbm, ⟨10, _⟩ => ⟨S_, .i32⟩
  | .hbm, ⟨11, _⟩ => ⟨S1, .i32⟩
  | .hbm, ⟨12, _⟩ => ⟨S40x1024, .f32⟩
  | .hbm, ⟨13, _⟩ => ⟨S_, .i32⟩
  | .hbm, ⟨14, _⟩ => ⟨S1, .i32⟩
  | .hbm, ⟨15, _⟩ => ⟨S40x1024, .f32⟩
  | .hbm, ⟨16, _⟩ => ⟨S1024x6144, .f32⟩
  | .hbm, ⟨17, _⟩ => ⟨S6144, .f32⟩
  | .hbm, ⟨18, _⟩ => ⟨S1x6144, .f32⟩
  | .hbm, ⟨19, _⟩ => ⟨S40x6144, .f32⟩
  | .hbm, ⟨20, _⟩ => ⟨S32x6144, .f32⟩
  | .hbm, ⟨21, _⟩ => ⟨S32x6x1024, .f32⟩
  | .hbm, ⟨22, _⟩ => ⟨S1x6144, .f32⟩
  | .hbm, ⟨23, _⟩ => ⟨S1x6x1024, .f32⟩
  | .hbm, ⟨24, _⟩ => ⟨S1024x4736, .f32⟩
  | .hbm, ⟨25, _⟩ => ⟨S1024x4736, .bf16⟩
  | .hbm, ⟨26, _⟩ => ⟨S1024x1536, .bf16⟩
  | .hbm, ⟨27, _⟩ => ⟨S1024x384, .bf16⟩
  | .hbm, ⟨28, _⟩ => ⟨S1024x512, .bf16⟩
  | .hbm, ⟨29, _⟩ => ⟨S1024x256, .bf16⟩
  | .hbm, ⟨30, _⟩ => ⟨S1024x2048, .bf16⟩
  | .hbm, ⟨31, _⟩ => ⟨S1024, .f32⟩
  | .hbm, ⟨32, _⟩ => ⟨S1x1024, .f32⟩
  | .hbm, ⟨33, _⟩ => ⟨S32x2048x1536, .f32⟩
  | .hbm, ⟨34, _⟩ => ⟨S32x2048x384, .f32⟩
  | .hbm, ⟨35, _⟩ => ⟨S32x2048x512, .f32⟩
  | .hbm, ⟨36, _⟩ => ⟨S32x2048x256, .f32⟩
  | .hbm, ⟨37, _⟩ => ⟨S32x2048x2048, .f32⟩
  | .hbm, ⟨38, _⟩ => ⟨S1024, .f32⟩
  | .hbm, ⟨39, _⟩ => ⟨S1x1024, .f32⟩
  | .hbm, ⟨40, _⟩ => ⟨S32x256x1536, .f32⟩
  | .hbm, ⟨41, _⟩ => ⟨S32x256x384, .f32⟩
  | .hbm, ⟨42, _⟩ => ⟨S32x256x256, .f32⟩
  | .hbm, ⟨43, _⟩ => ⟨S32x6144, .f32⟩
  | .local _ .vmem, ⟨0, _⟩ => ⟨S40x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | .local _ .vmem, ⟨7, _⟩ => ⟨S1x256x1024, .f32⟩
  | .local _ .vmem, ⟨8, _⟩ => ⟨S1x256x1024, .f32⟩
  | .local _ .vmem, ⟨9, _⟩ => ⟨S1x6x1024, .f32⟩
  | .local _ .vmem, ⟨10, _⟩ => ⟨S1x6x1024, .f32⟩
  | .local _ .vmem, ⟨11, _⟩ => ⟨S1x1024, .f32⟩
  | .local _ .vmem, ⟨12, _⟩ => ⟨S1024x1536, .bf16⟩
  | .local _ .vmem, ⟨13, _⟩ => ⟨S1024x384, .bf16⟩
  | .local _ .vmem, ⟨14, _⟩ => ⟨S1024x512, .bf16⟩
  | .local _ .vmem, ⟨15, _⟩ => ⟨S1024x256, .bf16⟩
  | .local _ .vmem, ⟨16, _⟩ => ⟨S1024x2048, .bf16⟩
  | .local _ .vmem, ⟨17, _⟩ => ⟨S1x256x1536, .f32⟩
  | .local _ .vmem, ⟨18, _⟩ => ⟨S1x256x1536, .f32⟩
  | .local _ .vmem, ⟨19, _⟩ => ⟨S1x256x384, .f32⟩
  | .local _ .vmem, ⟨20, _⟩ => ⟨S1x256x384, .f32⟩
  | .local _ .vmem, ⟨21, _⟩ => ⟨S1x256x512, .f32⟩
  | .local _ .vmem, ⟨22, _⟩ => ⟨S1x256x512, .f32⟩
  | .local _ .vmem, ⟨23, _⟩ => ⟨S1x256x256, .f32⟩
  | .local _ .vmem, ⟨24, _⟩ => ⟨S1x256x256, .f32⟩
  | .local _ .vmem, ⟨25, _⟩ => ⟨S1x256x2048, .f32⟩
  | .local _ .vmem, ⟨26, _⟩ => ⟨S1x256x2048, .f32⟩
  | .local _ .vmem, ⟨27, _⟩ => ⟨S1x256x1024, .f32⟩
  | .local _ .vmem, ⟨28, _⟩ => ⟨S1x256x1024, .f32⟩
  | .local _ .vmem, ⟨29, _⟩ => ⟨S1x6x1024, .f32⟩
  | .local _ .vmem, ⟨30, _⟩ => ⟨S1x1024, .f32⟩
  | .local _ .vmem, ⟨31, _⟩ => ⟨S1024x1536, .bf16⟩
  | .local _ .vmem, ⟨32, _⟩ => ⟨S1024x384, .bf16⟩
  | .local _ .vmem, ⟨33, _⟩ => ⟨S1024x256, .bf16⟩
  | .local _ .vmem, ⟨34, _⟩ => ⟨S1x256x1536, .f32⟩
  | .local _ .vmem, ⟨35, _⟩ => ⟨S1x256x1536, .f32⟩
  | .local _ .vmem, ⟨36, _⟩ => ⟨S1x256x384, .f32⟩
  | .local _ .vmem, ⟨37, _⟩ => ⟨S1x256x384, .f32⟩
  | .local _ .vmem, ⟨38, _⟩ => ⟨S1x256x256, .f32⟩
  | .local _ .vmem, ⟨39, _⟩ => ⟨S1x256x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_v26 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24
abbrev cc1_sem12_0 : DmaSem sig := 25
abbrev cc1_sem12_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1536 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x1536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x384 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x256x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x256x2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨2, ![32, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x6x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x1536 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024x384 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x256x1536 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x384 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x256x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== Reference2Ideal.lean ====
abbrev S32x2048x1024 : Shape := ⟨3, ![32, 2048, 1024]⟩
abbrev S32x1024 : Shape := ⟨2, ![32, 1024]⟩
abbrev S32x256x1024 : Shape := ⟨3, ![32, 256, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x4736 : Shape := ⟨3, ![1, 1024, 4736]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩
abbrev S32x1x6144 : Shape := ⟨3, ![32, 1, 6144]⟩
abbrev S32x1x1024 : Shape := ⟨3, ![32, 1, 1024]⟩
abbrev S1x1x6144 : Shape := ⟨3, ![1, 1, 6144]⟩
abbrev S1x1x1024 : Shape := ⟨3, ![1, 1, 1024]⟩
abbrev S32x2048 : Shape := ⟨2, ![32, 2048]⟩
abbrev S32x2048x1 : Shape := ⟨3, ![32, 2048, 1]⟩
abbrev S1024x4736 : Shape := ⟨2, ![1024, 4736]⟩
abbrev S32x2048x4736 : Shape := ⟨3, ![32, 2048, 4736]⟩
abbrev S32x256 : Shape := ⟨2, ![32, 256]⟩
abbrev S32x256x1 : Shape := ⟨3, ![32, 256, 1]⟩
abbrev S32x256x4736 : Shape := ⟨3, ![32, 256, 4736]⟩
abbrev S32x2048x1536 : Shape := ⟨3, ![32, 2048, 1536]⟩
abbrev S32x2048x384 : Shape := ⟨3, ![32, 2048, 384]⟩
abbrev S32x2048x512 : Shape := ⟨3, ![32, 2048, 512]⟩
abbrev S32x2048x256 : Shape := ⟨3, ![32, 2048, 256]⟩
abbrev S32x2048x2048 : Shape := ⟨3, ![32, 2048, 2048]⟩
abbrev S32x256x1536 : Shape := ⟨3, ![32, 256, 1536]⟩
abbrev S32x256x384 : Shape := ⟨3, ![32, 256, 384]⟩
abbrev S32x256x512 : Shape := ⟨3, ![32, 256, 512]⟩
abbrev S32x256x256 : Shape := ⟨3, ![32, 256, 256]⟩
abbrev S32x256x2048 : Shape := ⟨3, ![32, 256, 2048]⟩

abbrev nBuf : Space → Nat
  | .hbm => 112
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x256x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x4736, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S1024x6144, .f32⟩
  | .hbm, ⟨18, _⟩ => ⟨S32x6144, .f32⟩
  | .hbm, ⟨19, _⟩ => ⟨S6144, .f32⟩
  | .hbm, ⟨20, _⟩ => ⟨S1x6144, .f32⟩
  | .hbm, ⟨21, _⟩ => ⟨S32x6144, .f32⟩
  | .hbm, ⟨22, _⟩ => ⟨S32x6144, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024x6144, .f32⟩
  | .hbm, ⟨33, _⟩ => ⟨S6144, .f32⟩
  | .hbm, ⟨34, _⟩ => ⟨S6144, .f32⟩
  | .hbm, ⟨35, _⟩ => ⟨S6144, .f32⟩
  | .hbm, ⟨36, _⟩ => ⟨S32x1x6144, .f32⟩
  | .hbm, ⟨37, _⟩ => ⟨S32x1x1024, .f32⟩
  | .hbm, ⟨38, _⟩ => ⟨S32x1x1024, .f32⟩
  | .hbm, ⟨39, _⟩ => ⟨S32x1x1024, .f32⟩
  | .hbm, ⟨40, _⟩ => ⟨S32x1x1024, .f32⟩
  | .hbm, ⟨41, _⟩ => ⟨S32x1x1024, .f32⟩
  | .hbm, ⟨42, _⟩ => ⟨S32x1x1024, .f32⟩
  | .hbm, ⟨43, _⟩ => ⟨S1x1x6144, .f32⟩
  | .hbm, ⟨44, _⟩ => ⟨S1x1x1024, .f32⟩
  | .hbm, ⟨45, _⟩ => ⟨S1x1x1024, .f32⟩
  | .hbm, ⟨46, _⟩ => ⟨S1x1x1024, .f32⟩
  | .hbm, ⟨47, _⟩ => ⟨S1x1x1024, .f32⟩
  | .hbm, ⟨48, _⟩ => ⟨S1x1x1024, .f32⟩
  | .hbm, ⟨49, _⟩ => ⟨S1x1x1024, .f32⟩
  | .hbm, ⟨50, _⟩ => ⟨S1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S_, .f32⟩
  | .hbm, ⟨68, _⟩ => ⟨S32x1x1024, .f32⟩
  | .hbm, ⟨69, _⟩ => ⟨S32x1x1024, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S32x2048x1024, .f32⟩
  | .hbm, ⟨74, _⟩ => ⟨S1024x4736, .f32⟩
  | .hbm, ⟨75, _⟩ => ⟨S32x2048x4736, .f32⟩
  | .hbm, ⟨76, _⟩ => ⟨S1024, .f32⟩
  | .hbm, ⟨77, _⟩ => ⟨S32x256x1024, .f32⟩
  | .hbm, ⟨78, _⟩ => ⟨S_, .f32⟩
  | .hbm, ⟨79, _⟩ => ⟨S32x256, .f32⟩
  | .hbm, ⟨80, _⟩ => ⟨S32x256x1, .f32⟩
  | .hbm, ⟨81, _⟩ => ⟨S_, .f32⟩
  | .hbm, ⟨82, _⟩ => ⟨S32x256x1, .f32⟩
  | .hbm, ⟨83, _⟩ => ⟨S32x256x1, .f32⟩
  | .hbm, ⟨84, _⟩ => ⟨S_, .f32⟩
  | .hbm, ⟨85, _⟩ => ⟨S32x256x1, .f32⟩
  | .hbm, ⟨86, _⟩ => ⟨S32x256x1, .f32⟩
  | .hbm, ⟨87, _⟩ => ⟨S32x256x1, .f32⟩
  | .hbm, ⟨88, _⟩ => ⟨S32x256x1024, .f32⟩
  | .hbm, ⟨89, _⟩ => ⟨S32x256x1024, .f32⟩
  | .hbm, ⟨90, _⟩ => ⟨S1x1x1024, .f32⟩
  | .hbm, ⟨91, _⟩ => ⟨S32x256x1024, .f32⟩
  | .hbm, ⟨92, _⟩ => ⟨S32x256x1024, .f32⟩
  | .hbm, ⟨93, _⟩ => ⟨S_, .f32⟩
  | .hbm, ⟨94, _⟩ => ⟨S1x1x1024, .f32⟩
  | .hbm, ⟨95, _⟩ => ⟨S1x1x1024, .f32⟩
  | .hbm, ⟨96, _⟩ => ⟨S32x256x1024, .f32⟩
  | .hbm, ⟨97, _⟩ => ⟨S32x256x1024, .f32⟩
  | .hbm, ⟨98, _⟩ => ⟨S32x256x1024, .f32⟩
  | .hbm, ⟨99, _⟩ => ⟨S32x256x1024, .f32⟩
  | .hbm, ⟨100, _⟩ => ⟨S1024x4736, .f32⟩
  | .hbm, ⟨101, _⟩ => ⟨S32x256x4736, .f32⟩
  | .hbm, ⟨102, _⟩ => ⟨S32x2048x1536, .f32⟩
  | .hbm, ⟨103, _⟩ => ⟨S32x2048x384, .f32⟩
  | .hbm, ⟨104, _⟩ => ⟨S32x2048x512, .f32⟩
  | .hbm, ⟨105, _⟩ => ⟨S32x2048x256, .f32⟩
  | .hbm, ⟨106, _⟩ => ⟨S32x2048x2048, .f32⟩
  | .hbm, ⟨107, _⟩ => ⟨S32x256x1536, .f32⟩
  | .hbm, ⟨108, _⟩ => ⟨S32x256x384, .f32⟩
  | .hbm, ⟨109, _⟩ => ⟨S32x256x512, .f32⟩
  | .hbm, ⟨110, _⟩ => ⟨S32x256x256, .f32⟩
  | .hbm, ⟨111, _⟩ => ⟨S32x256x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst : Ref sig .tc := ⟨.hbm, 52, rfl⟩
abbrev main_v28 : Ref sig .tc := ⟨.hbm, 53, rfl⟩
abbrev main_v29 : Ref sig .tc := ⟨.hbm, 54, rfl⟩
abbrev main_cst_0 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_3 : Ref sig .tc := ⟨.hbm, 78, rfl⟩
abbrev main_v50 : Ref sig .tc := ⟨.hbm, 79, rfl⟩
abbrev main_v51 : Ref sig .tc := ⟨.hbm, 80, rfl⟩
abbrev main_cst_4 : Ref sig .tc := ⟨.hbm, 81, rfl⟩
abbrev main_v52 : Ref sig .tc := ⟨.hbm, 82, rfl⟩
abbrev main_v53 : Ref sig .tc := ⟨.hbm, 83, rfl⟩
abbrev main_cst_5 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_6 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Kernel3.lean ====
abbrev S32x2048x512 : Shape := ⟨3, ![32, 2048, 512]⟩
abbrev S32x2048x384 : Shape := ⟨3, ![32, 2048, 384]⟩
abbrev S32x2048x2048 : Shape := ⟨3, ![32, 2048, 2048]⟩
abbrev S32x2048x1024 : Shape := ⟨3, ![32, 2048, 1024]⟩
abbrev S32x6144 : Shape := ⟨2, ![32, 6144]⟩
abbrev S1x512 : Shape := ⟨2, ![1, 512]⟩
abbrev S1x128x512 : Shape := ⟨3, ![1, 128, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S32x6x1024 : Shape := ⟨3, ![32, 6, 1024]⟩
abbrev S512 : Shape := ⟨1, ![512]⟩
abbrev S128x512 : Shape := ⟨2, ![128, 512]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S32x16x2048 : Shape := ⟨3, ![32, 16, 2048]⟩
abbrev S1x512x512 : Shape := ⟨3, ![1, 512, 512]⟩
abbrev S1x512x128 : Shape := ⟨3, ![1, 512, 128]⟩
abbrev S1x512x2048 : Shape := ⟨3, ![1, 512, 2048]⟩
abbrev S1x6x1024 : Shape := ⟨3, ![1, 6, 1024]⟩
abbrev S1x16x512 : Shape := ⟨3, ![1, 16, 512]⟩
abbrev S256x256 : Shape := ⟨2, ![256, 256]⟩
abbrev S512x512 : Shape := ⟨2, ![512, 512]⟩
abbrev S512x256 : Shape := ⟨2, ![512, 256]⟩
abbrev S512x128 : Shape := ⟨2, ![512, 128]⟩
abbrev S512x2048 : Shape := ⟨2, ![512, 2048]⟩
abbrev S1x1x1024 : Shape := ⟨3, ![1, 1, 1024]⟩
abbrev S512x1 : Shape := ⟨2, ![512, 1]⟩
abbrev S16x512 : Shape := ⟨2, ![16, 512]⟩

abbrev nBuf : Space → Nat
  | .hbm => 36
  | .vmem => 30
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S32x2048x384, .f32⟩
  | .hbm, ⟨4, _⟩ => ⟨S32x2048x512, .f32⟩
  | .hbm, ⟨5, _⟩ => ⟨S32x2048x2048, .f32⟩
  | .hbm, ⟨6, _⟩ => ⟨S32x2048x1024, .f32⟩
  | .hbm, ⟨7, _⟩ => ⟨S32x6144, .f32⟩
  | .hbm, ⟨8, _⟩ => ⟨S1x512, .f32⟩
  | .hbm, ⟨9, _⟩ => ⟨S1x512, .f32⟩
  | .hbm, ⟨10, _⟩ => ⟨S1x128x512, .f32⟩
  | .hbm, ⟨11, _⟩ => ⟨S1x512x1024, .f32⟩
  | .hbm, ⟨12, _⟩ => ⟨S1x512x1024, .f32⟩
  | .hbm, ⟨13, _⟩ => ⟨S1x1024x1024, .f32⟩
  | .hbm, ⟨14, _⟩ => ⟨S1x1024, .f32⟩
  | .hbm, ⟨15, _⟩ => ⟨S1x1024x16, .f32⟩
  | .hbm, ⟨16, _⟩ => ⟨S32x6x1024, .f32⟩
  | .hbm, ⟨17, _⟩ => ⟨S512, .f32⟩
  | .hbm, ⟨18, _⟩ => ⟨S512, .f32⟩
  | .hbm, ⟨19, _⟩ => ⟨S128x512, .f32⟩
  | .hbm, ⟨20, _⟩ => ⟨S128x512, .bf16⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1024x16, .f32⟩
  | .hbm, ⟨29, _⟩ => ⟨S16x1024, .f32⟩
  | .hbm, ⟨30, _⟩ => ⟨S1x512, .f32⟩
  | .hbm, ⟨31, _⟩ => ⟨S1x512, .f32⟩
  | .hbm, ⟨32, _⟩ => ⟨S1x1024, .f32⟩
  | .hbm, ⟨33, _⟩ => ⟨S32x2048x1024, .f32⟩
  | .hbm, ⟨34, _⟩ => ⟨S32x2048x1024, .bf16⟩
  | .hbm, ⟨35, _⟩ => ⟨S32x16x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x128, .f32⟩
  | .local _ .vmem, ⟨7, _⟩ => ⟨S1x512x128, .f32⟩
  | .local _ .vmem, ⟨8, _⟩ => ⟨S1x512x512, .f32⟩
  | .local _ .vmem, ⟨9, _⟩ => ⟨S1x512x512, .f32⟩
  | .local _ .vmem, ⟨10, _⟩ => ⟨S1x512x2048, .f32⟩
  | .local _ .vmem, ⟨11, _⟩ => ⟨S1x512x2048, .f32⟩
  | .local _ .vmem, ⟨12, _⟩ => ⟨S1x512x1024, .f32⟩
  | .local _ .vmem, ⟨13, _⟩ => ⟨S1x512x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x512, .f32⟩
  | .local _ .vmem, ⟨17, _⟩ => ⟨S1x512, .f32⟩
  | .local _ .vmem, ⟨18, _⟩ => ⟨S128x512, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S16x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .bf16⟩
  | .local _ .vmem, ⟨27, _⟩ => ⟨S1x512x1024, .bf16⟩
  | .local _ .vmem, ⟨28, _⟩ => ⟨S1x16x512, .f32⟩
  | .local _ .vmem, ⟨29, _⟩ => ⟨S1x16x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S32x2048x512 : Shape := ⟨3, ![32, 2048, 512]⟩
abbrev S32x2048x384 : Shape := ⟨3, ![32, 2048, 384]⟩
abbrev S32x2048x2048 : Shape := ⟨3, ![32, 2048, 2048]⟩
abbrev S32x2048x1024 : Shape := ⟨3, ![32, 2048, 1024]⟩
abbrev S32x6144 : Shape := ⟨2, ![32, 6144]⟩
abbrev S1x512 : Shape := ⟨2, ![1, 512]⟩
abbrev S1x128x512 : Shape := ⟨3, ![1, 128, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S32x1x6144 : Shape := ⟨3, ![32, 1, 6144]⟩
abbrev S32x1x1024 : Shape := ⟨3, ![32, 1, 1024]⟩
abbrev S32x2048x128 : Shape := ⟨3, ![32, 2048, 128]⟩
abbrev S32x2048x8x64 : Shape := ⟨4, ![32, 2048, 8, 64]⟩
abbrev S_ : Shape := ⟨0, ![]⟩
abbrev S32x2048x8 : Shape := ⟨3, ![32, 2048, 8]⟩
abbrev S32x2048x8x1 : Shape := ⟨4, ![32, 2048, 8, 1]⟩
abbrev S512 : Shape := ⟨1, ![512]⟩
abbrev S1x1x512 : Shape := ⟨3, ![1, 1, 512]⟩
abbrev S128x512 : Shape := ⟨2, ![128, 512]⟩
abbrev S512x1024 : Shape := ⟨2, ![512, 1024]⟩
abbrev S1024x1024 : Shape := ⟨2, ![1024, 1024]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S1024x16 : Shape := ⟨2, ![1024, 16]⟩
abbrev S32x2048x16 : Shape := ⟨3, ![32, 2048, 16]⟩
abbrev S32x16x2048 : Shape := ⟨3, ![32, 16, 2048]⟩

abbrev nBuf : Space → Nat
  | .hbm => 134
  | .vmem => 0
  | .smem => 0
  | _ => 0

abbrev hbmTy0_0 (i : Nat) : BufTy := match i % 128 with
  | 0 => ⟨S32x2048x512, .f32⟩
  | 1 => ⟨S32x2048x512, .f32⟩
  | 2 => ⟨S32x2048x512, .f32⟩
  | 3 => ⟨S32x2048x384, .f32⟩
  | 4 => ⟨S32x2048x512, .f32⟩
  | 5 => ⟨S32x2048x2048, .f32⟩
  | 6 => ⟨S32x2048x1024, .f32⟩
  | 7 => ⟨S32x6144, .f32⟩
  | 8 => ⟨S1x512, .f32⟩
  | 9 => ⟨S1x512, .f32⟩
  | 10 => ⟨S1x128x512, .f32⟩
  | 11 => ⟨S1x512x1024, .f32⟩
  | 12 => ⟨S1x512x1024, .f32⟩
  | 13 => ⟨S1x1024x1024, .f32⟩
  | 14 => ⟨S1x1024, .f32⟩
  | 15 => ⟨S1x1024x16, .f32⟩
  | 16 => ⟨S32x1x6144, .f32⟩
  | 17 => ⟨S32x1x1024, .f32⟩
  | 18 => ⟨S32x1x1024, .f32⟩
  | 19 => ⟨S32x1x1024, .f32⟩
  | 20 => ⟨S32x1x1024, .f32⟩
  | 21 => ⟨S32x1x1024, .f32⟩
  | 22 => ⟨S32x1x1024, .f32⟩
  | 23 => ⟨S32x2048x128, .f32⟩
  | 24 => ⟨S32x2048x512, .f32⟩
  | 25 => ⟨S32x2048x8x64, .f32⟩
  | 26 => ⟨S_, .f32⟩
  | 27 => ⟨S32x2048x8, .f32⟩
  | 28 => ⟨S32x2048x8x1, .f32⟩
  | 29 => ⟨S_, .f32⟩
  | 30 => ⟨S32x2048x8x1, .f32⟩
  | 31 => ⟨S32x2048x8x1, .f32⟩
  | 32 => ⟨S32x2048x8x64, .f32⟩
  | 33 => ⟨S32x2048x8x64, .f32⟩
  | 34 => ⟨S32x2048x8x64, .f32⟩
  | 35 => ⟨S_, .f32⟩
  | 36 => ⟨S32x2048x8, .f32⟩
  | 37 => ⟨S32x2048x8x1, .f32⟩
  | 38 => ⟨S_, .f32⟩
  | 39 => ⟨S32x2048x8x1, .f32⟩
  | 40 => ⟨S32x2048x8x1, .f32⟩
  | 41 => ⟨S32x2048x8x64, .f32⟩
  | 42 => ⟨S32x2048x8x64, .f32⟩
  | 43 => ⟨S_, .f32⟩
  | 44 => ⟨S32x2048x8x1, .f32⟩
  | 45 => ⟨S32x2048x8x1, .f32⟩
  | 46 => ⟨S32x2048x8x1, .f32⟩
  | 47 => ⟨S32x2048x8x64, .f32⟩
  | 48 => ⟨S32x2048x8x64, .f32⟩
  | 49 => ⟨S32x2048x512, .f32⟩
  | 50 => ⟨S512, .f32⟩
  | 51 => ⟨S1x1x512, .f32⟩
  | 52 => ⟨S32x2048x512, .f32⟩
  | 53 => ⟨S32x2048x512, .f32⟩
  | 54 => ⟨S512, .f32⟩
  | 55 => ⟨S1x1x512, .f32⟩
  | 56 => ⟨S32x2048x512, .f32⟩
  | 57 => ⟨S32x2048x512, .f32⟩
  | 58 => ⟨S32x2048x512, .f32⟩
  | 59 => ⟨S32x2048x128, .f32⟩
  | 60 => ⟨S32x2048x128, .f32⟩
  | 61 => ⟨S_, .f32⟩
  | 62 => ⟨S32x2048x128, .f32⟩
  | 63 => ⟨S32x2048x128, .f32⟩
  | 64 => ⟨S_, .f32⟩
  | 65 => ⟨S32x2048x128, .f32⟩
  | 66 => ⟨S32x2048x128, .f32⟩
  | 67 => ⟨S128x512, .f32⟩
  | 68 => ⟨S32x2048x512, .f32⟩
  | 69 => ⟨S32x2048x512, .f32⟩
  | 70 => ⟨S32x2048x2048, .f32⟩
  | 71 => ⟨S32x2048x2048, .f32⟩
  | 72 => ⟨S_, .f32⟩
  | 73 => ⟨S32x2048x2048, .f32⟩
  | 74 => ⟨S32x2048x2048, .f32⟩
  | 75 => ⟨S_, .f32⟩
  | 76 => ⟨S32x2048x2048, .f32⟩
  | 77 => ⟨S32x2048x2048, .f32⟩
  | 78 => ⟨S32x2048x1024, .f32⟩
  | 79 => ⟨S32x2048x1024, .f32⟩
  | 80 => ⟨S512x1024, .f32⟩
  | 81 => ⟨S32x2048x1024, .f32⟩
  | 82 => ⟨S32x2048x1024, .f32⟩
  | 83 => ⟨S512x1024, .f32⟩
  | 84 => ⟨S32x2048x1024, .f32⟩
  | 85 => ⟨S32x2048x1024, .f32⟩
  | 86 => ⟨S32x2048x1024, .f32⟩
  | 87 => ⟨S1024x1024, .f32⟩
  | 88 => ⟨S32x2048x1024, .f32⟩
  | 89 => ⟨S32x2048x1024, .f32⟩
  | 90 => ⟨S32x2048x1024, .f32⟩
  | 91 => ⟨S32x2048x1024, .f32⟩
  | 92 => ⟨S32x2048x1024, .f32⟩
  | 93 => ⟨S_, .f32⟩
  | 94 => ⟨S32x2048, .f32⟩
  | 95 => ⟨S32x2048x1, .f32⟩
  | 96 => ⟨S_, .f32⟩
  | 97 => ⟨S32x2048x1, .f32⟩
  | 98 => ⟨S32x2048x1, .f32⟩
  | 99 => ⟨S_, .f32⟩
  | 100 => ⟨S32x2048x1, .f32⟩
  | 101 => ⟨S32x2048x1, .f32⟩
  | 102 => ⟨S32x2048x1, .f32⟩
  | 103 => ⟨S32x2048x1024, .f32⟩
  | 104 => ⟨S32x2048x1024, .f32⟩
  | 105 => ⟨S1024, .f32⟩
  | 106 => ⟨S1x1x1024, .f32⟩
  | 107 => ⟨S32x2048x1024, .f32⟩
  | 108 => ⟨S32x2048x1024, .f32⟩
  | 109 => ⟨S_, .f32⟩
  | 110 => ⟨S32x1x1024, .f32⟩
  | 111 => ⟨S32x1x1024, .f32⟩
  | 112 => ⟨S32x2048x1024, .f32⟩
  | 113 => ⟨S32x2048x1024, .f32⟩
  | 114 => ⟨S32x2048x1024, .f32⟩
  | 115 => ⟨S32x2048x1024, .f32⟩
  | 116 => ⟨S1024x16, .f32⟩
  | 117 => ⟨S32x2048x16, .f32⟩
  | 118 => ⟨S_, .f32⟩
  | 119 => ⟨S32x2048, .f32⟩
  | 120 => ⟨S_, .f32⟩
  | 121 => ⟨S32x2048, .f32⟩
  | 122 => ⟨S32x2048, .f32⟩
  | 123 => ⟨S32x2048x1, .f32⟩
  | 124 => ⟨S32x2048x16, .f32⟩
  | 125 => ⟨S32x2048x16, .f32⟩
  | 126 => ⟨S32x2048x16, .f32⟩
  | 127 => ⟨S_, .f32⟩
  | _ => ⟨S32x2048x512, .f32⟩

abbrev hbmTy0_1 (i : Nat) : BufTy := match i % 128 with
  | 0 => ⟨S32x2048, .f32⟩
  | 1 => ⟨S32x2048x1, .f32⟩
  | 2 => ⟨S32x2048x16, .f32⟩
  | 3 => ⟨S32x2048x16, .f32⟩
  | 4 => ⟨S32x2048x1024, .bf16⟩
  | 5 => ⟨S32x16x2048, .f32⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_cst_10 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_12 : Ref sig .tc := ⟨.hbm, 118, rfl⟩
abbrev main_v89 : Ref sig .tc := ⟨.hbm, 119, rfl⟩
abbrev main_cst_13 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== Kernel4.lean ====
abbrev S32x2048x512 : Shape := ⟨3, ![32, 2048, 512]⟩
abbrev S32x2048x256 : Shape := ⟨3, ![32, 2048, 256]⟩
abbrev S32x256x256 : Shape := ⟨3, ![32, 256, 256]⟩
abbrev S1x64 : Shape := ⟨2, ![1, 64]⟩
abbrev S1x8 : Shape := ⟨2, ![1, 8]⟩
abbrev S2048 : Shape := ⟨1, ![2048]⟩
abbrev S_ : Shape := ⟨0, ![]⟩
abbrev S64 : Shape := ⟨1, ![64]⟩
abbrev S2048x1 : Shape := ⟨2, ![2048, 1]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x64 : Shape := ⟨2, ![2, 64]⟩
abbrev S128 : Shape := ⟨1, ![128]⟩
abbrev S1x128 : Shape := ⟨2, ![1, 128]⟩
abbrev S8 : Shape := ⟨1, ![8]⟩
abbrev S1x512x512 : Shape := ⟨3, ![1, 512, 512]⟩
abbrev S1x2048x256 : Shape := ⟨3, ![1, 2048, 256]⟩
abbrev S1x256x256 : Shape := ⟨3, ![1, 256, 256]⟩
abbrev S2304x128 : Shape := ⟨2, ![2304, 128]⟩
abbrev S256x128 : Shape := ⟨2, ![256, 128]⟩
abbrev S128x128 : Shape := ⟨2, ![128, 128]⟩
abbrev S1x2048x128 : Shape := ⟨3, ![1, 2048, 128]⟩
abbrev S1x256x128 : Shape := ⟨3, ![1, 256, 128]⟩
abbrev S128x384 : Shape := ⟨2, ![128, 384]⟩
abbrev S384x128 : Shape := ⟨2, ![384, 128]⟩
abbrev S1x128x128 : Shape := ⟨3, ![1, 128, 128]⟩
abbrev S512x384 : Shape := ⟨2, ![512, 384]⟩
abbrev S512x128 : Shape := ⟨2, ![512, 128]⟩
abbrev S640x128 : Shape := ⟨2, ![640, 128]⟩
abbrev S1 : Shape := ⟨1, ![1]⟩
abbrev S128x1 : Shape := ⟨2, ![128, 1]⟩
abbrev S512x1 : Shape := ⟨2, ![512, 1]⟩
abbrev S512x640 : Shape := ⟨2, ![512, 640]⟩
abbrev S512x256 : Shape := ⟨2, ![512, 256]⟩
abbrev S512 : Shape := ⟨1, ![512]⟩

abbrev nBuf : Space → Nat
  | .hbm => 165
  | .vmem => 16
  | .smem => 1
  | _ => 0

abbrev hbmTy0_0 (i : Nat) : BufTy := match i % 128 with
  | 0 => ⟨S32x2048x512, .f32⟩
  | 1 => ⟨S32x2048x256, .f32⟩
  | 2 => ⟨S32x256x256, .f32⟩
  | 3 => ⟨S1x64, .f32⟩
  | 4 => ⟨S1x64, .f32⟩
  | 5 => ⟨S1x8, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S2048, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i1⟩
  | 37 => ⟨S_, .i32⟩
  | 38 => ⟨S2048, .i32⟩
  | 39 => ⟨S2048, .i1⟩
  | 40 => ⟨S_, .i32⟩
  | 41 => ⟨S_, .i1⟩
  | 42 => ⟨S2048, .i1⟩
  | 43 => ⟨S2048, .i1⟩
  | 44 => ⟨S2048, .i1⟩
  | 45 => ⟨S2048, .i32⟩
  | 46 => ⟨S2048, .i32⟩
  | 47 => ⟨S2048, .i32⟩
  | 48 => ⟨S2048, .f32⟩
  | 49 => ⟨S64, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S64, .i32⟩
  | 57 => ⟨S64, .i32⟩
  | 58 => ⟨S_, .i32⟩
  | 59 => ⟨S64, .i32⟩
  | 60 => ⟨S64, .i1⟩
  | 61 => ⟨S_, .i32⟩
  | 62 => ⟨S64, .i32⟩
  | 63 => ⟨S64, .i1⟩
  | 64 => ⟨S_, .i32⟩
  | 65 => ⟨S_, .i1⟩
  | 66 => ⟨S64, .i1⟩
  | 67 => ⟨S64, .i1⟩
  | 68 => ⟨S64, .i1⟩
  | 69 => ⟨S64, .i32⟩
  | 70 => ⟨S64, .i32⟩
  | 71 => ⟨S64, .i32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S_, .i32⟩
  | 81 => ⟨S_, .i32⟩
  | 82 => ⟨S64, .i32⟩
  | 83 => ⟨S64, .i32⟩
  | 84 => ⟨S64, .i32⟩
  | 85 => ⟨S_, .i32⟩
  | 86 => ⟨S64, .i32⟩
  | 87 => ⟨S64, .i1⟩
  | 88 => ⟨S64, .i32⟩
  | 89 => ⟨S64, .i32⟩
  | 90 => ⟨S_, .i32⟩
  | 91 => ⟨S64, .i32⟩
  | 92 => ⟨S64, .i1⟩
  | 93 => ⟨S64, .i1⟩
  | 94 => ⟨S_, .i32⟩
  | 95 => ⟨S64, .i32⟩
  | 96 => ⟨S64, .i32⟩
  | 97 => ⟨S64, .i32⟩
  | 98 => ⟨S1x64, .i32⟩
  | 99 => ⟨S_, .i32⟩
  | 100 => ⟨S1x64, .i32⟩
  | 101 => ⟨S1x64, .i1⟩
  | 102 => ⟨S2048x1, .f32⟩
  | 103 => ⟨S2048x1, .f32⟩
  | 104 => ⟨S2048x64, .i1⟩
  | 105 => ⟨S2048x64, .f32⟩
  | 106 => ⟨S2048x64, .f32⟩
  | 107 => ⟨S2048x64, .f32⟩
  | 108 => ⟨S1x64, .f32⟩
  | 109 => ⟨S2048x64, .f32⟩
  | 110 => ⟨S2048x64, .f32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S64, .i32⟩
  | 118 => ⟨S64, .i32⟩
  | 119 => ⟨S_, .i32⟩
  | 120 => ⟨S64, .i32⟩
  | 121 => ⟨S64, .i1⟩
  | 122 => ⟨S_, .i32⟩
  | 123 => ⟨S64, .i32⟩
  | 124 => ⟨S64, .i1⟩
  | 125 => ⟨S_, .i32⟩
  | 126 => ⟨S_, .i1⟩
  | 127 => ⟨S64, .i1⟩
  | _ => ⟨S32x2048x512, .f32⟩

abbrev hbmTy0_1 (i : Nat) : BufTy := match i % 128 with
  | 0 => ⟨S64, .i1⟩
  | 1 => ⟨S64, .i1⟩
  | 2 => ⟨S64, .i32⟩
  | 3 => ⟨S64, .i32⟩
  | 4 => ⟨S64, .i32⟩
  | 5 => ⟨S_, .i32⟩
  | 6 => ⟨S64, .i32⟩
  | 7 => ⟨S64, .i1⟩
  | 8 => ⟨S_, .f32⟩
  | 9 => ⟨S_, .f32⟩
  | 10 => ⟨S64, .f32⟩
  | 11 => ⟨S64, .f32⟩
  | 12 => ⟨S64, .f32⟩
  | 13 => ⟨S1x64, .f32⟩
  | 14 => ⟨S2048x64, .f32⟩
  | 15 => ⟨S2048x64, .f32⟩
  | 16 => ⟨S1x64, .f32⟩
  | 17 => ⟨S2048x64, .f32⟩
  | 18 => ⟨S2048x64, .f32⟩
  | 19 => ⟨S1x2048x1x64, .f32⟩
  | 20 => ⟨S1x2048x2x64, .f32⟩
  | 21 => ⟨S2048x128, .f32⟩
  | 22 => ⟨S1x2048x1x64, .f32⟩
  | 23 => ⟨S1x2048x2x64, .f32⟩
  | 24 => ⟨S2048x128, .f32⟩
  | 25 => ⟨S64, .f32⟩
  | 26 => ⟨S1x64, .f32⟩
  | 27 => ⟨S2x64, .f32⟩
  | 28 => ⟨S128, .f32⟩
  | 29 => ⟨S1x128, .f32⟩
  | 30 => ⟨S64, .f32⟩
  | 31 => ⟨S1x64, .f32⟩
  | 32 => ⟨S2x64, .f32⟩
  | 33 => ⟨S128, .f32⟩
  | 34 => ⟨S1x128, .f32⟩
  | 35 => ⟨S8, .f32⟩
  | 36 => ⟨S32x2048x512, .f32⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x2048x256, .f32⟩
  | .local _ .vmem, ⟨3, _⟩ => ⟨S1x2048x256, .f32⟩
  | .local _ .vmem, ⟨4, _⟩ => ⟨S1x256x256, .f32⟩
  | .local _ .vmem, ⟨5, _⟩ => ⟨S1x256x256, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S1x512x512, .f32⟩
  | .local _ .vmem, ⟨11, _⟩ => ⟨S1x512x512, .f32⟩
  | .local _ .vmem, ⟨12, _⟩ => ⟨S2304x128, .bf16⟩
  | .local _ .vmem, ⟨13, _⟩ => ⟨S2304x128, .bf16⟩
  | .local _ .vmem, ⟨14, _⟩ => ⟨S256x128, .bf16⟩
  | .local _ .vmem, ⟨15, _⟩ => ⟨S256x128, .bf16⟩
  | .local _ .smem, ⟨0, _⟩ => ⟨S8, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_cst : Ref sig .tc := ⟨.hbm, 74, rfl⟩
abbrev main_v9 : Ref sig .tc := ⟨.hbm, 75, rfl⟩
abbrev main_v10 : Ref sig .tc := ⟨.hbm, 76, rfl⟩
abbrev main_cst_2 : Ref sig .tc := ⟨.hbm, 77, rfl⟩
abbrev main_v11 : Ref sig .tc := ⟨.hbm, 78, rfl⟩
abbrev main_v12 : Ref sig .tc := ⟨.hbm, 79, rfl⟩
abbrev main_c_3 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v13 : Ref sig .tc := ⟨.hbm, 97, rfl⟩
abbrev main_v14 : Ref sig .tc := ⟨.hbm, 98, rfl⟩
abbrev main_c_4 : Ref sig .tc := ⟨.hbm, 99, rfl⟩
abbrev main_v15 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_v22 : Ref sig .tc := ⟨.hbm, 110, rfl⟩
abbrev main_c_5 : Ref sig .tc := ⟨.hbm, 111, rfl⟩
abbrev main_call5_v0 : Ref sig .tc := ⟨.hbm, 112, rfl⟩
abbrev main_call5_c : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_c_1 : Ref sig .tc := ⟨.hbm, 119, rfl⟩
abbrev main_call5_v5 : Ref sig .tc := ⟨.hbm, 120, rfl⟩
abbrev main_call5_v6 : Ref sig .tc := ⟨.hbm, 121, rfl⟩
abbrev main_call5_c_2 : Ref sig .tc := ⟨.hbm, 122, rfl⟩
abbrev main_call5_v7 : Ref sig .tc := ⟨.hbm, 123, rfl⟩
abbrev main_call5_v8 : Ref sig .tc := ⟨.hbm, 124, rfl⟩
abbrev main_call5_c_3 : Ref sig .tc := ⟨.hbm, 125, rfl⟩
abbrev main_call5_v9 : Ref sig .tc := ⟨.hbm, 126, rfl⟩
abbrev main_call5_v10 : Ref sig .tc := ⟨.hbm, 127, rfl⟩
abbrev main_call5_v11 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_v23 : Ref sig .tc := ⟨.hbm, 132, rfl⟩
abbrev main_c_6 : Ref sig .tc := ⟨.hbm, 133, rfl⟩
abbrev main_v24 : Ref sig .tc := ⟨.hbm, 134, rfl⟩
abbrev main_v25 : Ref sig .tc := ⟨.hbm, 135, rfl⟩
abbrev main_cst_7 : Ref sig .tc := ⟨.hbm, 136, rfl⟩
abbrev main_cst_8 : Ref sig .tc := ⟨.hbm, 137, rfl⟩
abbrev main_call6_v0 : Ref sig .tc := ⟨.hbm, 138, rfl⟩
abbrev main_call6_v1 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c4_i32 : BitVec 32 := 4#32
  let v25 : BitVec 32 := Scalar.muli arg1 c4_i32
  let c0_i32_9 : BitVec 32 := 0#32
  let v26 : BitVec 32 := Scalar.addi v25 c0_i32_9
  let c128_i32 : BitVec 32 := 128#32
  let v27 : BitVec 32 := Scalar.muli v26 c128_i32
  v27
def k0_off1 (i : grid0.Coords) (c0_i32_9 : BitVec 32) : Fin 2 → Nat :=
  let arg1 : BitVec 32 := BitVec.ofNat 32 (i 1).val
  let c4_i32 : BitVec 32 := 4#32
  let v25 : BitVec 32 := Scalar.muli arg1 c4_i32
  let v26 : BitVec 32 := Scalar.addi v25 c0_i32_9
  let c128_i32 : BitVec 32 := 128#32
  let v27 : BitVec 32 := Scalar.muli v26 c128_i32
  let v28 : BitVec 32 := v27
  let v29 : Index := Scalar.indexCast v28
  let c0_10 : Index := 0#32
  ![v29.toNat, 0]
def k0_off2 (i : grid0.Coords) (c0_i32_9 : BitVec 32) : Fin 2 → Nat :=
  let arg1 : BitVec 32 := BitVec.ofNat 32 (i 1).val
  let c4_i32 : BitVec 32 := 4#32
  let v25 : BitVec 32 := Scalar.muli arg1 c4_i32
  let v26 : BitVec 32 := Scalar.addi v25 c0_i32_9
  let c128_i32 : BitVec 32 := 128#32
  let v27 : BitVec 32 := Scalar.muli v26 c128_i32
  let v28 : BitVec 32 := v27
  let v35 : Index := Scalar.indexCast v28
  let c0_12 : Index := 0#32
  ![v35.toNat, 0]
def k0_mult2 (i : grid0.Coords) : BitVec 32 :=
  let arg1 : BitVec 32 := BitVec.ofNat 32 (i 1).val
  let c4_i32_81 : BitVec 32 := 4#32
  let v233 : BitVec 32 := Scalar.muli arg1 c4_i32_81
  let c1_i32 : BitVec 32 := 1#32
  let v234 : BitVec 32 := Scalar.addi v233 c1_i32
  let c128_i32_82 : BitVec 32 := 128#32
  let v235 : BitVec 32 := Scalar.muli v234 c128_i32_82
  v235
def k0_mult3 (i : grid0.Coords) : BitVec 32 :=
  let arg1 : BitVec 32 := BitVec.ofNat 32 (i 1).val
  let c4_i32_169 : BitVec 32 := 4#32
  let v441 : BitVec 32 := Scalar.muli arg1 c4_i32_169
  let c2_i32 : BitVec 32 := 2#32
  let v442 : BitVec 32 := Scalar.addi v441 c2_i32
  let c128_i32_170 : BitVec 32 := 128#32
  let v443 : BitVec 32 := Scalar.muli v442 c128_i32_170
  v443
def k0_mult4 (i : grid0.Coords) : BitVec 32 :=
  let arg1 : BitVec 32 := BitVec.ofNat 32 (i 1).val
  let c4_i32_257 : BitVec 32 := 4#32
  let v649 : BitVec 32 := Scalar.muli arg1 c4_i32_257
  let c3_i32 : BitVec 32 := 3#32
  let v650 : BitVec 32 := Scalar.addi v649 c3_i32
  let c128_i32_258 : BitVec 32 := 128#32
  let v651 : BitVec 32 := Scalar.muli v650 c128_i32_258
  v651
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S32x2048x512 : Shape := ⟨3, ![32, 2048, 512]⟩
abbrev S32x2048x256 : Shape := ⟨3, ![32, 2048, 256]⟩
abbrev S32x256x256 : Shape := ⟨3, ![32, 256, 256]⟩
abbrev S1x64 : Shape := ⟨2, ![1, 64]⟩
abbrev S1x8 : Shape := ⟨2, ![1, 8]⟩
abbrev S32 : Shape := ⟨1, ![32]⟩
abbrev S32x64 : Shape := ⟨2, ![32, 64]⟩
abbrev S2048 : Shape := ⟨1, ![2048]⟩
abbrev S64 : Shape := ⟨1, ![64]⟩
abbrev S32x2048x8x64 : Shape := ⟨4, ![32, 2048, 8, 64]⟩
abbrev S_ : Shape := ⟨0, ![]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x8x32 : Shape := ⟨4, ![32, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x8x16 : Shape := ⟨4, ![32, 2048, 8, 16]⟩
abbrev S32x2048x128 : Shape := ⟨3, ![32, 2048, 128]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x2x32 : Shape := ⟨4, ![32, 2048, 2, 32]⟩
abbrev S32x2048x2x16 : Shape := ⟨4, ![32, 2048, 2, 16]⟩
abbrev S32x256x128 : Shape := ⟨3, ![32, 256, 128]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S32x2304x2x64 : Shape := ⟨4, ![32, 2304, 2, 64]⟩
abbrev S32x16x128x2x4x64 : Shape := ⟨6, ![32, 16, 128, 2, 4, 64]⟩
abbrev S16x128x1 : Shape := ⟨3, ![16, 128, 1]⟩
abbrev S16x1x1 : Shape := ⟨3, ![16, 1, 1]⟩
abbrev S384 : Shape := ⟨1, ![384]⟩
abbrev S1x1x384 : Shape := ⟨3, ![1, 1, 384]⟩
abbrev S16x1x384 : Shape := ⟨3, ![16, 1, 384]⟩
abbrev S16x128x384 : Shape := ⟨3, ![16, 128, 384]⟩
abbrev S32x18x128x2x64 : Shape := ⟨5, ![32, 18, 128, 2, 64]⟩
abbrev S32x16x128x2x64 : Shape := ⟨5, ![32, 16, 128, 2, 64]⟩
abbrev S32x16x384x2x64 : Shape := ⟨5, ![32, 16, 384, 2, 64]⟩
abbrev S32x16x2x384x128x4 : Shape := ⟨6, ![32, 16, 2, 384, 128, 4]⟩
abbrev S32x16x2x4x128x384 : Shape := ⟨6, ![32, 16, 2, 4, 128, 384]⟩
abbrev S16x1x1x128x384 : Shape := ⟨5, ![16, 1, 1, 128, 384]⟩
abbrev S32x2x256x16x128x4 : Shape := ⟨6, ![32, 2, 256, 16, 128, 4]⟩
abbrev S32x16x2x4x128x256 : Shape := ⟨6, ![32, 16, 2, 4, 128, 256]⟩
abbrev S8 : Shape := ⟨1, ![8]⟩
abbrev S2x4x1x1 : Shape := ⟨4, ![2, 4, 1, 1]⟩
abbrev S32x16x2x4x128x1 : Shape := ⟨6, ![32, 16, 2, 4, 128, 1]⟩
abbrev S32x16x2x4x128x641 : Shape := ⟨6, ![32, 16, 2, 4, 128, 641]⟩
abbrev S32x16x2x4x128 : Shape := ⟨5, ![32, 16, 2, 4, 128]⟩
abbrev S32x16x2x64x4x128 : Shape := ⟨6, ![32, 16, 2, 64, 4, 128]⟩
abbrev S32x2x64x16x4x128 : Shape := ⟨6, ![32, 2, 64, 16, 4, 128]⟩

abbrev nBuf : Space → Nat
  | .hbm => 294
  | .vmem => 0
  | .smem => 0
  | _ => 0

abbrev hbmTy0_0 (i : Nat) : BufTy := match i % 128 with
  | 0 => ⟨S32x2048x512, .f32⟩
  | 1 => ⟨S32x2048x256, .f32⟩
  | 2 => ⟨S32x256x256, .f32⟩
  | 3 => ⟨S1x64, .f32⟩
  | 4 => ⟨S1x64, .f32⟩
  | 5 => ⟨S1x8, .f32⟩
  | 6 => ⟨S32, .i32⟩
  | 7 => ⟨S32x64, .i32⟩
  | 8 => ⟨S2048, .i32⟩
  | 9 => ⟨S64, .i32⟩
  | 10 => ⟨S1x64, .i32⟩
  | 11 => ⟨S32x64, .i32⟩
  | 12 => ⟨S2048, .i32⟩
  | 13 => ⟨S32x2048x8x64, .f32⟩
  | 14 => ⟨S64, .f32⟩
  | 15 => ⟨S32x2048x8x64, .f32⟩
  | 16 => ⟨S_, .f32⟩
  | 17 => ⟨S32x2048x8, .f32⟩
  | 18 => ⟨S32x2048x8x1, .f32⟩
  | 19 => ⟨S_, .f32⟩
  | 20 => ⟨S32x2048x8x1, .f32⟩
  | 21 => ⟨S32x2048x8x1, .f32⟩
  | 22 => ⟨S_, .f32⟩
  | 23 => ⟨S32x2048x8x1, .f32⟩
  | 24 => ⟨S32x2048x8x1, .f32⟩
  | 25 => ⟨S32x2048x8x1, .f32⟩
  | 26 => ⟨S32x2048x8x64, .f32⟩
  | 27 => ⟨S32x2048x8x64, .f32⟩
  | 28 => ⟨S1x1x1x64, .f32⟩
  | 29 => ⟨S32x2048x8x64, .f32⟩
  | 30 => ⟨S32x2048x8x64, .f32⟩
  | 31 => ⟨S32x2048x8x32, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S2048, .f32⟩
  | 41 => ⟨S2048x1, .f32⟩
  | 42 => ⟨S1x16, .f32⟩
  | 43 => ⟨S2048x16, .f32⟩
  | 44 => ⟨S2048x16, .f32⟩
  | 45 => ⟨S2048x16, .f32⟩
  | 46 => ⟨S2048x16, .f32⟩
  | 47 => ⟨S1x2048x1x16, .f32⟩
  | 48 => ⟨S2048x16, .f32⟩
  | 49 => ⟨S1x2048x1x16, .f32⟩
  | 50 => ⟨S32x2048x8x16, .f32⟩
  | 51 => ⟨S32x2048x8x16, .f32⟩
  | 52 => ⟨S32x2048x8x16, .f32⟩
  | 53 => ⟨S32x2048x8x16, .f32⟩
  | 54 => ⟨S32x2048x8x16, .f32⟩
  | 55 => ⟨S32x2048x8x16, .f32⟩
  | 56 => ⟨S32x2048x8x16, .f32⟩
  | 57 => ⟨S32x2048x8x16, .f32⟩
  | 58 => ⟨S32x2048x8x16, .f32⟩
  | 59 => ⟨S32x2048x8x16, .f32⟩
  | 60 => ⟨S32x2048x8x16, .f32⟩
  | 61 => ⟨S32x2048x8x16, .f32⟩
  | 62 => ⟨S32x2048x8x32, .f32⟩
  | 63 => ⟨S32x2048x8x32, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S2048, .f32⟩
  | 73 => ⟨S2048x1, .f32⟩
  | 74 => ⟨S1x16, .f32⟩
  | 75 => ⟨S2048x16, .f32⟩
  | 76 => ⟨S2048x16, .f32⟩
  | 77 => ⟨S2048x16, .f32⟩
  | 78 => ⟨S2048x16, .f32⟩
  | 79 => ⟨S1x2048x1x16, .f32⟩
  | 80 => ⟨S2048x16, .f32⟩
  | 81 => ⟨S1x2048x1x16, .f32⟩
  | 82 => ⟨S32x2048x8x16, .f32⟩
  | 83 => ⟨S32x2048x8x16, .f32⟩
  | 84 => ⟨S32x2048x8x16, .f32⟩
  | 85 => ⟨S32x2048x8x16, .f32⟩
  | 86 => ⟨S32x2048x8x16, .f32⟩
  | 87 => ⟨S32x2048x8x16, .f32⟩
  | 88 => ⟨S32x2048x8x16, .f32⟩
  | 89 => ⟨S32x2048x8x16, .f32⟩
  | 90 => ⟨S32x2048x8x16, .f32⟩
  | 91 => ⟨S32x2048x8x16, .f32⟩
  | 92 => ⟨S32x2048x8x16, .f32⟩
  | 93 => ⟨S32x2048x8x16, .f32⟩
  | 94 => ⟨S32x2048x8x32, .f32⟩
  | 95 => ⟨S32x2048x8x64, .f32⟩
  | 96 => ⟨S32x2048x128, .f32⟩
  | 97 => ⟨S32x2048x2x64, .f32⟩
  | 98 => ⟨S64, .f32⟩
  | 99 => ⟨S32x2048x2x64, .f32⟩
  | 100 => ⟨S_, .f32⟩
  | 101 => ⟨S32x2048x2, .f32⟩
  | 102 => ⟨S32x2048x2x1, .f32⟩
  | 103 => ⟨S_, .f32⟩
  | 104 => ⟨S32x2048x2x1, .f32⟩
  | 105 => ⟨S32x2048x2x1, .f32⟩
  | 106 => ⟨S_, .f32⟩
  | 107 => ⟨S32x2048x2x1, .f32⟩
  | 108 => ⟨S32x2048x2x1, .f32⟩
  | 109 => ⟨S32x2048x2x1, .f32⟩
  | 110 => ⟨S32x2048x2x64, .f32⟩
  | 111 => ⟨S32x2048x2x64, .f32⟩
  | 112 => ⟨S1x1x1x64, .f32⟩
  | 113 => ⟨S32x2048x2x64, .f32⟩
  | 114 => ⟨S32x2048x2x64, .f32⟩
  | 115 => ⟨S32x2048x2x32, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S2048, .f32⟩
  | 125 => ⟨S2048x1, .f32⟩
  | 126 => ⟨S1x16, .f32⟩
  | 127 => ⟨S2048x16, .f32⟩
  | _ => ⟨S32x2048x512, .f32⟩

abbrev hbmTy0_1 (i : Nat) : BufTy := match i % 128 with
  | 0 => ⟨S2048x16, .f32⟩
  | 1 => ⟨S2048x16, .f32⟩
  | 2 => ⟨S2048x16, .f32⟩
  | 3 => ⟨S1x2048x1x16, .f32⟩
  | 4 => ⟨S2048x16, .f32⟩
  | 5 => ⟨S1x2048x1x16, .f32⟩
  | 6 => ⟨S32x2048x2x16, .f32⟩
  | 7 => ⟨S32x2048x2x16, .f32⟩
  | 8 => ⟨S32x2048x2x16, .f32⟩
  | 9 => ⟨S32x2048x2x16, .f32⟩
  | 10 => ⟨S32x2048x2x16, .f32⟩
  | 11 => ⟨S32x2048x2x16, .f32⟩
  | 12 => ⟨S32x2048x2x16, .f32⟩
  | 13 => ⟨S32x2048x2x16, .f32⟩
  | 14 => ⟨S32x2048x2x16, .f32⟩
  | 15 => ⟨S32x2048x2x16, .f32⟩
  | 16 => ⟨S32x2048x2x16, .f32⟩
  | 17 => ⟨S32x2048x2x16, .f32⟩
  | 18 => ⟨S32x2048x2x32, .f32⟩
  | 19 => ⟨S32x2048x2x32, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S2048, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x16, .f32⟩
  | 35 => ⟨S1x2048x1x16, .f32⟩
  | 36 => ⟨S2048x16, .f32⟩
  | 37 => ⟨S1x2048x1x16, .f32⟩
  | 38 => ⟨S32x2048x2x16, .f32⟩
  | 39 => ⟨S32x2048x2x16, .f32⟩
  | 40 => ⟨S32x2048x2x16, .f32⟩
  | 41 => ⟨S32x2048x2x16, .f32⟩
  | 42 => ⟨S32x2048x2x16, .f32⟩
  | 43 => ⟨S32x2048x2x16, .f32⟩
  | 44 => ⟨S32x2048x2x16, .f32⟩
  | 45 => ⟨S32x2048x2x16, .f32⟩
  | 46 => ⟨S32x2048x2x16, .f32⟩
  | 47 => ⟨S32x2048x2x16, .f32⟩
  | 48 => ⟨S32x2048x2x16, .f32⟩
  | 49 => ⟨S32x2048x2x16, .f32⟩
  | 50 => ⟨S32x2048x2x32, .f32⟩
  | 51 => ⟨S32x2048x2x64, .f32⟩
  | 52 => ⟨S32x2048x128, .f32⟩
  | 53 => ⟨S32x2048x2x64, .f32⟩
  | 54 => ⟨S32x256x128, .f32⟩
  | 55 => ⟨S32x256x2x64, .f32⟩
  | 56 => ⟨S64, .f32⟩
  | 57 => ⟨S32x256x2x64, .f32⟩
  | 58 => ⟨S_, .f32⟩
  | 59 => ⟨S32x256x2, .f32⟩
  | 60 => ⟨S32x256x2x1, .f32⟩
  | 61 => ⟨S_, .f32⟩
  | 62 => ⟨S32x256x2x1, .f32⟩
  | 63 => ⟨S32x256x2x1, .f32⟩
  | 64 => ⟨S_, .f32⟩
  | 65 => ⟨S32x256x2x1, .f32⟩
  | 66 => ⟨S32x256x2x1, .f32⟩
  | 67 => ⟨S32x256x2x1, .f32⟩
  | 68 => ⟨S32x256x2x64, .f32⟩
  | 69 => ⟨S32x256x2x64, .f32⟩
  | 70 => ⟨S1x1x1x64, .f32⟩
  | 71 => ⟨S32x256x2x64, .f32⟩
  | 72 => ⟨S32x256x2x64, .f32⟩
  | 73 => ⟨S32x256x128, .f32⟩
  | 74 => ⟨S32x256x2x64, .f32⟩
  | 75 => ⟨S_, .i32⟩
  | 76 => ⟨S_, .f32⟩
  | 77 => ⟨S32x2304x2x64, .f32⟩
  | 78 => ⟨S_, .i32⟩
  | 79 => ⟨S_, .f32⟩
  | 80 => ⟨S32x2304x2x64, .f32⟩
  | 81 => ⟨S32x16x128x2x4x64, .f32⟩
  | 82 => ⟨S2048, .i32⟩
  | 83 => ⟨S16x128x1, .i32⟩
  | 84 => ⟨S16, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S16x1x1, .i32⟩
  | 92 => ⟨S384, .i32⟩
  | 93 => ⟨S1x1x384, .i32⟩
  | 94 => ⟨S16x1x384, .i32⟩
  | 95 => ⟨S16x1x384, .i32⟩
  | 96 => ⟨S16x1x384, .i32⟩
  | 97 => ⟨S16x128x384, .i32⟩
  | 98 => ⟨S16x128x384, .i32⟩
  | 99 => ⟨S16x128x384, .i32⟩
  | 100 => ⟨S16x128x384, .i32⟩
  | 101 => ⟨S_, .i32⟩
  | 102 => ⟨S16x128x384, .i32⟩
  | 103 => ⟨S16x128x384, .i1⟩
  | 104 => ⟨S_, .i32⟩
  | 105 => ⟨S16x1x384, .i32⟩
  | 106 => ⟨S16x1x384, .i1⟩
  | 107 => ⟨S16x128x384, .i1⟩
  | 108 => ⟨S16x128x384, .i1⟩
  | 109 => ⟨S_, .i32⟩
  | 110 => ⟨S16x1x384, .i32⟩
  | 111 => ⟨S16x1x384, .i1⟩
  | 112 => ⟨S16x128x384, .i1⟩
  | 113 => ⟨S16x128x384, .i1⟩
  | 114 => ⟨S32x18x128x2x64, .f32⟩
  | 115 => ⟨S32x16x128x2x64, .f32⟩
  | 116 => ⟨S32x16x128x2x64, .f32⟩
  | 117 => ⟨S32x16x128x2x64, .f32⟩
  | 118 => ⟨S32x16x384x2x64, .f32⟩
  | 119 => ⟨S32x16x2x384x128x4, .f32⟩
  | 120 => ⟨S32x16x2x4x128x384, .f32⟩
  | 121 => ⟨S_, .f32⟩
  | 122 => ⟨S32x16x2x4x128x384, .f32⟩
  | 123 => ⟨S32x16x2x4x128x384, .f32⟩
  | 124 => ⟨S16x1x1x128x384, .i1⟩
  | 125 => ⟨S_, .f32⟩
  | 126 => ⟨S_, .f32⟩
  | 127 => ⟨S32x16x2x4x128x384, .i1⟩
  | _ => ⟨S32x2048x512, .f32⟩

abbrev hbmTy0_2 (i : Nat) : BufTy := match i % 128 with
  | 0 => ⟨S32x16x2x4x128x384, .f32⟩
  | 1 => ⟨S32x16x2x4x128x384, .f32⟩
  | 2 => ⟨S32x2x256x16x128x4, .f32⟩
  | 3 => ⟨S32x16x2x4x128x256, .f32⟩
  | 4 => ⟨S_, .f32⟩
  | 5 => ⟨S32x16x2x4x128x256, .f32⟩
  | 6 => ⟨S32x16x2x4x128x256, .f32⟩
  | 7 => ⟨S8, .f32⟩
  | 8 => ⟨S2x4x1x1, .f32⟩
  | 9 => ⟨S32x16x2x4x128x1, .f32⟩
  | 10 => ⟨S32x16x2x4x128x641, .f32⟩
  | 11 => ⟨S_, .f32⟩
  | 12 => ⟨S32x16x2x4x128, .f32⟩
  | 13 => ⟨S_, .f32⟩
  | 14 => ⟨S32x16x2x4x128, .f32⟩
  | 15 => ⟨S32x16x2x4x128, .f32⟩
  | 16 => ⟨S32x16x2x4x128x1, .f32⟩
  | 17 => ⟨S32x16x2x4x128x641, .f32⟩
  | 18 => ⟨S32x16x2x4x128x641, .f32⟩
  | 19 => ⟨S32x16x2x4x128x641, .f32⟩
  | 20 => ⟨S_, .f32⟩
  | 21 => ⟨S32x16x2x4x128, .f32⟩
  | 22 => ⟨S32x16x2x4x128x1, .f32⟩
  | 23 => ⟨S32x16x2x4x128x641, .f32⟩
  | 24 => ⟨S32x16x2x4x128x641, .f32⟩
  | 25 => ⟨S32x16x2x4x128x384, .f32⟩
  | 26 => ⟨S32x18x128x2x64, .f32⟩
  | 27 => ⟨S32x16x128x2x64, .f32⟩
  | 28 => ⟨S32x16x128x2x64, .f32⟩
  | 29 => ⟨S32x16x128x2x64, .f32⟩
  | 30 => ⟨S32x16x384x2x64, .f32⟩
  | 31 => ⟨S32x16x2x64x4x128, .f32⟩
  | 32 => ⟨S32x16x128x2x4x64, .f32⟩
  | 33 => ⟨S32x16x2x4x128x256, .f32⟩
  | 34 => ⟨S32x2x64x16x4x128, .f32⟩
  | 35 => ⟨S32x16x128x2x4x64, .f32⟩
  | 36 => ⟨S32x16x128x2x4x64, .f32⟩
  | 37 => ⟨S32x2048x512, .f32⟩
  | _ => ⟨S32x2048x512, .f32⟩

abbrev hbmTy (i : Nat) : BufTy := match i / 128 with
  | 0 => hbmTy0_0 i
  | 1 => hbmTy0_1 i
  | 2 => hbmTy0_2 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_6 : Ref sig .tc := ⟨.hbm, 100, rfl⟩
abbrev main_v87 : Ref sig .tc := ⟨.hbm, 101, rfl⟩
abbrev main_v88 : Ref sig .tc := ⟨.hbm, 102, rfl⟩
abbrev main_cst_7 : Ref sig .tc := ⟨.hbm, 103, rfl⟩
abbrev main_v89 : Ref sig .tc := ⟨.hbm, 104, rfl⟩
abbrev main_v90 : Ref sig .tc := ⟨.hbm, 105, rfl⟩
abbrev main_cst_8 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_9 : Ref sig .tc := ⟨.hbm, 118, rfl⟩
abbrev main_v102 : Ref sig .tc := ⟨.hbm, 119, rfl⟩
abbrev main_v103 : Ref sig .tc := ⟨.hbm, 120, rfl⟩
abbrev main_cst_10 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_cst_11 : Ref sig .tc := ⟨.hbm, 150, rfl⟩
abbrev main_v132 : Ref sig .tc := ⟨.hbm, 151, rfl⟩
abbrev main_v133 : Ref sig .tc := ⟨.hbm, 152, rfl⟩
abbrev main_cst_12 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_cst_13 : Ref sig .tc := ⟨.hbm, 186, rfl⟩
abbrev main_v166 : Ref sig .tc := ⟨.hbm, 187, rfl⟩
abbrev main_v167 : Ref sig .tc := ⟨.hbm, 188, rfl⟩
abbrev main_cst_14 : Ref sig .tc := ⟨.hbm, 189, rfl⟩
abbrev main_v168 : Ref sig .tc := ⟨.hbm, 190, rfl⟩
abbrev main_v169 : Ref sig .tc := ⟨.hbm, 191, rfl⟩
abbrev main_cst_15 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_c : Ref sig .tc := ⟨.hbm, 203, rfl⟩
abbrev main_call0_v0 : Ref sig .tc := ⟨.hbm, 204, rfl⟩
abbrev main_v180 : Ref sig .tc := ⟨.hbm, 205, rfl⟩
abbrev main_c_16 : Ref sig .tc := ⟨.hbm, 206, rfl⟩
abbrev main_call1_v0 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_c_17 : Ref sig .tc := ⟨.hbm, 213, rfl⟩
abbrev main_v186 : Ref sig .tc := ⟨.hbm, 214, rfl⟩
abbrev main_v187 : Ref sig .tc := ⟨.hbm, 215, rfl⟩
abbrev main_c_18 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_c_19 : Ref sig .tc := ⟨.hbm, 229, rfl⟩
abbrev main_v200 : Ref sig .tc := ⟨.hbm, 230, rfl⟩
abbrev main_v201 : Ref sig .tc := ⟨.hbm, 231, rfl⟩
abbrev main_c_20 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_c_21 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_cst_22 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_cst_23 : Ref sig .tc := ⟨.hbm, 253, rfl⟩
abbrev main_call2_v0 : Ref sig .tc := ⟨.hbm, 254, rfl⟩
abbrev main_call2_v1 : Ref sig .tc := ⟨.hbm, 255, rfl⟩
abbrev main_call2_v2 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_cst_24 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_cst_25 : Ref sig .tc := ⟨.hbm, 267, rfl⟩
abbrev main_v229 : Ref sig .tc := ⟨.hbm, 268, rfl⟩
abbrev main_cst_26 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_cst_27 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩

abbrev nD : Nat := 1
abbrev τ : Topo := Topo.v7x

variable {F : FTy → Type} [FloatOps F]
-- ==== Proof.Sums.lean ====
module

public import Idealize.ShloMosaic.Lib.Pointwise

/-!
Sums of extended reals whose terms are real numbers, and sums over a set of rows that picks one row.
-/

@[expose] public section

noncomputable section

namespace Cert.Proof.Sums

open Idealize.ShloMosaic

/-- An extended real that is a real number. -/
def IsNum (x : EReal) : Prop := ∃ r : ℝ, x = (r : EReal)

theorem IsNum.zero : IsNum 0 := ⟨0, rfl⟩

theorem IsNum.mul {x y : EReal} (hx : IsNum x) (hy : IsNum y) : IsNum (x * y) := by
  obtain ⟨a, rfl⟩ := hx
  obtain ⟨b, rfl⟩ := hy
  exact ⟨a * b, (EReal.coe_mul a b).symm⟩

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem IsNum.sum {ι : Type} (s : Finset ι) {f : ι → EReal} (h : ∀ i, IsNum (f i)) : IsNum (∑ i ∈ s, f i) := by
  classical
  induction s using Finset.induction_on with
  | empty => exact IsNum.zero
  | insert a s ha ih => rw [Finset.sum_insert ha]; exact (h a).add ih

theorem IsNum.ite {p : Prop} [Decidable p] {x y : EReal} (hx : IsNum x) (hy : IsNum y) : IsNum (if p then x else y) := by
  split
  · exact hx
  · exact hy

/-- A number whose magnitude is below infinity. -/
theorem isNum_of_abs {x : EReal} (h : max x (-x) < ⊤) : IsNum x := by
  induction x with
  | bot => simp at h
  | top => simp at h
  | coe r => exact ⟨r, rfl⟩

/-- The gate `z / (1 + e⁻ᶻ)` of a number is a number. -/
theorem IsNum.gate {z : EReal} (hz : IsNum z) : IsNum (z * Ideal.div 1 (1 + Ideal.exp (-z))) := by
  refine hz.mul ?_
  obtain ⟨r, rfl⟩ := hz
  have e : (1 : EReal) + Ideal.exp (-(r : EReal)) = ((1 + Real.exp (-r) : ℝ) : EReal) := by
    rw [← EReal.coe_neg, EReal.coe_add]
    rfl
  rw [e]
  unfold Ideal.div
  have hp : (0 : ℝ) < 1 + Real.exp (-r) := by positivity
  rw [if_neg (by exact_mod_cast hp.ne'), one_mul, ← EReal.coe_inv]
  exact ⟨_, rfl⟩

/-- A factor goes into a sum of numbers. -/
theorem sum_mul {ι : Type} (s : Finset ι) {f : ι → EReal} (h : ∀ i, IsNum (f i)) {g : EReal} (hg : IsNum g) :
    (∑ i ∈ s, f i) * g = ∑ i ∈ s, f i * g := by
  classical
  induction s using Finset.induction_on with
  | empty => simp
  | insert a s ha ih =>
    rw [Finset.sum_insert ha, Finset.sum_insert ha, ← ih]
    obtain ⟨x, hx⟩ := h a
    obtain ⟨y, hy⟩ := IsNum.sum s h
    obtain ⟨z, rfl⟩ := hg
    rw [hx, hy, ← EReal.coe_add, ← EReal.coe_mul, ← EReal.coe_mul, ← EReal.coe_mul, ← EReal.coe_add, add_mul]

/-- A sum over the rows of a matrix laid out row by row. -/
theorem sum_rows {M : Type} [AddCommMonoid M] {N m n : Nat} (h : m * n = N) (f : Fin N → M) :
    ∑ u : Fin N, f u = ∑ a : Fin m, ∑ b : Fin n, f ⟨a.val * n + b.val, by
      have ha := a.isLt; have hb := b.isLt; rw [← h]
      calc a.val * n + b.val < a.val * n + n := by omega
        _ = (a.val + 1) * n := by ring
        _ ≤ m * n := Nat.mul_le_mul_right n ha⟩ := by
  subst h
  have e : ∑ u : Fin (m * n), f u = ∑ p : Fin m × Fin n, f (finProdFinEquiv p) :=
    (Fintype.sum_equiv finProdFinEquiv _ _ fun _ => rfl).symm
  rw [e, Fintype.sum_prod_type]
  refine Finset.sum_congr rfl fun a _ => Finset.sum_congr rfl fun b _ => congrArg f (Fin.ext ?_)
  show b.val + n * a.val = a.val * n + b.val
  ring

/-- A sum of products with a row that is 1 at one place and 0 elsewhere. -/
theorem sum_pick {n : Nat} (k : Fin n) (f : Fin n → EReal) : ∑ i : Fin n, (if i = k then (1 : EReal) else 0) * f i = f k := by
  rw [Finset.sum_eq_single k]
  · rw [if_pos rfl, one_mul]
  · intro i _ hi
    rw [if_neg hi, zero_mul]
  · intro h
    exact absurd (Finset.mem_univ k) h

theorem sum_pick' {n : Nat} (k : Fin n) (f : Fin n → EReal) : ∑ i : Fin n, (if i = k then f i else 0) = f k := by
  rw [Finset.sum_eq_single k]
  · rw [if_pos rfl]
  · intro i _ hi
    rw [if_neg hi]
  · intro h
    exact absurd (Finset.mem_univ k) h

end Cert.Proof.Sums

end
-- ==== Proof.Spec.lean ====
module

public import Idealize.ShloMosaic.Lib.Pointwise
public import proofs.«01_k».proof.Proof.Sums

/-!
The experts' layer on extended reals: what one expert gives for one token, and the sum of the experts that chose a token.
-/

@[expose] public section

noncomputable section

namespace Cert.Proof.Spec

open Idealize.ShloMosaic Cert.Proof.Sums

/-- Tokens of all sequences; weights into and out of the experts' hidden layer; affinities. -/
abbrev Tokens := (⟨3, ![32, 2048, 1024]⟩ : Shape).Idx → EReal
abbrev WIn := (⟨3, ![16, 1024, 1536]⟩ : Shape).Idx → EReal
abbrev WOut := (⟨3, ![16, 1536, 1024]⟩ : Shape).Idx → EReal
abbrev Aff := (⟨3, ![32, 16, 2048]⟩ : Shape).Idx → EReal
/-- Which token stands at place `c` of expert `e`'s list in sequence `b`. -/
abbrev Lists := Fin 32 → Fin 16 → Fin 256 → Fin 2048

/-- The hidden layer of expert `e` before its gate, for token `t` of sequence `b`. -/
def hid (H : Tokens) (W : WIn) (e : Fin 16) (b : Fin 32) (t : Fin 2048) (f : Fin 1536) : EReal :=
  ∑ k : Fin 1024, H (ix3 b t k) * W (ix3 e k f)

/-- The gated hidden layer. -/
def act (H : Tokens) (Wg Wu : WIn) (e : Fin 16) (b : Fin 32) (t : Fin 2048) (f : Fin 1536) : EReal :=
  hid H Wg e b t f * Ideal.div 1 (1 + Ideal.exp (-hid H Wg e b t f)) * hid H Wu e b t f

/-- What expert `e` gives for token `t`, weighted by its affinity. -/
def out (H : Tokens) (A : Aff) (Wg Wu : WIn) (Wd : WOut) (e : Fin 16) (b : Fin 32) (t : Fin 2048) (d : Fin 1024) : EReal :=
  (∑ f : Fin 1536, act H Wg Wu e b t f * Wd (ix3 e f d)) * A (ix3 b e t)

/-- The sum over the places, of all experts, at which token `t` stands. -/
def mix (H : Tokens) (A : Aff) (Wg Wu : WIn) (Wd : WOut) (tok : Lists) (b : Fin 32) (t : Fin 2048) (d : Fin 1024) : EReal :=
  ∑ e : Fin 16, ∑ c : Fin 256, if tok b e c = t then out H A Wg Wu Wd e b t d else 0

variable {H : Tokens} {A : Aff} {Wg Wu : WIn} {Wd : WOut}

theorem isNum_hid {W : WIn} (hH : ∀ i, IsNum (H i)) (hW : ∀ i, IsNum (W i)) (e : Fin 16) (b : Fin 32) (t : Fin 2048) (f : Fin 1536) :
    IsNum (hid H W e b t f) := IsNum.sum _ fun _ => (hH _).mul (hW _)

theorem isNum_out (hH : ∀ i, IsNum (H i)) (hA : ∀ i, IsNum (A i)) (hg : ∀ i, IsNum (Wg i)) (hu : ∀ i, IsNum (Wu i))
    (hd : ∀ i, IsNum (Wd i)) (e : Fin 16) (b : Fin 32) (t : Fin 2048) (d : Fin 1024) : IsNum (out H A Wg Wu Wd e b t d) :=
  (IsNum.sum _ fun _ => (((isNum_hid hH hg _ _ _ _).gate).mul (isNum_hid hH hu _ _ _ _)).mul (hd _)).mul (hA _)

/-- The kernel's sum, expert by expert with the scale inside, is the scaled sum of the weighted outputs: the lists of an
expert may be permuted. -/
theorem mix_scaled (hH : ∀ i, IsNum (H i)) (hA : ∀ i, IsNum (A i)) (hg : ∀ i, IsNum (Wg i)) (hu : ∀ i, IsNum (Wu i))
    (hd : ∀ i, IsNum (Wd i)) (tok row : Lists) (b : Fin 32) (σ : Fin 16 → Fin 256 → Fin 256)
    (hσ : ∀ e, Function.Bijective (σ e)) (hrow : ∀ e s, row b e s = tok b e (σ e s)) (t : Fin 2048) (d : Fin 1024)
    {g : EReal} (h : IsNum g) :
    (∑ e : Fin 16, ∑ s : Fin 256, if row b e s = t then out H A Wg Wu Wd e b t d * g else 0)
      = g * mix H A Wg Wu Wd tok b t d := by
  have ho : ∀ e, IsNum (out H A Wg Wu Wd e b t d) := fun e => isNum_out hH hA hg hu hd e b t d
  unfold mix
  rw [mul_comm, sum_mul _ (fun e => IsNum.sum _ fun c => (ho e).ite IsNum.zero) h]
  refine Finset.sum_congr rfl fun e _ => ?_
  rw [sum_mul _ (fun c => (ho e).ite IsNum.zero) h]
  refine (Fintype.sum_bijective (σ e) (hσ e) _ _ fun s => ?_)
  rw [hrow]
  split
  · rfl
  · rw [zero_mul]

end Cert.Proof.Spec

end
-- ==== Proof.Blocks.lean ====
module

public import proofs.«01_k».proof.Proof.Gen.KernelIdeal.Value
public import proofs.«01_k».proof.Proof.Spec
public import Idealize.ShloMosaic.Lib.StableHlo.Run
public import Idealize.ShloMosaic.Lib.Tactic

/-!
What the kernel's input windows hold at a grid point: point `t` works on batch `t / 16` and expert `t % 16`, and each window's
block is that batch's or that expert's part of its array.
-/

@[expose] public section

set_option maxRecDepth 16384

noncomputable section

namespace Cert.Proof.Blocks

open Idealize.ShloMosaic Idealize.ShloMosaic.TcCoe Cert.KernelIdeal Cert.KernelIdeal.Gen

variable (m : (ℓ : Loc nD τ sig) → Buf (Elt Ideal) ℓ) (c : Dev nD)

/-- The batch of a grid point. -/
def batch (t : Fin cfg0.N) : Fin 32 := ⟨t.val / 16, by have h : t.val < 512 := N_0 ▸ t.isLt; omega⟩

/-- The expert of a grid point. -/
def expert (t : Fin cfg0.N) : Fin 16 := ⟨t.val % 16, by omega⟩

theorem coord_expert (t : Fin cfg0.N) : grid0.coords t 1 = expert t :=
  Fin.ext (((Pipeline.Grid.coords_val t 1 (by decide) rfl : (grid0.coords t 1).val = t.val / 1 % 16)).trans (by show t.val / 1 % 16 = t.val % 16; omega))

theorem at0 : ∀ t : Fin grid0.N, win0_0.index t 0 = t.val / 16 ∧ win0_0.index t 1 = 0 ∧ win0_0.index t 2 = 0 := by decide +kernel
theorem at1 : ∀ t : Fin grid0.N, win0_1.index t 0 = t.val / 16 ∧ win0_1.index t 1 = 0 ∧ win0_1.index t 2 = 0 := by decide +kernel
theorem at2 : ∀ t : Fin grid0.N, win0_2.index t 0 = t.val / 16 ∧ win0_2.index t 1 = 0 ∧ win0_2.index t 2 = 0 := by decide +kernel
theorem at3 : ∀ t : Fin grid0.N, win0_3.index t 0 = t.val / 16 ∧ win0_3.index t 1 = 0 ∧ win0_3.index t 2 = 0 := by decide +kernel
theorem at4 : ∀ t : Fin grid0.N, win0_4.index t 0 = t.val / 16 ∧ win0_4.index t 1 = 0 ∧ win0_4.index t 2 = 0 := by decide +kernel
theorem at5 : ∀ t : Fin grid0.N, win0_5.index t 0 = t.val % 16 ∧ win0_5.index t 1 = 0 ∧ win0_5.index t 2 = 0 := by decide +kernel
theorem at6 : ∀ t : Fin grid0.N, win0_6.index t 0 = t.val % 16 ∧ win0_6.index t 1 = 0 ∧ win0_6.index t 2 = 0 := by decide +kernel
theorem at7 : ∀ t : Fin grid0.N, win0_7.index t 0 = t.val % 16 ∧ win0_7.index t 1 = 0 ∧ win0_7.index t 2 = 0 := by decide +kernel

/-- The routing table's block. -/
theorem sel_at (t : Fin cfg0.N) (e : Fin 16) (k : Fin 2048) :
    iblk m c 0 t (ix3 0 e k) = m (c.tc.loc main_arg0) (ix3 (batch t) e k) := by
  unfold iblk
  rw [View.read_apply]
  show V m c main_arg0 _ = _
  rw [V_main_arg0]
  refine congrArg (m (c.tc.loc main_arg0)) (funext fun a => Fin.ext ?_)
  match a with
  | ⟨0, _⟩ => show win0_0.index t 0 * 1 + 1 * 0 = t.val / 16; rw [(at0 t).1]; omega
  | ⟨1, _⟩ => show win0_0.index t 1 * 16 + 1 * e.val = e.val; rw [(at0 t).2.1]; omega
  | ⟨2, _⟩ => show win0_0.index t 2 * 2048 + 1 * k.val = k.val; rw [(at0 t).2.2]; omega

/-- The tokens' block, as the batch's tokens. -/
theorem tok_at (t : Fin cfg0.N) (k : Fin 2048) (d : Fin 1024) :
    iblk m c 1 t (ix3 0 k d) = m (c.tc.loc main_arg2) (ix3 (batch t) k d) := by
  unfold iblk
  rw [View.read_apply]
  show V m c main_v0 _ = _
  have e : V m c main_v0 = (truncf (F := Ideal) (s := S32x2048x1024) (φ := .f32) .bf16 (m (c.tc.loc main_arg2)) bitsLt_bf16_f32 :) := by unfold V hostOps0; after_results
  rw [e]
  refine congrArg (m (c.tc.loc main_arg2)) (funext fun a => Fin.ext ?_)
  match a with
  | ⟨0, _⟩ => show win0_1.index t 0 * 1 + 1 * 0 = t.val / 16; rw [(at1 t).1]; omega
  | ⟨1, _⟩ => show win0_1.index t 1 * 2048 + 1 * k.val = k.val; rw [(at1 t).2.1]; omega
  | ⟨2, _⟩ => show win0_1.index t 2 * 1024 + 1 * d.val = d.val; rw [(at1 t).2.2]; omega

/-- The residual's block. -/
theorem res_at (t : Fin cfg0.N) (k : Fin 2048) (d : Fin 1024) :
    iblk m c 2 t (ix3 0 k d) = m (c.tc.loc main_arg3) (ix3 (batch t) k d) := by
  unfold iblk
  rw [View.read_apply]
  show V m c main_arg3 _ = _
  rw [V_main_arg3]
  refine congrArg (m (c.tc.loc main_arg3)) (funext fun a => Fin.ext ?_)
  match a with
  | ⟨0, _⟩ => show win0_2.index t 0 * 1 + 1 * 0 = t.val / 16; rw [(at2 t).1]; omega
  | ⟨1, _⟩ => show win0_2.index t 1 * 2048 + 1 * k.val = k.val; rw [(at2 t).2.1]; omega
  | ⟨2, _⟩ => show win0_2.index t 2 * 1024 + 1 * d.val = d.val; rw [(at2 t).2.2]; omega

/-- The affinities' block. -/
theorem aff_at (t : Fin cfg0.N) (e : Fin 16) (k : Fin 2048) :
    iblk m c 3 t (ix3 0 e k) = m (c.tc.loc main_arg1) (ix3 (batch t) e k) := by
  unfold iblk
  rw [View.read_apply]
  show V m c main_arg1 _ = _
  rw [V_main_arg1]
  refine congrArg (m (c.tc.loc main_arg1)) (funext fun a => Fin.ext ?_)
  match a with
  | ⟨0, _⟩ => show win0_3.index t 0 * 1 + 1 * 0 = t.val / 16; rw [(at3 t).1]; omega
  | ⟨1, _⟩ => show win0_3.index t 1 * 16 + 1 * e.val = e.val; rw [(at3 t).2.1]; omega
  | ⟨2, _⟩ => show win0_3.index t 2 * 2048 + 1 * k.val = k.val; rw [(at3 t).2.2]; omega

/-- The modulation's block: its sixth row is the last sixth of the batch's vector. -/
theorem gate_at (t : Fin cfg0.N) (d : Fin 1024) :
    iblk m c 4 t (ix3 0 5 d) = m (c.tc.loc main_arg4) (ix2 (batch t) ⟨5120 + d.val, by omega⟩) := by
  unfold iblk
  rw [View.read_apply]
  show V m c main_v1 _ = _
  have e : V m c main_v1 = shapeCast S32x6x1024 (m (c.tc.loc main_arg4)) shapeCasts_S32x6144_S32x6x1024 := by unfold V hostOps0; after_results; rfl
  rw [e]
  have hi : (fun a => ((cfg0.win 4).blk t).view.emb (ix3 0 5 d) a : S32x6x1024.Idx) = ix3 (batch t) 5 d := by
    refine funext fun a => Fin.ext ?_
    match a with
    | ⟨0, _⟩ => show win0_4.index t 0 * 1 + 1 * 0 = t.val / 16; rw [(at4 t).1]; omega
    | ⟨1, _⟩ => show win0_4.index t 1 * 6 + 1 * 5 = 5; rw [(at4 t).2.1]
    | ⟨2, _⟩ => show win0_4.index t 2 * 1024 + 1 * d.val = d.val; rw [(at4 t).2.2]; omega
  refine (congrArg (shapeCast S32x6x1024 (m (c.tc.loc main_arg4)) shapeCasts_S32x6144_S32x6x1024) hi).trans ?_
  generalize m (c.tc.loc main_arg4) = M
  pointwise

/-- The gate weights' block. -/
theorem wg_at (t : Fin cfg0.N) (k : Fin 1024) (f : Fin 1536) :
    iblk m c 5 t (ix3 0 k f) = m (c.tc.loc main_arg5) (ix3 (expert t) k f) := by
  unfold iblk
  rw [View.read_apply]
  show V m c main_v2 _ = _
  have e : V m c main_v2 = (truncf (F := Ideal) (s := S16x1024x1536) (φ := .f32) .bf16 (m (c.tc.loc main_arg5)) bitsLt_bf16_f32 :) := by unfold V hostOps0; after_results
  rw [e]
  refine congrArg (m (c.tc.loc main_arg5)) (funext fun a => Fin.ext ?_)
  match a with
  | ⟨0, _⟩ => show win0_5.index t 0 * 1 + 1 * 0 = t.val % 16; rw [(at5 t).1]; omega
  | ⟨1, _⟩ => show win0_5.index t 1 * 1024 + 1 * k.val = k.val; rw [(at5 t).2.1]; omega
  | ⟨2, _⟩ => show win0_5.index t 2 * 1536 + 1 * f.val = f.val; rw [(at5 t).2.2]; omega

/-- The up weights' block. -/
theorem wu_at (t : Fin cfg0.N) (k : Fin 1024) (f : Fin 1536) :
    iblk m c 6 t (ix3 0 k f) = m (c.tc.loc main_arg6) (ix3 (expert t) k f) := by
  unfold iblk
  rw [View.read_apply]
  show V m c main_v3 _ = _
  have e : V m c main_v3 = (truncf (F := Ideal) (s := S16x1024x1536) (φ := .f32) .bf16 (m (c.tc.loc main_arg6)) bitsLt_bf16_f32 :) := by unfold V hostOps0; after_results
  rw [e]
  refine congrArg (m (c.tc.loc main_arg6)) (funext fun a => Fin.ext ?_)
  match a with
  | ⟨0, _⟩ => show win0_6.index t 0 * 1 + 1 * 0 = t.val % 16; rw [(at6 t).1]; omega
  | ⟨1, _⟩ => show win0_6.index t 1 * 1024 + 1 * k.val = k.val; rw [(at6 t).2.1]; omega
  | ⟨2, _⟩ => show win0_6.index t 2 * 1536 + 1 * f.val = f.val; rw [(at6 t).2.2]; omega

/-- The down weights' block. -/
theorem wd_at (t : Fin cfg0.N) (f : Fin 1536) (d : Fin 1024) :
    iblk m c 7 t (ix3 0 f d) = m (c.tc.loc main_arg7) (ix3 (expert t) f d) := by
  unfold iblk
  rw [View.read_apply]
  show V m c main_v4 _ = _
  have e : V m c main_v4 = (truncf (F := Ideal) (s := S16x1536x1024) (φ := .f32) .bf16 (m (c.tc.loc main_arg7)) bitsLt_bf16_f32 :) := by unfold V hostOps0; after_results
  rw [e]
  refine congrArg (m (c.tc.loc main_arg7)) (funext fun a => Fin.ext ?_)
  match a with
  | ⟨0, _⟩ => show win0_7.index t 0 * 1 + 1 * 0 = t.val % 16; rw [(at7 t).1]; omega
  | ⟨1, _⟩ => show win0_7.index t 1 * 1536 + 1 * f.val = f.val; rw [(at7 t).2.1]; omega
  | ⟨2, _⟩ => show win0_7.index t 2 * 1024 + 1 * d.val = d.val; rw [(at7 t).2.2]; omega

end Cert.Proof.Blocks

end
-- ==== Proof.Body.lean ====
module

public import proofs.«01_k».proof.Proof.Gen.KernelIdeal.Skeleton
public import proofs.«01_k».proof.Proof.Spec
public import Idealize.ShloMosaic.Lib.Tactic.CleanTypes

/-!
What one step of the kernel computes, read at an index: the gathered tokens, the expert's hidden layer, the weighted and
scaled rows, and the rows added back to their tokens.
-/

@[expose] public section

set_option maxRecDepth 16384

noncomputable section

namespace Cert.Proof.Body

open Idealize.ShloMosaic Cert.KernelIdeal Cert.KernelIdeal.Gen

variable {v4 : Vec Ideal S1x1x2048 .i32} {row : Fin 256 → Fin 2048}

theorem mask_at (hv : ∀ (s : Fin 256) (t : Fin 2048), v4 (ix3 0 0 t) = BitVec.ofNat 32 s.val ↔ row s = t) (s : Fin 256) (t : Fin 2048) :
    k0_pay4 v4 (ix2 s t) = BitVec.ofBool (decide (t = row s)) := by
  unfold k0_pay4
  pointwise
  show BitVec.ofBool (BitVec.ofNat 32 s.val == v4 (ix3 0 0 t)) = _
  refine congrArg BitVec.ofBool ?_
  rw [beq_eq_decide, decide_eq_decide]
  exact ⟨fun h => ((hv s t).1 h.symm).symm, fun h => ((hv s t).2 h.symm).symm⟩

/-- A choice by a decided proposition. -/
theorem choose_by (p : Prop) [Decidable p] (x y : EReal) : Scalar.select (BitVec.ofBool (decide p)) x y = if p then x else y := by
  by_cases h : p <;> simp [Scalar.select, h]

theorem onehot_at (hv : ∀ (s : Fin 256) (t : Fin 2048), v4 (ix3 0 0 t) = BitVec.ofNat 32 s.val ↔ row s = t) (s : Fin 256) (t : Fin 2048) :
    (k0_pay5 v4 (ix2 s t) : EReal) = if t = row s then 1 else 0 := by
  unfold k0_pay5
  pointwise
  rw [mask_at hv, choose_by]

variable {v7 : Vec Ideal S1x1x2048 .f32} {v16 : Vec Ideal S1x2048x1024 .bf16} {v20 v23 : Vec Ideal S1x1024x1536 .bf16}
  {v36 : Vec Ideal S1x1536x1024 .bf16} {v47 : Vec Ideal S1x1x1024 .f32}
  {H : Spec.Tokens} {A : Spec.Aff} {Wg Wu : Spec.WIn} {Wd : Spec.WOut} {b : Fin 32} {e : Fin 16} {g : Fin 1024 → EReal}

theorem gathered_at (hv : ∀ (s : Fin 256) (t : Fin 2048), v4 (ix3 0 0 t) = BitVec.ofNat 32 s.val ↔ row s = t)
    (h16 : ∀ t k, v16 (ix3 0 t k) = H (ix3 b t k)) (s : Fin 256) (k : Fin 1024) :
    (k0_pay6 v4 v16 (ix2 s k) : EReal) = H (ix3 b (row s) k) := by
  unfold k0_pay6
  pointwise
  simp only [onehot_at hv, h16]
  exact Sums.sum_pick (row s) fun t => H (ix3 b t k)

theorem up_at (hv : ∀ (s : Fin 256) (t : Fin 2048), v4 (ix3 0 0 t) = BitVec.ofNat 32 s.val ↔ row s = t)
    (h16 : ∀ t k, v16 (ix3 0 t k) = H (ix3 b t k)) (h23 : ∀ k f, v23 (ix3 0 k f) = Wu (ix3 e k f)) (s : Fin 256) (f : Fin 1536) :
    (k0_pay7 v4 v16 v23 (ix2 s f) : EReal) = Spec.hid H Wu e b (row s) f := by
  unfold k0_pay7
  pointwise
  simp only [gathered_at hv h16, h23]
  rfl

theorem gate_at (hv : ∀ (s : Fin 256) (t : Fin 2048), v4 (ix3 0 0 t) = BitVec.ofNat 32 s.val ↔ row s = t)
    (h16 : ∀ t k, v16 (ix3 0 t k) = H (ix3 b t k)) (h20 : ∀ k f, v20 (ix3 0 k f) = Wg (ix3 e k f)) (s : Fin 256) (f : Fin 1536) :
    (k0_pay8 v4 v16 v20 (ix2 s f) : EReal)
      = Spec.hid H Wg e b (row s) f * Ideal.div 1 (1 + Ideal.exp (-Spec.hid H Wg e b (row s) f)) := by
  unfold k0_pay8
  pointwise
  simp only [gathered_at hv h16, h20, zero_sub]
  rfl

theorem rows_at (hv : ∀ (s : Fin 256) (t : Fin 2048), v4 (ix3 0 0 t) = BitVec.ofNat 32 s.val ↔ row s = t)
    (h7 : ∀ t, v7 (ix3 0 0 t) = A (ix3 b e t))
    (h16 : ∀ t k, v16 (ix3 0 t k) = H (ix3 b t k)) (h20 : ∀ k f, v20 (ix3 0 k f) = Wg (ix3 e k f))
    (h23 : ∀ k f, v23 (ix3 0 k f) = Wu (ix3 e k f)) (h36 : ∀ f d, v36 (ix3 0 f d) = Wd (ix3 e f d))
    (h47 : ∀ d, v47 (ix3 0 0 d) = g d) (s : Fin 256) (d : Fin 1024) :
    (k0_pay9 (k0_pay3 v7) (k0_pay4 v4) (k0_pay7 v4 v16 v23) (k0_pay8 v4 v16 v20) v36 v47 (ix2 s d) : EReal)
      = Spec.out H A Wg Wu Wd e b (row s) d * g d := by
  unfold k0_pay9 k0_pay3
  pointwise
  simp only [up_at hv h16 h23, gate_at hv h16 h20, mask_at hv, h36, h47, h7, choose_by]
  rw [Sums.sum_pick' (row s) fun t => A (ix3 b e t)]
  rfl

/-- A row of the chosen tokens' matrix times the weighted rows: the rows that stand for token `t`. -/
theorem back_sum (t : Fin 2048) (f : Fin 256 → EReal) (o : Fin 2048 → EReal) (hf : ∀ s, f s = o (row s)) :
    ∑ s : Fin 256, (if t = row s then (1 : EReal) else 0) * f s = ∑ s : Fin 256, if row s = t then o t else 0 := by
  refine Finset.sum_congr rfl fun s _ => ?_
  by_cases h : row s = t
  · rw [if_pos h, if_pos h.symm, one_mul, hf, h]
  · rw [if_neg h, if_neg fun q => h q.symm, zero_mul]

/-- The rows from 0 on after the step. -/
theorem store0_at (hv : ∀ (s : Fin 256) (t : Fin 2048), v4 (ix3 0 0 t) = BitVec.ofNat 32 s.val ↔ row s = t)
    (h7 : ∀ t, v7 (ix3 0 0 t) = A (ix3 b e t))
    (h16 : ∀ t k, v16 (ix3 0 t k) = H (ix3 b t k)) (h20 : ∀ k f, v20 (ix3 0 k f) = Wg (ix3 e k f))
    (h23 : ∀ k f, v23 (ix3 0 k f) = Wu (ix3 e k f)) (h36 : ∀ f d, v36 (ix3 0 f d) = Wd (ix3 e f d))
    (h47 : ∀ d, v47 (ix3 0 0 d) = g d) (old : Vec Ideal S1x512x1024 .f32) (r : Fin 512) (d : Fin 1024) (t : Fin 2048) (ht : t.val = r.val) :
    k0_pay10 (k0_pay3 v7) (k0_pay4 v4) (k0_pay5 v4) (k0_pay7 v4 v16 v23) (k0_pay8 v4 v16 v20) v36 v47 old (ix3 0 r d)
      = (old (ix3 0 r d) + ∑ s : Fin 256, if row s = t then Spec.out H A Wg Wu Wd e b t d * g d else 0 : EReal) := by
  obtain rfl : t = ⟨r.val, by clear ht; have := r.isLt; omega⟩ := Fin.ext ht
  unfold k0_pay10
  pointwise
  simp only [onehot_at hv, rows_at hv h7 h16 h20 h23 h36 h47]
  exact congrArg (fun x : EReal => old (ix3 0 r d) + x)
    (back_sum (row := row) _ _ (fun t => Spec.out H A Wg Wu Wd e b t d * g d) fun _ => rfl)

/-- The rows from 512 on after the step. -/
theorem store512_at (hv : ∀ (s : Fin 256) (t : Fin 2048), v4 (ix3 0 0 t) = BitVec.ofNat 32 s.val ↔ row s = t)
    (h7 : ∀ t, v7 (ix3 0 0 t) = A (ix3 b e t))
    (h16 : ∀ t k, v16 (ix3 0 t k) = H (ix3 b t k)) (h20 : ∀ k f, v20 (ix3 0 k f) = Wg (ix3 e k f))
    (h23 : ∀ k f, v23 (ix3 0 k f) = Wu (ix3 e k f)) (h36 : ∀ f d, v36 (ix3 0 f d) = Wd (ix3 e f d))
    (h47 : ∀ d, v47 (ix3 0 0 d) = g d) (old : Vec Ideal S1x512x1024 .f32) (r : Fin 512) (d : Fin 1024) (t : Fin 2048) (ht : t.val = 512 + r.val) :
    k0_pay11 (k0_pay3 v7) (k0_pay4 v4) (k0_pay5 v4) (k0_pay7 v4 v16 v23) (k0_pay8 v4 v16 v20) v36 v47 old (ix3 0 r d)
      = (old (ix3 0 r d) + ∑ s : Fin 256, if row s = t then Spec.out H A Wg Wu Wd e b t d * g d else 0 : EReal) := by
  obtain rfl : t = ⟨512 + r.val, by clear ht; have := r.isLt; omega⟩ := Fin.ext ht
  unfold k0_pay11
  pointwise
  simp only [onehot_at hv, rows_at hv h7 h16 h20 h23 h36 h47]
  exact congrArg (fun x : EReal => old (ix3 0 r d) + x)
    (back_sum (row := row) _ _ (fun t => Spec.out H A Wg Wu Wd e b t d * g d) fun _ => rfl)

/-- The rows from 1024 on after the step. -/
theorem store1024_at (hv : ∀ (s : Fin 256) (t : Fin 2048), v4 (ix3 0 0 t) = BitVec.ofNat 32 s.val ↔ row s = t)
    (h7 : ∀ t, v7 (ix3 0 0 t) = A (ix3 b e t))
    (h16 : ∀ t k, v16 (ix3 0 t k) = H (ix3 b t k)) (h20 : ∀ k f, v20 (ix3 0 k f) = Wg (ix3 e k f))
    (h23 : ∀ k f, v23 (ix3 0 k f) = Wu (ix3 e k f)) (h36 : ∀ f d, v36 (ix3 0 f d) = Wd (ix3 e f d))
    (h47 : ∀ d, v47 (ix3 0 0 d) = g d) (old : Vec Ideal S1x512x1024 .f32) (r : Fin 512) (d : Fin 1024) (t : Fin 2048) (ht : t.val = 1024 + r.val) :
    k0_pay1 (k0_pay5 v4) (k0_pay9 (k0_pay3 v7) (k0_pay4 v4) (k0_pay7 v4 v16 v23) (k0_pay8 v4 v16 v20) v36 v47) old (ix3 0 r d)
      = (old (ix3 0 r d) + ∑ s : Fin 256, if row s = t then Spec.out H A Wg Wu Wd e b t d * g d else 0 : EReal) := by
  obtain rfl : t = ⟨1024 + r.val, by clear ht; have := r.isLt; omega⟩ := Fin.ext ht
  unfold k0_pay1
  pointwise
  simp only [onehot_at hv, rows_at hv h7 h16 h20 h23 h36 h47]
  exact congrArg (fun x : EReal => old (ix3 0 r d) + x)
    (back_sum (row := row) _ _ (fun t => Spec.out H A Wg Wu Wd e b t d * g d) fun _ => rfl)

/-- The rows from 1536 on after the step. -/
theorem store1536_at (hv : ∀ (s : Fin 256) (t : Fin 2048), v4 (ix3 0 0 t) = BitVec.ofNat 32 s.val ↔ row s = t)
    (h7 : ∀ t, v7 (ix3 0 0 t) = A (ix3 b e t))
    (h16 : ∀ t k, v16 (ix3 0 t k) = H (ix3 b t k)) (h20 : ∀ k f, v20 (ix3 0 k f) = Wg (ix3 e k f))
    (h23 : ∀ k f, v23 (ix3 0 k f) = Wu (ix3 e k f)) (h36 : ∀ f d, v36 (ix3 0 f d) = Wd (ix3 e f d))
    (h47 : ∀ d, v47 (ix3 0 0 d) = g d) (old : Vec Ideal S1x512x1024 .f32) (r : Fin 512) (d : Fin 1024) (t : Fin 2048) (ht : t.val = 1536 + r.val) :
    k0_pay2 (k0_pay5 v4) (k0_pay9 (k0_pay3 v7) (k0_pay4 v4) (k0_pay7 v4 v16 v23) (k0_pay8 v4 v16 v20) v36 v47) old (ix3 0 r d)
      = (old (ix3 0 r d) + ∑ s : Fin 256, if row s = t then Spec.out H A Wg Wu Wd e b t d * g d else 0 : EReal) := by
  obtain rfl : t = ⟨1536 + r.val, by clear ht; have := r.isLt; omega⟩ := Fin.ext ht
  unfold k0_pay2
  pointwise
  simp only [onehot_at hv, rows_at hv h7 h16 h20 h23 h36 h47]
  exact congrArg (fun x : EReal => old (ix3 0 r d) + x)
    (back_sum (row := row) _ _ (fun t => Spec.out H A Wg Wu Wd e b t d * g d) fun _ => rfl)

end Cert.Proof.Body

end
-- ==== Proof.Step.lean ====
module

public import proofs.«01_k».proof.Proof.Gen.KernelIdeal.Value
public import proofs.«01_k».proof.Proof.Body
public import Idealize.ShloMosaic.Lib.Pipeline.ReadBack
public import Idealize.ShloMosaic.Lib.Pipeline.ValueKit.Tiles

/-!
What one run of the kernel's body leaves in the output block: the block it found (or, at a batch's first expert, the residual
block it copied there) with the expert's weighted rows added.
-/

@[expose] public section

set_option maxRecDepth 16384

noncomputable section

namespace Cert.Proof.Step

open Idealize.ShloMosaic Cert.KernelIdeal Cert.KernelIdeal.Gen

/-- Every index of a rank-three shape with one block is named by its last two coordinates. -/
theorem eq_ix3 {m n : ℕ} (x : (⟨3, ![1, m, n]⟩ : Shape).Idx) : ∃ (r : Fin m) (d : Fin n), x = ix3 (0 : Fin 1) r d :=
  ⟨x 1, x 2, by
    refine funext fun a => ?_
    match a with
    | ⟨0, _⟩ => exact Subsingleton.elim (α := Fin 1) _ _
    | ⟨1, _⟩ => rfl
    | ⟨2, _⟩ => rfl⟩

/-- A piece of 512 rows starting at row `o` that agrees with `G` there. -/
def Agrees (G : Vec Ideal S1x2048x1024 .f32) (o : ℕ) (P : Vec Ideal S1x512x1024 .f32) : Prop :=
  ∀ (r : Fin 512) (d : Fin 1024) (t : Fin 2048), t.val = o + r.val → P (ix3 0 r d) = G (ix3 0 t d)

/-- The block with the 512 rows from row `o` stored over it, read in those rows; -/
theorem canon_hit {G : Vec Ideal S1x2048x1024 .f32} {o : ℕ} {P : Vec Ideal S1x512x1024 .f32} (h : Agrees G o P)
    (inb : ∀ a, (![0, o, 0] : Fin 3 → ℕ) a + S1x512x1024.size a ≤ S1x2048x1024.size a)
    (L : List (View.Piece (Elt Ideal) S1x2048x1024 .f32)) (t : Fin 2048) (d : Fin 1024) (h1 : o ≤ t.val) (h2 : t.val < o + 512) :
    View.canon ((⟨Rect.unit (s := S1x2048x1024) ![0, o, 0] S1x512x1024.size inb, P⟩ : View.Piece (Elt Ideal) S1x2048x1024 .f32) :: L) (ix3 0 t d)
      = G (ix3 0 t d) := by
  have e : (ix3 0 t d : S1x2048x1024.Idx) = (Rect.unit (s := S1x2048x1024) ![0, o, 0] S1x512x1024.size inb).emb
      (ix3 0 (⟨t.val - o, by omega⟩ : Fin 512) d : S1x512x1024.Idx) := by
    refine funext fun a => Fin.ext ?_
    match a with
    | ⟨0, _⟩ => rfl
    | ⟨1, _⟩ => show t.val = o + 1 * (t.val - o); omega
    | ⟨2, _⟩ => show d.val = 0 + 1 * d.val; omega
  refine (congrArg _ e).trans ((View.canon_cons_emb _ _ _ _).trans (h _ d t ?_))
  show t.val = o + (t.val - o); omega

/-- read in other rows. -/
theorem canon_miss {o : ℕ} {P : Vec Ideal S1x512x1024 .f32}
    {inb : ∀ a, (![0, o, 0] : Fin 3 → ℕ) a + S1x512x1024.size a ≤ S1x2048x1024.size a}
    {L : List (View.Piece (Elt Ideal) S1x2048x1024 .f32)} {t : Fin 2048} {d : Fin 1024} (h : t.val < o ∨ o + 512 ≤ t.val) :
    View.canon ((⟨Rect.unit (s := S1x2048x1024) ![0, o, 0] S1x512x1024.size inb, P⟩ : View.Piece (Elt Ideal) S1x2048x1024 .f32) :: L) (ix3 0 t d)
      = View.canon L (ix3 0 t d) := by
  refine View.canon_cons_of_not_mem _ _ fun hm => ?_
  have h1 := (Rect.mem_set_unit (s := S1x2048x1024) (off := ![0, o, 0]) (size := S1x512x1024.size) (inb := inb)).mp hm 1
  change o ≤ t.val ∧ t.val < o + 512 at h1
  omega

/-- The whole block, read back: four pieces that agree with `G` leave `G`, whatever was stored before. -/
theorem canon_four (G : Vec Ideal S1x2048x1024 .f32) (P0 P1 P2 P3 : Vec Ideal S1x512x1024 .f32)
    (L : List (View.Piece (Elt Ideal) S1x2048x1024 .f32)) (inb0 inb1 inb2 inb3)
    (h0 : Agrees G 0 P0) (h1 : Agrees G 512 P1) (h2 : Agrees G 1024 P2) (h3 : Agrees G 1536 P3) :
    View.canon ((⟨Rect.unit (s := S1x2048x1024) ![0, 1536, 0] S1x512x1024.size inb3, P3⟩ : View.Piece (Elt Ideal) S1x2048x1024 .f32)
      :: ⟨Rect.unit (s := S1x2048x1024) ![0, 1024, 0] S1x512x1024.size inb2, P2⟩
      :: ⟨Rect.unit (s := S1x2048x1024) ![0, 512, 0] S1x512x1024.size inb1, P1⟩
      :: ⟨Rect.unit (s := S1x2048x1024) ![0, 0, 0] S1x512x1024.size inb0, P0⟩ :: L) = G := by
  funext y
  obtain ⟨t, d, rfl⟩ := eq_ix3 (m := 2048) (n := 1024) y
  by_cases c3 : 1536 ≤ t.val
  · exact canon_hit h3 _ _ t d c3 (by have := t.isLt; omega)
  refine (canon_miss (by omega)).trans ?_
  by_cases c2 : 1024 ≤ t.val
  · exact canon_hit h2 _ _ t d c2 (by omega)
  refine (canon_miss (by omega)).trans ?_
  by_cases c1 : 512 ≤ t.val
  · exact canon_hit h1 _ _ t d c1 (by omega)
  refine (canon_miss (by omega)).trans ?_
  exact canon_hit h0 _ _ t d (by omega) (by omega)

/-- A load of 512 rows after some stores, at a row and column. -/
theorem cov_at (v : View sig .tc .vmem S1x2048x1024 .f32) (L : List (View.Piece (Elt Ideal) S1x2048x1024 .f32)) (o : ℕ) (inb) (r : Fin 512)
    (d : Fin 1024) (t : Fin 2048) (ht : t.val = o + r.val) :
    v.readCov L (Rect.unit (s := S1x2048x1024) ![0, o, 0] S1x512x1024.size inb).toLoadRect (ix3 0 r d) = View.canon L (ix3 0 t d) := by
  rw [View.readCov_eq_canon']
  refine congrArg (View.canon L) (funext fun a => Fin.ext ?_)
  match a with
  | ⟨0, _⟩ => rfl
  | ⟨1, _⟩ => show o + 1 * r.val = t.val; omega
  | ⟨2, _⟩ => show 0 + 1 * d.val = d.val; omega

/-- A block stored whole, read back. -/
theorem canon_whole (x : Vec Ideal S1x2048x1024 .f32) (inb inb') (y : S1x2048x1024.Idx) :
    View.canon [(⟨Rect.unit (s := S1x2048x1024) ![0, 0, 0] S1x2048x1024.size inb,
      View.ld x (Rect.unit (s := S1x2048x1024) ![0, 0, 0] S1x2048x1024.size inb')⟩ : View.Piece (Elt Ideal) S1x2048x1024 .f32)] y = x y := by
  have hz : (![0, 0, 0] : Fin 3 → ℕ) = fun _ => 0 := by funext a; fin_cases a <;> rfl
  rw [View.canon_cons_unit_zero (S := S1x2048x1024) hz, View.ld_unit_zero (S := S1x2048x1024) hz]

/-- Row `e` of a block of sixteen rows. -/
theorem ld_row {el : EltTy} (x : Vec Ideal S1x16x2048 el) (e : Fin 16) (inb) (t : Fin 2048) :
    View.ld x (Rect.unit (s := S1x16x2048) ![0, BitVec.toNat (Scalar.indexCast (BitVec.ofNat 32 e.val)), 0] S1x1x2048.size inb) (ix3 0 0 t)
      = x (ix3 0 e t) := by
  refine congrArg x (funext fun a => Fin.ext ?_)
  match a with
  | ⟨0, _⟩ => rfl
  | ⟨1, _⟩ => exact (by decide : ∀ e : Fin 16, BitVec.toNat (Scalar.indexCast (BitVec.ofNat 32 e.val)) + 1 * 0 = e.val) e
  | ⟨2, _⟩ => show 0 + 1 * t.val = t.val; omega

/-- The sixth row of the modulation block. -/
theorem ld_gate (x : Vec Ideal S1x6x1024 .f32) (inb) (d : Fin 1024) :
    View.ld x (Rect.unit (s := S1x6x1024) ![0, 5, 0] S1x1x1024.size inb) (ix3 0 0 d) = x (ix3 0 5 d) := by
  refine congrArg x (funext fun a => Fin.ext ?_)
  match a with
  | ⟨0, _⟩ => rfl
  | ⟨1, _⟩ => rfl
  | ⟨2, _⟩ => show 0 + 1 * d.val = d.val; omega

/-- 512 rows of a block, from row `o`. -/
theorem ld_rows (x : Vec Ideal S1x2048x1024 .f32) (o : ℕ) (inb) (r : Fin 512) (d : Fin 1024) (t : Fin 2048) (ht : t.val = o + r.val) :
    View.ld x (Rect.unit (s := S1x2048x1024) ![0, o, 0] S1x512x1024.size inb) (ix3 0 r d) = x (ix3 0 t d) := by
  refine congrArg x (funext fun a => Fin.ext ?_)
  match a with
  | ⟨0, _⟩ => rfl
  | ⟨1, _⟩ => show o + 1 * r.val = t.val; omega
  | ⟨2, _⟩ => show 0 + 1 * d.val = d.val; omega

theorem add_on_left {x y z : EReal} (h : x = y) : x + z = y + z := congrArg (· + z) h

/-- The block `x` with one expert's weighted rows added at their tokens. -/
def added (H : Spec.Tokens) (A : Spec.Aff) (Wg Wu : Spec.WIn) (Wd : Spec.WOut) (e : Fin 16) (b : Fin 32) (g : Fin 1024 → EReal)
    (row : Fin 256 → Fin 2048) (x : Vec Ideal S1x2048x1024 .f32) : Vec Ideal S1x2048x1024 .f32 := fun y =>
  (x y + (fun (t : Fin 2048) (d : Fin 1024) => ∑ s : Fin 256, if row s = t then Spec.out H A Wg Wu Wd e b t d * g d else 0) (y 1) (y 2) : EReal)

theorem added_at (H : Spec.Tokens) (A : Spec.Aff) (Wg Wu : Spec.WIn) (Wd : Spec.WOut) (e : Fin 16) (b : Fin 32) (g : Fin 1024 → EReal)
    (row : Fin 256 → Fin 2048) (x : Vec Ideal S1x2048x1024 .f32) (t : Fin 2048) (d : Fin 1024) :
    added H A Wg Wu Wd e b g row x (ix3 0 t d)
      = (x (ix3 0 t d) + ∑ s : Fin 256, if row s = t then Spec.out H A Wg Wu Wd e b t d * g d else 0 : EReal) := rfl

/-- What a run leaves that is not a batch's first: the block it found, with the expert's rows added. -/
theorem out_B (c : Dev nD) (i : grid0.Coords) (arg2 : Memref sig .tc .vmem S1x16x2048 .i32) (harg2 : arg2.IsWhole)
    (arg3 : Memref sig .tc .vmem S1x2048x1024 .bf16) (harg3 : arg3.IsWhole) (arg4 : Memref sig .tc .vmem S1x2048x1024 .f32) (harg4 : arg4.IsWhole)
    (arg5 : Memref sig .tc .vmem S1x16x2048 .f32) (harg5 : arg5.IsWhole) (arg6 : Memref sig .tc .vmem S1x6x1024 .f32) (harg6 : arg6.IsWhole)
    (arg7 : Memref sig .tc .vmem S1x1024x1536 .bf16) (harg7 : arg7.IsWhole) (arg8 : Memref sig .tc .vmem S1x1024x1536 .bf16) (harg8 : arg8.IsWhole)
    (arg9 : Memref sig .tc .vmem S1x1536x1024 .bf16) (harg9 : arg9.IsWhole) (arg10 : Memref sig .tc .vmem S1x2048x1024 .f32) (harg10 : arg10.IsWhole)
    (hc0 : ¬cond0_0 i)
    (x0 : Vec Ideal S1x16x2048 .i32) (x1 : Vec Ideal S1x2048x1024 .bf16) (x2 : Vec Ideal S1x2048x1024 .f32) (x3 : Vec Ideal S1x16x2048 .f32)
    (x4 : Vec Ideal S1x6x1024 .f32) (x5 : Vec Ideal S1x1024x1536 .bf16) (x6 : Vec Ideal S1x1024x1536 .bf16) (x7 : Vec Ideal S1x1536x1024 .bf16) (xo8 : Vec Ideal S1x2048x1024 .f32)
    (H : Spec.Tokens) (A : Spec.Aff) (Wg Wu : Spec.WIn) (Wd : Spec.WOut) (e : Fin 16) (b : Fin 32) (g : Fin 1024 → EReal) (row : Fin 256 → Fin 2048)
    (he : i 1 = e) (hv : ∀ (s : Fin 256) (t : Fin 2048), x0 (ix3 0 e t) = BitVec.ofNat 32 s.val ↔ row s = t)
    (h3 : ∀ t, x3 (ix3 0 e t) = A (ix3 b e t)) (h1 : ∀ t k, x1 (ix3 0 t k) = H (ix3 b t k)) (h5 : ∀ k f, x5 (ix3 0 k f) = Wg (ix3 e k f))
    (h6 : ∀ k f, x6 (ix3 0 k f) = Wu (ix3 e k f)) (h7 : ∀ f d, x7 (ix3 0 f d) = Wd (ix3 e f d)) (h4 : ∀ d, x4 (ix3 0 5 d) = g d) :
    out0_B_8 c i arg2 harg2 arg3 harg3 arg4 harg4 arg5 harg5 arg6 harg6 arg7 harg7 arg8 harg8 arg9 harg9 arg10 harg10 hc0 x0 x1 x2 x3 x4 x5 x6 x7 xo8 = added H A Wg Wu Wd e b g row xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x6 x7 xo8)]
  unfold kernelRun0_B
  dsimp only
  sl_unfold_words
  simp only [View.readAt_eq_ld, harg2.read_unread, harg3.read_unread, harg4.read_unread, harg5.read_unread, harg6.read_unread, harg7.read_unread,
    harg8.read_unread, harg9.read_unread, harg10.read_unread]
  obtain rfl := he
  have hz : (![0, 0, 0] : Fin 3 → ℕ) = fun _ => 0 := by funext a; fin_cases a <;> rfl
  refine canon_four _ _ _ _ _ _ _ _ _ _ ?_ ?_ ?_ ?_
  · intro r d t ht
    refine (Body.store0_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left (ld_rows xo8 0 _ r d t ht)
  · intro r d t ht
    refine (Body.store512_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left (ld_rows xo8 512 _ r d t ht)
  · intro r d t ht
    refine (Body.store1024_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left (ld_rows xo8 1024 _ r d t ht)
  · intro r d t ht
    refine (Body.store1536_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left (ld_rows xo8 1536 _ r d t ht)

/-- What a batch's first run leaves: the residual block, with the expert's rows added. -/
theorem out_A (c : Dev nD) (i : grid0.Coords) (arg2 : Memref sig .tc .vmem S1x16x2048 .i32) (harg2 : arg2.IsWhole)
    (arg3 : Memref sig .tc .vmem S1x2048x1024 .bf16) (harg3 : arg3.IsWhole) (arg4 : Memref sig .tc .vmem S1x2048x1024 .f32) (harg4 : arg4.IsWhole)
    (arg5 : Memref sig .tc .vmem S1x16x2048 .f32) (harg5 : arg5.IsWhole) (arg6 : Memref sig .tc .vmem S1x6x1024 .f32) (harg6 : arg6.IsWhole)
    (arg7 : Memref sig .tc .vmem S1x1024x1536 .bf16) (harg7 : arg7.IsWhole) (arg8 : Memref sig .tc .vmem S1x1024x1536 .bf16) (harg8 : arg8.IsWhole)
    (arg9 : Memref sig .tc .vmem S1x1536x1024 .bf16) (harg9 : arg9.IsWhole) (arg10 : Memref sig .tc .vmem S1x2048x1024 .f32) (harg10 : arg10.IsWhole)
    (hc0 : cond0_0 i)
    (x0 : Vec Ideal S1x16x2048 .i32) (x1 : Vec Ideal S1x2048x1024 .bf16) (x2 : Vec Ideal S1x2048x1024 .f32) (x3 : Vec Ideal S1x16x2048 .f32)
    (x4 : Vec Ideal S1x6x1024 .f32) (x5 : Vec Ideal S1x1024x1536 .bf16) (x6 : Vec Ideal S1x1024x1536 .bf16) (x7 : Vec Ideal S1x1536x1024 .bf16)
    (H : Spec.Tokens) (A : Spec.Aff) (Wg Wu : Spec.WIn) (Wd : Spec.WOut) (e : Fin 16) (b : Fin 32) (g : Fin 1024 → EReal) (row : Fin 256 → Fin 2048)
    (he : i 1 = e) (hv : ∀ (s : Fin 256) (t : Fin 2048), x0 (ix3 0 e t) = BitVec.ofNat 32 s.val ↔ row s = t)
    (h3 : ∀ t, x3 (ix3 0 e t) = A (ix3 b e t)) (h1 : ∀ t k, x1 (ix3 0 t k) = H (ix3 b t k)) (h5 : ∀ k f, x5 (ix3 0 k f) = Wg (ix3 e k f))
    (h6 : ∀ k f, x6 (ix3 0 k f) = Wu (ix3 e k f)) (h7 : ∀ f d, x7 (ix3 0 f d) = Wd (ix3 e f d)) (h4 : ∀ d, x4 (ix3 0 5 d) = g d) :
    out0_A_8 c i arg2 harg2 arg3 harg3 arg4 harg4 arg5 harg5 arg6 harg6 arg7 harg7 arg8 harg8 arg9 harg9 arg10 harg10 hc0 x0 x1 x2 x3 x4 x5 x6 x7 = added H A Wg Wu Wd e b g row x2 := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread,
    harg8.read_unread, harg9.read_unread, harg10.read_unread]
  obtain rfl := he
  have hz : (![0, 0, 0] : Fin 3 → ℕ) = fun _ => 0 := by funext a; fin_cases a <;> rfl
  refine canon_four _ _ _ _ _ _ _ _ _ _ ?_ ?_ ?_ ?_
  · intro r d t ht
    refine (Body.store0_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left ((cov_at _ _ 0 _ r d t ht).trans (canon_whole x2 _ _ _))
  · intro r d t ht
    refine (Body.store512_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left ((cov_at _ _ 512 _ r d t ht).trans ((canon_miss (by omega)).trans (canon_whole x2 _ _ _)))
  · intro r d t ht
    refine (Body.store1024_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left ((cov_at _ _ 1024 _ r d t ht).trans ((canon_miss (by omega)).trans ((canon_miss (by omega)).trans (canon_whole x2 _ _ _))))
  · intro r d t ht
    refine (Body.store1536_at (H := H) (A := A) (Wg := Wg) (Wu := Wu) (Wd := Wd) (b := b) (e := i 1) (g := g) (row := row)
      (fun s t => (iff_of_eq (congrArg (· = BitVec.ofNat 32 s.val) (ld_row _ (i 1) _ t))).trans (hv s t)) (fun t => (ld_row _ (i 1) _ t).trans (h3 t)) (fun t k => (congrFun (View.ld_unit_zero hz _ x1) _).trans (h1 t k))
      (fun k f => (congrFun (View.ld_unit_zero hz _ x5) _).trans (h5 k f)) (fun k f => (congrFun (View.ld_unit_zero hz _ x6) _).trans (h6 k f))
      (fun f d => (congrFun (View.ld_unit_zero hz _ x7) _).trans (h7 f d)) (fun d => (ld_gate _ _ d).trans (h4 d)) _ r d t (by omega)).trans ?_
    exact add_on_left ((cov_at _ _ 1536 _ r d t ht).trans ((canon_miss (by omega)).trans ((canon_miss (by omega)).trans ((canon_miss (by omega)).trans (canon_whole x2 _ _ _)))))

end Cert.Proof.Step

end
-- ==== Proof.Acc.lean ====
module

public import proofs.«01_k».proof.Proof.Blocks
public import proofs.«01_k».proof.Proof.Step
public import Idealize.ShloMosaic.Lib.Pipeline.Value

/-!
What the kernel leaves in its result: for each batch the residual, with the weighted rows of its sixteen experts added one
expert after the other.
-/

@[expose] public section

set_option maxRecDepth 16384

noncomputable section

namespace Cert.Proof.Acc

open Idealize.ShloMosaic Idealize.ShloMosaic.TcCoe Cert.KernelIdeal Cert.KernelIdeal.Gen Cert.Proof.Blocks
open Idealize.ShloMosaic.Pipeline (Dat)

variable (m : (ℓ : Loc nD τ sig) → Buf (Elt Ideal) ℓ) (c : Dev nD)
variable {S : Vec Ideal S32x16x2048 .i32} {A : Spec.Aff} {H X : Spec.Tokens} {M : Vec Ideal S32x6144 .f32}
  {Wg Wu : Spec.WIn} {Wd : Spec.WOut}

/-- Column `d` of a batch's gate. -/
def gate (M : Vec Ideal S32x6144 .f32) (b : Fin 32) (d : Fin 1024) : EReal := M (ix2 b ⟨5120 + d.val, by omega⟩)

/-- What expert number `e` adds to token `t` of batch `b`; nothing from number sixteen on. -/
def part (A : Spec.Aff) (H : Spec.Tokens) (M : Vec Ideal S32x6144 .f32) (Wg Wu : Spec.WIn) (Wd : Spec.WOut) (row : Spec.Lists)
    (b : Fin 32) (t : Fin 2048) (d : Fin 1024) (e : ℕ) : EReal :=
  if h : e < 16 then ∑ s : Fin 256, if row b ⟨e, h⟩ s = t then Spec.out H A Wg Wu Wd ⟨e, h⟩ b t d * gate M b d else 0 else 0

/-- The residual and the parts of the first `n` experts. -/
def upto (A : Spec.Aff) (H X : Spec.Tokens) (M : Vec Ideal S32x6144 .f32) (Wg Wu : Spec.WIn) (Wd : Spec.WOut) (row : Spec.Lists)
    (n : ℕ) (b : Fin 32) (t : Fin 2048) (d : Fin 1024) : EReal :=
  X (ix3 b t d) + ∑ e ∈ Finset.range n, part A H M Wg Wu Wd row b t d e

theorem part_expert (A : Spec.Aff) (H : Spec.Tokens) (M : Vec Ideal S32x6144 .f32) (Wg Wu : Spec.WIn) (Wd : Spec.WOut) (row : Spec.Lists)
    (b : Fin 32) (t : Fin 2048) (d : Fin 1024) (e : Fin 16) :
    part A H M Wg Wu Wd row b t d e.val
      = ∑ s : Fin 256, if row b e s = t then Spec.out H A Wg Wu Wd e b t d * gate M b d else 0 := dif_pos e.isLt

/-- One more expert. -/
theorem upto_succ (A : Spec.Aff) (H X : Spec.Tokens) (M : Vec Ideal S32x6144 .f32) (Wg Wu : Spec.WIn) (Wd : Spec.WOut) (row : Spec.Lists)
    (e : Fin 16) (b : Fin 32) (t : Fin 2048) (d : Fin 1024) :
    upto A H X M Wg Wu Wd row (e.val + 1) b t d = upto A H X M Wg Wu Wd row e.val b t d
      + ∑ s : Fin 256, if row b e s = t then Spec.out H A Wg Wu Wd e b t d * gate M b d else 0 := by
  unfold upto
  rw [Finset.sum_range_succ, part_expert, add_assoc]

section
variable (hS : m (c.tc.loc main_arg0) = S) (hA : m (c.tc.loc main_arg1) = A) (hH : m (c.tc.loc main_arg2) = H)
  (hX : m (c.tc.loc main_arg3) = X) (hM : m (c.tc.loc main_arg4) = M) (hg : m (c.tc.loc main_arg5) = Wg)
  (hu : m (c.tc.loc main_arg6) = Wu) (hd : m (c.tc.loc main_arg7) = Wd) (row : Spec.Lists)
  (hrow : ∀ b e (s : Fin 256) (t : Fin 2048), S (ix3 b e t) = BitVec.ofNat 32 s.val ↔ row b e s = t)
include hS hA hH hX hM hg hu hd hrow

/-- At a batch's first expert the output block is the residual with that expert's part. -/
theorem first_at (p : Fin cfg0.N) (h0 : p.val % 16 = 0) (t : Fin 2048) (d : Fin 1024) :
    outsAt0 m c p.val p.isLt (ix3 0 t d) = upto A H X M Wg Wu Wd row ((expert p).val + 1) (batch p) t d := by
  rw [outsAt0_A m c p h0, Step.out_A (H := H) (A := A) (Wg := Wg) (Wu := Wu) (Wd := Wd) (e := expert p) (b := batch p)
    (g := gate M (batch p)) (row := row (batch p) (expert p)) (he := coord_expert p)
    (hv := fun s t => by rw [sel_at, hS]; exact hrow _ _ s t) (h3 := fun t => by rw [aff_at, hA]) (h1 := fun t k => by rw [tok_at, hH])
    (h5 := fun k f => by rw [wg_at, hg]) (h6 := fun k f => by rw [wu_at, hu]) (h7 := fun f d => by rw [wd_at, hd])
    (h4 := fun d => by rw [gate_at, hM]; rfl), Step.added_at, upto_succ]
  refine Step.add_on_left ?_
  rw [res_at, hX]
  have e0 : (expert p).val = 0 := h0
  rw [e0]
  unfold upto
  rw [Finset.sum_range_zero, add_zero]

/-- At a later expert it is what the point before left, with that expert's part. -/
theorem later_at (p : Fin cfg0.N) (h0 : ¬p.val % 16 = 0) (t : Fin 2048) (d : Fin 1024)
    (ih : outsAt0 m c (p.val - 1) (Nat.lt_of_le_of_lt (Nat.sub_le _ _) p.isLt) (ix3 0 t d)
      = upto A H X M Wg Wu Wd row (expert p).val (batch p) t d) :
    outsAt0 m c p.val p.isLt (ix3 0 t d) = upto A H X M Wg Wu Wd row ((expert p).val + 1) (batch p) t d := by
  rw [outsAt0_B m c p h0, Step.out_B (H := H) (A := A) (Wg := Wg) (Wu := Wu) (Wd := Wd) (e := expert p) (b := batch p)
    (g := gate M (batch p)) (row := row (batch p) (expert p)) (he := coord_expert p)
    (hv := fun s t => by rw [sel_at, hS]; exact hrow _ _ s t) (h3 := fun t => by rw [aff_at, hA]) (h1 := fun t k => by rw [tok_at, hH])
    (h5 := fun k f => by rw [wg_at, hg]) (h6 := fun k f => by rw [wu_at, hu]) (h7 := fun f d => by rw [wd_at, hd])
    (h4 := fun d => by rw [gate_at, hM]; rfl), Step.added_at, upto_succ]
  exact Step.add_on_left ih

/-- What the output block holds after a point. -/
theorem outs_at (t : Fin 2048) (d : Fin 1024) : ∀ (n : ℕ) (h : n < cfg0.N),
    outsAt0 m c n h (ix3 0 t d) = upto A H X M Wg Wu Wd row ((expert ⟨n, h⟩).val + 1) (batch ⟨n, h⟩) t d
  | 0, h => first_at m c hS hA hH hX hM hg hu hd row hrow ⟨0, h⟩ rfl t d
  | n + 1, h => by
    by_cases h0 : (n + 1) % 16 = 0
    · exact first_at m c hS hA hH hX hM hg hu hd row hrow ⟨n + 1, h⟩ h0 t d
    · refine later_at m c hS hA hH hX hM hg hu hd row hrow ⟨n + 1, h⟩ h0 t d ?_
      have ih := outs_at t d n (Nat.lt_of_succ_lt h)
      have e1 : (expert ⟨n, Nat.lt_of_succ_lt h⟩).val + 1 = (expert ⟨n + 1, h⟩).val := by show n % 16 + 1 = (n + 1) % 16; omega
      have e2 : batch ⟨n, Nat.lt_of_succ_lt h⟩ = batch ⟨n + 1, h⟩ := Fin.ext (by show n / 16 = (n + 1) / 16; omega)
      rw [e1, e2] at ih
      exact ih

end

/-- The kernel's result as an array. -/
def result (A : Spec.Aff) (H X : Spec.Tokens) (M : Vec Ideal S32x6144 .f32) (Wg Wu : Spec.WIn) (Wd : Spec.WOut) (row : Spec.Lists) :
    Vec Ideal S32x2048x1024 .f32 := fun i => upto A H X M Wg Wu Wd row 16 (i 0) (i 1) (i 2)

theorem at8 : ∀ t : Fin grid0.N, win0_8.index t 0 = t.val / 16 ∧ win0_8.index t 1 = 0 ∧ win0_8.index t 2 = 0 := by decide +kernel
theorem at8_size : ∀ t : Fin grid0.N, win0_8.xsize (grid0.coords t) 0 = 1 ∧ win0_8.xsize (grid0.coords t) 1 = 2048 ∧ win0_8.xsize (grid0.coords t) 2 = 1024 := by
  decide +kernel

section
variable (hS : m (c.tc.loc main_arg0) = S) (hA : m (c.tc.loc main_arg1) = A) (hH : m (c.tc.loc main_arg2) = H)
  (hX : m (c.tc.loc main_arg3) = X) (hM : m (c.tc.loc main_arg4) = M) (hg : m (c.tc.loc main_arg5) = Wg)
  (hu : m (c.tc.loc main_arg6) = Wu) (hd : m (c.tc.loc main_arg7) = Wd) (row : Spec.Lists)
  (hrow : ∀ b e (s : Fin 256) (t : Fin 2048), S (ix3 b e t) = BitVec.ofNat 32 s.val ↔ row b e s = t)
include hS hA hH hX hM hg hu hd hrow

/-- Each write-back, at a batch's last expert, writes that batch of the result. -/
theorem flushed_eq (p : Fin cfg0.N) (hf : (cfg0.win 8).flush p = true) :
    (dats m 0 c).flushed 8 p = ((cfg0.win 8).blk p).view.read (Elt Ideal) (result A H X M Wg Wu Wd row) := by
  have h15 : p.val % 16 = 15 := (flush0_8 p).mp hf
  rw [Value.flushed8]
  funext y
  obtain ⟨t, d, rfl⟩ := Step.eq_ix3 (m := 2048) (n := 1024) y
  refine (outs_at m c hS hA hH hX hM hg hu hd row hrow t d p.val p.isLt).trans ?_
  have e16 : (expert p).val + 1 = 16 := by show p.val % 16 + 1 = 16; omega
  rw [View.read_apply]
  have hi : (((cfg0.win 8).blk p).view.emb (ix3 0 t d) : S32x2048x1024.Idx) = ix3 (batch p) t d := by
    refine funext fun a => Fin.ext ?_
    match a with
    | ⟨0, _⟩ => show win0_8.index p 0 * 1 + 1 * 0 = p.val / 16; rw [(at8 p).1]; omega
    | ⟨1, _⟩ => show win0_8.index p 1 * 2048 + 1 * t.val = t.val; rw [(at8 p).2.1]; omega
    | ⟨2, _⟩ => show win0_8.index p 2 * 1024 + 1 * d.val = d.val; rw [(at8 p).2.2]; omega
  refine Eq.trans ?_ (congrArg (result A H X M Wg Wu Wd row) hi).symm
  show upto A H X M Wg Wu Wd row ((expert p).val + 1) (batch p) t d = upto A H X M Wg Wu Wd row 16 (batch p) t d
  rw [e16]

/-- So the array ends at the result: every batch has a last expert. -/
theorem final : (dats m 0 c).arrAt 8 cfg0.N = result A H X M Wg Wu Wd row :=
  (dats m 0 c).arrAt_eq_of_cover 8 (result A H X M Wg Wu Wd row) (flushed_eq m c hS hA hH hX hM hg hu hd row hrow) fun i => by
    have hb : (i 0 : Nat) < 32 := (i 0).isLt
    have ht : (i 1 : Nat) < 2048 := (i 1).isLt
    have hc : (i 2 : Nat) < 1024 := (i 2).isLt
    have hN : 16 * (i 0 : Nat) + 15 < cfg0.N := by show _ < grid0.N; rw [N_0]; omega
    refine ⟨⟨16 * (i 0 : Nat) + 15, hN⟩, (flush0_8 _).mpr (by show (16 * (i 0 : Nat) + 15) % 16 = 15; omega), ?_⟩
    generalize hp : (⟨16 * (i 0 : Nat) + 15, hN⟩ : Fin cfg0.N) = p
    have hv : p.val = 16 * (i 0 : Nat) + 15 := by rw [← hp]
    show i ∈ ((View.whole main_v5).slice (win0_8.rect p)).set
    rw [View.set_slice_whole, Rect.mem_set_unit]
    intro a
    match a with
    | ⟨0, _⟩ => show win0_8.index p 0 * 1 ≤ (i 0 : Nat) ∧ (i 0 : Nat) < win0_8.index p 0 * 1 + win0_8.xsize (grid0.coords p) 0
                rw [(at8 p).1, (at8_size p).1]; omega
    | ⟨1, _⟩ => show win0_8.index p 1 * 2048 ≤ (i 1 : Nat) ∧ (i 1 : Nat) < win0_8.index p 1 * 2048 + win0_8.xsize (grid0.coords p) 1
                rw [(at8 p).2.1, (at8_size p).2.1]; omega
    | ⟨2, _⟩ => show win0_8.index p 2 * 1024 ≤ (i 2 : Nat) ∧ (i 2 : Nat) < win0_8.index p 2 * 1024 + win0_8.xsize (grid0.coords p) 2
                rw [(at8 p).2.2, (at8_size p).2.2]; omega

end

end Cert.Proof.Acc

end
-- ==== Proof.Rows.lean ====
module

public import proofs.«01_k».proof.Proof.Gen.ReferenceIdeal
public import proofs.«01_k».proof.Pre_routed_and_finite
public import Idealize.ShloMosaic.Lib.Pointwise
public import Idealize.ShloMosaic.Lib.SortFacts
public import Idealize.ShloMosaic.Lib.Routing.OpsPair

/-!
The operations that move rows about, each read at one index: the selection of the greatest entries, a sort along the
last axis, the gather of the chosen tokens' rows and the sum that scatters rows back to their tokens.
-/

@[expose] public section

set_option maxRecDepth 16384

noncomputable section

namespace Cert.Proof.Rows

open Idealize.ShloMosaic Cert.ReferenceIdeal Cert.ReferenceIdeal.Gen

/-- The number of the token that the selection puts at place `c` of expert `e`'s list in sequence `b`. -/
def chosen {α : Type} (gt : α → α → BitVec 1) (x : S32x16x2048.Idx → α) (b : Fin 32) (e : Fin 16) (c : Fin 256) : Fin 2048 :=
  sortedFrom (fun k k' : Fin 2048 => gt (x (ix3 b e k)) (x (ix3 b e k')) == 1#1) ⟨c.val, by omega⟩

/-- Replacing the last coordinate of a rank 3 index. -/
theorem along_last {n p q : Nat} (a : Fin n) (b : Fin p) (c k : Fin q) :
    Shape.Idx.along (s := ⟨3, ![n, p, q]⟩) (ix3 a b c) (2 : Fin 3) k = ix3 a b k := by
  funext i
  match i with
  | ⟨0, _⟩ => rfl
  | ⟨1, _⟩ => rfl
  | ⟨2, _⟩ => rfl

/-- A sort along the last of three axes permutes each line of its operand. -/
theorem sortBy_last {ι α : Type} {n p q : Nat} (cmp : ι → ι → BitVec 1) (rows : (⟨3, ![n, p, q]⟩ : Shape).Idx → ι)
    (x : (⟨3, ![n, p, q]⟩ : Shape).Idx → α) (a : Fin n) (b : Fin p) (c : Fin q) :
    Host.sortBy ⟨3, ![n, p, q]⟩ 2 cmp rows x (ix3 a b c)
      = x (ix3 a b (sortedFrom (fun k k' : Fin q => cmp (rows (ix3 a b k)) (rows (ix3 a b k')) == 1#1) c)) := by
  unfold Host.sortBy
  rw [dif_pos (show 2 < (⟨3, ![n, p, q]⟩ : Shape).rank from Nat.lt_succ_self 2)]
  have h : ∀ k : Fin q, Shape.Idx.along (s := ⟨3, ![n, p, q]⟩) (ix3 a b c) (2 : Fin 3) k = ix3 a b k := along_last a b c
  refine (congrArg x (h _)).trans ?_
  refine congrArg (fun f => x (ix3 a b (sortedFrom f c))) (funext fun k => funext fun k' => ?_)
  exact congrArg₂ (fun i j => cmp (rows i) (rows j) == 1#1) (h k) (h k')

/-- The slice that keeps the first 256 of 2048 places, at an index. -/
theorem head_slice {α : Type} (x : S32x16x2048.Idx → α) (h : S32x16x2048.Slices (fun _ => 0) S32x16x256)
    (b : Fin 32) (e : Fin 16) (c : Fin 256) :
    extractStridedSlice S32x16x256 (fun _ => 0) x h (ix3 b e c) = x (ix3 b e ⟨c.val, by omega⟩) := by
  rw [Pointwise.extractStridedSlice_apply]
  refine congrArg x (funext fun i => Fin.ext ?_)
  match i with
  | ⟨0, _⟩ => exact Nat.zero_add _
  | ⟨1, _⟩ => exact Nat.zero_add _
  | ⟨2, _⟩ => exact Nat.zero_add _

/-- The first result of the selection holds the chosen tokens' entries. -/
theorem topK_values {α : Type} (gt : α → α → BitVec 1) (x : S32x16x2048.Idx → α)
    (h : S32x16x2048.Slices (fun _ => 0) S32x16x256) (b : Fin 32) (e : Fin 16) (c : Fin 256) :
    (Host.topK S32x16x256 2 gt x h).1 (ix3 b e c) = x (ix3 b e (chosen gt x b e c)) := by
  unfold Host.topK
  dsimp only
  rw [head_slice, Host.sort2_eq_sortBy]
  exact sortBy_last _ _ _ _ _ _

/-- The second result of the selection holds the chosen tokens' numbers. -/
theorem topK_tokens {α : Type} (gt : α → α → BitVec 1) (x : S32x16x2048.Idx → α)
    (h : S32x16x2048.Slices (fun _ => 0) S32x16x256) (b : Fin 32) (e : Fin 16) (c : Fin 256) :
    (Host.topK S32x16x256 2 gt x h).2 (ix3 b e c) = BitVec.ofNat 32 (chosen gt x b e c).val := by
  unfold Host.topK
  dsimp only
  rw [head_slice, Host.sort2_eq_sortBy]
  let number : S32x16x2048.Idx → BitVec 32 := fun i =>
    if hd : 2 < S32x16x2048.rank then iotaInDim S32x16x2048 32 ⟨2, hd⟩ i else 0#32
  exact (sortBy_last (fun l r : α × BitVec 32 => gt l.1 r.1) (fun j => (x j, number j)) number b e
    (⟨c.val, by have := c.isLt; omega⟩ : Fin 2048)).trans rfl

/-- Where a sort along the last axis takes place `c` of a line from. -/
def place (cmp : BitVec 32 → BitVec 32 → BitVec 1) (x : S32x16x256.Idx → BitVec 32) (b : Fin 32) (e : Fin 16) (c : Fin 256) : Fin 256 :=
  sortedFrom (fun k k' : Fin 256 => cmp (x (ix3 b e k)) (x (ix3 b e k')) == 1#1) c

theorem place_bijective (cmp : BitVec 32 → BitVec 32 → BitVec 1) (x : S32x16x256.Idx → BitVec 32) (b : Fin 32) (e : Fin 16) :
    Function.Bijective (place cmp x b e) := ⟨sortedFrom_injective _, sortedFrom_surjective _⟩

theorem sort_line (cmp : BitVec 32 → BitVec 32 → BitVec 1) (x : S32x16x256.Idx → BitVec 32) (b : Fin 32) (e : Fin 16) (c : Fin 256) :
    Host.sort S32x16x256 2 cmp x (ix3 b e c) = x (ix3 b e (place cmp x b e c)) := by
  rw [Host.sort_eq_sortBy]
  exact sortBy_last _ _ _ _ _ _

/-- The gather of the chosen tokens' rows, at an index whose word names token `t`. -/
theorem gather_rows {α : Type} (x : S32x2048x1024.Idx → α) (idx : IVec S16x32x256x1 32) (e : Fin 16) (b : Fin 32) (c : Fin 256)
    (d : Fin 1024) (t : Fin 2048) (h : idx (ix4 e b c 0) = BitVec.ofNat 32 t.val) :
    Host.gather gather_S32x2048x1024_S16x32x256x1_S16x32x256x1024_3_1_0_1_1_3_111024 x idx (ix4 e b c d) = x (ix3 b t d) := by
  have ht : (BitVec.ofNat 32 t.val).toInt.toNat = t.val := by
    rw [BitVec.toInt_ofNat']
    have := t.isLt
    simp only [Int.bmod]
    omega
  refine congrArg x (funext fun i => Fin.ext ?_)
  match i with
  | ⟨0, _⟩ => exact Nat.zero_add _
  | ⟨1, _⟩ =>
    have hi : gather_S32x2048x1024_S16x32x256x1_S16x32x256x1024_3_1_0_1_1_3_111024.siIdx (ix4 e b c d) ⟨0, by decide⟩ = ix4 e b c 0 := by
      funext a
      match a with
      | ⟨0, _⟩ => rfl
      | ⟨1, _⟩ => rfl
      | ⟨2, _⟩ => rfl
      | ⟨3, _⟩ => rfl
    show min (idx (gather_S32x2048x1024_S16x32x256x1_S16x32x256x1024_3_1_0_1_1_3_111024.siIdx (ix4 e b c d) ⟨0, _⟩)).toInt.toNat 2047 + 0 = t.val
    rw [hi, h, ht]
    have := t.isLt
    omega
  | ⟨2, _⟩ => exact Nat.zero_add _

/-- A row of the updates lands on the row that its word names. -/
theorem lands (idx : IVec S131072x1 32) (u : Fin 131072) (d : Fin 1024) (r : Fin 65536) (f : Fin 1024) :
    scatter_S65536x1024_S131072x1_S131072x1024_1_0_0_1.resultIdx? (ix2 u d) idx = some (ix2 r f)
      ↔ (idx (ix2 u 0)).toInt = (r.val : Int) ∧ d = f := by
  rw [Routing.resultIdx?_eq_some]
  have hi : scatter_S65536x1024_S131072x1_S131072x1024_1_0_0_1.siIdx (ix2 u d) ⟨0, by decide⟩ = ix2 u 0 := by
    funext a
    match a with
    | ⟨0, _⟩ => rfl
    | ⟨1, _⟩ => rfl
  have h0 : scatter_S65536x1024_S131072x1_S131072x1024_1_0_0_1.start (ix2 u d) idx (0 : Fin 2) = (idx (ix2 u 0)).toInt := by
    rw [← hi]; rfl
  have h1 : scatter_S65536x1024_S131072x1_S131072x1024_1_0_0_1.start (ix2 u d) idx (1 : Fin 2) = 0 := rfl
  have w0 : scatter_S65536x1024_S131072x1_S131072x1024_1_0_0_1.window (ix2 u d) (0 : Fin 2) = 0 := rfl
  have w1 : scatter_S65536x1024_S131072x1_S131072x1024_1_0_0_1.window (ix2 u d) (1 : Fin 2) = d.val := rfl
  constructor
  · intro h
    have a0 := h (0 : Fin 2)
    have a1 := h (1 : Fin 2)
    rw [h0, w0] at a0
    rw [h1, w1] at a1
    exact ⟨by simpa using a0, Fin.ext (by have : ((d.val : Int)) = (f.val : Int) := by simpa using a1
                                          exact_mod_cast this)⟩
  · rintro ⟨h, rfl⟩ a
    match a with
    | ⟨0, _⟩ => exact (by rw [h0, w0]; simpa using h :
        scatter_S65536x1024_S131072x1_S131072x1024_1_0_0_1.start (ix2 u d) idx (0 : Fin 2)
          + ((scatter_S65536x1024_S131072x1_S131072x1024_1_0_0_1.window (ix2 u d) (0 : Fin 2) : Nat) : Int) = (r.val : Int))
    | ⟨1, _⟩ => exact (by rw [h1, w1]; simp :
        scatter_S65536x1024_S131072x1_S131072x1024_1_0_0_1.start (ix2 u d) idx (1 : Fin 2)
          + ((scatter_S65536x1024_S131072x1_S131072x1024_1_0_0_1.window (ix2 u d) (1 : Fin 2) : Nat) : Int) = (d.val : Int))

/-- The accumulating scatter at an entry: the operand's entry and the updates of the rows that name it. -/
theorem scatter_rows (x : FVec Ideal S65536x1024 .f32) (idx : IVec S131072x1 32) (upd : FVec Ideal S131072x1024 .f32)
    (r : Fin 65536) (d : Fin 1024) :
    Host.scatterAdd scatter_S65536x1024_S131072x1_S131072x1024_1_0_0_1 x idx upd (ix2 r d)
      = x (ix2 r d) + ∑ u : Fin 131072, if (idx (ix2 u 0)).toInt = (r.val : Int) then upd (ix2 u d) else (0 : EReal) := by
  refine congrArg (x (ix2 r d) + ·) ?_
  refine (Finset.sum_filter _ _).trans ?_
  refine (sum_idx2 (M := EReal) _).trans ?_
  refine Finset.sum_congr rfl fun u _ => ?_
  rw [Finset.sum_eq_single d]
  · simp only [lands, and_true]
  · intro f _ hf
    rw [if_neg]
    rw [lands]
    exact fun h => hf h.2
  · intro h
    exact absurd (Finset.mem_univ _) h

end Cert.Proof.Rows

end
-- ==== Proof.Ref.lean ====
module

public import proofs.«01_k».proof.Proof.Gen.ReferenceIdeal.Run
public import proofs.«01_k».proof.Proof.Rows
public import proofs.«01_k».proof.Proof.Spec
public import Idealize.ShloMosaic.Lib.Tactic.CleanTypes
public import Idealize.ShloMosaic.Lib.WordArith

/-!
The reference's result at an index: the residual and, scaled, the sum over the places at which the token stands.
-/

@[expose] public section

set_option maxRecDepth 16384

noncomputable section

namespace Cert.Proof.Ref

open Idealize.ShloMosaic Idealize.ShloMosaic.TcCoe Cert.ReferenceIdeal Cert.ReferenceIdeal.Gen

/-- A small word is not negative, and the wrap of negative words leaves it. -/
theorem wrap_small (n : Nat) (h : n < 2 ^ 31) (y : BitVec 32) :
    Scalar.select (IntOp.cmpi .slt (BitVec.ofNat 32 n) 0#32) y (BitVec.ofNat 32 n) = BitVec.ofNat 32 n :=
  Routing.wrap_of_lt _ _ (by rw [BitVec.toNat_ofNat]; omega)

/-- The gather whose words are the chosen tokens' numbers, wrapped where negative, at an index. -/
theorem gather_at (x : S32x2048x1024.Idx → EReal) (v : IVec S32x16x256 32) (tok : Spec.Lists)
    (hv : ∀ b e c, v (ix3 b e c) = BitVec.ofNat 32 (tok b e c).val) (e : Fin 16) (b : Fin 32) (c : Fin 256) (k : Fin 1024) :
    Host.gather gather_S32x2048x1024_S16x32x256x1_S16x32x256x1024_3_1_0_1_1_3_111024 x
      (broadcastInDim S16x32x256x1 ![0, 1, 2] bcast_S16x32x256_S16x32x256x1_0_1_2
        (select
          (cmpi .slt (transpose S16x32x256 [1, 0, 2] v transposes_S32x16x256_S16x32x256_1_0_2)
            (broadcastInDim S16x32x256 ![] bcast_S_S16x32x256 (constantI S_ 32 0#32)))
          (addi (transpose S16x32x256 [1, 0, 2] v transposes_S32x16x256_S16x32x256_1_0_2)
            (broadcastInDim S16x32x256 ![] bcast_S_S16x32x256 (constantI S_ 32 2048#32)))
          (transpose S16x32x256 [1, 0, 2] v transposes_S32x16x256_S16x32x256_1_0_2))) (ix4 e b c k)
      = x (ix3 b (tok b e c) k) := by
  refine Rows.gather_rows _ _ _ _ _ _ _ ?_
  pointwise
  rw [hv, wrap_small _ (by have := (tok b e c).isLt; omega)]

/-- The number of a token's row among the rows of all sequences, as a word. -/
theorem row_word (b t : Nat) :
    IntOp.addi (IntOp.muli (BitVec.ofNat 32 b) 2048#32) (BitVec.ofNat 32 t) = BitVec.ofNat 32 (b * 2048 + t) := by
  show BitVec.ofNat 32 b * BitVec.ofNat 32 2048 + BitVec.ofNat 32 t = _
  rw [← BitVec.ofNat_mul, ← BitVec.ofNat_add]

/-- The scatter's word names the row of the token in the place's own sequence. -/
theorem word_eq_iff (b' b : Fin 32) (t' t : Fin 2048) (y : BitVec 32) (w : BitVec 32) (hw : w = BitVec.ofNat 32 t'.val) :
    (Scalar.select (IntOp.cmpi .slt (IntOp.addi (IntOp.muli (BitVec.ofNat 32 b'.val) 2048#32) w) 0#32) y
      (IntOp.addi (IntOp.muli (BitVec.ofNat 32 b'.val) 2048#32) w)).toInt = ((b.val * 2048 + t.val : Nat) : Int)
      ↔ b' = b ∧ t' = t := by
  have := b'.isLt
  have := t'.isLt
  have := t.isLt
  rw [hw, row_word, wrap_small _ (by omega), WordArith.toInt_ofNat_small _ (by omega), Fin.ext_iff, Fin.ext_iff]
  omega

/-- The order by which the selection takes the greatest entries. -/
abbrev gt : EReal → EReal → BitVec 1 := FloatOps.cmpfTotal (F := Ideal) (φ := .f32) CmpDirection.gt

set_option maxHeartbeats 2000000 in
/-- The reference's result at an index. -/
theorem ref_at (m : (ℓ : Loc nD τ sig) → Buf (Elt Ideal) ℓ) (c : Dev nD) {A : Spec.Aff} {H X : Spec.Tokens}
    {M : (⟨2, ![32, 6144]⟩ : Shape).Idx → EReal} {Wg Wu : Spec.WIn} {Wd : Spec.WOut}
    (hA : m (c.tc.loc main_arg1) = A) (hH : m (c.tc.loc main_arg2) = H) (hX : m (c.tc.loc main_arg3) = X)
    (hM : m (c.tc.loc main_arg4) = M) (hg : m (c.tc.loc main_arg5) = Wg) (hu : m (c.tc.loc main_arg6) = Wu)
    (hd : m (c.tc.loc main_arg7) = Wd) (b : Fin 32) (t : Fin 2048) (d : Fin 1024) :
    Value.res_out0 m c (ix3 b t d)
      = X (ix3 b t d) + M (ix2 b ⟨5120 + d.val, by omega⟩) * Spec.mix H A Wg Wu Wd (Rows.chosen gt A) b t d := by
  unfold Value.res_out0 Value.res_main_v43
  clean_types
  rw [hA, hH, hX, hM, hg, hu, hd]
  pointwise
  rw [Rows.scatter_rows]
  pointwise
  have hv := Rows.topK_tokens gt A sliceFits_S32x16x2048_S32x16x256
  have hx := Rows.topK_values gt A sliceFits_S32x16x2048_S32x16x256
  simp only [gather_at _ _ _ hv]
  refine congrArg (fun s : EReal => X (ix3 b t d) + M (ix2 b ⟨5120 + d.val, by omega⟩) * s) ?_
  refine (Sums.sum_rows (m := 16) (n := 8192) rfl _).trans ?_
  unfold Spec.mix
  refine Finset.sum_congr rfl fun e _ => ?_
  refine (Sums.sum_rows (m := 32) (n := 256) rfl _).trans ?_
  have q1 : ∀ (b' : Fin 32) (k : Fin 256), (e.val * 8192 + (b'.val * 256 + k.val)) / 8192 = e.val := fun b' k => by omega
  have q2 : ∀ (b' : Fin 32) (k : Fin 256), (e.val * 8192 + (b'.val * 256 + k.val)) / 256 % 32 = b'.val := fun b' k => by omega
  have q3 : ∀ (b' : Fin 32) (k : Fin 256), (e.val * 8192 + (b'.val * 256 + k.val)) % 256 = k.val := fun b' k => by omega
  rw [Finset.sum_eq_single b]
  · refine Finset.sum_congr rfl fun k _ => ?_
    dsimp only
    simp only [q1, q2, q3, Fin.eta]
    refine (if_congr (word_eq_iff b b _ t _ _ (hv b e k)) rfl rfl).trans ?_
    by_cases ht : Rows.chosen gt A b e k = t
    · rw [if_pos ⟨rfl, ht⟩, if_pos ht, hx, ht]
      rfl
    · rw [if_neg (fun h => ht h.2), if_neg ht]
  · intro b' _ hb
    refine Finset.sum_eq_zero fun k _ => ?_
    dsimp only
    simp only [q1, q2, q3, Fin.eta]
    exact if_neg fun h => hb ((word_eq_iff b' b _ t _ _ (hv b' e k)).1 h).1
  · exact fun h => absurd (Finset.mem_univ _) h

end Cert.Proof.Ref

end
-- ==== Proof.Given.lean ====
module

public import proofs.«01_k».proof.Proof.Ref
public import Idealize.ShloMosaic.Lib.ReduceAll
public import Idealize.ShloMosaic.Lib.Affine

/-!
What the precondition says: the routing table holds, for each expert, the numbers of its chosen tokens counted in the order
of the sequence, and the arrays the experts compute with are finite.
-/

@[expose] public section

set_option maxRecDepth 16384

noncomputable section

namespace Cert.Proof.Given

open Idealize.ShloMosaic Cert.Pre_routed_and_finite Cert.Pre_routed_and_finite.Facts

/-- The side conditions of the precondition's operations. -/
instance facts : Cert.Pre_routed_and_finite.Facts := by constructor <;> decide

/-- The place, in the selection's list, of the token that comes `s`-th in the sequence. -/
def slot (A : Spec.Aff) (b : Fin 32) (e : Fin 16) : Fin 256 → Fin 256 :=
  Rows.place comparator_i32_d2 (Host.topK S32x16x256 2 Ref.gt A sliceFits_S32x16x2048_S32x16x256).2 b e

theorem slot_bijective (A : Spec.Aff) (b : Fin 32) (e : Fin 16) : Function.Bijective (slot A b e) :=
  Rows.place_bijective comparator_i32_d2 (Host.topK S32x16x256 2 Ref.gt A sliceFits_S32x16x2048_S32x16x256).2 b e

/-- The token that comes `s`-th among the chosen ones. -/
def row (A : Spec.Aff) : Spec.Lists := fun b e s => Rows.chosen Ref.gt A b e (slot A b e s)

theorem row_eq (A : Spec.Aff) (b : Fin 32) (e : Fin 16) (s : Fin 256) : row A b e s = Rows.chosen Ref.gt A b e (slot A b e s) := by
  unfold row
  exact Eq.refl _

/-- An `and` of two scalar bits. -/
theorem both {p q : IVec S_ 1} (h : andi p q = fun _ => 1#1) : p = (fun _ => 1#1) ∧ q = (fun _ => 1#1) :=
  ⟨funext fun i => (IntOp.andi_eq_one.mp (congrFun h i)).1, funext fun i => (IntOp.andi_eq_one.mp (congrFun h i)).2⟩

/-- Two comparisons with the same outcome: the two equalities are equivalent. -/
theorem same_bit {n k : ℕ} {p q : BitVec n} {r s : BitVec k} (h : IntOp.cmpi .eq p q = IntOp.cmpi .eq r s) : p = q ↔ r = s := by
  rw [← StableHlo.Predicate.cmpi_eq_iff, h, StableHlo.Predicate.cmpi_eq_iff]

/-- All entries are below infinity in absolute value: all are real numbers. -/
theorem finite {s : Shape} {axes : List (Fin s.rank)} {hb : S_.BroadcastsInDim s ![]} {hr : s.ReducesTo axes S_} {x : FVec Ideal s .f32}
    (h : Host.reduce IntOp.andi (cmpf .olt (Host.absf x) (broadcastInDim s ![] hb (constant S_ .f32 0x7F800000#32))) (constantI S_ 1 1#1) hr h_S_
      = fun _ => 1#1) (i : s.Idx) : Sums.IsNum (x i) := by
  have h1 := Host.reduce_andi_all _ _ hr h_S_ _ (congrFun h (Shape.Idx.first h_S_)) i
  have top : Ideal.ofBits .f32 0x7F800000#32 = ⊤ := by simp [Ideal.ofBits, Ideal.ieee]
  have h2 : Ideal.cmp .olt (max (x i) (-(x i))) ⊤ = 1#1 := top ▸ h1
  exact Sums.isNum_of_abs (of_decide_eq_true ((StableHlo.Predicate.ofBool_eq_one_iff _).mp h2))

/-- What the precondition gives, array by array. -/
theorem all {S : IVec S32x16x2048 32} {A : Spec.Aff} {H X : Spec.Tokens} {M : (⟨2, ![32, 6144]⟩ : Shape).Idx → EReal}
    {Wg Wu : Spec.WIn} {Wd : Spec.WOut} (h : fn (F := Ideal) S A H X M Wg Wu Wd = fun _ => 1#1) :
    (∀ b e (s : Fin 256) (t : Fin 2048), S (ix3 b e t) = BitVec.ofNat 32 s.val ↔ row A b e s = t)
      ∧ (∀ i, Sums.IsNum (A i)) ∧ (∀ i, Sums.IsNum (H i)) ∧ (∀ (b : Fin 32) (d : Fin 1024), Sums.IsNum (M (ix2 b ⟨5120 + d.val, by omega⟩)))
      ∧ (∀ i, Sums.IsNum (Wg i)) ∧ (∀ i, Sums.IsNum (Wu i)) ∧ (∀ i, Sums.IsNum (Wd i)) := by
  unfold fn fn_part1 fn_part2 fn_sort at h
  dsimp only at h
  obtain ⟨h, hd⟩ := both h
  obtain ⟨h, hu⟩ := both h
  obtain ⟨h, hg⟩ := both h
  obtain ⟨h, hm⟩ := both h
  obtain ⟨h, hh⟩ := both h
  obtain ⟨h, ha⟩ := both h
  refine ⟨fun b e s t => ?_, finite ha, finite hh, fun b d => ?_, finite hg, finite hu, finite hd⟩
  · have h1 := Host.reduce_andi_all _ _ _ h_S_ _ (congrFun h (Shape.Idx.first h_S_)) (ix4 b e s t)
    clear h
    pointwise at h1
    have hs := (Rows.sort_line comparator_i32_d2
      (Host.topK S32x16x256 2 Ref.gt A sliceFits_S32x16x2048_S32x16x256).2 b e s).trans
      (Rows.topK_tokens Ref.gt A sliceFits_S32x16x2048_S32x16x256 b e (slot A b e s))
    refine (same_bit (StableHlo.Predicate.cmpi_eq_iff.mp h1)).trans ?_
    refine (iff_of_eq (congrArg (· = BitVec.ofNat 32 t.val) hs)).trans ?_
    constructor
    · intro h4
      have h5 := congrArg BitVec.toNat h4
      rw [BitVec.toNat_ofNat, BitVec.toNat_ofNat] at h5
      have := (row A b e s).isLt
      have := t.isLt
      refine Fin.ext ?_
      show (Rows.chosen Ref.gt A b e (slot A b e s)).val = t.val
      have : (Rows.chosen Ref.gt A b e (slot A b e s)).val < 2048 := Fin.isLt _
      omega
    · intro h4
      rw [← h4]
      rfl
  · have h1 := finite hm (ix2 b d)
    pointwise at h1
    exact h1

end Cert.Proof.Given

end
-- ==== Proof.Meet.lean ====
module

public import proofs.«01_k».proof.Proof.Acc
public import proofs.«01_k».proof.Proof.Given

/-!
The two programs meet: the residual with all experts' parts, which the kernel leaves, is the reference's value.
-/

@[expose] public section

set_option maxRecDepth 16384

noncomputable section

namespace Cert.Proof.Meet

open Idealize.ShloMosaic Idealize.SL.Sem

/-- An index is its three coordinates. -/
theorem index_eq (i : (⟨3, ![32, 2048, 1024]⟩ : Shape).Idx) : i = ix3 (i 0) (i 1) (i 2) := by
  funext a; match a with | ⟨0, _⟩ => rfl | ⟨1, _⟩ => rfl | ⟨2, _⟩ => rfl

/-- All the experts' parts are the gate times the mixture. -/
theorem parts {A : Spec.Aff} {H : Spec.Tokens} {M : Vec Ideal Cert.KernelIdeal.S32x6144 .f32} {Wg Wu : Spec.WIn} {Wd : Spec.WOut}
    (hA : ∀ i, Sums.IsNum (A i)) (hH : ∀ i, Sums.IsNum (H i)) (hM : ∀ (b : Fin 32) (d : Fin 1024), Sums.IsNum (Acc.gate M b d))
    (hg : ∀ i, Sums.IsNum (Wg i)) (hu : ∀ i, Sums.IsNum (Wu i)) (hd : ∀ i, Sums.IsNum (Wd i))
    (b : Fin 32) (t : Fin 2048) (d : Fin 1024) :
    (∑ e ∈ Finset.range 16, Acc.part A H M Wg Wu Wd (Given.row A) b t d e)
      = Acc.gate M b d * Spec.mix H A Wg Wu Wd (Rows.chosen Ref.gt A) b t d := by
  rw [Finset.sum_range]
  refine (Finset.sum_congr rfl fun e _ => Acc.part_expert A H M Wg Wu Wd (Given.row A) b t d e).trans ?_
  exact Spec.mix_scaled hH hA hg hu hd (Rows.chosen Ref.gt A) (Given.row A) b (fun e => Given.slot A b e)
    (fun e => Given.slot_bijective A b e) (fun e s => Given.row_eq A b e s) t d (hM b d)

/-- Under the precondition, with equal arguments, the reference's result is the kernel's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    {S : IVec Cert.KernelIdeal.S32x16x2048 32} {A : Spec.Aff} {H X : Spec.Tokens} {M : Vec Ideal Cert.KernelIdeal.S32x6144 .f32}
    {Wg Wu : Spec.WIn} {Wd : Spec.WOut}
    (hS : m (c.tc.loc Cert.KernelIdeal.main_arg0) = S) (hA : m (c.tc.loc Cert.KernelIdeal.main_arg1) = A)
    (hH : m (c.tc.loc Cert.KernelIdeal.main_arg2) = H) (hX : m (c.tc.loc Cert.KernelIdeal.main_arg3) = X)
    (hM : m (c.tc.loc Cert.KernelIdeal.main_arg4) = M) (hg : m (c.tc.loc Cert.KernelIdeal.main_arg5) = Wg)
    (hu : m (c.tc.loc Cert.KernelIdeal.main_arg6) = Wu) (hd : m (c.tc.loc Cert.KernelIdeal.main_arg7) = Wd)
    (hA' : m' (c.tc.loc Cert.ReferenceIdeal.main_arg1) = A)
    (hH' : m' (c.tc.loc Cert.ReferenceIdeal.main_arg2) = H) (hX' : m' (c.tc.loc Cert.ReferenceIdeal.main_arg3) = X)
    (hM' : m' (c.tc.loc Cert.ReferenceIdeal.main_arg4) = M) (hg' : m' (c.tc.loc Cert.ReferenceIdeal.main_arg5) = Wg)
    (hu' : m' (c.tc.loc Cert.ReferenceIdeal.main_arg6) = Wu) (hd' : m' (c.tc.loc Cert.ReferenceIdeal.main_arg7) = Wd)
    (hpre : Cert.Pre_routed_and_finite.fn (F := Ideal) S A H X M Wg Wu Wd = fun _ => 1#1) :
    Cert.ReferenceIdeal.Value.res_out0 m' c = (Cert.KernelIdeal.Gen.dats m 0 c).arrAt 8 Cert.KernelIdeal.cfg0.N := by
  obtain ⟨hrow, fA, fH, fM, fg, fu, fd⟩ := Given.all hpre
  rw [Acc.final m c hS hA hH hX hM hg hu hd (Given.row A) hrow]
  funext i
  refine Eq.trans (congrArg _ (index_eq i)) ((Ref.ref_at m' c hA' hH' hX' hM' hg' hu' hd' (i 0) (i 1) (i 2)).trans ?_)
  exact congrArg (X (ix3 (i 0) (i 1) (i 2)) + ·) (parts fA fH fM fg fu fd (i 0) (i 1) (i 2)).symm
    |>.trans (congrArg (· + _) (congrArg X rfl))

end Cert.Proof.Meet

end
-- ==== Proof.ProjRun.lean ====
module

public import proofs.«01_k».proof.Proof.Gen.Kernel2Ideal.Frame

/-!
A run of the projections' program ends with every buffer outside the regions at the contents that the last stretch of the
program leaves. The launch's set-up is the frame's; only what is read off the last state differs.
-/

@[expose] public section

set_option maxRecDepth 16384

noncomputable section

namespace Cert.Proof.ProjRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the regions ends at what the last stretch leaves in it. -/
theorem ends : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Proof.ProjRun

end
-- ==== Proof.ProjSpec.lean ====
module

public import Idealize.ShloMosaic.Lib.Pointwise

/-!
The modulation of a conditioning row, the normed and modulated token, and its projection, on extended reals.
-/

@[expose] public section

noncomputable section

namespace Cert.Proof.ProjSpec

open Idealize.ShloMosaic

/-- The gate `z / (1 + e⁻ᶻ)`. -/
def silu (z : EReal) : EReal := z * Ideal.div 1 (1 + Ideal.exp (-z))

/-- Entry `j` of the modulation that a conditioning row gives. -/
def modulation (C : Fin 1024 → EReal) (W : (⟨3, ![1, 1024, 6144]⟩ : Shape).Idx → EReal) (B : (⟨2, ![1, 6144]⟩ : Shape).Idx → EReal)
    (j : Fin 6144) : EReal := (∑ k : Fin 1024, silu (C k) * W (ix3 0 k j)) + B (ix2 0 j)

/-- The token divided by the root of its mean square, scaled by `g`, then by `1 + sc`, and shifted by `sh`. -/
def hid (x g sh sc : Fin 1024 → EReal) (k : Fin 1024) : EReal :=
  x k * Ideal.rsqrt (Ideal.div (∑ i : Fin 1024, x i * x i) (Ideal.ofBits .f32 0x44800000#32) + Ideal.ofBits .f32 0x358637BD#32) * g k
    * (1 + sc k) + sh k

/-- Column `j` of the token's projection. -/
def proj (h : Fin 1024 → EReal) (W : (⟨3, ![1, 1024, 4736]⟩ : Shape).Idx → EReal) (j : Fin 4736) : EReal :=
  ∑ k : Fin 1024, h k * W (ix3 0 k j)

/-- Entry `e` of six, at place `k`, of a modulation. -/
def part (e : Fin 6) (k : Fin 1024) : Fin 6144 := ⟨e.val * 1024 + k.val, by omega⟩

/-- A token's projection under the modulation of a conditioning row. -/
def token (x : Fin 1024 → EReal) (C : Fin 1024 → EReal) (Wa : (⟨3, ![1, 1024, 6144]⟩ : Shape).Idx → EReal)
    (Ba : (⟨2, ![1, 6144]⟩ : Shape).Idx → EReal) (G : (⟨2, ![1, 1024]⟩ : Shape).Idx → EReal)
    (W : (⟨3, ![1, 1024, 4736]⟩ : Shape).Idx → EReal) (j : Fin 4736) : EReal :=
  proj (hid x (fun k => G (ix2 0 k)) (fun k => modulation C Wa Ba (part 0 k)) fun k => modulation C Wa Ba (part 1 k)) W j

end Cert.Proof.ProjSpec

end
-- ==== Proof.ProjBody.lean ====
module

public import proofs.«01_k».proof.Proof.Gen.Kernel2Ideal.Skeleton
public import proofs.«01_k».proof.Proof.ProjSpec
public import Idealize.ShloMosaic.Lib.Tactic.CleanTypes

/-!
What the three kernels' bodies compute, read at an index.
-/

@[expose] public section

set_option maxRecDepth 16384

noncomputable section

namespace Cert.Proof.ProjBody

open Idealize.ShloMosaic Cert.Kernel2Ideal Cert.Kernel2Ideal.Gen

/-- The modulation's block. -/
theorem mod_at (v0 : Vec Ideal S40x1024 .f32) (v10 : Vec Ideal S1024x512 .f32) (v13 : Vec Ideal S1x512 .f32) (r : Fin 40) (j : Fin 512) :
    (k0_pay1 v0 v10 v13 (ix2 r j) : EReal) = (∑ k : Fin 1024, ProjSpec.silu (v0 (ix2 r k)) * v10 (ix2 k j)) + v13 (ix2 0 j) := by
  unfold k0_pay1
  pointwise
  simp only [zero_sub]
  rfl

variable {v0 : Vec Ideal S1x256x1024 .f32} {v12 : Vec Ideal S1x1024 .f32} {v16 v18 : Vec Ideal S1x1x1024 .f32}

/-- The normed and modulated tokens of a block. -/
theorem hid1_at (t : Fin 256) (k : Fin 1024) :
    (k1_pay5 v0 v12 v16 v18 (ix2 t k) : EReal)
      = ProjSpec.hid (fun k => v0 (ix3 0 t k)) (fun k => v12 (ix2 0 k)) (fun k => v16 (ix3 0 0 k)) (fun k => v18 (ix3 0 0 k)) k := by
  unfold k1_pay5
  pointwise
  rfl

theorem hid2_at (t : Fin 256) (k : Fin 1024) :
    (k2_pay3 v0 v12 v16 v18 (ix2 t k) : EReal)
      = ProjSpec.hid (fun k => v0 (ix3 0 t k)) (fun k => v12 (ix2 0 k)) (fun k => v16 (ix3 0 0 k)) (fun k => v18 (ix3 0 0 k)) k := hid1_at t k

theorem out1_6_at (w : Vec Ideal S1024x1536 .bf16) (t : Fin 256) (j : Fin 1536) :
    (k1_pay6 v0 v12 v16 v18 w (ix3 0 t j) : EReal) = ∑ k : Fin 1024, k1_pay5 v0 v12 v16 v18 (ix2 t k) * w (ix2 k j) := by
  unfold k1_pay6
  pointwise

theorem out2_4_at (w : Vec Ideal S1024x1536 .bf16) (t : Fin 256) (j : Fin 1536) :
    (k2_pay4 v0 v12 v16 v18 w (ix3 0 t j) : EReal) = ∑ k : Fin 1024, k2_pay3 v0 v12 v16 v18 (ix2 t k) * w (ix2 k j) := by
  unfold k2_pay4
  pointwise

variable (h : FVec Ideal S256x1024 .bf16)

theorem out1_1_at (w : Vec Ideal S1024x384 .bf16) (t : Fin 256) (j : Fin 384) :
    (k1_pay1 h w (ix3 0 t j) : EReal) = ∑ k : Fin 1024, h (ix2 t k) * w (ix2 k j) := by
  unfold k1_pay1
  pointwise

theorem out1_2_at (w : Vec Ideal S1024x512 .bf16) (t : Fin 256) (j : Fin 512) :
    (k1_pay2 h w (ix3 0 t j) : EReal) = ∑ k : Fin 1024, h (ix2 t k) * w (ix2 k j) := by
  unfold k1_pay2
  pointwise

theorem out1_3_at (w : Vec Ideal S1024x256 .bf16) (t : Fin 256) (j : Fin 256) :
    (k1_pay3 h w (ix3 0 t j) : EReal) = ∑ k : Fin 1024, h (ix2 t k) * w (ix2 k j) := by
  unfold k1_pay3
  pointwise

theorem out1_4_at (w : Vec Ideal S1024x2048 .bf16) (t : Fin 256) (j : Fin 2048) :
    (k1_pay4 h w (ix3 0 t j) : EReal) = ∑ k : Fin 1024, h (ix2 t k) * w (ix2 k j) := by
  unfold k1_pay4
  pointwise

theorem out2_1_at (w : Vec Ideal S1024x384 .bf16) (t : Fin 256) (j : Fin 384) :
    (k2_pay1 h w (ix3 0 t j) : EReal) = ∑ k : Fin 1024, h (ix2 t k) * w (ix2 k j) := by
  unfold k2_pay1
  pointwise

theorem out2_2_at (w : Vec Ideal S1024x256 .bf16) (t : Fin 256) (j : Fin 256) :
    (k2_pay2 h w (ix3 0 t j) : EReal) = ∑ k : Fin 1024, h (ix2 t k) * w (ix2 k j) := by
  unfold k2_pay2
  pointwise

end Cert.Proof.ProjBody

end
-- ==== Proof.ProjMod.lean ====
module

public import proofs.«01_k».proof.Proof.Gen.Kernel2Ideal.Frame
public import proofs.«01_k».proof.Proof.ProjBody
public import Idealize.ShloMosaic.Lib.Pipeline.ReadBack
public import Idealize.ShloMosaic.Lib.Pipeline.ValueKit.Tiles

/-!
The table of modulations that the first call leaves: point `t` of its grid computes columns `512 t` to `512 t + 511` of every
row.
-/

@[expose] public section

set_option maxRecDepth 16384

noncomputable section

namespace Cert.Proof.ProjMod

open Idealize.ShloMosaic Idealize.ShloMosaic.TcCoe Cert.Kernel2Ideal Cert.Kernel2Ideal.Gen

theorem zero2 : (![0, 0] : Fin 2 → ℕ) = fun _ => 0 := by funext a; fin_cases a <;> rfl
theorem zero3 : (![0, 0, 0] : Fin 3 → ℕ) = fun _ => 0 := by funext a; fin_cases a <;> rfl

/-- Every index of a rank-two shape is named by its coordinates. -/
theorem eq_ix2 {m n : ℕ} (x : (⟨2, ![m, n]⟩ : Shape).Idx) : ∃ (r : Fin m) (d : Fin n), x = ix2 r d :=
  ⟨x 0, x 1, by
    refine funext fun a => ?_
    match a with
    | ⟨0, _⟩ => rfl
    | ⟨1, _⟩ => rfl⟩

theorem at0 : ∀ t : Fin grid0.N, win0_0.index t 0 = 0 ∧ win0_0.index t 1 = 0 := by decide +kernel
theorem at1 : ∀ t : Fin grid0.N, win0_1.index t 0 = 0 ∧ win0_1.index t 1 = t.val := by decide +kernel
theorem at2 : ∀ t : Fin grid0.N, win0_2.index t 0 = 0 ∧ win0_2.index t 1 = t.val := by decide +kernel
theorem at3 : ∀ t : Fin grid0.N, win0_3.index t 0 = 0 ∧ win0_3.index t 1 = t.val := by decide +kernel
theorem at3_size : ∀ t : Fin grid0.N, win0_3.xsize (grid0.coords t) 0 = 40 ∧ win0_3.xsize (grid0.coords t) 1 = 512 := by decide +kernel

variable (V : (c : Dev nD) → (b : Ref sig .tc) → Buf (Elt Ideal) ((c : Thread nD τ).loc b)) (c : Dev nD)
  {T : S40x1024.Idx → EReal} {Wm : S1024x6144.Idx → EReal} {Bm : S1x6144.Idx → EReal}

/-- The column of the table that a point computes at place `j` of its block. -/
def col (t : Fin cfg0.N) (j : Fin 512) : Fin 6144 := ⟨t.val * 512 + j.val, by
  have h : t.val < 12 := N_0 ▸ t.isLt
  omega⟩

theorem rows_at (hT : V c main_v4 = T) (t : Fin cfg0.N) (r : Fin 40) (k : Fin 1024) : iblk0 V c 0 t (ix2 r k) = T (ix2 r k) := by
  unfold iblk0
  rw [View.read_apply]
  refine (congrFun hT _).trans (congrArg T (funext fun a => Fin.ext ?_))
  match a with
  | ⟨0, _⟩ => show win0_0.index t 0 * 40 + 1 * r.val = r.val; rw [(at0 t).1]; omega
  | ⟨1, _⟩ => show win0_0.index t 1 * 1024 + 1 * k.val = k.val; rw [(at0 t).2]; omega

theorem weight_at (hW : V c main_v5 = Wm) (t : Fin cfg0.N) (k : Fin 1024) (j : Fin 512) : iblk0 V c 1 t (ix2 k j) = Wm (ix2 k (col t j)) := by
  unfold iblk0
  rw [View.read_apply]
  refine (congrFun hW _).trans (congrArg Wm (funext fun a => Fin.ext ?_))
  match a with
  | ⟨0, _⟩ => show win0_1.index t 0 * 1024 + 1 * k.val = k.val; rw [(at1 t).1]; omega
  | ⟨1, _⟩ => show win0_1.index t 1 * 512 + 1 * j.val = t.val * 512 + j.val; rw [(at1 t).2]; omega

theorem bias_at (hB : V c main_v7 = Bm) (t : Fin cfg0.N) (j : Fin 512) : iblk0 V c 2 t (ix2 0 j) = Bm (ix2 0 (col t j)) := by
  unfold iblk0
  rw [View.read_apply]
  refine (congrFun hB _).trans (congrArg Bm (funext fun a => Fin.ext ?_))
  match a with
  | ⟨0, _⟩ => show win0_2.index t 0 * 1 + 1 * 0 = 0; rw [(at2 t).1]
  | ⟨1, _⟩ => show win0_2.index t 1 * 512 + 1 * j.val = t.val * 512 + j.val; rw [(at2 t).2]; omega

/-- Entry `(r, j)` of the table. -/
def entry (T : S40x1024.Idx → EReal) (Wm : S1024x6144.Idx → EReal) (Bm : S1x6144.Idx → EReal) (r : Fin 40) (j : Fin 6144) : EReal :=
  (∑ k : Fin 1024, ProjSpec.silu (T (ix2 r k)) * Wm (ix2 k j)) + Bm (ix2 0 j)

/-- The table. -/
def table (T : S40x1024.Idx → EReal) (Wm : S1024x6144.Idx → EReal) (Bm : S1x6144.Idx → EReal) : Vec Ideal S40x6144 .f32 :=
  fun i => entry T Wm Bm (i 0) (i 1)

theorem left_at (hT : V c main_v4 = T) (hW : V c main_v5 = Wm) (hB : V c main_v7 = Bm) (t : Fin cfg0.N) (r : Fin 40) (j : Fin 512) :
    out0_3 (iblk0 V c 0 t) (iblk0 V c 1 t) (iblk0 V c 2 t) (ix2 r j) = entry T Wm Bm r (col t j) := by
  unfold out0_3
  refine (congrFun (View.canon_unit_zero (S := S40x512) zero2 _ _) _).trans ?_
  refine (ProjBody.mod_at _ _ _ r j).trans ?_
  have e0 (k : Fin 1024) : View.ld (iblk0 V c 0 t) r0_0 (ix2 r k) = T (ix2 r k) :=
    (congrFun (View.ld_unit_zero (S := S40x1024) zero2 _ _) _).trans (rows_at V c hT t r k)
  have e1 (k : Fin 1024) : View.ld (iblk0 V c 1 t) r0_1 (ix2 k j) = Wm (ix2 k (col t j)) :=
    (congrFun (View.ld_unit_zero (S := S1024x512) zero2 _ _) _).trans (weight_at V c hW t k j)
  have e2 : View.ld (iblk0 V c 2 t) r0_2 (ix2 0 j) = Bm (ix2 0 (col t j)) :=
    (congrFun (View.ld_unit_zero (S := S1x512) zero2 _ _) _).trans (bias_at V c hB t j)
  unfold entry
  refine congr (congrArg _ (Finset.sum_congr rfl fun k _ => ?_)) e2
  exact congr (congrArg _ (congrArg ProjSpec.silu (e0 k))) (e1 k)

theorem flushed_eq (hT : V c main_v4 = T) (hW : V c main_v5 = Wm) (hB : V c main_v7 = Bm) (p : Fin cfg0.N) :
    (dat0 V c).flushed 3 p = ((cfg0.win 3).blk p).view.read (Elt Ideal) (table T Wm Bm) := by
  show (cfg0.win 3).cut (grid0.coords p) ((dat0 V c).after 3 p) = _
  rw [after0_3]
  funext y
  obtain ⟨r, j, rfl⟩ := eq_ix2 (m := 40) (n := 512) y
  refine (left_at V c hT hW hB p r j).trans ?_
  rw [View.read_apply]
  have hi : (((cfg0.win 3).blk p).view.emb (ix2 r j) : S40x6144.Idx) = ix2 r (col p j) := by
    refine funext fun a => Fin.ext ?_
    match a with
    | ⟨0, _⟩ => show win0_3.index p 0 * 40 + 1 * r.val = r.val; rw [(at3 p).1]; omega
    | ⟨1, _⟩ => show win0_3.index p 1 * 512 + 1 * j.val = p.val * 512 + j.val; rw [(at3 p).2]; omega
  exact (congrArg (table T Wm Bm) hi).symm

/-- The array ends at the table. -/
theorem final (hT : V c main_v4 = T) (hW : V c main_v5 = Wm) (hB : V c main_v7 = Bm) :
    (dat0 V c).arrAt 3 cfg0.N = table T Wm Bm :=
  (dat0 V c).arrAt_eq_of_cover 3 (table T Wm Bm) (fun p _ => flushed_eq V c hT hW hB p) fun i => by
    have hb : (i 0 : Nat) < 40 := (i 0).isLt
    have ht : (i 1 : Nat) < 6144 := (i 1).isLt
    have hN : (i 1 : Nat) / 512 < cfg0.N := by show _ < grid0.N; rw [N_0]; omega
    refine ⟨⟨(i 1 : Nat) / 512, hN⟩, flush0_3 _, ?_⟩
    generalize hp : (⟨(i 1 : Nat) / 512, hN⟩ : Fin cfg0.N) = p
    have hv : p.val = (i 1 : Nat) / 512 := by rw [← hp]
    show i ∈ ((View.whole main_v8).slice (win0_3.rect p)).set
    rw [View.set_slice_whole, Rect.mem_set_unit]
    intro a
    match a with
    | ⟨0, _⟩ => show win0_3.index p 0 * 40 ≤ (i 0 : Nat) ∧ (i 0 : Nat) < win0_3.index p 0 * 40 + win0_3.xsize (grid0.coords p) 0
                rw [(at3 p).1, (at3_size p).1]; omega
    | ⟨1, _⟩ => show win0_3.index p 1 * 512 ≤ (i 1 : Nat) ∧ (i 1 : Nat) < win0_3.index p 1 * 512 + win0_3.xsize (grid0.coords p) 1
                rw [(at3 p).2, (at3_size p).2]; omega

end Cert.Proof.ProjMod

end
-- ==== Proof.ProjLat.lean ====
module

public import proofs.«01_k».proof.Proof.ProjMod

/-!
The second call: the five projections of the sequences' tokens. Point `t` of its grid works on sequence `t / 8` and on the
256 tokens from token `256 (t % 8)` on.
-/

@[expose] public section

set_option maxRecDepth 16384

noncomputable section

namespace Cert.Proof.ProjLat

open Idealize.ShloMosaic Idealize.ShloMosaic.TcCoe Cert.Kernel2Ideal Cert.Kernel2Ideal.Gen
open Cert.Proof.ProjMod (zero2 zero3)

/-- Every index of a rank-three shape with one block is named by its last two coordinates. -/
theorem eq_ix3 {m n : ℕ} (x : (⟨3, ![1, m, n]⟩ : Shape).Idx) : ∃ (r : Fin m) (d : Fin n), x = ix3 (0 : Fin 1) r d :=
  ⟨x 1, x 2, by
    refine funext fun a => ?_
    match a with
    | ⟨0, _⟩ => exact Subsingleton.elim (α := Fin 1) _ _
    | ⟨1, _⟩ => rfl
    | ⟨2, _⟩ => rfl⟩

theorem at0 : ∀ t : Fin grid1.N, win1_0.index t 0 = t.val / 8 ∧ win1_0.index t 1 = t.val % 8 ∧ win1_0.index t 2 = 0 := by decide +kernel
theorem at1 : ∀ t : Fin grid1.N, win1_1.index t 0 = t.val / 8 ∧ win1_1.index t 1 = 0 ∧ win1_1.index t 2 = 0 := by decide +kernel
theorem at2 : ∀ t : Fin grid1.N, win1_2.index t 0 = 0 ∧ win1_2.index t 1 = 0 := by decide +kernel
theorem at3 : ∀ t : Fin grid1.N, win1_3.index t 0 = 0 ∧ win1_3.index t 1 = 0 := by decide +kernel
theorem at4 : ∀ t : Fin grid1.N, win1_4.index t 0 = 0 ∧ win1_4.index t 1 = 0 := by decide +kernel
theorem at5 : ∀ t : Fin grid1.N, win1_5.index t 0 = 0 ∧ win1_5.index t 1 = 0 := by decide +kernel
theorem at6 : ∀ t : Fin grid1.N, win1_6.index t 0 = 0 ∧ win1_6.index t 1 = 0 := by decide +kernel
theorem at7 : ∀ t : Fin grid1.N, win1_7.index t 0 = 0 ∧ win1_7.index t 1 = 0 := by decide +kernel
theorem at8 : ∀ t : Fin grid1.N, win1_8.index t 0 = t.val / 8 ∧ win1_8.index t 1 = t.val % 8 ∧ win1_8.index t 2 = 0 := by decide +kernel
theorem size8 : ∀ t : Fin grid1.N, win1_8.xsize (grid1.coords t) 0 = 1 ∧ win1_8.xsize (grid1.coords t) 1 = 256
    ∧ win1_8.xsize (grid1.coords t) 2 = 1536 := by decide +kernel
theorem at9 : ∀ t : Fin grid1.N, win1_9.index t 0 = t.val / 8 ∧ win1_9.index t 1 = t.val % 8 ∧ win1_9.index t 2 = 0 := by decide +kernel
theorem size9 : ∀ t : Fin grid1.N, win1_9.xsize (grid1.coords t) 0 = 1 ∧ win1_9.xsize (grid1.coords t) 1 = 256
    ∧ win1_9.xsize (grid1.coords t) 2 = 384 := by decide +kernel
theorem at10 : ∀ t : Fin grid1.N, win1_10.index t 0 = t.val / 8 ∧ win1_10.index t 1 = t.val % 8 ∧ win1_10.index t 2 = 0 := by decide +kernel
theorem size10 : ∀ t : Fin grid1.N, win1_10.xsize (grid1.coords t) 0 = 1 ∧ win1_10.xsize (grid1.coords t) 1 = 256
    ∧ win1_10.xsize (grid1.coords t) 2 = 512 := by decide +kernel
theorem at11 : ∀ t : Fin grid1.N, win1_11.index t 0 = t.val / 8 ∧ win1_11.index t 1 = t.val % 8 ∧ win1_11.index t 2 = 0 := by decide +kernel
theorem size11 : ∀ t : Fin grid1.N, win1_11.xsize (grid1.coords t) 0 = 1 ∧ win1_11.xsize (grid1.coords t) 1 = 256
    ∧ win1_11.xsize (grid1.coords t) 2 = 256 := by decide +kernel
theorem at12 : ∀ t : Fin grid1.N, win1_12.index t 0 = t.val / 8 ∧ win1_12.index t 1 = t.val % 8 ∧ win1_12.index t 2 = 0 := by decide +kernel
theorem size12 : ∀ t : Fin grid1.N, win1_12.xsize (grid1.coords t) 0 = 1 ∧ win1_12.xsize (grid1.coords t) 1 = 256
    ∧ win1_12.xsize (grid1.coords t) 2 = 2048 := by decide +kernel

/-- The sequence of a grid point. -/
def batch (t : Fin cfg1.N) : Fin 32 := ⟨t.val / 8, by have h : t.val < 256 := N_1 ▸ t.isLt; omega⟩

/-- The token that a grid point works on at place `r` of its block. -/
def token (t : Fin cfg1.N) (r : Fin 256) : Fin 2048 := ⟨t.val % 8 * 256 + r.val, by omega⟩

variable (V : (c : Dev nD) → (b : Ref sig .tc) → Buf (Elt Ideal) ((c : Thread nD τ).loc b)) (c : Dev nD)
  {X : S32x2048x1024.Idx → EReal} {M : S32x6x1024.Idx → EReal} {G : S1x1024.Idx → EReal}

theorem tok_at (hX : V c main_arg0 = X) (t : Fin cfg1.N) (r : Fin 256) (k : Fin 1024) :
    iblk1 V c 0 t (ix3 0 r k) = X (ix3 (batch t) (token t r) k) := by
  unfold iblk1
  rw [View.read_apply]
  refine (congrFun hX _).trans (congrArg X (funext fun a => Fin.ext ?_))
  match a with
  | ⟨0, _⟩ => show win1_0.index t 0 * 1 + 1 * 0 = t.val / 8; rw [(at0 t).1]; omega
  | ⟨1, _⟩ => show win1_0.index t 1 * 256 + 1 * r.val = t.val % 8 * 256 + r.val; rw [(at0 t).2.1]; omega
  | ⟨2, _⟩ => show win1_0.index t 2 * 1024 + 1 * k.val = k.val; rw [(at0 t).2.2]; omega

/-- The modulation's row for a grid point. -/
def lane (t : Fin cfg1.N) : Fin 32 := batch t

theorem mod_at (hM : V c main_v10 = M) (t : Fin cfg1.N) (e : Fin 6) (k : Fin 1024) : iblk1 V c 1 t (ix3 0 e k) = M (ix3 (lane t) e k) := by
  unfold iblk1
  rw [View.read_apply]
  refine (congrFun hM _).trans (congrArg M (funext fun a => Fin.ext ?_))
  match a with
  | ⟨0, _⟩ => show win1_1.index t 0 * 1 + 1 * 0 = t.val / 8; rw [(at1 t).1]; omega
  | ⟨1, _⟩ => show win1_1.index t 1 * 6 + 1 * e.val = e.val; rw [(at1 t).2.1]; omega
  | ⟨2, _⟩ => show win1_1.index t 2 * 1024 + 1 * k.val = k.val; rw [(at1 t).2.2]; omega

theorem gain_at (hG : V c main_v21 = G) (t : Fin cfg1.N) (k : Fin 1024) : iblk1 V c 2 t (ix2 0 k) = G (ix2 0 k) := by
  unfold iblk1
  rw [View.read_apply]
  refine (congrFun hG _).trans (congrArg G (funext fun a => Fin.ext ?_))
  match a with
  | ⟨0, _⟩ => show win1_2.index t 0 * 1 + 1 * 0 = 0; rw [(at2 t).1]
  | ⟨1, _⟩ => show win1_2.index t 1 * 1024 + 1 * k.val = k.val; rw [(at2 t).2]; omega

theorem w3_at {w : S1024x1536.Idx → EReal} (hw : V c main_v15 = w) (t : Fin cfg1.N) (k : Fin 1024) (j : Fin 1536) :
    iblk1 V c 3 t (ix2 k j) = w (ix2 k j) := by
  unfold iblk1
  rw [View.read_apply]
  refine (congrFun hw _).trans (congrArg w (funext fun a => Fin.ext ?_))
  match a with
  | ⟨0, _⟩ => show win1_3.index t 0 * 1024 + 1 * k.val = k.val; rw [(at3 t).1]; omega
  | ⟨1, _⟩ => show win1_3.index t 1 * 1536 + 1 * j.val = j.val; rw [(at3 t).2]; omega

theorem w4_at {w : S1024x384.Idx → EReal} (hw : V c main_v16 = w) (t : Fin cfg1.N) (k : Fin 1024) (j : Fin 384) :
    iblk1 V c 4 t (ix2 k j) = w (ix2 k j) := by
  unfold iblk1
  rw [View.read_apply]
  refine (congrFun hw _).trans (congrArg w (funext fun a => Fin.ext ?_))
  match a with
  | ⟨0, _⟩ => show win1_4.index t 0 * 1024 + 1 * k.val = k.val; rw [(at4 t).1]; omega
  | ⟨1, _⟩ => show win1_4.index t 1 * 384 + 1 * j.val = j.val; rw [(at4 t).2]; omega

theorem w5_at {w : S1024x512.Idx → EReal} (hw : V c main_v17 = w) (t : Fin cfg1.N) (k : Fin 1024) (j : Fin 512) :
    iblk1 V c 5 t (ix2 k j) = w (ix2 k j) := by
  unfold iblk1
  rw [View.read_apply]
  refine (congrFun hw _).trans (congrArg w (funext fun a => Fin.ext ?_))
  match a with
  | ⟨0, _⟩ => show win1_5.index t 0 * 1024 + 1 * k.val = k.val; rw [(at5 t).1]; omega
  | ⟨1, _⟩ => show win1_5.index t 1 * 512 + 1 * j.val = j.val; rw [(at5 t).2]; omega

theorem w6_at {w : S1024x256.Idx → EReal} (hw : V c main_v18 = w) (t : Fin cfg1.N) (k : Fin 1024) (j : Fin 256) :
    iblk1 V c 6 t (ix2 k j) = w (ix2 k j) := by
  unfold iblk1
  rw [View.read_apply]
  refine (congrFun hw _).trans (congrArg w (funext fun a => Fin.ext ?_))
  match a with
  | ⟨0, _⟩ => show win1_6.index t 0 * 1024 + 1 * k.val = k.val; rw [(at6 t).1]; omega
  | ⟨1, _⟩ => show win1_6.index t 1 * 256 + 1 * j.val = j.val; rw [(at6 t).2]; omega

theorem w7_at {w : S1024x2048.Idx → EReal} (hw : V c main_v19 = w) (t : Fin cfg1.N) (k : Fin 1024) (j : Fin 2048) :
    iblk1 V c 7 t (ix2 k j) = w (ix2 k j) := by
  unfold iblk1
  rw [View.read_apply]
  refine (congrFun hw _).trans (congrArg w (funext fun a => Fin.ext ?_))
  match a with
  | ⟨0, _⟩ => show win1_7.index t 0 * 1024 + 1 * k.val = k.val; rw [(at7 t).1]; omega
  | ⟨1, _⟩ => show win1_7.index t 1 * 2048 + 1 * j.val = j.val; rw [(at7 t).2]; omega

/-- A token, normed and modulated. -/
def hidden (X : S32x2048x1024.Idx → EReal) (M : S32x6x1024.Idx → EReal) (G : S1x1024.Idx → EReal) (b : Fin 32) (l : Fin 32) (t : Fin 2048) :
    Fin 1024 → EReal :=
  ProjSpec.hid (fun k => X (ix3 b t k)) (fun k => G (ix2 0 k)) (fun k => M (ix3 l 0 k)) (fun k => M (ix3 l 1 k))

/-- Row `e` of a modulation block. -/
theorem ld_mod (x : Vec Ideal S1x6x1024 .f32) (e : Fin 6) (inb) (d : Fin 1024) :
    View.ld x (Rect.unit (s := S1x6x1024) ![0, e.val, 0] S1x1x1024.size inb) (ix3 0 0 d) = x (ix3 0 e d) := by
  refine congrArg x (funext fun a => Fin.ext ?_)
  match a with
  | ⟨0, _⟩ => rfl
  | ⟨1, _⟩ => rfl
  | ⟨2, _⟩ => show 0 + 1 * d.val = d.val; omega

/-- The tokens of a grid point's block, normed and modulated. -/
theorem hidden_at (hX : V c main_arg0 = X) (hM : V c main_v10 = M) (hG : V c main_v21 = G) (t : Fin cfg1.N) (r : Fin 256) (k : Fin 1024) :
    (k1_pay5 (View.ld (iblk1 V c 0 t) r1_0) (View.ld (iblk1 V c 2 t) r1_1) (View.ld (iblk1 V c 1 t) r1_2) (View.ld (iblk1 V c 1 t) r1_3) (ix2 r k) : EReal)
      = hidden X M G (batch t) (lane t) (token t r) k := by
  refine (ProjBody.hid1_at r k).trans ?_
  have e0 : (fun k => View.ld (iblk1 V c 0 t) r1_0 (ix3 0 r k)) = fun k => X (ix3 (batch t) (token t r) k) := funext fun k =>
    (congrFun (View.ld_unit_zero (S := S1x256x1024) zero3 _ _) _).trans (tok_at V c hX t r k)
  have e2 : (fun k => View.ld (iblk1 V c 2 t) r1_1 (ix2 0 k)) = fun k => G (ix2 0 k) := funext fun k =>
    (congrFun (View.ld_unit_zero (S := S1x1024) zero2 _ _) _).trans (gain_at V c hG t k)
  have e3 : (fun k => View.ld (iblk1 V c 1 t) r1_2 (ix3 0 0 k)) = fun k => M (ix3 (lane t) 0 k) := funext fun k =>
    (ld_mod (iblk1 V c 1 t) 0 _ k).trans (mod_at V c hM t 0 k)
  have e4 : (fun k => View.ld (iblk1 V c 1 t) r1_3 (ix3 0 0 k)) = fun k => M (ix3 (lane t) 1 k) := funext fun k =>
    (ld_mod (iblk1 V c 1 t) 1 _ k).trans (mod_at V c hM t 1 k)
  exact congrFun (congr (congr (congr (congrArg ProjSpec.hid e0) e2) e3) e4) k

/-- A projection of every token, by `n` columns. -/
def projected (X : S32x2048x1024.Idx → EReal) (M : S32x6x1024.Idx → EReal) (G : S1x1024.Idx → EReal) (lane : Fin 32 → Fin 32) {n : ℕ}
    (w : (⟨2, ![1024, n]⟩ : Shape).Idx → EReal) (b : Fin 32) (t : Fin 2048) (j : Fin n) : EReal :=
  ∑ k : Fin 1024, hidden X M G b (lane b) t k * w (ix2 k j)

/-- The modulation's row for a sequence. -/
def laneOf (b : Fin 32) : Fin 32 := b

theorem lane_eq (t : Fin cfg1.N) : lane t = laneOf (batch t) := rfl

/-- Output 0. -/
def out8 (X : S32x2048x1024.Idx → EReal) (M : S32x6x1024.Idx → EReal) (G : S1x1024.Idx → EReal) (w : S1024x1536.Idx → EReal) :
    Vec Ideal S32x2048x1536 .f32 := fun i => projected X M G laneOf w (i 0) (i 1) (i 2)

theorem left8 {w : S1024x1536.Idx → EReal} (hX : V c main_arg0 = X) (hM : V c main_v10 = M) (hG : V c main_v21 = G) (hw : V c main_v15 = w)
    (t : Fin cfg1.N) (r : Fin 256) (j : Fin 1536) :
    out1_8 (iblk1 V c 0 t) (iblk1 V c 1 t) (iblk1 V c 2 t) (iblk1 V c 3 t) (iblk1 V c 4 t) (iblk1 V c 5 t) (iblk1 V c 6 t) (iblk1 V c 7 t) (ix3 0 r j)
      = projected X M G laneOf w (batch t) (token t r) j := by
  unfold out1_8
  refine (congrFun (View.canon_unit_zero (S := S1x256x1536) zero3 _ _) _).trans ?_
  refine (ProjBody.out1_6_at _ r j).trans (Finset.sum_congr rfl fun k _ => ?_)
  refine congr (congrArg _ (hidden_at V c hX hM hG t r k)) ?_
  exact (congrFun (View.ld_unit_zero (S := S1024x1536) zero2 _ _) _).trans (w3_at V c hw t k j)

theorem flushed8 {w : S1024x1536.Idx → EReal} (hX : V c main_arg0 = X) (hM : V c main_v10 = M) (hG : V c main_v21 = G) (hw : V c main_v15 = w)
    (p : Fin cfg1.N) : (dat1 V c).flushed 8 p = ((cfg1.win 8).blk p).view.read (Elt Ideal) (out8 X M G w) := by
  show (cfg1.win 8).cut (grid1.coords p) ((dat1 V c).after 8 p) = _
  rw [after1_8]
  funext y
  obtain ⟨r, j, rfl⟩ := eq_ix3 (m := 256) (n := 1536) y
  refine (left8 V c hX hM hG hw p r j).trans ?_
  rw [View.read_apply]
  have hi : (((cfg1.win 8).blk p).view.emb (ix3 0 r j) : S32x2048x1536.Idx) = ix3 (batch p) (token p r) j := by
    refine funext fun a => Fin.ext ?_
    match a with
    | ⟨0, _⟩ => show win1_8.index p 0 * 1 + 1 * 0 = p.val / 8; rw [(at8 p).1]; omega
    | ⟨1, _⟩ => show win1_8.index p 1 * 256 + 1 * r.val = p.val % 8 * 256 + r.val; rw [(at8 p).2.1]; omega
    | ⟨2, _⟩ => show win1_8.index p 2 * 1536 + 1 * j.val = j.val; rw [(at8 p).2.2]; omega
  exact (congrArg (out8 X M G w) hi).symm

/-- The array ends at it. -/
theorem final8 {w : S1024x1536.Idx → EReal} (hX : V c main_arg0 = X) (hM : V c main_v10 = M) (hG : V c main_v21 = G) (hw : V c main_v15 = w) :
    (dat1 V c).arrAt 8 cfg1.N = out8 X M G w :=
  (dat1 V c).arrAt_eq_of_cover 8 (out8 X M G w) (fun p _ => flushed8 V c hX hM hG hw p) fun i => by
    have hb : (i 0 : Nat) < 32 := (i 0).isLt
    have ht : (i 1 : Nat) < 2048 := (i 1).isLt
    have hc : (i 2 : Nat) < 1536 := (i 2).isLt
    have hN : (i 0 : Nat) * 8 + (i 1 : Nat) / 256 < cfg1.N := by show _ < grid1.N; rw [N_1]; omega
    refine ⟨⟨(i 0 : Nat) * 8 + (i 1 : Nat) / 256, hN⟩, flush1_8 _, ?_⟩
    generalize hp : (⟨(i 0 : Nat) * 8 + (i 1 : Nat) / 256, hN⟩ : Fin cfg1.N) = p
    have hv : p.val = (i 0 : Nat) * 8 + (i 1 : Nat) / 256 := by rw [← hp]
    show i ∈ ((View.whole main_v22_0).slice (win1_8.rect p)).set
    rw [View.set_slice_whole, Rect.mem_set_unit]
    intro a
    match a with
    | ⟨0, _⟩ => show win1_8.index p 0 * 1 ≤ (i 0 : Nat) ∧ (i 0 : Nat) < win1_8.index p 0 * 1 + win1_8.xsize (grid1.coords p) 0
                rw [(at8 p).1, (size8 p).1]; omega
    | ⟨1, _⟩ => show win1_8.index p 1 * 256 ≤ (i 1 : Nat) ∧ (i 1 : Nat) < win1_8.index p 1 * 256 + win1_8.xsize (grid1.coords p) 1
                rw [(at8 p).2.1, (size8 p).2.1]; omega
    | ⟨2, _⟩ => show win1_8.index p 2 * 1536 ≤ (i 2 : Nat) ∧ (i 2 : Nat) < win1_8.index p 2 * 1536 + win1_8.xsize (grid1.coords p) 2
                rw [(at8 p).2.2, (size8 p).2.2]; omega

/-- Output 1. -/
def out9 (X : S32x2048x1024.Idx → EReal) (M : S32x6x1024.Idx → EReal) (G : S1x1024.Idx → EReal) (w : S1024x384.Idx → EReal) :
    Vec Ideal S32x2048x384 .f32 := fun i => projected X M G laneOf w (i 0) (i 1) (i 2)

theorem left9 {w : S1024x384.Idx → EReal} (hX : V c main_arg0 = X) (hM : V c main_v10 = M) (hG : V c main_v21 = G) (hw : V c main_v16 = w)
    (t : Fin cfg1.N) (r : Fin 256) (j : Fin 384) :
    out1_9 (iblk1 V c 0 t) (iblk1 V c 1 t) (iblk1 V c 2 t) (iblk1 V c 3 t) (iblk1 V c 4 t) (iblk1 V c 5 t) (iblk1 V c 6 t) (iblk1 V c 7 t) (ix3 0 r j)
      = projected X M G laneOf w (batch t) (token t r) j := by
  unfold out1_9
  refine (congrFun (View.canon_unit_zero (S := S1x256x384) zero3 _ _) _).trans ?_
  refine (ProjBody.out1_1_at _ _ r j).trans (Finset.sum_congr rfl fun k _ => ?_)
  refine congr (congrArg _ (hidden_at V c hX hM hG t r k)) ?_
  exact (congrFun (View.ld_unit_zero (S := S1024x384) zero2 _ _) _).trans (w4_at V c hw t k j)

theorem flushed9 {w : S1024x384.Idx → EReal} (hX : V c main_arg0 = X) (hM : V c main_v10 = M) (hG : V c main_v21 = G) (hw : V c main_v16 = w)
    (p : Fin cfg1.N) : (dat1 V c).flushed 9 p = ((cfg1.win 9).blk p).view.read (Elt Ideal) (out9 X M G w) := by
  show (cfg1.win 9).cut (grid1.coords p) ((dat1 V c).after 9 p) = _
  rw [after1_9]
  funext y
  obtain ⟨r, j, rfl⟩ := eq_ix3 (m := 256) (n := 384) y
  refine (left9 V c hX hM hG hw p r j).trans ?_
  rw [View.read_apply]
  have hi : (((cfg1.win 9).blk p).view.emb (ix3 0 r j) : S32x2048x384.Idx) = ix3 (batch p) (token p r) j := by
    refine funext fun a => Fin.ext ?_
    match a with
    | ⟨0, _⟩ => show win1_9.index p 0 * 1 + 1 * 0 = p.val / 8; rw [(at9 p).1]; omega
    | ⟨1, _⟩ => show win1_9.index p 1 * 256 + 1 * r.val = p.val % 8 * 256 + r.val; rw [(at9 p).2.1]; omega
    | ⟨2, _⟩ => show win1_9.index p 2 * 384 + 1 * j.val = j.val; rw [(at9 p).2.2]; omega
  exact (congrArg (out9 X M G w) hi).symm

/-- The array ends at it. -/
theorem final9 {w : S1024x384.Idx → EReal} (hX : V c main_arg0 = X) (hM : V c main_v10 = M) (hG : V c main_v21 = G) (hw : V c main_v16 = w) :
    (dat1 V c).arrAt 9 cfg1.N = out9 X M G w :=
  (dat1 V c).arrAt_eq_of_cover 9 (out9 X M G w) (fun p _ => flushed9 V c hX hM hG hw p) fun i => by
    have hb : (i 0 : Nat) < 32 := (i 0).isLt
    have ht : (i 1 : Nat) < 2048 := (i 1).isLt
    have hc : (i 2 : Nat) < 384 := (i 2).isLt
    have hN : (i 0 : Nat) * 8 + (i 1 : Nat) / 256 < cfg1.N := by show _ < grid1.N; rw [N_1]; omega
    refine ⟨⟨(i 0 : Nat) * 8 + (i 1 : Nat) / 256, hN⟩, flush1_9 _, ?_⟩
    generalize hp : (⟨(i 0 : Nat) * 8 + (i 1 : Nat) / 256, hN⟩ : Fin cfg1.N) = p
    have hv : p.val = (i 0 : Nat) * 8 + (i 1 : Nat) / 256 := by rw [← hp]
    show i ∈ ((View.whole main_v22_1).slice (win1_9.rect p)).set
    rw [View.set_slice_whole, Rect.mem_set_unit]
    intro a
    match a with
    | ⟨0, _⟩ => show win1_9.index p 0 * 1 ≤ (i 0 : Nat) ∧ (i 0 : Nat) < win1_9.index p 0 * 1 + win1_9.xsize (grid1.coords p) 0
                rw [(at9 p).1, (size9 p).1]; omega
    | ⟨1, _⟩ => show win1_9.index p 1 * 256 ≤ (i 1 : Nat) ∧ (i 1 : Nat) < win1_9.index p 1 * 256 + win1_9.xsize (grid1.coords p) 1
                rw [(at9 p).2.1, (size9 p).2.1]; omega
    | ⟨2, _⟩ => show win1_9.index p 2 * 384 ≤ (i 2 : Nat) ∧ (i 2 : Nat) < win1_9.index p 2 * 384 + win1_9.xsize (grid1.coords p) 2
                rw [(at9 p).2.2, (size9 p).2.2]; omega

/-- Output 2. -/
def out10 (X : S32x2048x1024.Idx → EReal) (M : S32x6x1024.Idx → EReal) (G : S1x1024.Idx → EReal) (w : S1024x512.Idx → EReal) :
    Vec Ideal S32x2048x512 .f32 := fun i => projected X M G laneOf w (i 0) (i 1) (i 2)

theorem left10 {w : S1024x512.Idx → EReal} (hX : V c main_arg0 = X) (hM : V c main_v10 = M) (hG : V c main_v21 = G) (hw : V c main_v17 = w)
    (t : Fin cfg1.N) (r : Fin 256) (j : Fin 512) :
    out1_10 (iblk1 V c 0 t) (iblk1 V c 1 t) (iblk1 V c 2 t) (iblk1 V c 3 t) (iblk1 V c 4 t) (iblk1 V c 5 t) (iblk1 V c 6 t) (iblk1 V c 7 t) (ix3 0 r j)
      = projected X M G laneOf w (batch t) (token t r) j := by
  unfold out1_10
  refine (congrFun (View.canon_unit_zero (S := S1x256x512) zero3 _ _) _).trans ?_
  refine (ProjBody.out1_2_at _ _ r j).trans (Finset.sum_congr rfl fun k _ => ?_)
  refine congr (congrArg _ (hidden_at V c hX hM hG t r k)) ?_
  exact (congrFun (View.ld_unit_zero (S := S1024x512) zero2 _ _) _).trans (w5_at V c hw t k j)

theorem flushed10 {w : S1024x512.Idx → EReal} (hX : V c main_arg0 = X) (hM : V c main_v10 = M) (hG : V c main_v21 = G) (hw : V c main_v17 = w)
    (p : Fin cfg1.N) : (dat1 V c).flushed 10 p = ((cfg1.win 10).blk p).view.read (Elt Ideal) (out10 X M G w) := by
  show (cfg1.win 10).cut (grid1.coords p) ((dat1 V c).after 10 p) = _
  rw [after1_10]
  funext y
  obtain ⟨r, j, rfl⟩ := eq_ix3 (m := 256) (n := 512) y
  refine (left10 V c hX hM hG hw p r j).trans ?_
  rw [View.read_apply]
  have hi : (((cfg1.win 10).blk p).view.emb (ix3 0 r j) : S32x2048x512.Idx) = ix3 (batch p) (token p r) j := by
    refine funext fun a => Fin.ext ?_
    match a with
    | ⟨0, _⟩ => show win1_10.index p 0 * 1 + 1 * 0 = p.val / 8; rw [(at10 p).1]; omega
    | ⟨1, _⟩ => show win1_10.index p 1 * 256 + 1 * r.val = p.val % 8 * 256 + r.val; rw [(at10 p).2.1]; omega
    | ⟨2, _⟩ => show win1_10.index p 2 * 512 + 1 * j.val = j.val; rw [(at10 p).2.2]; omega
  exact (congrArg (out10 X M G w) hi).symm

/-- The array ends at it. -/
theorem final10 {w : S1024x512.Idx → EReal} (hX : V c main_arg0 = X) (hM : V c main_v10 = M) (hG : V c main_v21 = G) (hw : V c main_v17 = w) :
    (dat1 V c).arrAt 10 cfg1.N = out10 X M G w :=
  (dat1 V c).arrAt_eq_of_cover 10 (out10 X M G w) (fun p _ => flushed10 V c hX hM hG hw p) fun i => by
    have hb : (i 0 : Nat) < 32 := (i 0).isLt
    have ht : (i 1 : Nat) < 2048 := (i 1).isLt
    have hc : (i 2 : Nat) < 512 := (i 2).isLt
    have hN : (i 0 : Nat) * 8 + (i 1 : Nat) / 256 < cfg1.N := by show _ < grid1.N; rw [N_1]; omega
    refine ⟨⟨(i 0 : Nat) * 8 + (i 1 : Nat) / 256, hN⟩, flush1_10 _, ?_⟩
    generalize hp : (⟨(i 0 : Nat) * 8 + (i 1 : Nat) / 256, hN⟩ : Fin cfg1.N) = p
    have hv : p.val = (i 0 : Nat) * 8 + (i 1 : Nat) / 256 := by rw [← hp]
    show i ∈ ((View.whole main_v22_2).slice (win1_10.rect p)).set
    rw [View.set_slice_whole, Rect.mem_set_unit]
    intro a
    match a with
    | ⟨0, _⟩ => show win1_10.index p 0 * 1 ≤ (i 0 : Nat) ∧ (i 0 : Nat) < win1_10.index p 0 * 1 + win1_10.xsize (grid1.coords p) 0
                rw [(at10 p).1, (size10 p).1]; omega
    | ⟨1, _⟩ => show win1_10.index p 1 * 256 ≤ (i 1 : Nat) ∧ (i 1 : Nat) < win1_10.index p 1 * 256 + win1_10.xsize (grid1.coords p) 1
                rw [(at10 p).2.1, (size10 p).2.1]; omega
    | ⟨2, _⟩ => show win1_10.index p 2 * 512 ≤ (i 2 : Nat) ∧ (i 2 : Nat) < win1_10.index p 2 * 512 + win1_10.xsize (grid1.coords p) 2
                rw [(at10 p).2.2, (size10 p).2.2]; omega

/-- Output 3. -/
def out11 (X : S32x2048x1024.Idx → EReal) (M : S32x6x1024.Idx → EReal) (G : S1x1024.Idx → EReal) (w : S1024x256.Idx → EReal) :
    Vec Ideal S32x2048x256 .f32 := fun i => projected X M G laneOf w (i 0) (i 1) (i 2)

theorem left11 {w : S1024x256.Idx → EReal} (hX : V c main_arg0 = X) (hM : V c main_v10 = M) (hG : V c main_v21 = G) (hw : V c main_v18 = w)
    (t : Fin cfg1.N) (r : Fin 256) (j : Fin 256) :
    out1_11 (iblk1 V c 0 t) (iblk1 V c 1 t) (iblk1 V c 2 t) (iblk1 V c 3 t) (iblk1 V c 4 t) (iblk1 V c 5 t) (iblk1 V c 6 t) (iblk1 V c 7 t) (ix3 0 r j)
      = projected X M G laneOf w (batch t) (token t r) j := by
  unfold out1_11
  refine (congrFun (View.canon_unit_zero (S := S1x256x256) zero3 _ _) _).trans ?_
  refine (ProjBody.out1_3_at _ _ r j).trans (Finset.sum_congr rfl fun k _ => ?_)
  refine congr (congrArg _ (hidden_at V c hX hM hG t r k)) ?_
  exact (congrFun (View.ld_unit_zero (S := S1024x256) zero2 _ _) _).trans (w6_at V c hw t k j)

theorem flushed11 {w : S1024x256.Idx → EReal} (hX : V c main_arg0 = X) (hM : V c main_v10 = M) (hG : V c main_v21 = G) (hw : V c main_v18 = w)
    (p : Fin cfg1.N) : (dat1 V c).flushed 11 p = ((cfg1.win 11).blk p).view.read (Elt Ideal) (out11 X M G w) := by
  show (cfg1.win 11).cut (grid1.coords p) ((dat1 V c).after 11 p) = _
  rw [after1_11]
  funext y
  obtain ⟨r, j, rfl⟩ := eq_ix3 (m := 256) (n := 256) y
  refine (left11 V c hX hM hG hw p r j).trans ?_
  rw [View.read_apply]
  have hi : (((cfg1.win 11).blk p).view.emb (ix3 0 r j) : S32x2048x256.Idx) = ix3 (batch p) (token p r) j := by
    refine funext fun a => Fin.ext ?_
    match a with
    | ⟨0, _⟩ => show win1_11.index p 0 * 1 + 1 * 0 = p.val / 8; rw [(at11 p).1]; omega
    | ⟨1, _⟩ => show win1_11.index p 1 * 256 + 1 * r.val = p.val % 8 * 256 + r.val; rw [(at11 p).2.1]; omega
    | ⟨2, _⟩ => show win1_11.index p 2 * 256 + 1 * j.val = j.val; rw [(at11 p).2.2]; omega
  exact (congrArg (out11 X M G w) hi).symm

/-- The array ends at it. -/
theorem final11 {w : S1024x256.Idx → EReal} (hX : V c main_arg0 = X) (hM : V c main_v10 = M) (hG : V c main_v21 = G) (hw : V c main_v18 = w) :
    (dat1 V c).arrAt 11 cfg1.N = out11 X M G w :=
  (dat1 V c).arrAt_eq_of_cover 11 (out11 X M G w) (fun p _ => flushed11 V c hX hM hG hw p) fun i => by
    have hb : (i 0 : Nat) < 32 := (i 0).isLt
    have ht : (i 1 : Nat) < 2048 := (i 1).isLt
    have hc : (i 2 : Nat) < 256 := (i 2).isLt
    have hN : (i 0 : Nat) * 8 + (i 1 : Nat) / 256 < cfg1.N := by show _ < grid1.N; rw [N_1]; omega
    refine ⟨⟨(i 0 : Nat) * 8 + (i 1 : Nat) / 256, hN⟩, flush1_11 _, ?_⟩
    generalize hp : (⟨(i 0 : Nat) * 8 + (i 1 : Nat) / 256, hN⟩ : Fin cfg1.N) = p
    have hv : p.val = (i 0 : Nat) * 8 + (i 1 : Nat) / 256 := by rw [← hp]
    show i ∈ ((View.whole main_v22_3).slice (win1_11.rect p)).set
    rw [View.set_slice_whole, Rect.mem_set_unit]
    intro a
    match a with
    | ⟨0, _⟩ => show win1_11.index p 0 * 1 ≤ (i 0 : Nat) ∧ (i 0 : Nat) < win1_11.index p 0 * 1 + win1_11.xsize (grid1.coords p) 0
                rw [(at11 p).1, (size11 p).1]; omega
    | ⟨1, _⟩ => show win1_11.index p 1 * 256 ≤ (i 1 : Nat) ∧ (i 1 : Nat) < win1_11.index p 1 * 256 + win1_11.xsize (grid1.coords p) 1
                rw [(at11 p).2.1, (size11 p).2.1]; omega
    | ⟨2, _⟩ => show win1_11.index p 2 * 256 ≤ (i 2 : Nat) ∧ (i 2 : Nat) < win1_11.index p 2 * 256 + win1_11.xsize (grid1.coords p) 2
                rw [(at11 p).2.2, (size11 p).2.2]; omega

/-- Output 4. -/
def out12 (X : S32x2048x1024.Idx → EReal) (M : S32x6x1024.Idx → EReal) (G : S1x1024.Idx → EReal) (w : S1024x2048.Idx → EReal) :
    Vec Ideal S32x2048x2048 .f32 := fun i => projected X M G laneOf w (i 0) (i 1) (i 2)

theorem left12 {w : S1024x2048.Idx → EReal} (hX : V c main_arg0 = X) (hM : V c main_v10 = M) (hG : V c main_v21 = G) (hw : V c main_v19 = w)
    (t : Fin cfg1.N) (r : Fin 256) (j : Fin 2048) :
    out1_12 (iblk1 V c 0 t) (iblk1 V c 1 t) (iblk1 V c 2 t) (iblk1 V c 3 t) (iblk1 V c 4 t) (iblk1 V c 5 t) (iblk1 V c 6 t) (iblk1 V c 7 t) (ix3 0 r j)
      = projected X M G laneOf w (batch t) (token t r) j := by
  unfold out1_12
  refine (congrFun (View.canon_unit_zero (S := S1x256x2048) zero3 _ _) _).trans ?_
  refine (ProjBody.out1_4_at _ _ r j).trans (Finset.sum_congr rfl fun k _ => ?_)
  refine congr (congrArg _ (hidden_at V c hX hM hG t r k)) ?_
  exact (congrFun (View.ld_unit_zero (S := S1024x2048) zero2 _ _) _).trans (w7_at V c hw t k j)

theorem flushed12 {w : S1024x2048.Idx → EReal} (hX : V c main_arg0 = X) (hM : V c main_v10 = M) (hG : V c main_v21 = G) (hw : V c main_v19 = w)
    (p : Fin cfg1.N) : (dat1 V c).flushed 12 p = ((cfg1.win 12).blk p).view.read (Elt Ideal) (out12 X M G w) := by
  show (cfg1.win 12).cut (grid1.coords p) ((dat1 V c).after 12 p) = _
  rw [after1_12]
  funext y
  obtain ⟨r, j, rfl⟩ := eq_ix3 (m := 256) (n := 2048) y
  refine (left12 V c hX hM hG hw p r j).trans ?_
  rw [View.read_apply]
  have hi : (((cfg1.win 12).blk p).view.emb (ix3 0 r j) : S32x2048x2048.Idx) = ix3 (batch p) (token p r) j := by
    refine funext fun a => Fin.ext ?_
    match a with
    | ⟨0, _⟩ => show win1_12.index p 0 * 1 + 1 * 0 = p.val / 8; rw [(at12 p).1]; omega
    | ⟨1, _⟩ => show win1_12.index p 1 * 256 + 1 * r.val = p.val % 8 * 256 + r.val; rw [(at12 p).2.1]; omega
    | ⟨2, _⟩ => show win1_12.index p 2 * 2048 + 1 * j.val = j.val; rw [(at12 p).2.2]; omega
  exact (congrArg (out12 X M G w) hi).symm

/-- The array ends at it. -/
theorem final12 {w : S1024x2048.Idx → EReal} (hX : V c main_arg0 = X) (hM : V c main_v10 = M) (hG : V c main_v21 = G) (hw : V c main_v19 = w) :
    (dat1 V c).arrAt 12 cfg1.N = out12 X M G w :=
  (dat1 V c).arrAt_eq_of_cover 12 (out12 X M G w) (fun p _ => flushed12 V c hX hM hG hw p) fun i => by
    have hb : (i 0 : Nat) < 32 := (i 0).isLt
    have ht : (i 1 : Nat) < 2048 := (i 1).isLt
    have hc : (i 2 : Nat) < 2048 := (i 2).isLt
    have hN : (i 0 : Nat) * 8 + (i 1 : Nat) / 256 < cfg1.N := by show _ < grid1.N; rw [N_1]; omega
    refine ⟨⟨(i 0 : Nat) * 8 + (i 1 : Nat) / 256, hN⟩, flush1_12 _, ?_⟩
    generalize hp : (⟨(i 0 : Nat) * 8 + (i 1 : Nat) / 256, hN⟩ : Fin cfg1.N) = p
    have hv : p.val = (i 0 : Nat) * 8 + (i 1 : Nat) / 256 := by rw [← hp]
    show i ∈ ((View.whole main_v22_4).slice (win1_12.rect p)).set
    rw [View.set_slice_whole, Rect.mem_set_unit]
    intro a
    match a with
    | ⟨0, _⟩ => show win1_12.index p 0 * 1 ≤ (i 0 : Nat) ∧ (i 0 : Nat) < win1_12.index p 0 * 1 + win1_12.xsize (grid1.coords p) 0
                rw [(at12 p).1, (size12 p).1]; omega
    | ⟨1, _⟩ => show win1_12.index p 1 * 256 ≤ (i 1 : Nat) ∧ (i 1 : Nat) < win1_12.index p 1 * 256 + win1_12.xsize (grid1.coords p) 1
                rw [(at12 p).2.1, (size12 p).2.1]; omega
    | ⟨2, _⟩ => show win1_12.index p 2 * 2048 ≤ (i 2 : Nat) ∧ (i 2 : Nat) < win1_12.index p 2 * 2048 + win1_12.xsize (grid1.coords p) 2
                rw [(at12 p).2.2, (size12 p).2.2]; omega

end Cert.Proof.ProjLat

end
-- ==== Proof.ProjCtx.lean ====
module

public import proofs.«01_k».proof.Proof.ProjMod

/-!
The third call: the three projections of the context's tokens. Point `t` of its grid works on sequence `t`; the modulation is
the same for all of them.
-/

@[expose] public section

set_option maxRecDepth 16384

noncomputable section

namespace Cert.Proof.ProjCtx

open Idealize.ShloMosaic Idealize.ShloMosaic.TcCoe Cert.Kernel2Ideal Cert.Kernel2Ideal.Gen
open Cert.Proof.ProjMod (zero2 zero3)

/-- Every index of a rank-three shape with one block is named by its last two coordinates. -/
theorem eq_ix3 {m n : ℕ} (x : (⟨3, ![1, m, n]⟩ : Shape).Idx) : ∃ (r : Fin m) (d : Fin n), x = ix3 (0 : Fin 1) r d :=
  ⟨x 1, x 2, by
    refine funext fun a => ?_
    match a with
    | ⟨0, _⟩ => exact Subsingleton.elim (α := Fin 1) _ _
    | ⟨1, _⟩ => rfl
    | ⟨2, _⟩ => rfl⟩

theorem at0 : ∀ t : Fin grid2.N, win2_0.index t 0 = t.val ∧ win2_0.index t 1 = 0 ∧ win2_0.index t 2 = 0 := by decide +kernel
theorem at1 : ∀ t : Fin grid2.N, win2_1.index t 0 = 0 ∧ win2_1.index t 1 = 0 ∧ win2_1.index t 2 = 0 := by decide +kernel
theorem at2 : ∀ t : Fin grid2.N, win2_2.index t 0 = 0 ∧ win2_2.index t 1 = 0 := by decide +kernel
theorem at3 : ∀ t : Fin grid2.N, win2_3.index t 0 = 0 ∧ win2_3.index t 1 = 0 := by decide +kernel
theorem at4 : ∀ t : Fin grid2.N, win2_4.index t 0 = 0 ∧ win2_4.index t 1 = 0 := by decide +kernel
theorem at5 : ∀ t : Fin grid2.N, win2_5.index t 0 = 0 ∧ win2_5.index t 1 = 0 := by decide +kernel
theorem at6 : ∀ t : Fin grid2.N, win2_6.index t 0 = t.val ∧ win2_6.index t 1 = 0 ∧ win2_6.index t 2 = 0 := by decide +kernel
theorem size6 : ∀ t : Fin grid2.N, win2_6.xsize (grid2.coords t) 0 = 1 ∧ win2_6.xsize (grid2.coords t) 1 = 256
    ∧ win2_6.xsize (grid2.coords t) 2 = 1536 := by decide +kernel
theorem at7 : ∀ t : Fin grid2.N, win2_7.index t 0 = t.val ∧ win2_7.index t 1 = 0 ∧ win2_7.index t 2 = 0 := by decide +kernel
theorem size7 : ∀ t : Fin grid2.N, win2_7.xsize (grid2.coords t) 0 = 1 ∧ win2_7.xsize (grid2.coords t) 1 = 256
    ∧ win2_7.xsize (grid2.coords t) 2 = 384 := by decide +kernel
theorem at8 : ∀ t : Fin grid2.N, win2_8.index t 0 = t.val ∧ win2_8.index t 1 = 0 ∧ win2_8.index t 2 = 0 := by decide +kernel
theorem size8 : ∀ t : Fin grid2.N, win2_8.xsize (grid2.coords t) 0 = 1 ∧ win2_8.xsize (grid2.coords t) 1 = 256
    ∧ win2_8.xsize (grid2.coords t) 2 = 256 := by decide +kernel

/-- The sequence of a grid point. -/
def batch (t : Fin cfg2.N) : Fin 32 := ⟨t.val, by have h : t.val < 32 := N_2 ▸ t.isLt; omega⟩

/-- The token that a grid point works on at place `r` of its block. -/
def token (t : Fin cfg2.N) (r : Fin 256) : Fin 256 := ⟨0 * 256 + r.val, by omega⟩

variable (V : (c : Dev nD) → (b : Ref sig .tc) → Buf (Elt Ideal) ((c : Thread nD τ).loc b)) (c : Dev nD)
  {X : S32x256x1024.Idx → EReal} {M : S1x6x1024.Idx → EReal} {G : S1x1024.Idx → EReal}

theorem tok_at (hX : V c main_arg2 = X) (t : Fin cfg2.N) (r : Fin 256) (k : Fin 1024) :
    iblk2 V c 0 t (ix3 0 r k) = X (ix3 (batch t) (token t r) k) := by
  unfold iblk2
  rw [View.read_apply]
  refine (congrFun hX _).trans (congrArg X (funext fun a => Fin.ext ?_))
  match a with
  | ⟨0, _⟩ => show win2_0.index t 0 * 1 + 1 * 0 = t.val; rw [(at0 t).1]; omega
  | ⟨1, _⟩ => show win2_0.index t 1 * 256 + 1 * r.val = 0 * 256 + r.val; rw [(at0 t).2.1]; omega
  | ⟨2, _⟩ => show win2_0.index t 2 * 1024 + 1 * k.val = k.val; rw [(at0 t).2.2]; omega

/-- The modulation's row for a grid point. -/
def lane (t : Fin cfg2.N) : Fin 1 := 0

theorem mod_at (hM : V c main_v12 = M) (t : Fin cfg2.N) (e : Fin 6) (k : Fin 1024) : iblk2 V c 1 t (ix3 0 e k) = M (ix3 (lane t) e k) := by
  unfold iblk2
  rw [View.read_apply]
  refine (congrFun hM _).trans (congrArg M (funext fun a => Fin.ext ?_))
  match a with
  | ⟨0, _⟩ => show win2_1.index t 0 * 1 + 1 * 0 = 0; rw [(at1 t).1]
  | ⟨1, _⟩ => show win2_1.index t 1 * 6 + 1 * e.val = e.val; rw [(at1 t).2.1]; omega
  | ⟨2, _⟩ => show win2_1.index t 2 * 1024 + 1 * k.val = k.val; rw [(at1 t).2.2]; omega

theorem gain_at (hG : V c main_v24 = G) (t : Fin cfg2.N) (k : Fin 1024) : iblk2 V c 2 t (ix2 0 k) = G (ix2 0 k) := by
  unfold iblk2
  rw [View.read_apply]
  refine (congrFun hG _).trans (congrArg G (funext fun a => Fin.ext ?_))
  match a with
  | ⟨0, _⟩ => show win2_2.index t 0 * 1 + 1 * 0 = 0; rw [(at2 t).1]
  | ⟨1, _⟩ => show win2_2.index t 1 * 1024 + 1 * k.val = k.val; rw [(at2 t).2]; omega

theorem w3_at {w : S1024x1536.Idx → EReal} (hw : V c main_v15 = w) (t : Fin cfg2.N) (k : Fin 1024) (j : Fin 1536) :
    iblk2 V c 3 t (ix2 k j) = w (ix2 k j) := by
  unfold iblk2
  rw [View.read_apply]
  refine (congrFun hw _).trans (congrArg w (funext fun a => Fin.ext ?_))
  match a with
  | ⟨0, _⟩ => show win2_3.index t 0 * 1024 + 1 * k.val = k.val; rw [(at3 t).1]; omega
  | ⟨1, _⟩ => show win2_3.index t 1 * 1536 + 1 * j.val = j.val; rw [(at3 t).2]; omega

theorem w4_at {w : S1024x384.Idx → EReal} (hw : V c main_v16 = w) (t : Fin cfg2.N) (k : Fin 1024) (j : Fin 384) :
    iblk2 V c 4 t (ix2 k j) = w (ix2 k j) := by
  unfold iblk2
  rw [View.read_apply]
  refine (congrFun hw _).trans (congrArg w (funext fun a => Fin.ext ?_))
  match a with
  | ⟨0, _⟩ => show win2_4.index t 0 * 1024 + 1 * k.val = k.val; rw [(at4 t).1]; omega
  | ⟨1, _⟩ => show win2_4.index t 1 * 384 + 1 * j.val = j.val; rw [(at4 t).2]; omega

theorem w5_at {w : S1024x256.Idx → EReal} (hw : V c main_v18 = w) (t : Fin cfg2.N) (k : Fin 1024) (j : Fin 256) :
    iblk2 V c 5 t (ix2 k j) = w (ix2 k j) := by
  unfold iblk2
  rw [View.read_apply]
  refine (congrFun hw _).trans (congrArg w (funext fun a => Fin.ext ?_))
  match a with
  | ⟨0, _⟩ => show win2_5.index t 0 * 1024 + 1 * k.val = k.val; rw [(at5 t).1]; omega
  | ⟨1, _⟩ => show win2_5.index t 1 * 256 + 1 * j.val = j.val; rw [(at5 t).2]; omega

/-- A token, normed and modulated. -/
def hidden (X : S32x256x1024.Idx → EReal) (M : S1x6x1024.Idx → EReal) (G : S1x1024.Idx → EReal) (b : Fin 32) (l : Fin 1) (t : Fin 256) :
    Fin 1024 → EReal :=
  ProjSpec.hid (fun k => X (ix3 b t k)) (fun k => G (ix2 0 k)) (fun k => M (ix3 l 0 k)) (fun k => M (ix3 l 1 k))

/-- Row `e` of a modulation block. -/
theorem ld_mod (x : Vec Ideal S1x6x1024 .f32) (e : Fin 6) (inb) (d : Fin 1024) :
    View.ld x (Rect.unit (s := S1x6x1024) ![0, e.val, 0] S1x1x1024.size inb) (ix3 0 0 d) = x (ix3 0 e d) := by
  refine congrArg x (funext fun a => Fin.ext ?_)
  match a with
  | ⟨0, _⟩ => rfl
  | ⟨1, _⟩ => rfl
  | ⟨2, _⟩ => show 0 + 1 * d.val = d.val; omega

/-- The tokens of a grid point's block, normed and modulated. -/
theorem hidden_at (hX : V c main_arg2 = X) (hM : V c main_v12 = M) (hG : V c main_v24 = G) (t : Fin cfg2.N) (r : Fin 256) (k : Fin 1024) :
    (k2_pay3 (View.ld (iblk2 V c 0 t) r2_0) (View.ld (iblk2 V c 2 t) r2_1) (View.ld (iblk2 V c 1 t) r2_2) (View.ld (iblk2 V c 1 t) r2_3) (ix2 r k) : EReal)
      = hidden X M G (batch t) (lane t) (token t r) k := by
  refine (ProjBody.hid2_at r k).trans ?_
  have e0 : (fun k => View.ld (iblk2 V c 0 t) r2_0 (ix3 0 r k)) = fun k => X (ix3 (batch t) (token t r) k) := funext fun k =>
    (congrFun (View.ld_unit_zero (S := S1x256x1024) zero3 _ _) _).trans (tok_at V c hX t r k)
  have e2 : (fun k => View.ld (iblk2 V c 2 t) r2_1 (ix2 0 k)) = fun k => G (ix2 0 k) := funext fun k =>
    (congrFun (View.ld_unit_zero (S := S1x1024) zero2 _ _) _).trans (gain_at V c hG t k)
  have e3 : (fun k => View.ld (iblk2 V c 1 t) r2_2 (ix3 0 0 k)) = fun k => M (ix3 (lane t) 0 k) := funext fun k =>
    (ld_mod (iblk2 V c 1 t) 0 _ k).trans (mod_at V c hM t 0 k)
  have e4 : (fun k => View.ld (iblk2 V c 1 t) r2_3 (ix3 0 0 k)) = fun k => M (ix3 (lane t) 1 k) := funext fun k =>
    (ld_mod (iblk2 V c 1 t) 1 _ k).trans (mod_at V c hM t 1 k)
  exact congrFun (congr (congr (congr (congrArg ProjSpec.hid e0) e2) e3) e4) k

/-- A projection of every token, by `n` columns. -/
def projected (X : S32x256x1024.Idx → EReal) (M : S1x6x1024.Idx → EReal) (G : S1x1024.Idx → EReal) (lane : Fin 32 → Fin 1) {n : ℕ}
    (w : (⟨2, ![1024, n]⟩ : Shape).Idx → EReal) (b : Fin 32) (t : Fin 256) (j : Fin n) : EReal :=
  ∑ k : Fin 1024, hidden X M G b (lane b) t k * w (ix2 k j)

/-- The modulation's row for a sequence. -/
def laneOf (b : Fin 32) : Fin 1 := 0

theorem lane_eq (t : Fin cfg2.N) : lane t = laneOf (batch t) := rfl

/-- Output 0. -/
def out6 (X : S32x256x1024.Idx → EReal) (M : S1x6x1024.Idx → EReal) (G : S1x1024.Idx → EReal) (w : S1024x1536.Idx → EReal) :
    Vec Ideal S32x256x1536 .f32 := fun i => projected X M G laneOf w (i 0) (i 1) (i 2)

theorem left6 {w : S1024x1536.Idx → EReal} (hX : V c main_arg2 = X) (hM : V c main_v12 = M) (hG : V c main_v24 = G) (hw : V c main_v15 = w)
    (t : Fin cfg2.N) (r : Fin 256) (j : Fin 1536) :
    out2_6 (iblk2 V c 0 t) (iblk2 V c 1 t) (iblk2 V c 2 t) (iblk2 V c 3 t) (iblk2 V c 4 t) (iblk2 V c 5 t) (ix3 0 r j)
      = projected X M G laneOf w (batch t) (token t r) j := by
  unfold out2_6
  refine (congrFun (View.canon_unit_zero (S := S1x256x1536) zero3 _ _) _).trans ?_
  refine (ProjBody.out2_4_at _ r j).trans (Finset.sum_congr rfl fun k _ => ?_)
  refine congr (congrArg _ (hidden_at V c hX hM hG t r k)) ?_
  exact (congrFun (View.ld_unit_zero (S := S1024x1536) zero2 _ _) _).trans (w3_at V c hw t k j)

theorem flushed6 {w : S1024x1536.Idx → EReal} (hX : V c main_arg2 = X) (hM : V c main_v12 = M) (hG : V c main_v24 = G) (hw : V c main_v15 = w)
    (p : Fin cfg2.N) : (dat2 V c).flushed 6 p = ((cfg2.win 6).blk p).view.read (Elt Ideal) (out6 X M G w) := by
  show (cfg2.win 6).cut (grid2.coords p) ((dat2 V c).after 6 p) = _
  rw [after2_6]
  funext y
  obtain ⟨r, j, rfl⟩ := eq_ix3 (m := 256) (n := 1536) y
  refine (left6 V c hX hM hG hw p r j).trans ?_
  rw [View.read_apply]
  have hi : (((cfg2.win 6).blk p).view.emb (ix3 0 r j) : S32x256x1536.Idx) = ix3 (batch p) (token p r) j := by
    refine funext fun a => Fin.ext ?_
    match a with
    | ⟨0, _⟩ => show win2_6.index p 0 * 1 + 1 * 0 = p.val; rw [(at6 p).1]; omega
    | ⟨1, _⟩ => show win2_6.index p 1 * 256 + 1 * r.val = 0 * 256 + r.val; rw [(at6 p).2.1]; omega
    | ⟨2, _⟩ => show win2_6.index p 2 * 1536 + 1 * j.val = j.val; rw [(at6 p).2.2]; omega
  exact (congrArg (out6 X M G w) hi).symm

/-- The array ends at it. -/
theorem final6 {w : S1024x1536.Idx → EReal} (hX : V c main_arg2 = X) (hM : V c main_v12 = M) (hG : V c main_v24 = G) (hw : V c main_v15 = w) :
    (dat2 V c).arrAt 6 cfg2.N = out6 X M G w :=
  (dat2 V c).arrAt_eq_of_cover 6 (out6 X M G w) (fun p _ => flushed6 V c hX hM hG hw p) fun i => by
    have hb : (i 0 : Nat) < 32 := (i 0).isLt
    have ht : (i 1 : Nat) < 256 := (i 1).isLt
    have hc : (i 2 : Nat) < 1536 := (i 2).isLt
    have hN : (i 0 : Nat) * 1 + (i 1 : Nat) / 256 < cfg2.N := by show _ < grid2.N; rw [N_2]; omega
    refine ⟨⟨(i 0 : Nat) * 1 + (i 1 : Nat) / 256, hN⟩, flush2_6 _, ?_⟩
    generalize hp : (⟨(i 0 : Nat) * 1 + (i 1 : Nat) / 256, hN⟩ : Fin cfg2.N) = p
    have hv : p.val = (i 0 : Nat) * 1 + (i 1 : Nat) / 256 := by rw [← hp]
    show i ∈ ((View.whole main_v25_0).slice (win2_6.rect p)).set
    rw [View.set_slice_whole, Rect.mem_set_unit]
    intro a
    match a with
    | ⟨0, _⟩ => show win2_6.index p 0 * 1 ≤ (i 0 : Nat) ∧ (i 0 : Nat) < win2_6.index p 0 * 1 + win2_6.xsize (grid2.coords p) 0
                rw [(at6 p).1, (size6 p).1]; omega
    | ⟨1, _⟩ => show win2_6.index p 1 * 256 ≤ (i 1 : Nat) ∧ (i 1 : Nat) < win2_6.index p 1 * 256 + win2_6.xsize (grid2.coords p) 1
                rw [(at6 p).2.1, (size6 p).2.1]; omega
    | ⟨2, _⟩ => show win2_6.index p 2 * 1536 ≤ (i 2 : Nat) ∧ (i 2 : Nat) < win2_6.index p 2 * 1536 + win2_6.xsize (grid2.coords p) 2
                rw [(at6 p).2.2, (size6 p).2.2]; omega

/-- Output 1. -/
def out7 (X : S32x256x1024.Idx → EReal) (M : S1x6x1024.Idx → EReal) (G : S1x1024.Idx → EReal) (w : S1024x384.Idx → EReal) :
    Vec Ideal S32x256x384 .f32 := fun i => projected X M G laneOf w (i 0) (i 1) (i 2)

theorem left7 {w : S1024x384.Idx → EReal} (hX : V c main_arg2 = X) (hM : V c main_v12 = M) (hG : V c main_v24 = G) (hw : V c main_v16 = w)
    (t : Fin cfg2.N) (r : Fin 256) (j : Fin 384) :
    out2_7 (iblk2 V c 0 t) (iblk2 V c 1 t) (iblk2 V c 2 t) (iblk2 V c 3 t) (iblk2 V c 4 t) (iblk2 V c 5 t) (ix3 0 r j)
      = projected X M G laneOf w (batch t) (token t r) j := by
  unfold out2_7
  refine (congrFun (View.canon_unit_zero (S := S1x256x384) zero3 _ _) _).trans ?_
  refine (ProjBody.out2_1_at _ _ r j).trans (Finset.sum_congr rfl fun k _ => ?_)
  refine congr (congrArg _ (hidden_at V c hX hM hG t r k)) ?_
  exact (congrFun (View.ld_unit_zero (S := S1024x384) zero2 _ _) _).trans (w4_at V c hw t k j)

theorem flushed7 {w : S1024x384.Idx → EReal} (hX : V c main_arg2 = X) (hM : V c main_v12 = M) (hG : V c main_v24 = G) (hw : V c main_v16 = w)
    (p : Fin cfg2.N) : (dat2 V c).flushed 7 p = ((cfg2.win 7).blk p).view.read (Elt Ideal) (out7 X M G w) := by
  show (cfg2.win 7).cut (grid2.coords p) ((dat2 V c).after 7 p) = _
  rw [after2_7]
  funext y
  obtain ⟨r, j, rfl⟩ := eq_ix3 (m := 256) (n := 384) y
  refine (left7 V c hX hM hG hw p r j).trans ?_
  rw [View.read_apply]
  have hi : (((cfg2.win 7).blk p).view.emb (ix3 0 r j) : S32x256x384.Idx) = ix3 (batch p) (token p r) j := by
    refine funext fun a => Fin.ext ?_
    match a with
    | ⟨0, _⟩ => show win2_7.index p 0 * 1 + 1 * 0 = p.val; rw [(at7 p).1]; omega
    | ⟨1, _⟩ => show win2_7.index p 1 * 256 + 1 * r.val = 0 * 256 + r.val; rw [(at7 p).2.1]; omega
    | ⟨2, _⟩ => show win2_7.index p 2 * 384 + 1 * j.val = j.val; rw [(at7 p).2.2]; omega
  exact (congrArg (out7 X M G w) hi).symm

/-- The array ends at it. -/
theorem final7 {w : S1024x384.Idx → EReal} (hX : V c main_arg2 = X) (hM : V c main_v12 = M) (hG : V c main_v24 = G) (hw : V c main_v16 = w) :
    (dat2 V c).arrAt 7 cfg2.N = out7 X M G w :=
  (dat2 V c).arrAt_eq_of_cover 7 (out7 X M G w) (fun p _ => flushed7 V c hX hM hG hw p) fun i => by
    have hb : (i 0 : Nat) < 32 := (i 0).isLt
    have ht : (i 1 : Nat) < 256 := (i 1).isLt
    have hc : (i 2 : Nat) < 384 := (i 2).isLt
    have hN : (i 0 : Nat) * 1 + (i 1 : Nat) / 256 < cfg2.N := by show _ < grid2.N; rw [N_2]; omega
    refine ⟨⟨(i 0 : Nat) * 1 + (i 1 : Nat) / 256, hN⟩, flush2_7 _, ?_⟩
    generalize hp : (⟨(i 0 : Nat) * 1 + (i 1 : Nat) / 256, hN⟩ : Fin cfg2.N) = p
    have hv : p.val = (i 0 : Nat) * 1 + (i 1 : Nat) / 256 := by rw [← hp]
    show i ∈ ((View.whole main_v25_1).slice (win2_7.rect p)).set
    rw [View.set_slice_whole, Rect.mem_set_unit]
    intro a
    match a with
    | ⟨0, _⟩ => show win2_7.index p 0 * 1 ≤ (i 0 : Nat) ∧ (i 0 : Nat) < win2_7.index p 0 * 1 + win2_7.xsize (grid2.coords p) 0
                rw [(at7 p).1, (size7 p).1]; omega
    | ⟨1, _⟩ => show win2_7.index p 1 * 256 ≤ (i 1 : Nat) ∧ (i 1 : Nat) < win2_7.index p 1 * 256 + win2_7.xsize (grid2.coords p) 1
                rw [(at7 p).2.1, (size7 p).2.1]; omega
    | ⟨2, _⟩ => show win2_7.index p 2 * 384 ≤ (i 2 : Nat) ∧ (i 2 : Nat) < win2_7.index p 2 * 384 + win2_7.xsize (grid2.coords p) 2
                rw [(at7 p).2.2, (size7 p).2.2]; omega

/-- Output 2. -/
def out8 (X : S32x256x1024.Idx → EReal) (M : S1x6x1024.Idx → EReal) (G : S1x1024.Idx → EReal) (w : S1024x256.Idx → EReal) :
    Vec Ideal S32x256x256 .f32 := fun i => projected X M G laneOf w (i 0) (i 1) (i 2)

theorem left8 {w : S1024x256.Idx → EReal} (hX : V c main_arg2 = X) (hM : V c main_v12 = M) (hG : V c main_v24 = G) (hw : V c main_v18 = w)
    (t : Fin cfg2.N) (r : Fin 256) (j : Fin 256) :
    out2_8 (iblk2 V c 0 t) (iblk2 V c 1 t) (iblk2 V c 2 t) (iblk2 V c 3 t) (iblk2 V c 4 t) (iblk2 V c 5 t) (ix3 0 r j)
      = projected X M G laneOf w (batch t) (token t r) j := by
  unfold out2_8
  refine (congrFun (View.canon_unit_zero (S := S1x256x256) zero3 _ _) _).trans ?_
  refine (ProjBody.out2_2_at _ _ r j).trans (Finset.sum_congr rfl fun k _ => ?_)
  refine congr (congrArg _ (hidden_at V c hX hM hG t r k)) ?_
  exact (congrFun (View.ld_unit_zero (S := S1024x256) zero2 _ _) _).trans (w5_at V c hw t k j)

theorem flushed8 {w : S1024x256.Idx → EReal} (hX : V c main_arg2 = X) (hM : V c main_v12 = M) (hG : V c main_v24 = G) (hw : V c main_v18 = w)
    (p : Fin cfg2.N) : (dat2 V c).flushed 8 p = ((cfg2.win 8).blk p).view.read (Elt Ideal) (out8 X M G w) := by
  show (cfg2.win 8).cut (grid2.coords p) ((dat2 V c).after 8 p) = _
  rw [after2_8]
  funext y
  obtain ⟨r, j, rfl⟩ := eq_ix3 (m := 256) (n := 256) y
  refine (left8 V c hX hM hG hw p r j).trans ?_
  rw [View.read_apply]
  have hi : (((cfg2.win 8).blk p).view.emb (ix3 0 r j) : S32x256x256.Idx) = ix3 (batch p) (token p r) j := by
    refine funext fun a => Fin.ext ?_
    match a with
    | ⟨0, _⟩ => show win2_8.index p 0 * 1 + 1 * 0 = p.val; rw [(at8 p).1]; omega
    | ⟨1, _⟩ => show win2_8.index p 1 * 256 + 1 * r.val = 0 * 256 + r.val; rw [(at8 p).2.1]; omega
    | ⟨2, _⟩ => show win2_8.index p 2 * 256 + 1 * j.val = j.val; rw [(at8 p).2.2]; omega
  exact (congrArg (out8 X M G w) hi).symm

/-- The array ends at it. -/
theorem final8 {w : S1024x256.Idx → EReal} (hX : V c main_arg2 = X) (hM : V c main_v12 = M) (hG : V c main_v24 = G) (hw : V c main_v18 = w) :
    (dat2 V c).arrAt 8 cfg2.N = out8 X M G w :=
  (dat2 V c).arrAt_eq_of_cover 8 (out8 X M G w) (fun p _ => flushed8 V c hX hM hG hw p) fun i => by
    have hb : (i 0 : Nat) < 32 := (i 0).isLt
    have ht : (i 1 : Nat) < 256 := (i 1).isLt
    have hc : (i 2 : Nat) < 256 := (i 2).isLt
    have hN : (i 0 : Nat) * 1 + (i 1 : Nat) / 256 < cfg2.N := by show _ < grid2.N; rw [N_2]; omega
    refine ⟨⟨(i 0 : Nat) * 1 + (i 1 : Nat) / 256, hN⟩, flush2_8 _, ?_⟩
    generalize hp : (⟨(i 0 : Nat) * 1 + (i 1 : Nat) / 256, hN⟩ : Fin cfg2.N) = p
    have hv : p.val = (i 0 : Nat) * 1 + (i 1 : Nat) / 256 := by rw [← hp]
    show i ∈ ((View.whole main_v25_2).slice (win2_8.rect p)).set
    rw [View.set_slice_whole, Rect.mem_set_unit]
    intro a
    match a with
    | ⟨0, _⟩ => show win2_8.index p 0 * 1 ≤ (i 0 : Nat) ∧ (i 0 : Nat) < win2_8.index p 0 * 1 + win2_8.xsize (grid2.coords p) 0
                rw [(at8 p).1, (size8 p).1]; omega
    | ⟨1, _⟩ => show win2_8.index p 1 * 256 ≤ (i 1 : Nat) ∧ (i 1 : Nat) < win2_8.index p 1 * 256 + win2_8.xsize (grid2.coords p) 1
                rw [(at8 p).2.1, (size8 p).2.1]; omega
    | ⟨2, _⟩ => show win2_8.index p 2 * 256 ≤ (i 2 : Nat) ∧ (i 2 : Nat) < win2_8.index p 2 * 256 + win2_8.xsize (grid2.coords p) 2
                rw [(at8 p).2.2, (size8 p).2.2]; omega

end Cert.Proof.ProjCtx

end
-- ==== Proof.ProjPad.lean ====
module

public import proofs.«01_k».proof.Proof.Gen.Kernel2Ideal.Skeleton
public import Idealize.ShloMosaic.Lib.Pointwise
public import Idealize.ShloMosaic.Lib.Routing.OpsSet
public import Idealize.ShloMosaic.Lib.Routing.Ops

/-!
The conditioning rows laid out together: the sequences' rows from row 0 on and the context's row at row 32 of a table of 40
rows.
-/

@[expose] public section

set_option maxRecDepth 16384

noncomputable section

namespace Cert.Proof.ProjPad

open Idealize.ShloMosaic Cert.Kernel2Ideal Cert.Kernel2Ideal.Gen

/-- Where an entry of the sequences' rows lands. -/
theorem lands_rows (idx : IVec S1 32) (h : (idx (ix1 0)).toInt = 0) (b : Fin 32) (k : Fin 1024) (r : Fin 40) (j : Fin 1024) :
    scatter_S40x1024_S1_S32x1024_01_n_0_0.resultIdx? (ix2 b k) idx = some (ix2 r j) ↔ b.val = r.val ∧ k = j := by
  rw [Routing.resultIdx?_eq_some]
  have hi : scatter_S40x1024_S1_S32x1024_01_n_0_0.siIdx (ix2 b k) ⟨0, by decide⟩ = ix1 0 := by
    funext a
    match a with
    | ⟨0, _⟩ => rfl
  have h0 : scatter_S40x1024_S1_S32x1024_01_n_0_0.start (ix2 b k) idx (0 : Fin 2) = 0 := by
    rw [← h, ← hi]; rfl
  have h1 : scatter_S40x1024_S1_S32x1024_01_n_0_0.start (ix2 b k) idx (1 : Fin 2) = 0 := rfl
  have w0 : scatter_S40x1024_S1_S32x1024_01_n_0_0.window (ix2 b k) (0 : Fin 2) = b.val := rfl
  have w1 : scatter_S40x1024_S1_S32x1024_01_n_0_0.window (ix2 b k) (1 : Fin 2) = k.val := rfl
  constructor
  · intro h
    have a0 := h (0 : Fin 2)
    have a1 := h (1 : Fin 2)
    rw [h0, w0] at a0
    rw [h1, w1] at a1
    refine ⟨?_, Fin.ext ?_⟩
    · have : ((b.val : Int)) = (r.val : Int) := by simpa using a0
      exact_mod_cast this
    · have : ((k.val : Int)) = (j.val : Int) := by simpa using a1
      exact_mod_cast this
  · rintro ⟨h, rfl⟩ a
    match a with
    | ⟨0, _⟩ => exact (by rw [h0, w0, h]; simp :
        scatter_S40x1024_S1_S32x1024_01_n_0_0.start (ix2 b k) idx (0 : Fin 2)
          + ((scatter_S40x1024_S1_S32x1024_01_n_0_0.window (ix2 b k) (0 : Fin 2) : Nat) : Int) = (r.val : Int))
    | ⟨1, _⟩ => exact (by rw [h1, w1]; simp :
        scatter_S40x1024_S1_S32x1024_01_n_0_0.start (ix2 b k) idx (1 : Fin 2)
          + ((scatter_S40x1024_S1_S32x1024_01_n_0_0.window (ix2 b k) (1 : Fin 2) : Nat) : Int) = (k.val : Int))

/-- Where an entry of the context's row lands. -/
theorem lands_last (idx : IVec S1 32) (h : (idx (ix1 0)).toInt = 32) (k : Fin 1024) (r : Fin 40) (j : Fin 1024) :
    scatter_S40x1024_S1_S1024_0_0_0_0.resultIdx? (ix1 k) idx = some (ix2 r j) ↔ r.val = 32 ∧ k = j := by
  rw [Routing.resultIdx?_eq_some]
  have hi : scatter_S40x1024_S1_S1024_0_0_0_0.siIdx (ix1 k) ⟨0, by decide⟩ = ix1 0 := by
    funext a
    match a with
    | ⟨0, _⟩ => rfl
  have h0 : scatter_S40x1024_S1_S1024_0_0_0_0.start (ix1 k) idx (0 : Fin 2) = 32 := by
    rw [← h, ← hi]; rfl
  have h1 : scatter_S40x1024_S1_S1024_0_0_0_0.start (ix1 k) idx (1 : Fin 2) = 0 := rfl
  have w0 : scatter_S40x1024_S1_S1024_0_0_0_0.window (ix1 k) (0 : Fin 2) = 0 := rfl
  have w1 : scatter_S40x1024_S1_S1024_0_0_0_0.window (ix1 k) (1 : Fin 2) = k.val := rfl
  constructor
  · intro h
    have a0 := h (0 : Fin 2)
    have a1 := h (1 : Fin 2)
    rw [h0, w0] at a0
    rw [h1, w1] at a1
    refine ⟨?_, Fin.ext ?_⟩
    · have : (32 : Int) = (r.val : Int) := by simpa using a0
      exact_mod_cast this.symm
    · have : ((k.val : Int)) = (j.val : Int) := by simpa using a1
      exact_mod_cast this
  · rintro ⟨h, rfl⟩ a
    match a with
    | ⟨0, _⟩ => exact (by rw [h0, w0, h]; simp :
        scatter_S40x1024_S1_S1024_0_0_0_0.start (ix1 k) idx (0 : Fin 2)
          + ((scatter_S40x1024_S1_S1024_0_0_0_0.window (ix1 k) (0 : Fin 2) : Nat) : Int) = (r.val : Int))
    | ⟨1, _⟩ => exact (by rw [h1, w1]; simp :
        scatter_S40x1024_S1_S1024_0_0_0_0.start (ix1 k) idx (1 : Fin 2)
          + ((scatter_S40x1024_S1_S1024_0_0_0_0.window (ix1 k) (1 : Fin 2) : Nat) : Int) = (k.val : Int))

variable (x : S40x1024.Idx → EReal) (i0 i1 : IVec S1 32) (h0 : (i0 (ix1 0)).toInt = 0) (h1 : (i1 (ix1 0)).toInt = 32)
  (C : S32x1024.Idx → EReal) (D : S1024.Idx → EReal)

/-- The table. -/
def table : S40x1024.Idx → EReal :=
  Host.scatter scatter_S40x1024_S1_S1024_0_0_0_0 (fun _ b => b)
    (Host.scatter scatter_S40x1024_S1_S32x1024_01_n_0_0 (fun _ b => b) x i0 C) i1 D

include h1 in
/-- Row 32 is the context's. -/
theorem table_last (k : Fin 1024) : table x i0 i1 C D (ix2 32 k) = D (ix1 k) := by
  refine Routing.scatter_set_hit _ _ _ _ _ _ (fun j hj => ?_) (ix1 k) ((lands_last i1 h1 k 32 k).2 ⟨rfl, rfl⟩)
  obtain ⟨k', rfl⟩ : ∃ k' : Fin 1024, j = ix1 k' := ⟨j 0, by funext a; match a with | ⟨0, _⟩ => rfl⟩
  rw [((lands_last i1 h1 k' 32 k).1 hj).2]

include h0 h1 in
/-- A row before it is a sequence's. -/
theorem table_row (b : Fin 32) (r : Fin 40) (hr : r.val = b.val) (k : Fin 1024) : table x i0 i1 C D (ix2 r k) = C (ix2 b k) := by
  refine (Routing.scatter_set_miss _ _ _ _ _ fun j hj => ?_).trans ?_
  · obtain ⟨k', rfl⟩ : ∃ k' : Fin 1024, j = ix1 k' := ⟨j 0, by funext a; match a with | ⟨0, _⟩ => rfl⟩
    have := ((lands_last i1 h1 k' r k).1 hj).1
    have := b.isLt
    omega
  · refine Routing.scatter_set_hit _ _ _ _ _ _ (fun j hj => ?_) (ix2 b k) ((lands_rows i0 h0 b k r k).2 ⟨hr.symm, rfl⟩)
    obtain ⟨b', k', rfl⟩ : ∃ (b' : Fin 32) (k' : Fin 1024), j = ix2 b' k' :=
      ⟨j 0, j 1, by funext a; match a with | ⟨0, _⟩ => rfl | ⟨1, _⟩ => rfl⟩
    have e := (lands_rows i0 h0 b' k' r k).1 hj
    have eb : b' = b := Fin.ext (by omega)
    rw [eb, e.2]

end Cert.Proof.ProjPad

end
-- ==== Proof.ProjHost.lean ====
module

public import proofs.«01_k».proof.Proof.ProjLat
public import proofs.«01_k».proof.Proof.ProjCtx
public import proofs.«01_k».proof.Proof.ProjPad
public import Idealize.ShloMosaic.Lib.StableHlo.Run
public import Idealize.ShloMosaic.Lib.Tactic

/-!
What the calls of the projections' program find in their arrays, from the program's arguments.
-/

@[expose] public section

set_option maxRecDepth 16384

noncomputable section

namespace Cert.Proof.ProjHost

open Idealize.ShloMosaic Idealize.ShloMosaic.TcCoe Cert.Kernel2Ideal Cert.Kernel2Ideal.Gen

variable (m : (ℓ : Loc nD τ sig) → Buf (Elt Ideal) ℓ) (ρ : Dev nD → PrngReg) (c : Dev nD)
  {C : S32x1024.Idx → EReal} {D : S1024.Idx → EReal} {Wa : S1x1024x6144.Idx → EReal} {Ba : S1x6144.Idx → EReal}
  {Gn : S1x1024.Idx → EReal} {Wi : S1x1024x4736.Idx → EReal}

/-- The conditioning rows' table. -/
def rows (C : S32x1024.Idx → EReal) (D : S1024.Idx → EReal) : S40x1024.Idx → EReal :=
  ProjPad.table (broadcastInDim S40x1024 ![] bcast_S_S40x1024 (constant (F := Ideal) S_ .f32 0x00000000#32))
    (broadcastInDim S1 ![] bcast_S_S1 (constantI S_ 32 0#32)) (broadcastInDim S1 ![] bcast_S_S1 (constantI S_ 32 32#32)) C D

theorem rows_eq (hC : m (c.tc.loc main_arg1) = C) (hD : m (c.tc.loc main_arg3) = D) : V1 m ρ c main_v4 = rows C D := by
  have e : V1 m ρ c main_v4 = (rows (m (c.tc.loc main_arg1)) (m (c.tc.loc main_arg3)) :) := by
    show StableHlo.after hostOps0 (W0 m ρ c) (Proc.devRef .tc main_v4) = _
    after_results
    rfl
  rw [e, hC, hD]

theorem ada_eq (hW : m (c.tc.loc main_arg4) = Wa) : V1 m ρ c main_v5 = shapeCast S1024x6144 Wa shapeCasts_S1x1024x6144_S1024x6144 := by
  have e : V1 m ρ c main_v5 = (shapeCast S1024x6144 (m (c.tc.loc main_arg4)) shapeCasts_S1x1024x6144_S1024x6144 :) := by
    show StableHlo.after hostOps0 (W0 m ρ c) (Proc.devRef .tc main_v5) = _
    after_results
    rfl
  rw [e, hW]

theorem bias_eq (hB : m (c.tc.loc main_arg5) = Ba) :
    V1 m ρ c main_v7 = shapeCast S1x6144 (shapeCast S6144 Ba shapeCasts_S1x6144_S6144) shapeCasts_S6144_S1x6144 := by
  have e : V1 m ρ c main_v7
      = (shapeCast S1x6144 (shapeCast S6144 (m (c.tc.loc main_arg5)) shapeCasts_S1x6144_S6144) shapeCasts_S6144_S1x6144 :) := by
    show StableHlo.after hostOps0 (W0 m ρ c) (Proc.devRef .tc main_v7) = _
    after_results
    rfl
  rw [e, hB]

/-- The table of modulations. -/
def mods (C : S32x1024.Idx → EReal) (D : S1024.Idx → EReal) (Wa : S1x1024x6144.Idx → EReal) (Ba : S1x6144.Idx → EReal) :
    Vec Ideal S40x6144 .f32 :=
  ProjMod.table (rows C D) (shapeCast S1024x6144 Wa shapeCasts_S1x1024x6144_S1024x6144)
    (shapeCast S1x6144 (shapeCast S6144 Ba shapeCasts_S1x6144_S6144) shapeCasts_S6144_S1x6144)

theorem ada_at (k : Fin 1024) (j : Fin 6144) : shapeCast S1024x6144 Wa shapeCasts_S1x1024x6144_S1024x6144 (ix2 k j) = Wa (ix3 0 k j) := by
  pointwise

theorem bias_at (j : Fin 6144) :
    shapeCast S1x6144 (shapeCast S6144 Ba shapeCasts_S1x6144_S6144) shapeCasts_S6144_S1x6144 (ix2 0 j) = Ba (ix2 0 j) := by
  pointwise

/-- A sequence's modulation. -/
theorem mods_row (b : Fin 32) (r : Fin 40) (hr : r.val = b.val) (j : Fin 6144) :
    mods C D Wa Ba (ix2 r j) = ProjSpec.modulation (fun k => C (ix2 b k)) Wa Ba j := by
  have e (k : Fin 1024) : rows C D (ix2 r k) = C (ix2 b k) :=
    ProjPad.table_row _ _ _ (by pointwise; decide) (by pointwise; decide) C D b r hr k
  show ProjMod.entry _ _ _ r j = _
  unfold ProjMod.entry ProjSpec.modulation
  refine congr (congrArg _ (Finset.sum_congr rfl fun k _ => ?_)) (bias_at j)
  exact congr (congrArg _ (congrArg ProjSpec.silu (e k))) (ada_at k j)

/-- The context's modulation. -/
theorem mods_last (j : Fin 6144) : mods C D Wa Ba (ix2 32 j) = ProjSpec.modulation (fun k => D (ix1 k)) Wa Ba j := by
  have e (k : Fin 1024) : rows C D (ix2 32 k) = D (ix1 k) := ProjPad.table_last _ _ _ (by pointwise; decide) C D k
  show ProjMod.entry _ _ _ 32 j = _
  unfold ProjMod.entry ProjSpec.modulation
  refine congr (congrArg _ (Finset.sum_congr rfl fun k _ => ?_)) (bias_at j)
  exact congr (congrArg _ (congrArg ProjSpec.silu (e k))) (ada_at k j)

/-- What the first call leaves. -/
theorem mods_eq (hC : m (c.tc.loc main_arg1) = C) (hD : m (c.tc.loc main_arg3) = D) (hW : m (c.tc.loc main_arg4) = Wa)
    (hB : m (c.tc.loc main_arg5) = Ba) : W2 m ρ c (Proc.devRef .tc main_v8) = mods C D Wa Ba :=
  (W2_arr m ρ c 3).trans (ProjMod.final (V1 m ρ) c (rows_eq m ρ c hC hD) (ada_eq m ρ c hW) (bias_eq m ρ c hB))

variable {Mo : Vec Ideal S40x6144 .f32}

/-- The sequences' modulations, six parts each. -/
def latMods (Mo : Vec Ideal S40x6144 .f32) : S32x6x1024.Idx → EReal :=
  shapeCast S32x6x1024 (extractStridedSlice S32x6144 ![0, 0] Mo slices_S40x6144_S32x6144_0_0) shapeCasts_S32x6144_S32x6x1024

/-- The context's modulation, in six parts. -/
def ctxMods (Mo : Vec Ideal S40x6144 .f32) : S1x6x1024.Idx → EReal :=
  shapeCast S1x6x1024 (extractStridedSlice S1x6144 ![32, 0] Mo slices_S40x6144_S1x6144_32_0) shapeCasts_S1x6144_S1x6x1024

theorem latMods_at (b : Fin 32) (r : Fin 40) (hr : r.val = b.val) (e : Fin 6) (k : Fin 1024) :
    latMods Mo (ix3 b e k) = Mo (ix2 r (ProjSpec.part e k)) := by
  unfold latMods
  pointwise
  refine congrArg Mo (funext fun a => Fin.ext ?_)
  match a with
  | ⟨0, _⟩ => simp [hr]
  | ⟨1, _⟩ => simp [ProjSpec.part]

theorem ctxMods_at (e : Fin 6) (k : Fin 1024) : ctxMods Mo (ix3 0 e k) = Mo (ix2 32 (ProjSpec.part e k)) := by
  unfold ctxMods
  pointwise
  refine congrArg Mo (funext fun a => Fin.ext ?_)
  match a with
  | ⟨0, _⟩ => simp
  | ⟨1, _⟩ => simp [ProjSpec.part]

end Cert.Proof.ProjHost

end
-- ==== Proof.ProjOut.lean ====
module

public import proofs.«01_k».proof.Proof.ProjHost

/-!
What the projections' program leaves in its results, from its arguments.
-/

@[expose] public section

set_option maxRecDepth 16384

noncomputable section

namespace Cert.Proof.ProjOut

open Idealize.ShloMosaic Idealize.ShloMosaic.TcCoe Cert.Kernel2Ideal Cert.Kernel2Ideal.Gen

variable (m : (ℓ : Loc nD τ sig) → Buf (Elt Ideal) ℓ) (ρ : Dev nD → PrngReg) (c : Dev nD)
  {X : S32x2048x1024.Idx → EReal} {Y : S32x256x1024.Idx → EReal}
  {C : S32x1024.Idx → EReal} {D : S1024.Idx → EReal} {Wa : S1x1024x6144.Idx → EReal} {Ba : S1x6144.Idx → EReal}
  {Gn : S1x1024.Idx → EReal} {Wi : S1x1024x4736.Idx → EReal}

/-- The projection's weights as the calls take them. -/
def weights (Wi : S1x1024x4736.Idx → EReal) : S1024x4736.Idx → EReal :=
  truncf (F := Ideal) (s := S1024x4736) (φ := .f32) .bf16 (shapeCast S1024x4736 Wi shapeCasts_S1x1024x4736_S1024x4736) bitsLt_bf16_f32

/-- The gain as the calls take it. -/
def gain (Gn : S1x1024.Idx → EReal) : S1x1024.Idx → EReal :=
  shapeCast S1x1024 (shapeCast S1024 Gn shapeCasts_S1x1024_S1024) shapeCasts_S1024_S1x1024

theorem gain_at (k : Fin 1024) : gain Gn (ix2 0 k) = Gn (ix2 0 k) := by
  unfold gain
  pointwise

/-- Columns 0 to 1535 of the weights. -/
def w15 (Wi : S1x1024x4736.Idx → EReal) : S1024x1536.Idx → EReal := extractStridedSlice S1024x1536 ![0, 0] (weights Wi) slices_S1024x4736_S1024x1536_0_0

theorem w15_at (k : Fin 1024) (j : Fin 1536) : w15 Wi (ix2 k j) = Wi (ix3 0 k ⟨0 + j.val, by omega⟩) := by
  unfold w15 weights
  pointwise

theorem w15_eq (hW : m (c.tc.loc main_arg7) = Wi) : W3 m ρ c (Proc.devRef .tc main_v15) = w15 Wi := by
  have e : W3 m ρ c (Proc.devRef .tc main_v15) = (w15 (W2 m ρ c (Proc.devRef .tc main_arg7)) :) := by
    show StableHlo.after hostOps1 (W2 m ρ c) (Proc.devRef .tc main_v15) = _
    after_results
    rfl
  rw [e, W2_args m ρ c main_arg7 (by decide), hW]

/-- Columns 1536 to 1919 of the weights. -/
def w16 (Wi : S1x1024x4736.Idx → EReal) : S1024x384.Idx → EReal := extractStridedSlice S1024x384 ![0, 1536] (weights Wi) slices_S1024x4736_S1024x384_0_1536

theorem w16_at (k : Fin 1024) (j : Fin 384) : w16 Wi (ix2 k j) = Wi (ix3 0 k ⟨1536 + j.val, by omega⟩) := by
  unfold w16 weights
  pointwise

theorem w16_eq (hW : m (c.tc.loc main_arg7) = Wi) : W3 m ρ c (Proc.devRef .tc main_v16) = w16 Wi := by
  have e : W3 m ρ c (Proc.devRef .tc main_v16) = (w16 (W2 m ρ c (Proc.devRef .tc main_arg7)) :) := by
    show StableHlo.after hostOps1 (W2 m ρ c) (Proc.devRef .tc main_v16) = _
    after_results
    rfl
  rw [e, W2_args m ρ c main_arg7 (by decide), hW]

/-- Columns 1920 to 2431 of the weights. -/
def w17 (Wi : S1x1024x4736.Idx → EReal) : S1024x512.Idx → EReal := extractStridedSlice S1024x512 ![0, 1920] (weights Wi) slices_S1024x4736_S1024x512_0_1920

theorem w17_at (k : Fin 1024) (j : Fin 512) : w17 Wi (ix2 k j) = Wi (ix3 0 k ⟨1920 + j.val, by omega⟩) := by
  unfold w17 weights
  pointwise

theorem w17_eq (hW : m (c.tc.loc main_arg7) = Wi) : W3 m ρ c (Proc.devRef .tc main_v17) = w17 Wi := by
  have e : W3 m ρ c (Proc.devRef .tc main_v17) = (w17 (W2 m ρ c (Proc.devRef .tc main_arg7)) :) := by
    show StableHlo.after hostOps1 (W2 m ρ c) (Proc.devRef .tc main_v17) = _
    after_results
    rfl
  rw [e, W2_args m ρ c main_arg7 (by decide), hW]

/-- Columns 2432 to 2687 of the weights. -/
def w18 (Wi : S1x1024x4736.Idx → EReal) : S1024x256.Idx → EReal := extractStridedSlice S1024x256 ![0, 2432] (weights Wi) slices_S1024x4736_S1024x256_0_2432

theorem w18_at (k : Fin 1024) (j : Fin 256) : w18 Wi (ix2 k j) = Wi (ix3 0 k ⟨2432 + j.val, by omega⟩) := by
  unfold w18 weights
  pointwise

theorem w18_eq (hW : m (c.tc.loc main_arg7) = Wi) : W3 m ρ c (Proc.devRef .tc main_v18) = w18 Wi := by
  have e : W3 m ρ c (Proc.devRef .tc main_v18) = (w18 (W2 m ρ c (Proc.devRef .tc main_arg7)) :) := by
    show StableHlo.after hostOps1 (W2 m ρ c) (Proc.devRef .tc main_v18) = _
    after_results
    rfl
  rw [e, W2_args m ρ c main_arg7 (by decide), hW]

/-- Columns 2688 to 4735 of the weights. -/
def w19 (Wi : S1x1024x4736.Idx → EReal) : S1024x2048.Idx → EReal := extractStridedSlice S1024x2048 ![0, 2688] (weights Wi) slices_S1024x4736_S1024x2048_0_2688

theorem w19_at (k : Fin 1024) (j : Fin 2048) : w19 Wi (ix2 k j) = Wi (ix3 0 k ⟨2688 + j.val, by omega⟩) := by
  unfold w19 weights
  pointwise

theorem w19_eq (hW : m (c.tc.loc main_arg7) = Wi) : W3 m ρ c (Proc.devRef .tc main_v19) = w19 Wi := by
  have e : W3 m ρ c (Proc.devRef .tc main_v19) = (w19 (W2 m ρ c (Proc.devRef .tc main_arg7)) :) := by
    show StableHlo.after hostOps1 (W2 m ρ c) (Proc.devRef .tc main_v19) = _
    after_results
    rfl
  rw [e, W2_args m ρ c main_arg7 (by decide), hW]

theorem gain1_eq (hG : m (c.tc.loc main_arg6) = Gn) : V3 m ρ c main_v21 = gain Gn := by
  have e : V3 m ρ c main_v21 = (gain (W2 m ρ c (Proc.devRef .tc main_arg6)) :) := by
    show StableHlo.after hostOps1 (W2 m ρ c) (Proc.devRef .tc main_v21) = _
    after_results
    rfl
  rw [e, W2_args m ρ c main_arg6 (by decide), hG]

theorem gain2_eq (hG : m (c.tc.loc main_arg6) = Gn) : V5 m ρ c main_v24 = gain Gn := by
  have e : V5 m ρ c main_v24 = (gain (W4 m ρ c (Proc.devRef .tc main_arg6)) :) := by
    show StableHlo.after hostOps2 (W4 m ρ c) (Proc.devRef .tc main_v24) = _
    after_results
    rfl
  rw [e, W4_args m ρ c main_arg6 (by decide), hG]

theorem lat_mods {Mo : Vec Ideal S40x6144 .f32} (hM : W2 m ρ c (Proc.devRef .tc main_v8) = Mo) : V3 m ρ c main_v10 = ProjHost.latMods Mo := by
  have e : V3 m ρ c main_v10 = (ProjHost.latMods (W2 m ρ c (Proc.devRef .tc main_v8)) :) := by
    show StableHlo.after hostOps1 (W2 m ρ c) (Proc.devRef .tc main_v10) = _
    after_results
    rfl
  rw [e, hM]

theorem ctx_mods {Mo : Vec Ideal S40x6144 .f32} (hM : W2 m ρ c (Proc.devRef .tc main_v8) = Mo) :
    W3 m ρ c (Proc.devRef .tc main_v12) = ProjHost.ctxMods Mo := by
  have e : W3 m ρ c (Proc.devRef .tc main_v12) = (ProjHost.ctxMods (W2 m ρ c (Proc.devRef .tc main_v8)) :) := by
    show StableHlo.after hostOps1 (W2 m ρ c) (Proc.devRef .tc main_v12) = _
    after_results
    rfl
  rw [e, hM]

/-- What the second stretch leaves, the second call and the third stretch keep where they do not write. -/
theorem keep (r : Ref sig .tc) (h1 : ∀ w : Fin cfg1.W, Pipeline.arrRef spec1 w = r → (cfg1.win w).isOut = false) (h2 : r ∉ hostOps2_W) :
    V5 m ρ c r = W3 m ρ c (Proc.devRef .tc r) := (W5_of m ρ c r h2).trans (W4_of m ρ c r h1)

/-- Column `o + j` of a token's projection. -/
def latToken (X : S32x2048x1024.Idx → EReal) (C : S32x1024.Idx → EReal) (Wa : S1x1024x6144.Idx → EReal) (Ba : S1x6144.Idx → EReal)
    (Gn : S1x1024.Idx → EReal) (Wi : S1x1024x4736.Idx → EReal) (b : Fin 32) (t : Fin 2048) (j : Fin 4736) : EReal :=
  ProjSpec.token (fun k => X (ix3 b t k)) (fun k => C (ix2 b k)) Wa Ba Gn Wi j

def ctxToken (Y : S32x256x1024.Idx → EReal) (D : S1024.Idx → EReal) (Wa : S1x1024x6144.Idx → EReal) (Ba : S1x6144.Idx → EReal)
    (Gn : S1x1024.Idx → EReal) (Wi : S1x1024x4736.Idx → EReal) (b : Fin 32) (t : Fin 256) (j : Fin 4736) : EReal :=
  ProjSpec.token (fun k => Y (ix3 b t k)) (fun k => D (ix1 k)) Wa Ba Gn Wi j

theorem lat_at {n o : ℕ} (ho : ∀ j : Fin n, o + j.val < 4736) (w : (⟨2, ![1024, n]⟩ : Shape).Idx → EReal)
    (hw : ∀ k j, w (ix2 k j) = Wi (ix3 0 k ⟨o + j.val, ho j⟩)) (b : Fin 32) (t : Fin 2048) (j : Fin n) :
    ProjLat.projected X (ProjHost.latMods (ProjHost.mods C D Wa Ba)) (gain Gn) ProjLat.laneOf w b t j
      = latToken X C Wa Ba Gn Wi b t ⟨o + j.val, ho j⟩ := by
  unfold ProjLat.projected latToken ProjSpec.token ProjSpec.proj ProjLat.hidden
  refine Finset.sum_congr rfl fun k _ => congr (congrArg _ ?_) (hw k j)
  have eg : (fun k => gain Gn (ix2 0 k)) = fun k => Gn (ix2 0 k) := funext fun k => gain_at k
  have em (e : Fin 6) : (fun k => ProjHost.latMods (ProjHost.mods C D Wa Ba) (ix3 (ProjLat.laneOf b) e k))
      = fun k => ProjSpec.modulation (fun k => C (ix2 b k)) Wa Ba (ProjSpec.part e k) := funext fun k =>
    (ProjHost.latMods_at b ⟨b.val, by omega⟩ rfl e k).trans (ProjHost.mods_row b ⟨b.val, by omega⟩ rfl _)
  rw [eg, em 0, em 1]

theorem ctx_at {n o : ℕ} (ho : ∀ j : Fin n, o + j.val < 4736) (w : (⟨2, ![1024, n]⟩ : Shape).Idx → EReal)
    (hw : ∀ k j, w (ix2 k j) = Wi (ix3 0 k ⟨o + j.val, ho j⟩)) (b : Fin 32) (t : Fin 256) (j : Fin n) :
    ProjCtx.projected Y (ProjHost.ctxMods (ProjHost.mods C D Wa Ba)) (gain Gn) ProjCtx.laneOf w b t j
      = ctxToken Y D Wa Ba Gn Wi b t ⟨o + j.val, ho j⟩ := by
  unfold ProjCtx.projected ctxToken ProjSpec.token ProjSpec.proj ProjCtx.hidden
  refine Finset.sum_congr rfl fun k _ => congr (congrArg _ ?_) (hw k j)
  have eg : (fun k => gain Gn (ix2 0 k)) = fun k => Gn (ix2 0 k) := funext fun k => gain_at k
  have em (e : Fin 6) : (fun k => ProjHost.ctxMods (ProjHost.mods C D Wa Ba) (ix3 (ProjCtx.laneOf b) e k))
      = fun k => ProjSpec.modulation (fun k => D (ix1 k)) Wa Ba (ProjSpec.part e k) := funext fun k =>
    (ProjHost.ctxMods_at e k).trans (ProjHost.mods_last _)
  rw [eg, em 0, em 1]

section
variable (hX : m (c.tc.loc main_arg0) = X) (hC : m (c.tc.loc main_arg1) = C) (hY : m (c.tc.loc main_arg2) = Y)
  (hD : m (c.tc.loc main_arg3) = D) (hA : m (c.tc.loc main_arg4) = Wa) (hB : m (c.tc.loc main_arg5) = Ba)
  (hG : m (c.tc.loc main_arg6) = Gn) (hW : m (c.tc.loc main_arg7) = Wi)
include hX hC hY hD hA hB hG hW

/-- The modulations' result. -/
theorem mod_out (b : Fin 32) (j : Fin 6144) :
    (W7 m ρ c (Proc.devRef .tc main_v26) : S32x6144.Idx → EReal) (ix2 b j) = ProjSpec.modulation (fun k => C (ix2 b k)) Wa Ba j := by
  have e : W7 m ρ c (Proc.devRef .tc main_v26)
      = (extractStridedSlice S32x6144 ![0, 0] (W6 m ρ c (Proc.devRef .tc main_v8)) slices_S40x6144_S32x6144_0_0 :) := by
    show StableHlo.after hostOps3 (W6 m ρ c) (Proc.devRef .tc main_v26) = _
    after_results
  have e8 : W6 m ρ c (Proc.devRef .tc main_v8) = ProjHost.mods C D Wa Ba :=
    (W6_of m ρ c main_v8 (by decide)).trans ((W5_of m ρ c main_v8 (by decide)).trans ((W4_of m ρ c main_v8 (by decide)).trans
      ((W3_of m ρ c main_v8 (by decide)).trans (ProjHost.mods_eq m ρ c hC hD hA hB))))
  rw [e, e8]
  refine Eq.trans ?_ (ProjHost.mods_row (D := D) b ⟨b.val, by omega⟩ rfl j)
  pointwise

theorem lat0 (b : Fin 32) (t : Fin 2048) (j : Fin 1536) :
    (W7 m ρ c (Proc.devRef .tc main_v22_0) : S32x2048x1536.Idx → EReal) (ix3 b t j) = latToken X C Wa Ba Gn Wi b t ⟨0 + j.val, by omega⟩ := by
  have e : W7 m ρ c (Proc.devRef .tc main_v22_0)
      = (ProjLat.out8 X (ProjHost.latMods (ProjHost.mods C D Wa Ba)) (gain Gn) (w15 Wi) :) :=
    (W7_of m ρ c main_v22_0 (by decide)).trans ((W6_of m ρ c main_v22_0 (by decide)).trans ((W5_of m ρ c main_v22_0 (by decide)).trans
      ((W4_arr m ρ c 8).trans (ProjLat.final8 (V3 m ρ) c ((W3_args m ρ c main_arg0 (by decide)).trans hX)
        (lat_mods m ρ c (ProjHost.mods_eq m ρ c hC hD hA hB)) (gain1_eq m ρ c hG) (w15_eq m ρ c hW)))))
  rw [e]
  exact lat_at (fun j => by omega) (w15 Wi) w15_at b t j

theorem lat1 (b : Fin 32) (t : Fin 2048) (j : Fin 384) :
    (W7 m ρ c (Proc.devRef .tc main_v22_1) : S32x2048x384.Idx → EReal) (ix3 b t j) = latToken X C Wa Ba Gn Wi b t ⟨1536 + j.val, by omega⟩ := by
  have e : W7 m ρ c (Proc.devRef .tc main_v22_1)
      = (ProjLat.out9 X (ProjHost.latMods (ProjHost.mods C D Wa Ba)) (gain Gn) (w16 Wi) :) :=
    (W7_of m ρ c main_v22_1 (by decide)).trans ((W6_of m ρ c main_v22_1 (by decide)).trans ((W5_of m ρ c main_v22_1 (by decide)).trans
      ((W4_arr m ρ c 9).trans (ProjLat.final9 (V3 m ρ) c ((W3_args m ρ c main_arg0 (by decide)).trans hX)
        (lat_mods m ρ c (ProjHost.mods_eq m ρ c hC hD hA hB)) (gain1_eq m ρ c hG) (w16_eq m ρ c hW)))))
  rw [e]
  exact lat_at (fun j => by omega) (w16 Wi) w16_at b t j

theorem lat2 (b : Fin 32) (t : Fin 2048) (j : Fin 512) :
    (W7 m ρ c (Proc.devRef .tc main_v22_2) : S32x2048x512.Idx → EReal) (ix3 b t j) = latToken X C Wa Ba Gn Wi b t ⟨1920 + j.val, by omega⟩ := by
  have e : W7 m ρ c (Proc.devRef .tc main_v22_2)
      = (ProjLat.out10 X (ProjHost.latMods (ProjHost.mods C D Wa Ba)) (gain Gn) (w17 Wi) :) :=
    (W7_of m ρ c main_v22_2 (by decide)).trans ((W6_of m ρ c main_v22_2 (by decide)).trans ((W5_of m ρ c main_v22_2 (by decide)).trans
      ((W4_arr m ρ c 10).trans (ProjLat.final10 (V3 m ρ) c ((W3_args m ρ c main_arg0 (by decide)).trans hX)
        (lat_mods m ρ c (ProjHost.mods_eq m ρ c hC hD hA hB)) (gain1_eq m ρ c hG) (w17_eq m ρ c hW)))))
  rw [e]
  exact lat_at (fun j => by omega) (w17 Wi) w17_at b t j

theorem lat3 (b : Fin 32) (t : Fin 2048) (j : Fin 256) :
    (W7 m ρ c (Proc.devRef .tc main_v22_3) : S32x2048x256.Idx → EReal) (ix3 b t j) = latToken X C Wa Ba Gn Wi b t ⟨2432 + j.val, by omega⟩ := by
  have e : W7 m ρ c (Proc.devRef .tc main_v22_3)
      = (ProjLat.out11 X (ProjHost.latMods (ProjHost.mods C D Wa Ba)) (gain Gn) (w18 Wi) :) :=
    (W7_of m ρ c main_v22_3 (by decide)).trans ((W6_of m ρ c main_v22_3 (by decide)).trans ((W5_of m ρ c main_v22_3 (by decide)).trans
      ((W4_arr m ρ c 11).trans (ProjLat.final11 (V3 m ρ) c ((W3_args m ρ c main_arg0 (by decide)).trans hX)
        (lat_mods m ρ c (ProjHost.mods_eq m ρ c hC hD hA hB)) (gain1_eq m ρ c hG) (w18_eq m ρ c hW)))))
  rw [e]
  exact lat_at (fun j => by omega) (w18 Wi) w18_at b t j

theorem lat4 (b : Fin 32) (t : Fin 2048) (j : Fin 2048) :
    (W7 m ρ c (Proc.devRef .tc main_v22_4) : S32x2048x2048.Idx → EReal) (ix3 b t j) = latToken X C Wa Ba Gn Wi b t ⟨2688 + j.val, by omega⟩ := by
  have e : W7 m ρ c (Proc.devRef .tc main_v22_4)
      = (ProjLat.out12 X (ProjHost.latMods (ProjHost.mods C D Wa Ba)) (gain Gn) (w19 Wi) :) :=
    (W7_of m ρ c main_v22_4 (by decide)).trans ((W6_of m ρ c main_v22_4 (by decide)).trans ((W5_of m ρ c main_v22_4 (by decide)).trans
      ((W4_arr m ρ c 12).trans (ProjLat.final12 (V3 m ρ) c ((W3_args m ρ c main_arg0 (by decide)).trans hX)
        (lat_mods m ρ c (ProjHost.mods_eq m ρ c hC hD hA hB)) (gain1_eq m ρ c hG) (w19_eq m ρ c hW)))))
  rw [e]
  exact lat_at (fun j => by omega) (w19 Wi) w19_at b t j

theorem ctx0 (b : Fin 32) (t : Fin 256) (j : Fin 1536) :
    (W7 m ρ c (Proc.devRef .tc main_v25_0) : S32x256x1536.Idx → EReal) (ix3 b t j) = ctxToken Y D Wa Ba Gn Wi b t ⟨0 + j.val, by omega⟩ := by
  have e : W7 m ρ c (Proc.devRef .tc main_v25_0)
      = (ProjCtx.out6 Y (ProjHost.ctxMods (ProjHost.mods C D Wa Ba)) (gain Gn) (w15 Wi) :) :=
    (W7_of m ρ c main_v25_0 (by decide)).trans
      ((W6_arr m ρ c 6).trans (ProjCtx.final6 (V5 m ρ) c ((W5_args m ρ c main_arg2 (by decide)).trans hY)
        ((keep m ρ c main_v12 (by decide) (by decide)).trans (ctx_mods m ρ c (ProjHost.mods_eq m ρ c hC hD hA hB))) (gain2_eq m ρ c hG)
        ((keep m ρ c main_v15 (by decide) (by decide)).trans (w15_eq m ρ c hW))))
  rw [e]
  exact ctx_at (fun j => by omega) (w15 Wi) w15_at b t j

theorem ctx1 (b : Fin 32) (t : Fin 256) (j : Fin 384) :
    (W7 m ρ c (Proc.devRef .tc main_v25_1) : S32x256x384.Idx → EReal) (ix3 b t j) = ctxToken Y D Wa Ba Gn Wi b t ⟨1536 + j.val, by omega⟩ := by
  have e : W7 m ρ c (Proc.devRef .tc main_v25_1)
      = (ProjCtx.out7 Y (ProjHost.ctxMods (ProjHost.mods C D Wa Ba)) (gain Gn) (w16 Wi) :) :=
    (W7_of m ρ c main_v25_1 (by decide)).trans
      ((W6_arr m ρ c 7).trans (ProjCtx.final7 (V5 m ρ) c ((W5_args m ρ c main_arg2 (by decide)).trans hY)
        ((keep m ρ c main_v12 (by decide) (by decide)).trans (ctx_mods m ρ c (ProjHost.mods_eq m ρ c hC hD hA hB))) (gain2_eq m ρ c hG)
        ((keep m ρ c main_v16 (by decide) (by decide)).trans (w16_eq m ρ c hW))))
  rw [e]
  exact ctx_at (fun j => by omega) (w16 Wi) w16_at b t j

theorem ctx2 (b : Fin 32) (t : Fin 256) (j : Fin 256) :
    (W7 m ρ c (Proc.devRef .tc main_v25_2) : S32x256x256.Idx → EReal) (ix3 b t j) = ctxToken Y D Wa Ba Gn Wi b t ⟨2432 + j.val, by omega⟩ := by
  have e : W7 m ρ c (Proc.devRef .tc main_v25_2)
      = (ProjCtx.out8 Y (ProjHost.ctxMods (ProjHost.mods C D Wa Ba)) (gain Gn) (w18 Wi) :) :=
    (W7_of m ρ c main_v25_2 (by decide)).trans
      ((W6_arr m ρ c 8).trans (ProjCtx.final8 (V5 m ρ) c ((W5_args m ρ c main_arg2 (by decide)).trans hY)
        ((keep m ρ c main_v12 (by decide) (by decide)).trans (ctx_mods m ρ c (ProjHost.mods_eq m ρ c hC hD hA hB))) (gain2_eq m ρ c hG)
        ((keep m ρ c main_v18 (by decide) (by decide)).trans (w18_eq m ρ c hW))))
  rw [e]
  exact ctx_at (fun j => by omega) (w18 Wi) w18_at b t j

end

end Cert.Proof.ProjOut

end
-- ==== Proof.ProjRef.lean ====
module

public import proofs.«01_k».proof.Proof.Gen.Reference2Ideal.Run
public import proofs.«01_k».proof.Proof.ProjSpec

/-!
The projections' reference, stage by stage, and each stage at an index.
-/

@[expose] public section

set_option maxRecDepth 16384

noncomputable section

namespace Cert.Proof.ProjRef

open Idealize.ShloMosaic Idealize.ShloMosaic.TcCoe Cert.Reference2Ideal Cert.Reference2Ideal.Gen

variable (X : S32x2048x1024.Idx → EReal) (Y : S32x256x1024.Idx → EReal)
  (C : S32x1024.Idx → EReal) (D : S1024.Idx → EReal) (Wa : S1x1024x6144.Idx → EReal) (Ba : S1x6144.Idx → EReal)
  (Gn : S1x1024.Idx → EReal) (Wi : S1x1024x4736.Idx → EReal)

/-- The latents' modulations: the activated conditioning through the linear map. -/
def latMods : S32x6144.Idx → EReal :=
  addf (F := Ideal) (φ := .f32)
    (Host.dotGeneral (F := Ideal) (φ₁ := .f32) (φ₂ := .f32) dot_S32x1024_S1024x6144_S32x6144_1_0_0_1_n_n none
      (mulf (F := Ideal) (φ := .f32) C (Host.divf (F := Ideal) (φ := .f32) (broadcastInDim S32x1024 ![] bcast_S_S32x1024 (constant S_ .f32 0x3F800000#32))
        (addf (F := Ideal) (φ := .f32) (broadcastInDim S32x1024 ![] bcast_S_S32x1024 (constant S_ .f32 0x3F800000#32))
          (Host.exp (F := Ideal) (φ := .f32) (Host.negf (F := Ideal) (φ := .f32) C)))))
      (shapeCast S1024x6144 Wa shapeCasts_S1x1024x6144_S1024x6144))
    (broadcastInDim S32x6144 ![0, 1] bcast_S1x6144_S32x6144_0_1
      (broadcastInDim S1x6144 ![1] bcast_S6144_S1x6144_1 (shapeCast S6144 Ba shapeCasts_S1x6144_S6144)))

/-- The context's modulations. -/
def ctxMods : S6144.Idx → EReal :=
  addf (F := Ideal) (φ := .f32)
    (Host.dotGeneral (F := Ideal) (φ₁ := .f32) (φ₂ := .f32) dot_S1024_S1024x6144_S6144_0_0_n_1_n_n none
      (mulf (F := Ideal) (φ := .f32) D (Host.divf (F := Ideal) (φ := .f32) (broadcastInDim S1024 ![] bcast_S_S1024 (constant S_ .f32 0x3F800000#32))
        (addf (F := Ideal) (φ := .f32) (broadcastInDim S1024 ![] bcast_S_S1024 (constant S_ .f32 0x3F800000#32))
          (Host.exp (F := Ideal) (φ := .f32) (Host.negf (F := Ideal) (φ := .f32) D)))))
      (shapeCast S1024x6144 Wa shapeCasts_S1x1024x6144_S1024x6144))
    (shapeCast S6144 Ba shapeCasts_S1x6144_S6144)

/-- The latents' hidden rows from modulations `M`: the mean-square norm with its gain, scaled and shifted. -/
def latHidden (M : S32x6144.Idx → EReal) : S32x2048x1024.Idx → EReal :=
  addf (F := Ideal) (φ := .f32)
    (mulf (F := Ideal) (φ := .f32)
      (mulf (F := Ideal) (φ := .f32)
        (mulf (F := Ideal) (φ := .f32) X (broadcastInDim S32x2048x1024 ![0, 1, 2] bcast_S32x2048x1_S32x2048x1024_0_1_2
          (Host.rsqrt (F := Ideal) (φ := .f32) (addf (F := Ideal) (φ := .f32) (Host.divf (F := Ideal) (φ := .f32)
            (broadcastInDim S32x2048x1 ![0, 1] bcast_S32x2048_S32x2048x1_0_1
              (Host.reduceAdd (F := Ideal) (φ := .f32) (mulf (F := Ideal) (φ := .f32) X X) (constant S_ .f32 0x00000000#32) reducesTo_S32x2048x1024_S32x2048_d2 h_S_))
            (broadcastInDim S32x2048x1 ![] bcast_S_S32x2048x1 (constant S_ .f32 0x44800000#32)))
            (broadcastInDim S32x2048x1 ![] bcast_S_S32x2048x1 (constant S_ .f32 0x358637BD#32))))))
        (broadcastInDim S32x2048x1024 ![0, 1, 2] bcast_S1x1x1024_S32x2048x1024_0_1_2
          (broadcastInDim S1x1x1024 ![2] bcast_S1024_S1x1x1024_2 (shapeCast S1024 Gn shapeCasts_S1x1024_S1024))))
      (broadcastInDim S32x2048x1024 ![0, 1, 2] bcast_S32x1x1024_S32x2048x1024_0_1_2
        (addf (F := Ideal) (φ := .f32) (broadcastInDim S32x1x1024 ![] bcast_S_S32x1x1024 (constant S_ .f32 0x3F800000#32))
          (extractStridedSlice S32x1x1024 ![0, 0, 1024] (broadcastInDim S32x1x6144 ![0, 2] bcast_S32x6144_S32x1x6144_0_2 M)
            slices_S32x1x6144_S32x1x1024_0_0_1024))))
    (broadcastInDim S32x2048x1024 ![0, 1, 2] bcast_S32x1x1024_S32x2048x1024_0_1_2
      (extractStridedSlice S32x1x1024 ![0, 0, 0] (broadcastInDim S32x1x6144 ![0, 2] bcast_S32x6144_S32x1x6144_0_2 M)
        slices_S32x1x6144_S32x1x1024_0_0_0))

/-- The context's hidden rows. -/
def ctxHidden (M : S6144.Idx → EReal) : S32x256x1024.Idx → EReal :=
  addf (F := Ideal) (φ := .f32)
    (mulf (F := Ideal) (φ := .f32)
      (mulf (F := Ideal) (φ := .f32)
        (mulf (F := Ideal) (φ := .f32) Y (broadcastInDim S32x256x1024 ![0, 1, 2] bcast_S32x256x1_S32x256x1024_0_1_2
          (Host.rsqrt (F := Ideal) (φ := .f32) (addf (F := Ideal) (φ := .f32) (Host.divf (F := Ideal) (φ := .f32)
            (broadcastInDim S32x256x1 ![0, 1] bcast_S32x256_S32x256x1_0_1
              (Host.reduceAdd (F := Ideal) (φ := .f32) (mulf (F := Ideal) (φ := .f32) Y Y) (constant S_ .f32 0x00000000#32) reducesTo_S32x256x1024_S32x256_d2 h_S_))
            (broadcastInDim S32x256x1 ![] bcast_S_S32x256x1 (constant S_ .f32 0x44800000#32)))
            (broadcastInDim S32x256x1 ![] bcast_S_S32x256x1 (constant S_ .f32 0x358637BD#32))))))
        (broadcastInDim S32x256x1024 ![0, 1, 2] bcast_S1x1x1024_S32x256x1024_0_1_2
          (broadcastInDim S1x1x1024 ![2] bcast_S1024_S1x1x1024_2 (shapeCast S1024 Gn shapeCasts_S1x1024_S1024))))
      (broadcastInDim S32x256x1024 ![0, 1, 2] bcast_S1x1x1024_S32x256x1024_0_1_2
        (addf (F := Ideal) (φ := .f32) (broadcastInDim S1x1x1024 ![] bcast_S_S1x1x1024 (constant S_ .f32 0x3F800000#32))
          (extractStridedSlice S1x1x1024 ![0, 0, 1024] (broadcastInDim S1x1x6144 ![2] bcast_S6144_S1x1x6144_2 M)
            slices_S1x1x6144_S1x1x1024_0_0_1024))))
    (broadcastInDim S32x256x1024 ![0, 1, 2] bcast_S1x1x1024_S32x256x1024_0_1_2
      (extractStridedSlice S1x1x1024 ![0, 0, 0] (broadcastInDim S1x1x6144 ![2] bcast_S6144_S1x1x6144_2 M)
        slices_S1x1x6144_S1x1x1024_0_0_0))

/-- All columns of the latents' projection. -/
def latProj (H : S32x2048x1024.Idx → EReal) : S32x2048x4736.Idx → EReal :=
  Host.dotGeneral (F := Ideal) (φ₁ := .f32) (φ₂ := .f32) dot_S32x2048x1024_S1024x4736_S32x2048x4736_2_0_01_1_n_n none H
    (shapeCast S1024x4736 Wi shapeCasts_S1x1024x4736_S1024x4736)

/-- All columns of the context's projection. -/
def ctxProj (H : S32x256x1024.Idx → EReal) : S32x256x4736.Idx → EReal :=
  Host.dotGeneral (F := Ideal) (φ₁ := .f32) (φ₂ := .f32) dot_S32x256x1024_S1024x4736_S32x256x4736_2_0_01_1_n_n none H
    (shapeCast S1024x4736 Wi shapeCasts_S1x1024x4736_S1024x4736)

theorem latMods_at (b : Fin 32) (j : Fin 6144) : latMods C Wa Ba (ix2 b j) = ProjSpec.modulation (fun k => C (ix2 b k)) Wa Ba j := by
  unfold latMods ProjSpec.modulation ProjSpec.silu
  pointwise

theorem ctxMods_at (j : Fin 6144) : ctxMods D Wa Ba (ix1 j) = ProjSpec.modulation (fun k => D (ix1 k)) Wa Ba j := by
  unfold ctxMods ProjSpec.modulation ProjSpec.silu
  pointwise

theorem latHidden_at (M : S32x6144.Idx → EReal) (b : Fin 32) (t : Fin 2048) (k : Fin 1024) :
    latHidden X Gn M (ix3 b t k) = ProjSpec.hid (fun k => X (ix3 b t k)) (fun k => Gn (ix2 0 k))
      (fun k => M (ix2 b (ProjSpec.part 0 k))) (fun k => M (ix2 b (ProjSpec.part 1 k))) k := by
  unfold latHidden ProjSpec.hid ProjSpec.part
  pointwise

theorem ctxHidden_at (M : S6144.Idx → EReal) (b : Fin 32) (t : Fin 256) (k : Fin 1024) :
    ctxHidden Y Gn M (ix3 b t k) = ProjSpec.hid (fun k => Y (ix3 b t k)) (fun k => Gn (ix2 0 k))
      (fun k => M (ix1 (ProjSpec.part 0 k))) (fun k => M (ix1 (ProjSpec.part 1 k))) k := by
  unfold ctxHidden ProjSpec.hid ProjSpec.part
  pointwise

theorem latProj_at (H : S32x2048x1024.Idx → EReal) (b : Fin 32) (t : Fin 2048) (j : Fin 4736) :
    latProj Wi H (ix3 b t j) = ∑ k : Fin 1024, H (ix3 b t k) * Wi (ix3 0 k j) := by
  unfold latProj
  pointwise

theorem ctxProj_at (H : S32x256x1024.Idx → EReal) (b : Fin 32) (t : Fin 256) (j : Fin 4736) :
    ctxProj Wi H (ix3 b t j) = ∑ k : Fin 1024, H (ix3 b t k) * Wi (ix3 0 k j) := by
  unfold ctxProj
  pointwise

end Cert.Proof.ProjRef

end
-- ==== Proof.ProjMeet.lean ====
module

public import proofs.«01_k».proof.Defs
public import proofs.«01_k».proof.Proof.ProjRun
public import proofs.«01_k».proof.Proof.ProjOut
public import proofs.«01_k».proof.Proof.ProjRef

/-!
The projections' program and its reference end with the same nine arrays.
-/

@[expose] public section

set_option maxRecDepth 16384

noncomputable section

namespace Cert.Proof.ProjMeet

open Idealize.ShloMosaic Idealize.ShloMosaic.TcCoe Idealize.SL.Sem

section
variable (X : Cert.Kernel2Ideal.S32x2048x1024.Idx → EReal) (Y : Cert.Kernel2Ideal.S32x256x1024.Idx → EReal)
  (C : Cert.Kernel2Ideal.S32x1024.Idx → EReal) (D : Cert.Kernel2Ideal.S1024.Idx → EReal)
  (Wa : Cert.Kernel2Ideal.S1x1024x6144.Idx → EReal) (Ba : Cert.Kernel2Ideal.S1x6144.Idx → EReal)
  (Gn : Cert.Kernel2Ideal.S1x1024.Idx → EReal) (Wi : Cert.Kernel2Ideal.S1x1024x4736.Idx → EReal)

/-- The modulations of the samples. -/
def mods : (⟨2, ![32, 6144]⟩ : Shape).Idx → EReal := fun i => ProjSpec.modulation (fun k => C (ix2 (i 0) k)) Wa Ba (i 1)

/-- Columns `o` to `o + n - 1` of the latents' projection. -/
def lat (n o : ℕ) (ho : ∀ j : Fin n, o + j.val < 4736) : (⟨3, ![32, 2048, n]⟩ : Shape).Idx → EReal :=
  fun i => ProjOut.latToken X C Wa Ba Gn Wi (i 0) (i 1) ⟨o + (i 2).val, ho (i 2)⟩

/-- Columns `o` to `o + n - 1` of the context's projection. -/
def ctx (n o : ℕ) (ho : ∀ j : Fin n, o + j.val < 4736) : (⟨3, ![32, 256, n]⟩ : Shape).Idx → EReal :=
  fun i => ProjOut.ctxToken Y D Wa Ba Gn Wi (i 0) (i 1) ⟨o + (i 2).val, ho (i 2)⟩
end

/-- Two arrays of rank three with the same entries. -/
theorem ext3 {a b d : ℕ} {f g : (⟨3, ![a, b, d]⟩ : Shape).Idx → EReal} (h : ∀ x y z, f (ix3 x y z) = g (ix3 x y z)) : f = g :=
  funext fun i => by rw [show i = ix3 (i 0) (i 1) (i 2) from funext fun k => by fin_cases k <;> rfl]; exact h _ _ _

theorem ext2 {a b : ℕ} {f g : (⟨2, ![a, b]⟩ : Shape).Idx → EReal} (h : ∀ x y, f (ix2 x y) = g (ix2 x y)) : f = g :=
  funext fun i => by rw [show i = ix2 (i 0) (i 1) from funext fun k => by fin_cases k <;> rfl]; exact h _ _

section
open Cert.Reference2Ideal Cert.Reference2Ideal.Gen

variable {X X' : S32x2048x1024.Idx → EReal} {Y Y' : S32x256x1024.Idx → EReal}
  {C C' : S32x1024.Idx → EReal} {D D' : S1024.Idx → EReal} {Wa Wa' : S1x1024x6144.Idx → EReal} {Ba Ba' : S1x6144.Idx → EReal}
  {Gn Gn' : S1x1024.Idx → EReal} {Wi Wi' : S1x1024x4736.Idx → EReal}

theorem ref_mods (hC : C' = C) (hA : Wa' = Wa) (hB : Ba' = Ba) : ProjRef.latMods C' Wa' Ba' = mods C Wa Ba := by
  subst hC hA hB
  exact ext2 fun b j => ProjRef.latMods_at _ _ _ b j

theorem lat_entry (b : Fin 32) (t : Fin 2048) (j : Fin 4736) :
    ProjRef.latProj Wi (ProjRef.latHidden X Gn (ProjRef.latMods C Wa Ba)) (ix3 b t j) = ProjOut.latToken X C Wa Ba Gn Wi b t j := by
  unfold ProjOut.latToken ProjSpec.token ProjSpec.proj
  refine (ProjRef.latProj_at _ _ b t j).trans (Finset.sum_congr rfl fun k _ => congrArg (· * _) ?_)
  refine (ProjRef.latHidden_at X Gn _ b t k).trans ?_
  simp only [ProjRef.latMods_at]

theorem ctx_entry (b : Fin 32) (t : Fin 256) (j : Fin 4736) :
    ProjRef.ctxProj Wi (ProjRef.ctxHidden Y Gn (ProjRef.ctxMods D Wa Ba)) (ix3 b t j) = ProjOut.ctxToken Y D Wa Ba Gn Wi b t j := by
  unfold ProjOut.ctxToken ProjSpec.token ProjSpec.proj
  refine (ProjRef.ctxProj_at _ _ b t j).trans (Finset.sum_congr rfl fun k _ => congrArg (· * _) ?_)
  refine (ProjRef.ctxHidden_at Y Gn _ b t k).trans ?_
  simp only [ProjRef.ctxMods_at]

theorem ref_lat0 (hX : X' = X) (hC : C' = C) (hA : Wa' = Wa) (hB : Ba' = Ba) (hG : Gn' = Gn) (hW : Wi' = Wi) :
    extractStridedSlice S32x2048x1536 ![0, 0, 0] (ProjRef.latProj Wi' (ProjRef.latHidden X' Gn' (ProjRef.latMods C' Wa' Ba'))) slices_S32x2048x4736_S32x2048x1536_0_0_0
      = lat X C Wa Ba Gn Wi 1536 0 (fun j => by omega) := by
  subst hX hC hA hB hG hW
  refine ext3 fun b t j => Eq.trans ?_ (lat_entry b t _)
  pointwise

theorem ref_lat1 (hX : X' = X) (hC : C' = C) (hA : Wa' = Wa) (hB : Ba' = Ba) (hG : Gn' = Gn) (hW : Wi' = Wi) :
    extractStridedSlice S32x2048x384 ![0, 0, 1536] (ProjRef.latProj Wi' (ProjRef.latHidden X' Gn' (ProjRef.latMods C' Wa' Ba'))) slices_S32x2048x4736_S32x2048x384_0_0_1536
      = lat X C Wa Ba Gn Wi 384 1536 (fun j => by omega) := by
  subst hX hC hA hB hG hW
  refine ext3 fun b t j => Eq.trans ?_ (lat_entry b t _)
  pointwise

theorem ref_lat2 (hX : X' = X) (hC : C' = C) (hA : Wa' = Wa) (hB : Ba' = Ba) (hG : Gn' = Gn) (hW : Wi' = Wi) :
    extractStridedSlice S32x2048x512 ![0, 0, 1920] (ProjRef.latProj Wi' (ProjRef.latHidden X' Gn' (ProjRef.latMods C' Wa' Ba'))) slices_S32x2048x4736_S32x2048x512_0_0_1920
      = lat X C Wa Ba Gn Wi 512 1920 (fun j => by omega) := by
  subst hX hC hA hB hG hW
  refine ext3 fun b t j => Eq.trans ?_ (lat_entry b t _)
  pointwise

theorem ref_lat3 (hX : X' = X) (hC : C' = C) (hA : Wa' = Wa) (hB : Ba' = Ba) (hG : Gn' = Gn) (hW : Wi' = Wi) :
    extractStridedSlice S32x2048x256 ![0, 0, 2432] (ProjRef.latProj Wi' (ProjRef.latHidden X' Gn' (ProjRef.latMods C' Wa' Ba'))) slices_S32x2048x4736_S32x2048x256_0_0_2432
      = lat X C Wa Ba Gn Wi 256 2432 (fun j => by omega) := by
  subst hX hC hA hB hG hW
  refine ext3 fun b t j => Eq.trans ?_ (lat_entry b t _)
  pointwise

theorem ref_lat4 (hX : X' = X) (hC : C' = C) (hA : Wa' = Wa) (hB : Ba' = Ba) (hG : Gn' = Gn) (hW : Wi' = Wi) :
    extractStridedSlice S32x2048x2048 ![0, 0, 2688] (ProjRef.latProj Wi' (ProjRef.latHidden X' Gn' (ProjRef.latMods C' Wa' Ba'))) slices_S32x2048x4736_S32x2048x2048_0_0_2688
      = lat X C Wa Ba Gn Wi 2048 2688 (fun j => by omega) := by
  subst hX hC hA hB hG hW
  refine ext3 fun b t j => Eq.trans ?_ (lat_entry b t _)
  pointwise

theorem ref_ctx0 (hY : Y' = Y) (hD : D' = D) (hA : Wa' = Wa) (hB : Ba' = Ba) (hG : Gn' = Gn) (hW : Wi' = Wi) :
    extractStridedSlice S32x256x1536 ![0, 0, 0] (ProjRef.ctxProj Wi' (ProjRef.ctxHidden Y' Gn' (ProjRef.ctxMods D' Wa' Ba'))) slices_S32x256x4736_S32x256x1536_0_0_0
      = ctx Y D Wa Ba Gn Wi 1536 0 (fun j => by omega) := by
  subst hY hD hA hB hG hW
  refine ext3 fun b t j => Eq.trans ?_ (ctx_entry b t _)
  pointwise

theorem ref_ctx1 (hY : Y' = Y) (hD : D' = D) (hA : Wa' = Wa) (hB : Ba' = Ba) (hG : Gn' = Gn) (hW : Wi' = Wi) :
    extractStridedSlice S32x256x384 ![0, 0, 1536] (ProjRef.ctxProj Wi' (ProjRef.ctxHidden Y' Gn' (ProjRef.ctxMods D' Wa' Ba'))) slices_S32x256x4736_S32x256x384_0_0_1536
      = ctx Y D Wa Ba Gn Wi 384 1536 (fun j => by omega) := by
  subst hY hD hA hB hG hW
  refine ext3 fun b t j => Eq.trans ?_ (ctx_entry b t _)
  pointwise

theorem ref_ctx2 (hY : Y' = Y) (hD : D' = D) (hA : Wa' = Wa) (hB : Ba' = Ba) (hG : Gn' = Gn) (hW : Wi' = Wi) :
    extractStridedSlice S32x256x256 ![0, 0, 2432] (ProjRef.ctxProj Wi' (ProjRef.ctxHidden Y' Gn' (ProjRef.ctxMods D' Wa' Ba'))) slices_S32x256x4736_S32x256x256_0_0_2432
      = ctx Y D Wa Ba Gn Wi 256 2432 (fun j => by omega) := by
  subst hY hD hA hB hG hW
  refine ext3 fun b t j => Eq.trans ?_ (ctx_entry b t _)
  pointwise

end

section
open Cert.Kernel2Ideal Cert.Kernel2Ideal.Gen
variable (m : (ℓ : Loc nD τ sig) → Buf (Elt Ideal) ℓ) (ρ : Dev nD → PrngReg)

/-- The program's run: its nine results and its unchanged arguments. -/
theorem runs : θ_run defs (onTc (τ := τ) (main (F := Ideal))) ⟨m, fun _ => 0, ρ⟩ (fun r => ∀ c : Dev nD,
    r.2.mem (c.tc.loc main_v26) = mods (m (c.tc.loc main_arg1)) (m (c.tc.loc main_arg4)) (m (c.tc.loc main_arg5))
    ∧ r.2.mem (c.tc.loc main_v22_0) = lat (m (c.tc.loc main_arg0)) (m (c.tc.loc main_arg1)) (m (c.tc.loc main_arg4)) (m (c.tc.loc main_arg5)) (m (c.tc.loc main_arg6)) (m (c.tc.loc main_arg7)) 1536 0 (fun j => by omega)
    ∧ r.2.mem (c.tc.loc main_v22_1) = lat (m (c.tc.loc main_arg0)) (m (c.tc.loc main_arg1)) (m (c.tc.loc main_arg4)) (m (c.tc.loc main_arg5)) (m (c.tc.loc main_arg6)) (m (c.tc.loc main_arg7)) 384 1536 (fun j => by omega)
    ∧ r.2.mem (c.tc.loc main_v22_2) = lat (m (c.tc.loc main_arg0)) (m (c.tc.loc main_arg1)) (m (c.tc.loc main_arg4)) (m (c.tc.loc main_arg5)) (m (c.tc.loc main_arg6)) (m (c.tc.loc main_arg7)) 512 1920 (fun j => by omega)
    ∧ r.2.mem (c.tc.loc main_v22_3) = lat (m (c.tc.loc main_arg0)) (m (c.tc.loc main_arg1)) (m (c.tc.loc main_arg4)) (m (c.tc.loc main_arg5)) (m (c.tc.loc main_arg6)) (m (c.tc.loc main_arg7)) 256 2432 (fun j => by omega)
    ∧ r.2.mem (c.tc.loc main_v22_4) = lat (m (c.tc.loc main_arg0)) (m (c.tc.loc main_arg1)) (m (c.tc.loc main_arg4)) (m (c.tc.loc main_arg5)) (m (c.tc.loc main_arg6)) (m (c.tc.loc main_arg7)) 2048 2688 (fun j => by omega)
    ∧ r.2.mem (c.tc.loc main_v25_0) = ctx (m (c.tc.loc main_arg2)) (m (c.tc.loc main_arg3)) (m (c.tc.loc main_arg4)) (m (c.tc.loc main_arg5)) (m (c.tc.loc main_arg6)) (m (c.tc.loc main_arg7)) 1536 0 (fun j => by omega)
    ∧ r.2.mem (c.tc.loc main_v25_1) = ctx (m (c.tc.loc main_arg2)) (m (c.tc.loc main_arg3)) (m (c.tc.loc main_arg4)) (m (c.tc.loc main_arg5)) (m (c.tc.loc main_arg6)) (m (c.tc.loc main_arg7)) 384 1536 (fun j => by omega)
    ∧ r.2.mem (c.tc.loc main_v25_2) = ctx (m (c.tc.loc main_arg2)) (m (c.tc.loc main_arg3)) (m (c.tc.loc main_arg4)) (m (c.tc.loc main_arg5)) (m (c.tc.loc main_arg6)) (m (c.tc.loc main_arg7)) 256 2432 (fun j => by omega)
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)) :=
  (θ_run defs _ _).mono (fun r h c =>
    ⟨(h c _ (mem_uc main_v26 (by decide))).trans (ext2 fun b j => ProjOut.mod_out m ρ c rfl rfl rfl rfl rfl rfl rfl rfl b j),
     (h c _ (mem_uc main_v22_0 (by decide))).trans (ext3 fun b t j => ProjOut.lat0 m ρ c rfl rfl rfl rfl rfl rfl rfl rfl b t j),
     (h c _ (mem_uc main_v22_1 (by decide))).trans (ext3 fun b t j => ProjOut.lat1 m ρ c rfl rfl rfl rfl rfl rfl rfl rfl b t j),
     (h c _ (mem_uc main_v22_2 (by decide))).trans (ext3 fun b t j => ProjOut.lat2 m ρ c rfl rfl rfl rfl rfl rfl rfl rfl b t j),
     (h c _ (mem_uc main_v22_3 (by decide))).trans (ext3 fun b t j => ProjOut.lat3 m ρ c rfl rfl rfl rfl rfl rfl rfl rfl b t j),
     (h c _ (mem_uc main_v22_4 (by decide))).trans (ext3 fun b t j => ProjOut.lat4 m ρ c rfl rfl rfl rfl rfl rfl rfl rfl b t j),
     (h c _ (mem_uc main_v25_0 (by decide))).trans (ext3 fun b t j => ProjOut.ctx0 m ρ c rfl rfl rfl rfl rfl rfl rfl rfl b t j),
     (h c _ (mem_uc main_v25_1 (by decide))).trans (ext3 fun b t j => ProjOut.ctx1 m ρ c rfl rfl rfl rfl rfl rfl rfl rfl b t j),
     (h c _ (mem_uc main_v25_2 (by decide))).trans (ext3 fun b t j => ProjOut.ctx2 m ρ c rfl rfl rfl rfl rfl rfl rfl rfl b t j),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c)⟩)
    (ProjRun.ends m ρ)
end

/-- The reference leaves its arguments unchanged; it has no semaphore. -/
theorem frame_ri : Cert.quiescent_Reference2Ideal (hReference2Ideal := Cert.Reference2Ideal.Gen.facts) := fun m ρ _ =>
  (θ_run Cert.Reference2Ideal.defs _ _).mono
    (fun r h => ⟨fun c => (h c).2.2.2.2.2.2.2.2.2, sem_eq_zero_of_no_sems (by decide) r.2⟩)
    (Cert.Reference2Ideal.Value.run (F := Ideal) m ρ)

/-- With equal arguments the two programs end with the same nine arrays. -/
theorem same : Cert.algebraic_Kernel2Ideal_Reference2Ideal (hKernel2Ideal := Cert.Kernel2Ideal.Gen.facts)
    (hReference2Ideal := Cert.Reference2Ideal.Gen.facts) := fun m ρ m' ρ' _ hag =>
  ⟨_, _, _, _, _, _, _, _, _, runs m ρ,
    (θ_run Cert.Reference2Ideal.defs _ _).mono (fun r h c => by
      obtain ⟨a0, a1, a2, a3, a4, a5, a6, a7⟩ := hag c
      obtain ⟨h0, h1, h2, h3, h4, h5, h6, h7, h8, hr⟩ := h c
      exact ⟨h0.trans (ref_mods a1 a4 a5),
        h1.trans (ref_lat0 a0 a1 a4 a5 a6 a7),
        h2.trans (ref_lat1 a0 a1 a4 a5 a6 a7),
        h3.trans (ref_lat2 a0 a1 a4 a5 a6 a7),
        h4.trans (ref_lat3 a0 a1 a4 a5 a6 a7),
        h5.trans (ref_lat4 a0 a1 a4 a5 a6 a7),
        h6.trans (ref_ctx0 a2 a3 a4 a5 a6 a7),
        h7.trans (ref_ctx1 a2 a3 a4 a5 a6 a7),
        h8.trans (ref_ctx2 a2 a3 a4 a5 a6 a7),
        hr⟩)
      (Cert.Reference2Ideal.Value.run (F := Ideal) m' ρ')⟩

end Cert.Proof.ProjMeet

end
-- ==== Proof.MergeSpec.lean ====
module

public import proofs.«01_k».proof.Proof.ProjSpec

/-!
What the merge of the two branches gives for one token: the recurrence's output normed head by head, gated and projected
beside the attention's, the residual, the second norm with its modulation, and the router's affinities.
-/

@[expose] public section

noncomputable section

namespace Cert.Proof.MergeSpec

open Idealize.ShloMosaic

/-- Place `i` of the head that column `j` lies in; a head is 64 columns. -/
def headAt (j : Fin 512) (i : Fin 64) : Fin 512 := ⟨j.val / 64 * 64 + i.val, by omega⟩

/-- The mean over the head of column `j`. -/
def mean (u : Fin 512 → EReal) (j : Fin 512) : EReal := Ideal.div (∑ i : Fin 64, u (headAt j i)) (Ideal.ofBits .f32 0x42800000#32)

/-- The mean squared deviation over the head of column `j`. -/
def var (u : Fin 512 → EReal) (j : Fin 512) : EReal :=
  Ideal.div (∑ i : Fin 64, (u (headAt j i) - mean u j) * (u (headAt j i) - mean u j)) (Ideal.ofBits .f32 0x42800000#32)

/-- The recurrence's output: normed in its head, scaled and shifted, with the bonus added. -/
def wkv (u w s bo : Fin 512 → EReal) (j : Fin 512) : EReal :=
  (u j - mean u j) * Ideal.rsqrt (var u j + Ideal.ofBits .f32 0x3A27C5AC#32) * w j + s j + bo j

/-- The logistic function. -/
def sig (z : EReal) : EReal := Ideal.div 1 (1 + Ideal.exp (-z))

/-- The recurrence's output under its low-rank gate. -/
def gated (o : Fin 512 → EReal) (gd : Fin 128 → EReal) (G : Fin 128 → Fin 512 → EReal) (j : Fin 512) : EReal :=
  o j * ∑ k : Fin 128, sig (gd k) * G k j

/-- The two branches' projections, each under its gate. -/
def merged (o a : Fin 512 → EReal) (gr ga : Fin 1024 → EReal) (Wr Wa : Fin 512 → Fin 1024 → EReal) (d : Fin 1024) : EReal :=
  sig (gr d) * (∑ j : Fin 512, o j * Wr j d) + sig (ga d) * ∑ j : Fin 512, a j * Wa j d

/-- The residual after the mixer. -/
def resid (x g mg : Fin 1024 → EReal) (Wo : Fin 1024 → Fin 1024 → EReal) (d : Fin 1024) : EReal :=
  x d + g d * ∑ k : Fin 1024, mg k * Wo k d

/-- The normed residual with its gain and scale, before the shift. -/
def scaled (x n sc : Fin 1024 → EReal) (d : Fin 1024) : EReal :=
  x d * Ideal.rsqrt (Ideal.div (∑ i : Fin 1024, x i * x i) (Ideal.ofBits .f32 0x44800000#32) + Ideal.ofBits .f32 0x358637BD#32) * n d
    * (1 + sc d)

/-- The router's score of expert `e`. -/
def logit (h : Fin 1024 → EReal) (R : Fin 1024 → Fin 16 → EReal) (e : Fin 16) : EReal := ∑ k : Fin 1024, h k * R k e

/-- The largest score. -/
def top (l : Fin 16 → EReal) : EReal := Finset.univ.fold max (Ideal.ofBits .f32 0xFF800000#32) l

/-- The share of expert `e`: the exponential of its score over the sum of all. -/
def share (l : Fin 16 → EReal) (e : Fin 16) : EReal :=
  Ideal.div (Ideal.exp (l e - top l)) (∑ i : Fin 16, Ideal.exp (l i - top l))

/-- The merge's arguments. -/
structure Args where
  yf : (⟨3, ![32, 2048, 512]⟩ : Shape).Idx → EReal
  yb : (⟨3, ![32, 2048, 512]⟩ : Shape).Idx → EReal
  bo : (⟨3, ![32, 2048, 512]⟩ : Shape).Idx → EReal
  zl : (⟨3, ![32, 2048, 384]⟩ : Shape).Idx → EReal
  av : (⟨3, ![32, 2048, 512]⟩ : Shape).Idx → EReal
  gt : (⟨3, ![32, 2048, 2048]⟩ : Shape).Idx → EReal
  x : (⟨3, ![32, 2048, 1024]⟩ : Shape).Idx → EReal
  md : (⟨2, ![32, 6144]⟩ : Shape).Idx → EReal
  lw : (⟨2, ![1, 512]⟩ : Shape).Idx → EReal
  lb : (⟨2, ![1, 512]⟩ : Shape).Idx → EReal
  g2 : (⟨3, ![1, 128, 512]⟩ : Shape).Idx → EReal
  wr : (⟨3, ![1, 512, 1024]⟩ : Shape).Idx → EReal
  wa : (⟨3, ![1, 512, 1024]⟩ : Shape).Idx → EReal
  wo : (⟨3, ![1, 1024, 1024]⟩ : Shape).Idx → EReal
  n2 : (⟨2, ![1, 1024]⟩ : Shape).Idx → EReal
  rt : (⟨3, ![1, 1024, 16]⟩ : Shape).Idx → EReal

variable (A : Args) (b : Fin 32) (t : Fin 2048)

/-- The recurrence's output, normed, of a token: from both directions and the bonus. -/
def Args.o (j : Fin 512) : EReal :=
  wkv (fun j => A.yf (ix3 b t j) + A.yb (ix3 b t j)) (fun j => A.lw (ix2 0 j)) (fun j => A.lb (ix2 0 j)) (fun j => A.bo (ix3 b t j)) j

/-- The merged branches of a token. -/
def Args.mix (d : Fin 1024) : EReal :=
  merged (gated (A.o b t) (fun k => A.zl (ix3 b t ⟨256 + k.val, by omega⟩)) fun k j => A.g2 (ix3 0 k j)) (fun j => A.av (ix3 b t j))
    (fun d => A.gt (ix3 b t ⟨d.val, by omega⟩)) (fun d => A.gt (ix3 b t ⟨1024 + d.val, by omega⟩))
    (fun j d => A.wr (ix3 0 j d)) (fun j d => A.wa (ix3 0 j d)) d

/-- The residual of a token. -/
def Args.x1 (d : Fin 1024) : EReal :=
  resid (fun d => A.x (ix3 b t d)) (fun d => A.md (ix2 b (ProjSpec.part 2 d))) (A.mix b t) (fun k d => A.wo (ix3 0 k d)) d

/-- The second normed and modulated token. -/
def Args.h2 (d : Fin 1024) : EReal :=
  scaled (A.x1 b t) (fun d => A.n2 (ix2 0 d)) (fun d => A.md (ix2 b (ProjSpec.part 4 d))) d + A.md (ix2 b (ProjSpec.part 3 d))

/-- The share of expert `e` in a token. -/
def Args.aff (e : Fin 16) : EReal := share (logit (A.h2 b t) fun k e => A.rt (ix3 0 k e)) e

end Cert.Proof.MergeSpec

end
-- ==== Proof.MergeNum.lean ====
module

public import proofs.«01_k».proof.Proof.Sums
public import proofs.«01_k».proof.Proof.MergeSpec

/-!
Sums over a head through a matrix of ones, and which values of the merge are numbers.
-/

@[expose] public section

noncomputable section

namespace Cert.Proof.MergeNum

open Idealize.ShloMosaic Cert.Proof.Sums

theorem sub_num {x y : EReal} (hx : IsNum x) (hy : IsNum y) : IsNum (x - y) := by
  obtain ⟨a, rfl⟩ := hx
  obtain ⟨b, rfl⟩ := hy
  exact ⟨a - b, (EReal.coe_sub a b).symm⟩

theorem sub_self {x : EReal} (hx : IsNum x) : x - x = 0 := by
  obtain ⟨a, rfl⟩ := hx
  rw [← EReal.coe_sub, _root_.sub_self]
  rfl

theorem c64 : Ideal.ofBits .f32 0x42800000#32 = ((64 : ℝ) : EReal) := by
  simp [Ideal.ofBits, Ideal.ieee]
  norm_num
  rw [← EReal.coe_mul]
  norm_num

theorem c64inv : Ideal.ofBits .f32 0x3C800000#32 = ((1 / 64 : ℝ) : EReal) := by
  simp [Ideal.ofBits, Ideal.ieee]
  norm_num
  rw [← EReal.coe_mul]
  norm_num

theorem c1024 : Ideal.ofBits .f32 0x44800000#32 = ((1024 : ℝ) : EReal) := by
  simp [Ideal.ofBits, Ideal.ieee]
  norm_num
  rw [← EReal.coe_mul]
  norm_num

theorem ceps : ∃ r : ℝ, 0 < r ∧ Ideal.ofBits .f32 0x358637BD#32 = (r : EReal) := by
  refine ⟨_, ?_, by simp [Ideal.ofBits, Ideal.ieee]; rfl⟩
  positivity

/-- A product with one sixty-fourth is a division by sixty-four. -/
theorem mul_inv64 (x : EReal) : x * Ideal.ofBits .f32 0x3C800000#32 = Ideal.div x (Ideal.ofBits .f32 0x42800000#32) := by
  rw [c64, c64inv]
  unfold Ideal.div
  rw [if_neg (by norm_num), ← EReal.coe_inv]
  norm_num

theorem div_num {x : EReal} (hx : IsNum x) : IsNum (Ideal.div x (Ideal.ofBits .f32 0x42800000#32)) := by
  rw [← mul_inv64, c64inv]
  exact hx.mul ⟨_, rfl⟩

/-- Entry `(k, c)` of the matrix that is one where the two columns lie in one head. -/
def one (k c : Fin 256) : EReal := if k.val / 64 = c.val / 64 then 1 else 0

/-- Place `i` of the head of column `c`. -/
def place (c : Fin 256) (i : Fin 64) : Fin 256 := ⟨c.val / 64 * 64 + i.val, by omega⟩

/-- A product with the matrix of ones sums over the head; the second product is of zeros. -/
theorem head_sum (x : Fin 256 → EReal) (hx : ∀ k, IsNum (x k)) (c : Fin 256) :
    (∑ k : Fin 256, x k * one k c + ∑ k : Fin 256, (x k - x k) * one k c) * Ideal.ofBits .f32 0x3C800000#32
      = Ideal.div (∑ i : Fin 64, x (place c i)) (Ideal.ofBits .f32 0x42800000#32) := by
  have h0 : ∑ k : Fin 256, (x k - x k) * one k c = 0 := Finset.sum_eq_zero fun k _ => by rw [sub_self (hx k), zero_mul]
  have h1 : ∑ k : Fin 256, x k * one k c = ∑ i : Fin 64, x (place c i) := by
    rw [sum_rows (m := 4) (n := 64) (by norm_num) fun k => x k * one k c]
    have hc : c.val / 64 < 4 := by omega
    rw [Finset.sum_eq_single (⟨c.val / 64, hc⟩ : Fin 4)]
    · refine Finset.sum_congr rfl fun i _ => ?_
      unfold one
      rw [if_pos (by show (c.val / 64 * 64 + i.val) / 64 = c.val / 64; omega), mul_one]
      rfl
    · intro a _ ha
      refine Finset.sum_eq_zero fun i _ => ?_
      unfold one
      rw [if_neg, mul_zero]
      intro h
      exact ha (Fin.ext (show a.val = c.val / 64 by rw [← h]; show a.val = (a.val * 64 + i.val) / 64; omega))
    · intro h
      exact absurd (Finset.mem_univ _) h
  rw [h0, h1, add_zero, mul_inv64]

theorem place_place (c : Fin 256) (i i' : Fin 64) : place (place c i) i' = place c i' := by
  refine Fin.ext ?_
  show (c.val / 64 * 64 + i.val) / 64 * 64 + i'.val = c.val / 64 * 64 + i'.val
  omega

/-- The deviation that a half computes from the matrix of ones. -/
def dev (x : Fin 256 → EReal) (c : Fin 256) : EReal :=
  x c - (∑ k : Fin 256, x k * one k c + ∑ k : Fin 256, (x k - x k) * one k c) * Ideal.ofBits .f32 0x3C800000#32

theorem dev_num {x : Fin 256 → EReal} (hx : ∀ k, IsNum (x k)) (c : Fin 256) : IsNum (dev x c) := by
  unfold dev
  rw [head_sum x hx]
  exact sub_num (hx c) (div_num (IsNum.sum _ fun i => hx _))

variable {u : Fin 512 → EReal} {x : Fin 256 → EReal} {off : ℕ} (hoff : off = 0 ∨ off = 256)
  (hu : ∀ (k : Fin 256) (h : off + k.val < 512), x k = u ⟨off + k.val, h⟩) (hx : ∀ k, IsNum (x k))

include hoff hu in
theorem place_head (c : Fin 256) (h : off + c.val < 512) (i : Fin 64) : x (place c i) = u (MergeSpec.headAt ⟨off + c.val, h⟩ i) := by
  have hp : off + (place c i).val < 512 := by have := (place c i).isLt; omega
  refine (hu _ hp).trans (congrArg u (Fin.ext ?_))
  show off + (c.val / 64 * 64 + i.val) = (off + c.val) / 64 * 64 + i.val
  omega

include hoff hu in
theorem mean_eq (c : Fin 256) (h : off + c.val < 512) :
    Ideal.div (∑ i : Fin 64, x (place c i)) (Ideal.ofBits .f32 0x42800000#32) = MergeSpec.mean u ⟨off + c.val, h⟩ := by
  unfold MergeSpec.mean
  exact congrArg (fun s => Ideal.div s _) (Finset.sum_congr rfl fun i _ => place_head hoff hu c h i)

include hoff hu hx in
/-- The deviation of a half is the deviation of the row. -/
theorem dev_eq (c : Fin 256) (h : off + c.val < 512) : dev x c = u ⟨off + c.val, h⟩ - MergeSpec.mean u ⟨off + c.val, h⟩ := by
  unfold dev
  rw [head_sum x hx, mean_eq hoff hu c h, hu c h]

include hoff hu hx in
/-- The mean squared deviation that a half computes is the row's. -/
theorem var_eq (c : Fin 256) (h : off + c.val < 512) :
    (∑ k : Fin 256, dev x k * dev x k * one k c + ∑ k : Fin 256, (dev x k * dev x k - dev x k * dev x k) * one k c)
        * Ideal.ofBits .f32 0x3C800000#32 = MergeSpec.var u ⟨off + c.val, h⟩ := by
  rw [head_sum (fun k => dev x k * dev x k) fun k => (dev_num hx k).mul (dev_num hx k)]
  unfold MergeSpec.var
  refine congrArg (fun s => Ideal.div s _) (Finset.sum_congr rfl fun i _ => ?_)
  have e : dev x (place c i) = u (MergeSpec.headAt ⟨off + c.val, h⟩ i) - MergeSpec.mean u ⟨off + c.val, h⟩ := by
    unfold dev
    rw [head_sum x hx, place_head hoff hu c h i, ← mean_eq hoff hu c h]
    simp only [place_place]
  show dev x (place c i) * dev x (place c i) = _
  rw [e]

/-- The normed, scaled token is of numbers, whatever the token, when the gain and the scale are. -/
theorem scaled_num (x n sc : Fin 1024 → EReal) (hn : ∀ k, IsNum (n k)) (hsc : ∀ k, IsNum (sc k)) (d : Fin 1024) :
    IsNum (MergeSpec.scaled x n sc d) := by
  unfold MergeSpec.scaled
  have h1 : IsNum (1 + sc d) := IsNum.add ⟨1, rfl⟩ (hsc d)
  refine IsNum.mul (IsNum.mul ?_ (hn d)) h1
  have sq (y : EReal) : 0 ≤ y * y := by
    induction y with
    | bot => simp
    | top => simp
    | coe r => rw [← EReal.coe_mul]; exact_mod_cast mul_self_nonneg r
  have hs : 0 ≤ ∑ i : Fin 1024, x i * x i := Finset.sum_nonneg fun i _ => sq (x i)
  have hle (i : Fin 1024) : x i * x i ≤ ∑ i : Fin 1024, x i * x i := Finset.single_le_sum (f := fun i => x i * x i) (fun i _ => sq (x i)) (Finset.mem_univ i)
  obtain ⟨ep, hep, he⟩ := ceps
  have hxd : x d * x d ≤ _ := hle d
  generalize (∑ i : Fin 1024, x i * x i) = s at hs hxd
  rw [c1024, he]
  unfold Ideal.div
  rw [if_neg (by norm_num), ← EReal.coe_inv]
  induction s with
  | bot => exact absurd hs (by simp)
  | top =>
    rw [EReal.top_mul_coe_of_pos (by norm_num), EReal.top_add_coe, Ideal.rsqrt_top, mul_zero]
    exact IsNum.zero
  | coe s =>
    have hs' : 0 ≤ s := by exact_mod_cast hs
    have hx : IsNum (x d) := by
      generalize x d = y at hxd
      induction y with
      | bot => simp at hxd
      | top => simp at hxd
      | coe r => exact ⟨r, rfl⟩
    refine hx.mul ?_
    rw [← EReal.coe_mul, ← EReal.coe_add, Ideal.rsqrt_coe]
    have hp : 0 < s * (1024 : ℝ)⁻¹ + ep := by positivity
    rw [if_neg (not_lt.mpr hp.le), if_neg hp.ne']
    exact ⟨_, rfl⟩

end Cert.Proof.MergeNum

end
-- ==== Proof.MergeBody.lean ====
module

public import proofs.«01_k».proof.Proof.Gen.Kernel3Ideal.Skeleton
public import proofs.«01_k».proof.Proof.MergeNum
public import Idealize.ShloMosaic.Lib.WordCmp

/-!
The merge's stages at an index.
-/

@[expose] public section

set_option maxRecDepth 16384

noncomputable section

namespace Cert.Proof.MergeBody

open Idealize.ShloMosaic Cert.Kernel3Ideal Cert.Kernel3Ideal.Gen Cert.Proof.Sums

theorem shift6 : ∀ a : Fin 256, IntOp.shrsi ArithUnit.vector (BitVec.ofNat 32 a.val) 6#32 = BitVec.ofNat 32 (a.val / 64) := by decide +kernel

theorem ones_at (r c : Fin 256) : (k0_pay5 (F := Ideal) (ix2 r c) : EReal) = MergeNum.one r c := by
  unfold k0_pay5
  pointwise
  rw [shift6, shift6, WordCmp.cmpi_eq_ofNat (by omega) (by omega)]
  unfold MergeNum.one
  exact WordCmp.select_decide _ _ _

/-- The sum of the two directions, of a token. -/
abbrev both (y z : Vec Ideal S1x512x512 .f32) (r : Fin 512) (j : Fin 512) : EReal := y (ix3 0 r j) + z (ix3 0 r j)

theorem both_at (y z : Vec Ideal S1x512x512 .f32) (r j : Fin 512) : (k0_pay6 y z (ix2 r j) : EReal) = both y z r j := by
  unfold k0_pay6
  pointwise

theorem dev_at (y z : Vec Ideal S1x512x512 .f32) (r : Fin 512) (j : Fin 256) :
    (k0_pay8 y z (ix2 r j) : EReal) = MergeNum.dev (fun k => both y z r ⟨k.val, by omega⟩) j := by
  unfold k0_pay8 k0_pay6
  pointwise
  simp only [ones_at]
  rfl

theorem var_at (y z : Vec Ideal S1x512x512 .f32) (r : Fin 512) (j : Fin 256) (x : Fin 256 → EReal)
    (hx : x = fun k => both y z r ⟨k.val, by omega⟩) : (k0_pay9 y z (ix2 r j) : EReal) =
      (∑ k : Fin 256, MergeNum.dev x k * MergeNum.dev x k * MergeNum.one k j
        + ∑ k : Fin 256, (MergeNum.dev x k * MergeNum.dev x k - MergeNum.dev x k * MergeNum.dev x k) * MergeNum.one k j)
        * Ideal.ofBits .f32 0x3C800000#32 := by
  subst hx
  unfold k0_pay9
  pointwise
  simp only [ones_at, dev_at]

/-- The recurrence's output of a token, when the two directions are numbers. -/
theorem rec_at (y z : Vec Ideal S1x512x512 .f32) (b : FVec Ideal S512x512 .f32) (w s : Vec Ideal S1x512 .f32) (r j : Fin 512)
    (hy : ∀ j, IsNum (both y z r j)) :
    (k0_pay10 (k0_pay5 (F := Ideal)) (k0_pay6 y z) b (k0_pay8 y z) (k0_pay9 y z) w s (ix2 r j) : EReal)
      = MergeSpec.wkv (both y z r) (fun j => w (ix2 0 j)) (fun j => s (ix2 0 j)) (fun j => b (ix2 r j)) j := by
  unfold k0_pay10
  pointwise
  unfold MergeSpec.wkv
  refine congrArg (· + _) (congrArg (· + _) (congrArg (· * _) ?_))
  by_cases h : j.val < 256
  · rw [dif_pos h, dev_at, var_at y z r _ _ rfl]
    have hj : (⟨0 + (⟨j.val, h⟩ : Fin 256).val, by show 0 + j.val < 512; omega⟩ : Fin 512) = j := Fin.ext (Nat.zero_add _)
    have hd := MergeNum.dev_eq (u := both y z r) (x := fun k => both y z r ⟨k.val, by omega⟩) (off := 0) (Or.inl rfl)
      (fun k hk => congrArg _ (Fin.ext (Nat.zero_add _).symm)) (fun k => hy _) ⟨j.val, h⟩ (by show 0 + j.val < 512; omega)
    have hv := MergeNum.var_eq (u := both y z r) (x := fun k => both y z r ⟨k.val, by omega⟩) (off := 0) (Or.inl rfl)
      (fun k hk => congrArg _ (Fin.ext (Nat.zero_add _).symm)) (fun k => hy _) ⟨j.val, h⟩ (by show 0 + j.val < 512; omega)
    rw [hj] at hd hv
    rw [hd, hv]
  · rw [dif_neg h]
    simp only [ones_at, both_at]
    have h2 : j.val - 256 < 256 := by omega
    have hj : (⟨256 + (⟨j.val - 256, h2⟩ : Fin 256).val, by show 256 + (j.val - 256) < 512; omega⟩ : Fin 512) = j :=
      Fin.ext (show 256 + (j.val - 256) = j.val by omega)
    have hd := MergeNum.dev_eq (u := both y z r) (x := fun k => both y z r ⟨256 + k.val, by omega⟩) (off := 256) (Or.inr rfl)
      (fun k hk => rfl) (fun k => hy _) ⟨j.val - 256, h2⟩ (by show 256 + (j.val - 256) < 512; omega)
    have hv := MergeNum.var_eq (u := both y z r) (x := fun k => both y z r ⟨256 + k.val, by omega⟩) (off := 256) (Or.inr rfl)
      (fun k hk => rfl) (fun k => hy _) ⟨j.val - 256, h2⟩ (by show 256 + (j.val - 256) < 512; omega)
    rw [hj] at hd hv
    rw [← hd, ← hv]
    rfl

theorem bonus_at (b : Vec Ideal S1x512x512 .f32) (r j : Fin 512) : (k0_pay7 b (ix2 r j) : EReal) = b (ix3 0 r j) := by
  unfold k0_pay7
  pointwise

theorem attn_at (a : Vec Ideal S1x512x512 .f32) (W : Vec Ideal S512x1024 .bf16) (r : Fin 512) (d : Fin 1024) :
    (k0_pay12 a W (ix2 r d) : EReal) = ∑ j : Fin 512, a (ix3 0 r j) * W (ix2 j d) := by
  unfold k0_pay12
  pointwise

theorem branch_at (o : FVec Ideal S512x512 .f32) (g : Vec Ideal S1x512x128 .f32) (G : Vec Ideal S128x512 .bf16) (W : Vec Ideal S512x1024 .bf16)
    (gt : Vec Ideal S1x512x2048 .f32) (r : Fin 512) (d : Fin 1024) :
    (k0_pay14 o (k0_pay11 g) G W gt (ix2 r d) : EReal)
      = MergeSpec.sig (gt (ix3 0 r ⟨d.val, by omega⟩)) * ∑ j : Fin 512,
          MergeSpec.gated (fun j => o (ix2 r j)) (fun k => g (ix3 0 r k)) (fun k j => G (ix2 k j)) j * W (ix2 j d) := by
  unfold k0_pay14 k0_pay13 k0_pay11
  pointwise
  simp only [zero_sub]
  rfl

theorem den_at (gt : Vec Ideal S1x512x2048 .f32) (r : Fin 512) (d : Fin 1024) :
    (k0_pay15 gt (ix2 r d) : EReal) = 1 + Ideal.exp (-(gt (ix3 0 r ⟨1024 + d.val, by omega⟩))) := by
  unfold k0_pay15 k0_pay13
  pointwise
  simp only [zero_sub]

theorem resid_at (A B D : FVec Ideal S512x1024 .f32) (Wo : Vec Ideal S1024x1024 .bf16) (x : Vec Ideal S1x512x1024 .f32)
    (g : Vec Ideal S1x1x1024 .f32) (r : Fin 512) (d : Fin 1024) :
    (k0_pay17 A B D (k0_pay16 (F := Ideal)) Wo x g (ix2 r d) : EReal)
      = MergeSpec.resid (fun d => x (ix3 0 r d)) (fun d => g (ix3 0 0 d))
          (fun k => B (ix2 r k) + Ideal.div 1 (D (ix2 r k)) * A (ix2 r k)) (fun k d => Wo (ix2 k d)) d := by
  unfold k0_pay17 k0_pay16
  pointwise
  rfl

theorem out16_at (A B D O : FVec Ideal S512x1024 .f32) (Wo : Vec Ideal S1024x1024 .bf16) (x : Vec Ideal S1x512x1024 .f32)
    (g : Vec Ideal S1x1x1024 .f32) (r : Fin 512) (d : Fin 1024) :
    (k0_pay18 A B D O Wo x g (ix3 0 r d) : EReal) = k0_pay17 A B D O Wo x g (ix2 r d) := by
  unfold k0_pay18
  pointwise

theorem scaled_at (A B D O : FVec Ideal S512x1024 .f32) (Wo : Vec Ideal S1024x1024 .bf16) (x : Vec Ideal S1x512x1024 .f32)
    (g : Vec Ideal S1x1x1024 .f32) (n : Vec Ideal S1x1024 .f32) (sc : Vec Ideal S1x1x1024 .f32) (r : Fin 512) (d : Fin 1024) :
    (k0_pay19 A B D O Wo x g n sc (ix2 r d) : EReal)
      = MergeSpec.scaled (fun d => k0_pay17 A B D O Wo x g (ix2 r d)) (fun d => n (ix2 0 d)) (fun d => sc (ix3 0 0 d)) d := by
  unfold k0_pay19
  pointwise
  rfl

theorem out17_at (h : FVec Ideal S512x1024 .f32) (s : Vec Ideal S1x1x1024 .f32) (r : Fin 512) (d : Fin 1024) :
    (k0_pay3 h s (ix3 0 r d) : EReal) = h (ix2 r d) + s (ix3 0 0 d) := by
  unfold k0_pay3 k0_pay2 k0_pay1
  pointwise

/-- The router's shares of a token, when the token and the router's weights are numbers. -/
theorem out18_at (h : FVec Ideal S512x1024 .f32) (s : Vec Ideal S1x1x1024 .f32) (R : Vec Ideal S16x1024 .f32) (e : Fin 16) (r : Fin 512)
    (hh : ∀ k : Fin 1024, IsNum (h (ix2 r k) + s (ix3 0 0 k))) (hR : ∀ e k, IsNum (R (ix2 e k))) :
    (k0_pay4 h s R (ix3 0 e r) : EReal)
      = MergeSpec.share (MergeSpec.logit (fun k => h (ix2 r k) + s (ix3 0 0 k)) fun k e => R (ix2 e k)) e := by
  have e0 (i : Fin 16) : ∑ k : Fin 1024, R (ix2 i k) * (h (ix2 r k) + s (ix3 0 0 k))
        + ∑ k : Fin 1024, (R (ix2 i k) - R (ix2 i k)) * (h (ix2 r k) + s (ix3 0 0 k))
        + ∑ k : Fin 1024, R (ix2 i k) * (h (ix2 r k) + s (ix3 0 0 k) - (h (ix2 r k) + s (ix3 0 0 k)))
      = MergeSpec.logit (fun k => h (ix2 r k) + s (ix3 0 0 k)) (fun k e => R (ix2 e k)) i := by
    have a : ∑ k : Fin 1024, (R (ix2 i k) - R (ix2 i k)) * (h (ix2 r k) + s (ix3 0 0 k)) = 0 :=
      Finset.sum_eq_zero fun k _ => by rw [MergeNum.sub_self (hR i k), zero_mul]
    have b : ∑ k : Fin 1024, R (ix2 i k) * (h (ix2 r k) + s (ix3 0 0 k) - (h (ix2 r k) + s (ix3 0 0 k))) = 0 :=
      Finset.sum_eq_zero fun k _ => by rw [MergeNum.sub_self (hh k), mul_zero]
    rw [a, b, add_zero, add_zero]
    exact Finset.sum_congr rfl fun k _ => mul_comm _ _
  unfold k0_pay4 k0_pay2 k0_pay1
  pointwise
  simp only [e0]
  rfl

end Cert.Proof.MergeBody

end
-- ==== Proof.MergeTok.lean ====
module

public import proofs.«01_k».proof.Proof.Gen.Kernel3Ideal.Value
public import proofs.«01_k».proof.Proof.MergeBody
public import proofs.«01_k».proof.Proof.ProjMod

/-!
What the merge leaves for one token, from blocks that hold the token's part of the arguments.
-/

@[expose] public section

set_option maxRecDepth 16384

noncomputable section

namespace Cert.Proof.MergeTok

open Idealize.ShloMosaic Cert.Kernel3Ideal Cert.Kernel3Ideal.Gen Cert.Proof.Sums

/-- Row `r` of the blocks is token `t` of batch `b`, and the weights are whole. -/
structure Holds (A : MergeSpec.Args) (b : Fin 32) (t : Fin 2048) (r : Fin 512)
    (x0 : Vec Ideal S1x512x512 .f32) (x1 : Vec Ideal S1x512x512 .f32) (x2 : Vec Ideal S1x512x512 .f32) (x3 : Vec Ideal S1x512x128 .f32) (x4 : Vec Ideal S1x512x512 .f32) (x5 : Vec Ideal S1x512x2048 .f32) (x6 : Vec Ideal S1x512x1024 .f32) (x7 : Vec Ideal S1x6x1024 .f32) (x8 : Vec Ideal S1x512 .f32) (x9 : Vec Ideal S1x512 .f32) (x10 : Vec Ideal S128x512 .bf16) (x11 : Vec Ideal S512x1024 .bf16) (x12 : Vec Ideal S512x1024 .bf16) (x13 : Vec Ideal S1024x1024 .bf16) (x14 : Vec Ideal S1x1024 .f32) (x15 : Vec Ideal S16x1024 .f32) : Prop where
  yf : ∀ (j : Fin 512), (x0 (ix3 0 r j) : EReal) = A.yf (ix3 b t j)
  yb : ∀ (j : Fin 512), (x1 (ix3 0 r j) : EReal) = A.yb (ix3 b t j)
  bo : ∀ (j : Fin 512), (x2 (ix3 0 r j) : EReal) = A.bo (ix3 b t j)
  zl : ∀ (k : Fin 128), (x3 (ix3 0 r k) : EReal) = A.zl (ix3 b t ⟨256 + k.val, by omega⟩)
  av : ∀ (j : Fin 512), (x4 (ix3 0 r j) : EReal) = A.av (ix3 b t j)
  gt : ∀ (j : Fin 2048), (x5 (ix3 0 r j) : EReal) = A.gt (ix3 b t j)
  x : ∀ (d : Fin 1024), (x6 (ix3 0 r d) : EReal) = A.x (ix3 b t d)
  md : ∀ (e : Fin 6) (d : Fin 1024), (x7 (ix3 0 e d) : EReal) = A.md (ix2 b (ProjSpec.part e d))
  lw : ∀ (j : Fin 512), (x8 (ix2 0 j) : EReal) = A.lw (ix2 0 j)
  lb : ∀ (j : Fin 512), (x9 (ix2 0 j) : EReal) = A.lb (ix2 0 j)
  g2 : ∀ (k : Fin 128) (j : Fin 512), (x10 (ix2 k j) : EReal) = A.g2 (ix3 0 k j)
  wr : ∀ (j : Fin 512) (d : Fin 1024), (x11 (ix2 j d) : EReal) = A.wr (ix3 0 j d)
  wa : ∀ (j : Fin 512) (d : Fin 1024), (x12 (ix2 j d) : EReal) = A.wa (ix3 0 j d)
  wo : ∀ (k d : Fin 1024), (x13 (ix2 k d) : EReal) = A.wo (ix3 0 k d)
  n2 : ∀ (d : Fin 1024), (x14 (ix2 0 d) : EReal) = A.n2 (ix2 0 d)
  rt : ∀ (e : Fin 16) (k : Fin 1024), (x15 (ix2 e k) : EReal) = A.rt (ix3 0 k e)

/-- Row `e` of a modulation block. -/
theorem ld_mod (x : Vec Ideal S1x6x1024 .f32) (e : Fin 6) (inb) (d : Fin 1024) :
    View.ld x (Rect.unit (s := S1x6x1024) ![0, e.val, 0] S1x1x1024.size inb) (ix3 0 0 d) = x (ix3 0 e d) := by
  refine congrArg x (funext fun a => Fin.ext ?_)
  match a with
  | ⟨0, _⟩ => rfl
  | ⟨1, _⟩ => rfl
  | ⟨2, _⟩ => show 0 + 1 * d.val = d.val; omega

theorem ld3 {m n : ℕ} {η : EltTy} (x : Vec Ideal ⟨3, ![1, m, n]⟩ η) (inb) :
    View.ld x (Rect.unit (s := ⟨3, ![1, m, n]⟩) ![0, 0, 0] (⟨3, ![1, m, n]⟩ : Shape).size inb) = x :=
  View.ld_unit_zero (S := ⟨3, ![1, m, n]⟩) ProjMod.zero3 _ _

theorem ld2 {m n : ℕ} {η : EltTy} (x : Vec Ideal ⟨2, ![m, n]⟩ η) (inb) :
    View.ld x (Rect.unit (s := ⟨2, ![m, n]⟩) ![0, 0] (⟨2, ![m, n]⟩ : Shape).size inb) = x :=
  View.ld_unit_zero (S := ⟨2, ![m, n]⟩) ProjMod.zero2 _ _

variable {A : MergeSpec.Args} {b : Fin 32} {t : Fin 2048} {r : Fin 512}
  {x0 : Vec Ideal S1x512x512 .f32} {x1 : Vec Ideal S1x512x512 .f32} {x2 : Vec Ideal S1x512x512 .f32} {x3 : Vec Ideal S1x512x128 .f32} {x4 : Vec Ideal S1x512x512 .f32} {x5 : Vec Ideal S1x512x2048 .f32} {x6 : Vec Ideal S1x512x1024 .f32} {x7 : Vec Ideal S1x6x1024 .f32} {x8 : Vec Ideal S1x512 .f32} {x9 : Vec Ideal S1x512 .f32} {x10 : Vec Ideal S128x512 .bf16} {x11 : Vec Ideal S512x1024 .bf16} {x12 : Vec Ideal S512x1024 .bf16} {x13 : Vec Ideal S1024x1024 .bf16} {x14 : Vec Ideal S1x1024 .f32} {x15 : Vec Ideal S16x1024 .f32}
  (H : Holds A b t r x0 x1 x2 x3 x4 x5 x6 x7 x8 x9 x10 x11 x12 x13 x14 x15) (hy : ∀ j, IsNum (A.yf (ix3 b t j))) (hz : ∀ j, IsNum (A.yb (ix3 b t j)))

include H hy hz in
/-- The normed output of the recurrence. -/
theorem rec_eq (j : Fin 512) :
    (k0_pay10 (k0_pay5 (F := Ideal)) (k0_pay6 x0 x1) (k0_pay7 x2) (k0_pay8 x0 x1) (k0_pay9 x0 x1) x8 x9 (ix2 r j) : EReal) = A.o b t j := by
  have hu : MergeBody.both x0 x1 r = fun j => A.yf (ix3 b t j) + A.yb (ix3 b t j) := funext fun j => by
    unfold MergeBody.both
    rw [H.yf, H.yb]
  refine (MergeBody.rec_at x0 x1 _ x8 x9 r j fun j => by rw [hu]; exact (hy j).add (hz j)).trans ?_
  unfold MergeSpec.Args.o
  rw [hu]
  simp only [MergeBody.bonus_at, H.bo, H.lw, H.lb]

include H hy hz in
/-- The recurrence's branch under its gate. -/
theorem branch_eq (d : Fin 1024) :
    (k0_pay21 x0 x1 x2 x3 x4 x5 x6 x7 x8 x9 x10 x11 x12 x13 x14 x15 (ix2 r d) : EReal) = MergeSpec.sig (A.gt (ix3 b t ⟨d.val, by omega⟩)) * ∑ j : Fin 512,
      MergeSpec.gated (A.o b t) (fun k => A.zl (ix3 b t ⟨256 + k.val, by omega⟩)) (fun k j => A.g2 (ix3 0 k j)) j * A.wr (ix3 0 j d) := by
  unfold k0_pay21
  simp only [ld3, ld2]
  refine (MergeBody.branch_at _ x3 x10 x11 x5 r d).trans ?_
  simp only [rec_eq H hy hz, H.gt, H.zl, H.g2, H.wr]

include H in
theorem attn_eq (d : Fin 1024) : (k0_pay20 x0 x1 x2 x3 x4 x5 x6 x7 x8 x9 x10 x11 x12 x13 x14 x15 (ix2 r d) : EReal) = ∑ j : Fin 512, A.av (ix3 b t j) * A.wa (ix3 0 j d) := by
  unfold k0_pay20
  simp only [ld3, ld2]
  refine (MergeBody.attn_at x4 x12 r d).trans ?_
  simp only [H.av, H.wa]

include H in
theorem den_eq (d : Fin 1024) : (k0_pay22 x0 x1 x2 x3 x4 x5 x6 x7 x8 x9 x10 x11 x12 x13 x14 x15 (ix2 r d) : EReal) = 1 + Ideal.exp (-(A.gt (ix3 b t ⟨1024 + d.val, by omega⟩))) := by
  unfold k0_pay22
  simp only [ld3, ld2]
  refine (MergeBody.den_at x5 r d).trans ?_
  simp only [H.gt]

/-- The residual before it is laid out. -/
abbrev res (x0 : Vec Ideal S1x512x512 .f32) (x1 : Vec Ideal S1x512x512 .f32) (x2 : Vec Ideal S1x512x512 .f32) (x3 : Vec Ideal S1x512x128 .f32) (x4 : Vec Ideal S1x512x512 .f32) (x5 : Vec Ideal S1x512x2048 .f32) (x6 : Vec Ideal S1x512x1024 .f32) (x7 : Vec Ideal S1x6x1024 .f32) (x8 : Vec Ideal S1x512 .f32) (x9 : Vec Ideal S1x512 .f32) (x10 : Vec Ideal S128x512 .bf16) (x11 : Vec Ideal S512x1024 .bf16) (x12 : Vec Ideal S512x1024 .bf16) (x13 : Vec Ideal S1024x1024 .bf16) (x14 : Vec Ideal S1x1024 .f32) (x15 : Vec Ideal S16x1024 .f32) : FVec Ideal S512x1024 .f32 :=
  k0_pay17 (k0_pay20 x0 x1 x2 x3 x4 x5 x6 x7 x8 x9 x10 x11 x12 x13 x14 x15) (k0_pay21 x0 x1 x2 x3 x4 x5 x6 x7 x8 x9 x10 x11 x12 x13 x14 x15) (k0_pay22 x0 x1 x2 x3 x4 x5 x6 x7 x8 x9 x10 x11 x12 x13 x14 x15) (k0_pay23 x0 x1 x2 x3 x4 x5 x6 x7 x8 x9 x10 x11 x12 x13 x14 x15) x13 x6 (View.ld x7 r0_8)

include H hy hz in
theorem x1_eq (d : Fin 1024) : (res x0 x1 x2 x3 x4 x5 x6 x7 x8 x9 x10 x11 x12 x13 x14 x15 (ix2 r d) : EReal) = A.x1 b t d := by
  unfold res k0_pay23
  refine (MergeBody.resid_at _ _ _ x13 x6 _ r d).trans ?_
  have e : ∀ d, View.ld x7 r0_8 (ix3 0 0 d) = A.md (ix2 b (ProjSpec.part 2 d)) := fun d => (ld_mod x7 2 _ d).trans (H.md 2 d)
  simp only [e, branch_eq H hy hz, attn_eq H, den_eq H, H.x, H.wo]
  rfl

include H hy hz in
theorem left16 (d : Fin 1024) : (out0_16 x0 x1 x2 x3 x4 x5 x6 x7 x8 x9 x10 x11 x12 x13 x14 x15 (ix3 0 r d) : EReal) = A.x1 b t d := by
  unfold out0_16
  refine (congrFun (View.canon_unit_zero (S := S1x512x1024) ProjMod.zero3 _ _) _).trans ?_
  refine (MergeBody.out16_at _ _ _ _ _ _ _ r d).trans ?_
  simp only [ld3, ld2]
  exact x1_eq H hy hz d

include H hy hz in
theorem scaled_eq (d : Fin 1024) : (k0_pay24 x0 x1 x2 x3 x4 x5 x6 x7 x8 x9 x10 x11 x12 x13 x14 x15 (ix2 r d) : EReal)
    = MergeSpec.scaled (A.x1 b t) (fun d => A.n2 (ix2 0 d)) (fun d => A.md (ix2 b (ProjSpec.part 4 d))) d := by
  unfold k0_pay24
  refine (MergeBody.scaled_at _ _ _ _ _ _ _ _ _ r d).trans ?_
  have e : ∀ d, View.ld x7 r0_10 (ix3 0 0 d) = A.md (ix2 b (ProjSpec.part 4 d)) := fun d => (ld_mod x7 4 _ d).trans (H.md 4 d)
  have n : ∀ d, View.ld x14 r0_9 (ix2 0 d) = A.n2 (ix2 0 d) := fun d => (congrFun (ld2 x14 _) _).trans (H.n2 d)
  simp only [ld3, ld2, e, n]
  exact congrArg (fun f => MergeSpec.scaled f (fun d => A.n2 (ix2 0 d)) (fun d => A.md (ix2 b (ProjSpec.part 4 d))) d)
    (funext fun d => x1_eq H hy hz d)

include H in
theorem shift_eq (d : Fin 1024) : View.ld x7 r0_11 (ix3 0 0 d) = A.md (ix2 b (ProjSpec.part 3 d)) :=
  (ld_mod x7 3 _ d).trans (H.md 3 d)

include H hy hz in
theorem left17 (d : Fin 1024) : (out0_17 x0 x1 x2 x3 x4 x5 x6 x7 x8 x9 x10 x11 x12 x13 x14 x15 (ix3 0 r d) : EReal) = A.h2 b t d := by
  unfold out0_17
  refine (congrFun (View.canon_unit_zero (S := S1x512x1024) ProjMod.zero3 _ _) _).trans ?_
  refine (MergeBody.out17_at _ _ r d).trans ?_
  rw [scaled_eq H hy hz d, shift_eq H d]
  rfl

include H hy hz in
theorem left18 (hn : ∀ d, IsNum (A.n2 (ix2 0 d))) (hs : ∀ d, IsNum (A.md (ix2 b (ProjSpec.part 4 d))))
    (hh : ∀ d, IsNum (A.md (ix2 b (ProjSpec.part 3 d)))) (hR : ∀ k e, IsNum (A.rt (ix3 0 k e))) (e : Fin 16) :
    (out0_18 x0 x1 x2 x3 x4 x5 x6 x7 x8 x9 x10 x11 x12 x13 x14 x15 (ix3 0 e r) : EReal) = A.aff b t e := by
  unfold out0_18
  refine (congrFun (View.canon_unit_zero (S := S1x16x512) ProjMod.zero3 _ _) _).trans ?_
  simp only [ld2]
  refine (MergeBody.out18_at _ _ x15 e r (fun k => ?_) fun e k => by rw [H.rt]; exact hR k e).trans ?_
  · rw [scaled_eq H hy hz k, shift_eq H k]
    exact (MergeNum.scaled_num _ _ _ hn hs k).add (hh k)
  · simp only [scaled_eq H hy hz, shift_eq H, H.rt]
    rfl

end Cert.Proof.MergeTok

end
-- ==== Proof.MergeBlocks.lean ====
module

public import proofs.«01_k».proof.Proof.MergeTok
public import Idealize.ShloMosaic.Lib.StableHlo.Run
public import Idealize.ShloMosaic.Lib.Tactic

/-!
What the merge's input windows hold at a grid point: point `p` works on batch `p / 4` and the 512 tokens from `p % 4 * 512`.
-/

@[expose] public section

set_option maxRecDepth 16384

noncomputable section

namespace Cert.Proof.MergeBlocks

open Idealize.ShloMosaic Idealize.ShloMosaic.TcCoe Cert.Kernel3Ideal Cert.Kernel3Ideal.Gen

variable (m : (ℓ : Loc nD τ sig) → Buf (Elt Ideal) ℓ) (c : Dev nD) {A : MergeSpec.Args}

/-- The argument buffers hold `A`. -/
structure Mem (A : MergeSpec.Args) : Prop where
  yf : m (c.tc.loc main_arg0) = A.yf
  yb : m (c.tc.loc main_arg1) = A.yb
  bo : m (c.tc.loc main_arg2) = A.bo
  zl : m (c.tc.loc main_arg3) = A.zl
  av : m (c.tc.loc main_arg4) = A.av
  gt : m (c.tc.loc main_arg5) = A.gt
  x : m (c.tc.loc main_arg6) = A.x
  md : m (c.tc.loc main_arg7) = A.md
  lw : m (c.tc.loc main_arg8) = A.lw
  lb : m (c.tc.loc main_arg9) = A.lb
  g2 : m (c.tc.loc main_arg10) = A.g2
  wr : m (c.tc.loc main_arg11) = A.wr
  wa : m (c.tc.loc main_arg12) = A.wa
  wo : m (c.tc.loc main_arg13) = A.wo
  n2 : m (c.tc.loc main_arg14) = A.n2
  rt : m (c.tc.loc main_arg15) = A.rt

/-- The batch of a grid point. -/
def batch (t : Fin cfg0.N) : Fin 32 := ⟨t.val / 4, by have h : t.val < 128 := N_0 ▸ t.isLt; omega⟩

/-- The token in row `r` of a grid point's block. -/
def token (t : Fin cfg0.N) (r : Fin 512) : Fin 2048 := ⟨t.val % 4 * 512 + r.val, by omega⟩

theorem at0 : ∀ t : Fin grid0.N, win0_0.index t 0 = t.val / 4 ∧ win0_0.index t 1 = t.val % 4 ∧ win0_0.index t 2 = 0 := by decide +kernel
theorem at1 : ∀ t : Fin grid0.N, win0_1.index t 0 = t.val / 4 ∧ win0_1.index t 1 = t.val % 4 ∧ win0_1.index t 2 = 0 := by decide +kernel
theorem at2 : ∀ t : Fin grid0.N, win0_2.index t 0 = t.val / 4 ∧ win0_2.index t 1 = t.val % 4 ∧ win0_2.index t 2 = 0 := by decide +kernel
theorem at3 : ∀ t : Fin grid0.N, win0_3.index t 0 = t.val / 4 ∧ win0_3.index t 1 = t.val % 4 ∧ win0_3.index t 2 = 2 := by decide +kernel
theorem at4 : ∀ t : Fin grid0.N, win0_4.index t 0 = t.val / 4 ∧ win0_4.index t 1 = t.val % 4 ∧ win0_4.index t 2 = 0 := by decide +kernel
theorem at5 : ∀ t : Fin grid0.N, win0_5.index t 0 = t.val / 4 ∧ win0_5.index t 1 = t.val % 4 ∧ win0_5.index t 2 = 0 := by decide +kernel
theorem at6 : ∀ t : Fin grid0.N, win0_6.index t 0 = t.val / 4 ∧ win0_6.index t 1 = t.val % 4 ∧ win0_6.index t 2 = 0 := by decide +kernel
theorem at7 : ∀ t : Fin grid0.N, win0_7.index t 0 = t.val / 4 ∧ win0_7.index t 1 = 0 ∧ win0_7.index t 2 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel
theorem at10 : ∀ t : Fin grid0.N, win0_10.index t 0 = 0 ∧ win0_10.index t 1 = 0 := by decide +kernel
theorem at11 : ∀ t : Fin grid0.N, win0_11.index t 0 = 0 ∧ win0_11.index t 1 = 0 := by decide +kernel
theorem at12 : ∀ t : Fin grid0.N, win0_12.index t 0 = 0 ∧ win0_12.index t 1 = 0 := by decide +kernel
theorem at13 : ∀ t : Fin grid0.N, win0_13.index t 0 = 0 ∧ win0_13.index t 1 = 0 := by decide +kernel
theorem at14 : ∀ t : Fin grid0.N, win0_14.index t 0 = 0 ∧ win0_14.index t 1 = 0 := by decide +kernel
theorem at15 : ∀ t : Fin grid0.N, win0_15.index t 0 = 0 ∧ win0_15.index t 1 = 0 := by decide +kernel
theorem at16 : ∀ t : Fin grid0.N, win0_16.index t 0 = t.val / 4 ∧ win0_16.index t 1 = t.val % 4 ∧ win0_16.index t 2 = 0 := by decide +kernel
theorem at17 : ∀ t : Fin grid0.N, win0_17.index t 0 = t.val / 4 ∧ win0_17.index t 1 = t.val % 4 ∧ win0_17.index t 2 = 0 := by decide +kernel
theorem at18 : ∀ t : Fin grid0.N, win0_18.index t 0 = t.val / 4 ∧ win0_18.index t 1 = 0 ∧ win0_18.index t 2 = t.val % 4 := by decide +kernel
theorem size16 : ∀ t : Fin grid0.N, win0_16.xsize (grid0.coords t) 0 = 1 ∧ win0_16.xsize (grid0.coords t) 1 = 512 ∧ win0_16.xsize (grid0.coords t) 2 = 1024 := by decide +kernel
theorem size17 : ∀ t : Fin grid0.N, win0_17.xsize (grid0.coords t) 0 = 1 ∧ win0_17.xsize (grid0.coords t) 1 = 512 ∧ win0_17.xsize (grid0.coords t) 2 = 1024 := by decide +kernel
theorem size18 : ∀ t : Fin grid0.N, win0_18.xsize (grid0.coords t) 0 = 1 ∧ win0_18.xsize (grid0.coords t) 1 = 16 ∧ win0_18.xsize (grid0.coords t) 2 = 512 := by decide +kernel

theorem yf_at (H : Mem m c A) (p : Fin cfg0.N) (r : Fin 512) (j : Fin 512) :
    (iblk m c 0 p (ix3 0 r j) : EReal) = A.yf (ix3 (batch p) (token p r) j) := by
  unfold iblk
  rw [View.read_apply]
  show V m c main_arg0 _ = _
  rw [V_main_arg0, H.yf]
  refine congrArg A.yf (funext fun a => Fin.ext ?_)
  match a with
  | ⟨0, _⟩ => show win0_0.index p 0 * 1 + 1 * 0 = p.val / 4; rw [(at0 p).1]; omega
  | ⟨1, _⟩ => show win0_0.index p 1 * 512 + 1 * r.val = p.val % 4 * 512 + r.val; rw [(at0 p).2.1]; omega
  | ⟨2, _⟩ => show win0_0.index p 2 * 512 + 1 * j.val = j.val; rw [(at0 p).2.2]; omega

theorem yb_at (H : Mem m c A) (p : Fin cfg0.N) (r : Fin 512) (j : Fin 512) :
    (iblk m c 1 p (ix3 0 r j) : EReal) = A.yb (ix3 (batch p) (token p r) j) := by
  unfold iblk
  rw [View.read_apply]
  show V m c main_arg1 _ = _
  rw [V_main_arg1, H.yb]
  refine congrArg A.yb (funext fun a => Fin.ext ?_)
  match a with
  | ⟨0, _⟩ => show win0_1.index p 0 * 1 + 1 * 0 = p.val / 4; rw [(at1 p).1]; omega
  | ⟨1, _⟩ => show win0_1.index p 1 * 512 + 1 * r.val = p.val % 4 * 512 + r.val; rw [(at1 p).2.1]; omega
  | ⟨2, _⟩ => show win0_1.index p 2 * 512 + 1 * j.val = j.val; rw [(at1 p).2.2]; omega

theorem bo_at (H : Mem m c A) (p : Fin cfg0.N) (r : Fin 512) (j : Fin 512) :
    (iblk m c 2 p (ix3 0 r j) : EReal) = A.bo (ix3 (batch p) (token p r) j) := by
  unfold iblk
  rw [View.read_apply]
  show V m c main_arg2 _ = _
  rw [V_main_arg2, H.bo]
  refine congrArg A.bo (funext fun a => Fin.ext ?_)
  match a with
  | ⟨0, _⟩ => show win0_2.index p 0 * 1 + 1 * 0 = p.val / 4; rw [(at2 p).1]; omega
  | ⟨1, _⟩ => show win0_2.index p 1 * 512 + 1 * r.val = p.val % 4 * 512 + r.val; rw [(at2 p).2.1]; omega
  | ⟨2, _⟩ => show win0_2.index p 2 * 512 + 1 * j.val = j.val; rw [(at2 p).2.2]; omega

theorem zl_at (H : Mem m c A) (p : Fin cfg0.N) (r : Fin 512) (k : Fin 128) :
    (iblk m c 3 p (ix3 0 r k) : EReal) = A.zl (ix3 (batch p) (token p r) ⟨256 + k.val, by omega⟩) := by
  unfold iblk
  rw [View.read_apply]
  show V m c main_arg3 _ = _
  rw [V_main_arg3, H.zl]
  refine congrArg A.zl (funext fun a => Fin.ext ?_)
  match a with
  | ⟨0, _⟩ => show win0_3.index p 0 * 1 + 1 * 0 = p.val / 4; rw [(at3 p).1]; omega
  | ⟨1, _⟩ => show win0_3.index p 1 * 512 + 1 * r.val = p.val % 4 * 512 + r.val; rw [(at3 p).2.1]; omega
  | ⟨2, _⟩ => show win0_3.index p 2 * 128 + 1 * k.val = 256 + k.val; rw [(at3 p).2.2]; omega

theorem av_at (H : Mem m c A) (p : Fin cfg0.N) (r : Fin 512) (j : Fin 512) :
    (iblk m c 4 p (ix3 0 r j) : EReal) = A.av (ix3 (batch p) (token p r) j) := by
  unfold iblk
  rw [View.read_apply]
  show V m c main_arg4 _ = _
  rw [V_main_arg4, H.av]
  refine congrArg A.av (funext fun a => Fin.ext ?_)
  match a with
  | ⟨0, _⟩ => show win0_4.index p 0 * 1 + 1 * 0 = p.val / 4; rw [(at4 p).1]; omega
  | ⟨1, _⟩ => show win0_4.index p 1 * 512 + 1 * r.val = p.val % 4 * 512 + r.val; rw [(at4 p).2.1]; omega
  | ⟨2, _⟩ => show win0_4.index p 2 * 512 + 1 * j.val = j.val; rw [(at4 p).2.2]; omega

theorem gt_at (H : Mem m c A) (p : Fin cfg0.N) (r : Fin 512) (j : Fin 2048) :
    (iblk m c 5 p (ix3 0 r j) : EReal) = A.gt (ix3 (batch p) (token p r) j) := by
  unfold iblk
  rw [View.read_apply]
  show V m c main_arg5 _ = _
  rw [V_main_arg5, H.gt]
  refine congrArg A.gt (funext fun a => Fin.ext ?_)
  match a with
  | ⟨0, _⟩ => show win0_5.index p 0 * 1 + 1 * 0 = p.val / 4; rw [(at5 p).1]; omega
  | ⟨1, _⟩ => show win0_5.index p 1 * 512 + 1 * r.val = p.val % 4 * 512 + r.val; rw [(at5 p).2.1]; omega
  | ⟨2, _⟩ => show win0_5.index p 2 * 2048 + 1 * j.val = j.val; rw [(at5 p).2.2]; omega

theorem x_at (H : Mem m c A) (p : Fin cfg0.N) (r : Fin 512) (d : Fin 1024) :
    (iblk m c 6 p (ix3 0 r d) : EReal) = A.x (ix3 (batch p) (token p r) d) := by
  unfold iblk
  rw [View.read_apply]
  show V m c main_arg6 _ = _
  rw [V_main_arg6, H.x]
  refine congrArg A.x (funext fun a => Fin.ext ?_)
  match a with
  | ⟨0, _⟩ => show win0_6.index p 0 * 1 + 1 * 0 = p.val / 4; rw [(at6 p).1]; omega
  | ⟨1, _⟩ => show win0_6.index p 1 * 512 + 1 * r.val = p.val % 4 * 512 + r.val; rw [(at6 p).2.1]; omega
  | ⟨2, _⟩ => show win0_6.index p 2 * 1024 + 1 * d.val = d.val; rw [(at6 p).2.2]; omega

theorem md_at (H : Mem m c A) (p : Fin cfg0.N) (e : Fin 6) (d : Fin 1024) :
    (iblk m c 7 p (ix3 0 e d) : EReal) = A.md (ix2 (batch p) (ProjSpec.part e d)) := by
  unfold iblk
  rw [View.read_apply]
  show V m c main_v0 _ = _
  have e0 : V m c main_v0 = (shapeCast S32x6x1024 (m (c.tc.loc main_arg7)) shapeCasts_S32x6144_S32x6x1024 :) := by
    unfold V hostOps0
    after_results
    rfl
  rw [e0, H.md]
  have hi : (fun a => ((cfg0.win 7).blk p).view.emb (ix3 0 e d) a : S32x6x1024.Idx) = (ix3 (batch p) e d) := by
    refine funext fun a => Fin.ext ?_
    match a with
    | ⟨0, _⟩ => show win0_7.index p 0 * 1 + 1 * 0 = p.val / 4; rw [(at7 p).1]; omega
    | ⟨1, _⟩ => show win0_7.index p 1 * 6 + 1 * e.val = e.val; rw [(at7 p).2.1]; omega
    | ⟨2, _⟩ => show win0_7.index p 2 * 1024 + 1 * d.val = d.val; rw [(at7 p).2.2]; omega
  refine (congrArg (shapeCast S32x6x1024 A.md shapeCasts_S32x6144_S32x6x1024) hi).trans ?_
  generalize A.md = M
  pointwise
  refine congrArg _ (funext fun a => Fin.ext ?_)
  match a with
  | ⟨0, _⟩ => simp
  | ⟨1, _⟩ => simp [ProjSpec.part]

theorem lw_at (H : Mem m c A) (p : Fin cfg0.N) (d : Fin 512) :
    (iblk m c 8 p (ix2 0 d) : EReal) = A.lw (ix2 0 d) := by
  unfold iblk
  rw [View.read_apply]
  show V m c main_v14 _ = _
  have e0 : V m c main_v14 = (shapeCast S1x512 (shapeCast S512 (m (c.tc.loc main_arg8)) shapeCasts_S1x512_S512) shapeCasts_S512_S1x512 :) := by
    unfold V hostOps0
    after_results
    rfl
  rw [e0, H.lw]
  have hi : (fun a => ((cfg0.win 8).blk p).view.emb (ix2 0 d) a : S1x512.Idx) = (ix2 0 d) := by
    refine funext fun a => Fin.ext ?_
    match a with
    | ⟨0, _⟩ => show win0_8.index p 0 * 1 + 1 * 0 = 0; rw [(at8 p).1]
    | ⟨1, _⟩ => show win0_8.index p 1 * 512 + 1 * d.val = d.val; rw [(at8 p).2]; omega
  refine (congrArg (shapeCast S1x512 (shapeCast S512 A.lw shapeCasts_S1x512_S512) shapeCasts_S512_S1x512) hi).trans ?_
  generalize A.lw = M
  pointwise

theorem lb_at (H : Mem m c A) (p : Fin cfg0.N) (d : Fin 512) :
    (iblk m c 9 p (ix2 0 d) : EReal) = A.lb (ix2 0 d) := by
  unfold iblk
  rw [View.read_apply]
  show V m c main_v15 _ = _
  have e0 : V m c main_v15 = (shapeCast S1x512 (shapeCast S512 (m (c.tc.loc main_arg9)) shapeCasts_S1x512_S512) shapeCasts_S512_S1x512 :) := by
    unfold V hostOps0
    after_results
    rfl
  rw [e0, H.lb]
  have hi : (fun a => ((cfg0.win 9).blk p).view.emb (ix2 0 d) a : S1x512.Idx) = (ix2 0 d) := by
    refine funext fun a => Fin.ext ?_
    match a with
    | ⟨0, _⟩ => show win0_9.index p 0 * 1 + 1 * 0 = 0; rw [(at9 p).1]
    | ⟨1, _⟩ => show win0_9.index p 1 * 512 + 1 * d.val = d.val; rw [(at9 p).2]; omega
  refine (congrArg (shapeCast S1x512 (shapeCast S512 A.lb shapeCasts_S1x512_S512) shapeCasts_S512_S1x512) hi).trans ?_
  generalize A.lb = M
  pointwise

theorem g2_at (H : Mem m c A) (p : Fin cfg0.N) (e : Fin 128) (d : Fin 512) :
    (iblk m c 10 p (ix2 e d) : EReal) = A.g2 (ix3 0 e d) := by
  unfold iblk
  rw [View.read_apply]
  show V m c main_v4 _ = _
  have e0 : V m c main_v4 = (truncf (F := Ideal) (s := S128x512) (φ := .f32) .bf16 (shapeCast S128x512 (m (c.tc.loc main_arg10)) shapeCasts_S1x128x512_S128x512) bitsLt_bf16_f32 :) := by
    unfold V hostOps0
    after_results
    rfl
  rw [e0, H.g2]
  have hi : (fun a => ((cfg0.win 10).blk p).view.emb (ix2 e d) a : S128x512.Idx) = (ix2 e d) := by
    refine funext fun a => Fin.ext ?_
    match a with
    | ⟨0, _⟩ => show win0_10.index p 0 * 128 + 1 * e.val = e.val; rw [(at10 p).1]; omega
    | ⟨1, _⟩ => show win0_10.index p 1 * 512 + 1 * d.val = d.val; rw [(at10 p).2]; omega
  refine (congrArg (truncf (F := Ideal) (s := S128x512) (φ := .f32) .bf16 (shapeCast S128x512 A.g2 shapeCasts_S1x128x512_S128x512) bitsLt_bf16_f32) hi).trans ?_
  generalize A.g2 = M
  pointwise

theorem wr_at (H : Mem m c A) (p : Fin cfg0.N) (e : Fin 512) (d : Fin 1024) :
    (iblk m c 11 p (ix2 e d) : EReal) = A.wr (ix3 0 e d) := by
  unfold iblk
  rw [View.read_apply]
  show V m c main_v6 _ = _
  have e0 : V m c main_v6 = (truncf (F := Ideal) (s := S512x1024) (φ := .f32) .bf16 (shapeCast S512x1024 (m (c.tc.loc main_arg11)) shapeCasts_S1x512x1024_S512x1024) bitsLt_bf16_f32 :) := by
    unfold V hostOps0
    after_results
    rfl
  rw [e0, H.wr]
  have hi : (fun a => ((cfg0.win 11).blk p).view.emb (ix2 e d) a : S512x1024.Idx) = (ix2 e d) := by
    refine funext fun a => Fin.ext ?_
    match a with
    | ⟨0, _⟩ => show win0_11.index p 0 * 512 + 1 * e.val = e.val; rw [(at11 p).1]; omega
    | ⟨1, _⟩ => show win0_11.index p 1 * 1024 + 1 * d.val = d.val; rw [(at11 p).2]; omega
  refine (congrArg (truncf (F := Ideal) (s := S512x1024) (φ := .f32) .bf16 (shapeCast S512x1024 A.wr shapeCasts_S1x512x1024_S512x1024) bitsLt_bf16_f32) hi).trans ?_
  generalize A.wr = M
  pointwise

theorem wa_at (H : Mem m c A) (p : Fin cfg0.N) (e : Fin 512) (d : Fin 1024) :
    (iblk m c 12 p (ix2 e d) : EReal) = A.wa (ix3 0 e d) := by
  unfold iblk
  rw [View.read_apply]
  show V m c main_v8 _ = _
  have e0 : V m c main_v8 = (truncf (F := Ideal) (s := S512x1024) (φ := .f32) .bf16 (shapeCast S512x1024 (m (c.tc.loc main_arg12)) shapeCasts_S1x512x1024_S512x1024) bitsLt_bf16_f32 :) := by
    unfold V hostOps0
    after_results
    rfl
  rw [e0, H.wa]
  have hi : (fun a => ((cfg0.win 12).blk p).view.emb (ix2 e d) a : S512x1024.Idx) = (ix2 e d) := by
    refine funext fun a => Fin.ext ?_
    match a with
    | ⟨0, _⟩ => show win0_12.index p 0 * 512 + 1 * e.val = e.val; rw [(at12 p).1]; omega
    | ⟨1, _⟩ => show win0_12.index p 1 * 1024 + 1 * d.val = d.val; rw [(at12 p).2]; omega
  refine (congrArg (truncf (F := Ideal) (s := S512x1024) (φ := .f32) .bf16 (shapeCast S512x1024 A.wa shapeCasts_S1x512x1024_S512x1024) bitsLt_bf16_f32) hi).trans ?_
  generalize A.wa = M
  pointwise

theorem wo_at (H : Mem m c A) (p : Fin cfg0.N) (e : Fin 1024) (d : Fin 1024) :
    (iblk m c 13 p (ix2 e d) : EReal) = A.wo (ix3 0 e d) := by
  unfold iblk
  rw [View.read_apply]
  show V m c main_v10 _ = _
  have e0 : V m c main_v10 = (truncf (F := Ideal) (s := S1024x1024) (φ := .f32) .bf16 (shapeCast S1024x1024 (m (c.tc.loc main_arg13)) shapeCasts_S1x1024x1024_S1024x1024) bitsLt_bf16_f32 :) := by
    unfold V hostOps0
    after_results
    rfl
  rw [e0, H.wo]
  have hi : (fun a => ((cfg0.win 13).blk p).view.emb (ix2 e d) a : S1024x1024.Idx) = (ix2 e d) := by
    refine funext fun a => Fin.ext ?_
    match a with
    | ⟨0, _⟩ => show win0_13.index p 0 * 1024 + 1 * e.val = e.val; rw [(at13 p).1]; omega
    | ⟨1, _⟩ => show win0_13.index p 1 * 1024 + 1 * d.val = d.val; rw [(at13 p).2]; omega
  refine (congrArg (truncf (F := Ideal) (s := S1024x1024) (φ := .f32) .bf16 (shapeCast S1024x1024 A.wo shapeCasts_S1x1024x1024_S1024x1024) bitsLt_bf16_f32) hi).trans ?_
  generalize A.wo = M
  pointwise

theorem n2_at (H : Mem m c A) (p : Fin cfg0.N) (d : Fin 1024) :
    (iblk m c 14 p (ix2 0 d) : EReal) = A.n2 (ix2 0 d) := by
  unfold iblk
  rw [View.read_apply]
  show V m c main_v16 _ = _
  have e0 : V m c main_v16 = (shapeCast S1x1024 (shapeCast S1024 (m (c.tc.loc main_arg14)) shapeCasts_S1x1024_S1024) shapeCasts_S1024_S1x1024 :) := by
    unfold V hostOps0
    after_results
    rfl
  rw [e0, H.n2]
  have hi : (fun a => ((cfg0.win 14).blk p).view.emb (ix2 0 d) a : S1x1024.Idx) = (ix2 0 d) := by
    refine funext fun a => Fin.ext ?_
    match a with
    | ⟨0, _⟩ => show win0_14.index p 0 * 1 + 1 * 0 = 0; rw [(at14 p).1]
    | ⟨1, _⟩ => show win0_14.index p 1 * 1024 + 1 * d.val = d.val; rw [(at14 p).2]; omega
  refine (congrArg (shapeCast S1x1024 (shapeCast S1024 A.n2 shapeCasts_S1x1024_S1024) shapeCasts_S1024_S1x1024) hi).trans ?_
  generalize A.n2 = M
  pointwise

theorem rt_at (H : Mem m c A) (p : Fin cfg0.N) (e : Fin 16) (d : Fin 1024) :
    (iblk m c 15 p (ix2 e d) : EReal) = A.rt (ix3 0 d e) := by
  unfold iblk
  rw [View.read_apply]
  show V m c main_v13 _ = _
  have e0 : V m c main_v13 = (transpose S16x1024 [1, 0] (shapeCast S1024x16 (m (c.tc.loc main_arg15)) shapeCasts_S1x1024x16_S1024x16) transposes_S1024x16_S16x1024_1_0 :) := by
    unfold V hostOps0
    after_results
    rfl
  rw [e0, H.rt]
  have hi : (fun a => ((cfg0.win 15).blk p).view.emb (ix2 e d) a : S16x1024.Idx) = (ix2 e d) := by
    refine funext fun a => Fin.ext ?_
    match a with
    | ⟨0, _⟩ => show win0_15.index p 0 * 16 + 1 * e.val = e.val; rw [(at15 p).1]; omega
    | ⟨1, _⟩ => show win0_15.index p 1 * 1024 + 1 * d.val = d.val; rw [(at15 p).2]; omega
  refine (congrArg (transpose S16x1024 [1, 0] (shapeCast S1024x16 A.rt shapeCasts_S1x1024x16_S1024x16) transposes_S1024x16_S16x1024_1_0) hi).trans ?_
  generalize A.rt = M
  pointwise

/-- The blocks of a point hold the tokens of its rows. -/
theorem holds (H : Mem m c A) (p : Fin cfg0.N) (r : Fin 512) :
    MergeTok.Holds A (batch p) (token p r) r (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 13 p) (iblk m c 14 p) (iblk m c 15 p) where
  yf := yf_at m c H p r
  yb := yb_at m c H p r
  bo := bo_at m c H p r
  zl := zl_at m c H p r
  av := av_at m c H p r
  gt := gt_at m c H p r
  x := x_at m c H p r
  md := md_at m c H p
  lw := lw_at m c H p
  lb := lb_at m c H p
  g2 := g2_at m c H p
  wr := wr_at m c H p
  wa := wa_at m c H p
  wo := wo_at m c H p
  n2 := n2_at m c H p
  rt := rt_at m c H p

end Cert.Proof.MergeBlocks

end
-- ==== Proof.MergeOut.lean ====
module

public import proofs.«01_k».proof.Proof.MergeBlocks

/-!
The three arrays that the merge leaves: the residual, the second hidden rows and the router's shares.
-/

@[expose] public section

set_option maxRecDepth 16384

noncomputable section

namespace Cert.Proof.MergeOut

open Idealize.ShloMosaic Idealize.ShloMosaic.TcCoe Cert.Kernel3Ideal Cert.Kernel3Ideal.Gen Cert.Proof.MergeBlocks Cert.Proof.Sums

/-- An index of a block is named by its last two coordinates. -/
theorem eq_ix3 {m n : ℕ} (y : (⟨3, ![1, m, n]⟩ : Shape).Idx) : ∃ (r : Fin m) (d : Fin n), y = ix3 0 r d :=
  ⟨y 1, y 2, by
    refine funext fun a => ?_
    match a with
    | ⟨0, _⟩ => exact Subsingleton.elim (α := Fin 1) _ _
    | ⟨1, _⟩ => rfl
    | ⟨2, _⟩ => rfl⟩

/-- The residual. -/
def resArr (A : MergeSpec.Args) : Vec Ideal S32x2048x1024 .f32 := fun i => A.x1 (i 0) (i 1) (i 2)

/-- The second hidden rows. -/
def hidArr (A : MergeSpec.Args) : Vec Ideal S32x2048x1024 .bf16 := fun i => A.h2 (i 0) (i 1) (i 2)

/-- The router's shares. -/
def affArr (A : MergeSpec.Args) : Vec Ideal S32x16x2048 .f32 := fun i => A.aff (i 0) (i 2) (i 1)

variable (m : (ℓ : Loc nD τ sig) → Buf (Elt Ideal) ℓ) (c : Dev nD) {A : MergeSpec.Args} (H : Mem m c A)
  (hy : ∀ i, IsNum (A.yf i)) (hz : ∀ i, IsNum (A.yb i))
  (hn : ∀ i, IsNum (A.n2 i)) (hs : ∀ b d, IsNum (A.md (ix2 b (ProjSpec.part 4 d)))) (hh : ∀ b d, IsNum (A.md (ix2 b (ProjSpec.part 3 d))))
  (hR : ∀ i, IsNum (A.rt i))

include H hy hz in
theorem flushed16 (p : Fin cfg0.N) : (dats m 0 c).flushed 16 p = ((cfg0.win 16).blk p).view.read (Elt Ideal) (resArr A) := by
  rw [Value.flushed16]
  funext y
  obtain ⟨r, d, rfl⟩ := eq_ix3 (m := 512) (n := 1024) y
  refine (MergeTok.left16 (holds m c H p r) (fun j => hy _) (fun j => hz _) d).trans ?_
  rw [View.read_apply]
  have hi : (((cfg0.win 16).blk p).view.emb (ix3 0 r d) : S32x2048x1024.Idx) = ix3 (batch p) (token p r) d := by
    refine funext fun a => Fin.ext ?_
    match a with
    | ⟨0, _⟩ => show win0_16.index p 0 * 1 + 1 * 0 = p.val / 4; rw [(at16 p).1]; omega
    | ⟨1, _⟩ => show win0_16.index p 1 * 512 + 1 * r.val = p.val % 4 * 512 + r.val; rw [(at16 p).2.1]; omega
    | ⟨2, _⟩ => show win0_16.index p 2 * 1024 + 1 * d.val = d.val; rw [(at16 p).2.2]; omega
  exact (congrArg (resArr A) hi).symm

include H hy hz in
theorem final16 : (dats m 0 c).arrAt 16 cfg0.N = resArr A :=
  (dats m 0 c).arrAt_eq_of_cover 16 (resArr A) (fun p _ => flushed16 m c H hy hz p) fun i => by
    have h0 : (i 0 : Nat) < 32 := (i 0).isLt
    have h1 : (i 1 : Nat) < 2048 := (i 1).isLt
    have h2 : (i 2 : Nat) < 1024 := (i 2).isLt
    have hN : (i 0 : Nat) * 4 + (i 1 : Nat) / 512 < cfg0.N := by show _ < grid0.N; rw [N_0]; omega
    refine ⟨⟨(i 0 : Nat) * 4 + (i 1 : Nat) / 512, hN⟩, flush0_16 _, ?_⟩
    generalize hp : (⟨(i 0 : Nat) * 4 + (i 1 : Nat) / 512, hN⟩ : Fin cfg0.N) = p
    have hv : p.val = (i 0 : Nat) * 4 + (i 1 : Nat) / 512 := by rw [← hp]
    show i ∈ ((View.whole main_v17_0).slice (win0_16.rect p)).set
    rw [View.set_slice_whole, Rect.mem_set_unit]
    intro a
    match a with
    | ⟨0, _⟩ => show win0_16.index p 0 * 1 ≤ (i 0 : Nat) ∧ (i 0 : Nat) < win0_16.index p 0 * 1 + win0_16.xsize (grid0.coords p) 0
                rw [(at16 p).1, (size16 p).1]; omega
    | ⟨1, _⟩ => show win0_16.index p 1 * 512 ≤ (i 1 : Nat) ∧ (i 1 : Nat) < win0_16.index p 1 * 512 + win0_16.xsize (grid0.coords p) 1
                rw [(at16 p).2.1, (size16 p).2.1]; omega
    | ⟨2, _⟩ => show win0_16.index p 2 * 1024 ≤ (i 2 : Nat) ∧ (i 2 : Nat) < win0_16.index p 2 * 1024 + win0_16.xsize (grid0.coords p) 2
                rw [(at16 p).2.2, (size16 p).2.2]; omega

include H hy hz in
theorem flushed17 (p : Fin cfg0.N) : (dats m 0 c).flushed 17 p = ((cfg0.win 17).blk p).view.read (Elt Ideal) (hidArr A) := by
  rw [Value.flushed17]
  funext y
  obtain ⟨r, d, rfl⟩ := eq_ix3 (m := 512) (n := 1024) y
  refine (MergeTok.left17 (holds m c H p r) (fun j => hy _) (fun j => hz _) d).trans ?_
  rw [View.read_apply]
  have hi : (((cfg0.win 17).blk p).view.emb (ix3 0 r d) : S32x2048x1024.Idx) = ix3 (batch p) (token p r) d := by
    refine funext fun a => Fin.ext ?_
    match a with
    | ⟨0, _⟩ => show win0_17.index p 0 * 1 + 1 * 0 = p.val / 4; rw [(at17 p).1]; omega
    | ⟨1, _⟩ => show win0_17.index p 1 * 512 + 1 * r.val = p.val % 4 * 512 + r.val; rw [(at17 p).2.1]; omega
    | ⟨2, _⟩ => show win0_17.index p 2 * 1024 + 1 * d.val = d.val; rw [(at17 p).2.2]; omega
  exact (congrArg (hidArr A) hi).symm

include H hy hz in
theorem final17 : (dats m 0 c).arrAt 17 cfg0.N = hidArr A :=
  (dats m 0 c).arrAt_eq_of_cover 17 (hidArr A) (fun p _ => flushed17 m c H hy hz p) fun i => by
    have h0 : (i 0 : Nat) < 32 := (i 0).isLt
    have h1 : (i 1 : Nat) < 2048 := (i 1).isLt
    have h2 : (i 2 : Nat) < 1024 := (i 2).isLt
    have hN : (i 0 : Nat) * 4 + (i 1 : Nat) / 512 < cfg0.N := by show _ < grid0.N; rw [N_0]; omega
    refine ⟨⟨(i 0 : Nat) * 4 + (i 1 : Nat) / 512, hN⟩, flush0_17 _, ?_⟩
    generalize hp : (⟨(i 0 : Nat) * 4 + (i 1 : Nat) / 512, hN⟩ : Fin cfg0.N) = p
    have hv : p.val = (i 0 : Nat) * 4 + (i 1 : Nat) / 512 := by rw [← hp]
    show i ∈ ((View.whole main_v17_1).slice (win0_17.rect p)).set
    rw [View.set_slice_whole, Rect.mem_set_unit]
    intro a
    match a with
    | ⟨0, _⟩ => show win0_17.index p 0 * 1 ≤ (i 0 : Nat) ∧ (i 0 : Nat) < win0_17.index p 0 * 1 + win0_17.xsize (grid0.coords p) 0
                rw [(at17 p).1, (size17 p).1]; omega
    | ⟨1, _⟩ => show win0_17.index p 1 * 512 ≤ (i 1 : Nat) ∧ (i 1 : Nat) < win0_17.index p 1 * 512 + win0_17.xsize (grid0.coords p) 1
                rw [(at17 p).2.1, (size17 p).2.1]; omega
    | ⟨2, _⟩ => show win0_17.index p 2 * 1024 ≤ (i 2 : Nat) ∧ (i 2 : Nat) < win0_17.index p 2 * 1024 + win0_17.xsize (grid0.coords p) 2
                rw [(at17 p).2.2, (size17 p).2.2]; omega

include hn hs hh hR in
include H hy hz in
theorem flushed18 (p : Fin cfg0.N) : (dats m 0 c).flushed 18 p = ((cfg0.win 18).blk p).view.read (Elt Ideal) (affArr A) := by
  rw [Value.flushed18]
  funext y
  obtain ⟨e, r, rfl⟩ := eq_ix3 (m := 16) (n := 512) y
  refine (MergeTok.left18 (holds m c H p r) (fun j => hy _) (fun j => hz _) (fun d => hn _) (fun d => hs _ d) (fun d => hh _ d) (fun k e => hR _) e).trans ?_
  rw [View.read_apply]
  have hi : (((cfg0.win 18).blk p).view.emb (ix3 0 e r) : S32x16x2048.Idx) = ix3 (batch p) e (token p r) := by
    refine funext fun a => Fin.ext ?_
    match a with
    | ⟨0, _⟩ => show win0_18.index p 0 * 1 + 1 * 0 = p.val / 4; rw [(at18 p).1]; omega
    | ⟨1, _⟩ => show win0_18.index p 1 * 16 + 1 * e.val = e.val; rw [(at18 p).2.1]; omega
    | ⟨2, _⟩ => show win0_18.index p 2 * 512 + 1 * r.val = p.val % 4 * 512 + r.val; rw [(at18 p).2.2]; omega
  exact (congrArg (affArr A) hi).symm

include hn hs hh hR in
include H hy hz in
theorem final18 : (dats m 0 c).arrAt 18 cfg0.N = affArr A :=
  (dats m 0 c).arrAt_eq_of_cover 18 (affArr A) (fun p _ => flushed18 m c H hy hz hn hs hh hR p) fun i => by
    have h0 : (i 0 : Nat) < 32 := (i 0).isLt
    have h1 : (i 1 : Nat) < 16 := (i 1).isLt
    have h2 : (i 2 : Nat) < 2048 := (i 2).isLt
    have hN : (i 0 : Nat) * 4 + (i 2 : Nat) / 512 < cfg0.N := by show _ < grid0.N; rw [N_0]; omega
    refine ⟨⟨(i 0 : Nat) * 4 + (i 2 : Nat) / 512, hN⟩, flush0_18 _, ?_⟩
    generalize hp : (⟨(i 0 : Nat) * 4 + (i 2 : Nat) / 512, hN⟩ : Fin cfg0.N) = p
    have hv : p.val = (i 0 : Nat) * 4 + (i 2 : Nat) / 512 := by rw [← hp]
    show i ∈ ((View.whole main_v17_2).slice (win0_18.rect p)).set
    rw [View.set_slice_whole, Rect.mem_set_unit]
    intro a
    match a with
    | ⟨0, _⟩ => show win0_18.index p 0 * 1 ≤ (i 0 : Nat) ∧ (i 0 : Nat) < win0_18.index p 0 * 1 + win0_18.xsize (grid0.coords p) 0
                rw [(at18 p).1, (size18 p).1]; omega
    | ⟨1, _⟩ => show win0_18.index p 1 * 16 ≤ (i 1 : Nat) ∧ (i 1 : Nat) < win0_18.index p 1 * 16 + win0_18.xsize (grid0.coords p) 1
                rw [(at18 p).2.1, (size18 p).2.1]; omega
    | ⟨2, _⟩ => show win0_18.index p 2 * 512 ≤ (i 2 : Nat) ∧ (i 2 : Nat) < win0_18.index p 2 * 512 + win0_18.xsize (grid0.coords p) 2
                rw [(at18 p).2.2, (size18 p).2.2]; omega

end Cert.Proof.MergeOut

end
-- ==== Proof.MergeRef.lean ====
module

public import proofs.«01_k».proof.Proof.Gen.Reference3Ideal.Run
public import proofs.«01_k».proof.Proof.MergeSpec

/-!
The merge's reference, stage by stage, and each stage at an index.
-/

@[expose] public section

set_option maxRecDepth 16384

noncomputable section

namespace Cert.Proof.MergeRef

open Idealize.ShloMosaic Idealize.ShloMosaic.TcCoe Cert.Reference3Ideal Cert.Reference3Ideal.Gen

/-- The sum of both directions, by heads. -/
def heads (Y Z : FVec Ideal S32x2048x512 .f32) : FVec Ideal S32x2048x8x64 .f32 :=
  shapeCast _ (addf Y Z) shapeCasts_S32x2048x512_S32x2048x8x64

/-- A head's mean. -/
def means (U : FVec Ideal S32x2048x8x64 .f32) : FVec Ideal S32x2048x8x1 .f32 :=
  Host.divf (broadcastInDim S32x2048x8x1 ![0, 1, 2] bcast_S32x2048x8_S32x2048x8x1_0_1_2
      (Host.reduceAdd U (constant S_ .f32 0x00000000#32) reducesTo_S32x2048x8x64_S32x2048x8_d3 h_S_))
    (broadcastInDim S32x2048x8x1 ![] bcast_S_S32x2048x8x1 (constant S_ .f32 0x42800000#32))

/-- The deviations from the means. -/
def devs (U : FVec Ideal S32x2048x8x64 .f32) : FVec Ideal S32x2048x8x64 .f32 :=
  subf U (broadcastInDim S32x2048x8x64 ![0, 1, 2, 3] bcast_S32x2048x8x1_S32x2048x8x64_0_1_2_3 (means U))

/-- The deviations over their root mean square. -/
def unit (U : FVec Ideal S32x2048x8x64 .f32) : FVec Ideal S32x2048x8x64 .f32 :=
  mulf (devs U) (broadcastInDim S32x2048x8x64 ![0, 1, 2, 3] bcast_S32x2048x8x1_S32x2048x8x64_0_1_2_3
    (Host.rsqrt (addf (means (mulf (devs U) (devs U)))
      (broadcastInDim S32x2048x8x1 ![] bcast_S_S32x2048x8x1 (constant S_ .f32 0x3A27C5AC#32)))))

/-- The recurrence's normed output with its gain, shift and bonus. -/
def normed (U : FVec Ideal S32x2048x8x64 .f32) (W S : FVec Ideal S1x512 .f32) (B : FVec Ideal S32x2048x512 .f32) : FVec Ideal S32x2048x512 .f32 :=
  addf (addf (mulf (shapeCast _ U shapeCasts_S32x2048x8x64_S32x2048x512)
      (broadcastInDim S32x2048x512 ![0, 1, 2] bcast_S1x1x512_S32x2048x512_0_1_2
        (broadcastInDim S1x1x512 ![2] bcast_S512_S1x1x512_2 (shapeCast _ W shapeCasts_S1x512_S512))))
      (broadcastInDim S32x2048x512 ![0, 1, 2] bcast_S1x1x512_S32x2048x512_0_1_2
        (broadcastInDim S1x1x512 ![2] bcast_S512_S1x1x512_2 (shapeCast _ S shapeCasts_S1x512_S512)))) B

/-- The low-rank gate. -/
def lowRank (Zl : FVec Ideal S32x2048x384 .f32) (G : FVec Ideal S1x128x512 .f32) : FVec Ideal S32x2048x512 .f32 :=
  Host.dotGeneral dot_S32x2048x128_S128x512_S32x2048x512_2_0_01_1_n_n none
    (Host.divf (broadcastInDim S32x2048x128 ![] bcast_S_S32x2048x128 (constant S_ .f32 0x3F800000#32))
      (addf (broadcastInDim S32x2048x128 ![] bcast_S_S32x2048x128 (constant S_ .f32 0x3F800000#32))
        (Host.exp (Host.negf (extractStridedSlice S32x2048x128 ![0, 0, 256] Zl slices_S32x2048x384_S32x2048x128_0_0_256)))))
    (shapeCast _ G shapeCasts_S1x128x512_S128x512)

/-- The branches' gates. -/
def gates (T : FVec Ideal S32x2048x2048 .f32) : FVec Ideal S32x2048x2048 .f32 :=
  Host.divf (broadcastInDim S32x2048x2048 ![] bcast_S_S32x2048x2048 (constant S_ .f32 0x3F800000#32))
    (addf (broadcastInDim S32x2048x2048 ![] bcast_S_S32x2048x2048 (constant S_ .f32 0x3F800000#32)) (Host.exp (Host.negf T)))

/-- The two branches' projections under the gates `G`. -/
def merged (G : FVec Ideal S32x2048x2048 .f32) (R A : FVec Ideal S32x2048x512 .f32) (Wr Wa : FVec Ideal S1x512x1024 .f32) :
    FVec Ideal S32x2048x1024 .f32 :=
  addf (mulf (extractStridedSlice S32x2048x1024 ![0, 0, 0] G slices_S32x2048x2048_S32x2048x1024_0_0_0)
      (Host.dotGeneral dot_S32x2048x512_S512x1024_S32x2048x1024_2_0_01_1_n_n none R (shapeCast _ Wr shapeCasts_S1x512x1024_S512x1024)))
    (mulf (extractStridedSlice S32x2048x1024 ![0, 0, 1024] G slices_S32x2048x2048_S32x2048x1024_0_0_1024)
      (Host.dotGeneral dot_S32x2048x512_S512x1024_S32x2048x1024_2_0_01_1_n_n none A (shapeCast _ Wa shapeCasts_S1x512x1024_S512x1024)))

/-- The residual. -/
def resid (X : FVec Ideal S32x2048x1024 .f32) (M : FVec Ideal S32x6144 .f32) (G : FVec Ideal S32x2048x1024 .f32) (Wo : FVec Ideal S1x1024x1024 .f32) :
    FVec Ideal S32x2048x1024 .f32 :=
  addf X (mulf (broadcastInDim S32x2048x1024 ![0, 1, 2] bcast_S32x1x1024_S32x2048x1024_0_1_2
      (extractStridedSlice S32x1x1024 ![0, 0, 2048] (broadcastInDim S32x1x6144 ![0, 2] bcast_S32x6144_S32x1x6144_0_2 M)
        slices_S32x1x6144_S32x1x1024_0_0_2048))
    (Host.dotGeneral dot_S32x2048x1024_S1024x1024_S32x2048x1024_2_0_01_1_n_n none G (shapeCast _ Wo shapeCasts_S1x1024x1024_S1024x1024)))

/-- The second hidden rows of the residual `X`. -/
def hidden (X : FVec Ideal S32x2048x1024 .f32) (N : FVec Ideal S1x1024 .f32) (M : FVec Ideal S32x6144 .f32) : FVec Ideal S32x2048x1024 .f32 :=
  addf
    (mulf
      (mulf
        (mulf X (broadcastInDim S32x2048x1024 ![0, 1, 2] bcast_S32x2048x1_S32x2048x1024_0_1_2
          (Host.rsqrt (addf (Host.divf
            (broadcastInDim S32x2048x1 ![0, 1] bcast_S32x2048_S32x2048x1_0_1
              (Host.reduceAdd (mulf X X) (constant S_ .f32 0x00000000#32) reducesTo_S32x2048x1024_S32x2048_d2 h_S_))
            (broadcastInDim S32x2048x1 ![] bcast_S_S32x2048x1 (constant S_ .f32 0x44800000#32)))
            (broadcastInDim S32x2048x1 ![] bcast_S_S32x2048x1 (constant S_ .f32 0x358637BD#32))))))
        (broadcastInDim S32x2048x1024 ![0, 1, 2] bcast_S1x1x1024_S32x2048x1024_0_1_2
          (broadcastInDim S1x1x1024 ![2] bcast_S1024_S1x1x1024_2 (shapeCast _ N shapeCasts_S1x1024_S1024))))
      (broadcastInDim S32x2048x1024 ![0, 1, 2] bcast_S32x1x1024_S32x2048x1024_0_1_2
        (addf (broadcastInDim S32x1x1024 ![] bcast_S_S32x1x1024 (constant S_ .f32 0x3F800000#32))
          (extractStridedSlice S32x1x1024 ![0, 0, 4096] (broadcastInDim S32x1x6144 ![0, 2] bcast_S32x6144_S32x1x6144_0_2 M)
            slices_S32x1x6144_S32x1x1024_0_0_4096))))
    (broadcastInDim S32x2048x1024 ![0, 1, 2] bcast_S32x1x1024_S32x2048x1024_0_1_2
      (extractStridedSlice S32x1x1024 ![0, 0, 3072] (broadcastInDim S32x1x6144 ![0, 2] bcast_S32x6144_S32x1x6144_0_2 M)
        slices_S32x1x6144_S32x1x1024_0_0_3072))

/-- The router's scores. -/
def logits (H : FVec Ideal S32x2048x1024 .f32) (R : FVec Ideal S1x1024x16 .f32) : FVec Ideal S32x2048x16 .f32 :=
  Host.dotGeneral dot_S32x2048x1024_S1024x16_S32x2048x16_2_0_01_1_n_n none H (shapeCast _ R shapeCasts_S1x1024x16_S1024x16)

/-- The largest score of each token. -/
def tops (L : FVec Ideal S32x2048x16 .f32) : FVec Ideal S32x2048 .f32 :=
  maximumf (broadcastInDim S32x2048 ![] bcast_S_S32x2048 (constant S_ .f32 0xFF800000#32))
    (Host.reduce FloatOps.maximumf L (constant S_ .f32 0xFF800000#32) reducesTo_S32x2048x16_S32x2048_d2 h_S_)

/-- The exponentials of the scores less the largest. -/
def expos (L : FVec Ideal S32x2048x16 .f32) : FVec Ideal S32x2048x16 .f32 :=
  Host.exp (subf L (broadcastInDim S32x2048x16 ![0, 1, 2] bcast_S32x2048x1_S32x2048x16_0_1_2
    (broadcastInDim S32x2048x1 ![0, 1] bcast_S32x2048_S32x2048x1_0_1 (tops L))))

/-- The experts' shares. -/
def shares (E : FVec Ideal S32x2048x16 .f32) : FVec Ideal S32x16x2048 .f32 :=
  transpose S32x16x2048 [0, 2, 1] (Host.divf E (broadcastInDim S32x2048x16 ![0, 1, 2] bcast_S32x2048x1_S32x2048x16_0_1_2
    (broadcastInDim S32x2048x1 ![0, 1] bcast_S32x2048_S32x2048x1_0_1
      (Host.reduceAdd E (constant S_ .f32 0x00000000#32) reducesTo_S32x2048x16_S32x2048_d2 h_S_)))) transposes_S32x2048x16_S32x16x2048_0_2_1

theorem heads_at (Y Z : FVec Ideal S32x2048x512 .f32) (b : Fin 32) (t : Fin 2048) (h : Fin 8) (i : Fin 64) :
    heads Y Z (ix4 b t h i) = Y (ix3 b t ⟨h.val * 64 + i.val, by omega⟩) + Z (ix3 b t ⟨h.val * 64 + i.val, by omega⟩) := by
  unfold heads
  pointwise

theorem means_at (U : FVec Ideal S32x2048x8x64 .f32) (b : Fin 32) (t : Fin 2048) (h : Fin 8) :
    means U (ix4 b t h 0) = Ideal.div (∑ i : Fin 64, U (ix4 b t h i)) (Ideal.ofBits .f32 0x42800000#32) := by
  unfold means
  pointwise

theorem devs_at (U : FVec Ideal S32x2048x8x64 .f32) (b : Fin 32) (t : Fin 2048) (h : Fin 8) (i : Fin 64) :
    devs U (ix4 b t h i) = U (ix4 b t h i) - means U (ix4 b t h 0) := by
  unfold devs
  pointwise

theorem unit_at (U : FVec Ideal S32x2048x8x64 .f32) (b : Fin 32) (t : Fin 2048) (h : Fin 8) (i : Fin 64) :
    unit U (ix4 b t h i) = devs U (ix4 b t h i)
      * Ideal.rsqrt (means (mulf (devs U) (devs U)) (ix4 b t h 0) + Ideal.ofBits .f32 0x3A27C5AC#32) := by
  unfold unit
  pointwise

theorem normed_at (U : FVec Ideal S32x2048x8x64 .f32) (W S : FVec Ideal S1x512 .f32) (B : FVec Ideal S32x2048x512 .f32)
    (b : Fin 32) (t : Fin 2048) (j : Fin 512) :
    normed U W S B (ix3 b t j) = U (ix4 b t ⟨j.val / 64, by omega⟩ ⟨j.val % 64, by omega⟩) * W (ix2 0 j) + S (ix2 0 j) + B (ix3 b t j) := by
  unfold normed
  pointwise

theorem lowRank_at (Zl : FVec Ideal S32x2048x384 .f32) (G : FVec Ideal S1x128x512 .f32) (b : Fin 32) (t : Fin 2048) (j : Fin 512) :
    lowRank Zl G (ix3 b t j) = ∑ k : Fin 128, MergeSpec.sig (Zl (ix3 b t ⟨256 + k.val, by omega⟩)) * G (ix3 0 k j) := by
  unfold lowRank MergeSpec.sig
  pointwise

theorem gates_at (T : FVec Ideal S32x2048x2048 .f32) (b : Fin 32) (t : Fin 2048) (j : Fin 2048) :
    gates T (ix3 b t j) = MergeSpec.sig (T (ix3 b t j)) := by
  unfold gates MergeSpec.sig
  pointwise

theorem merged_at (G : FVec Ideal S32x2048x2048 .f32) (R A : FVec Ideal S32x2048x512 .f32) (Wr Wa : FVec Ideal S1x512x1024 .f32)
    (b : Fin 32) (t : Fin 2048) (d : Fin 1024) :
    merged G R A Wr Wa (ix3 b t d) = G (ix3 b t ⟨d.val, by omega⟩) * (∑ j : Fin 512, R (ix3 b t j) * Wr (ix3 0 j d))
      + G (ix3 b t ⟨1024 + d.val, by omega⟩) * ∑ j : Fin 512, A (ix3 b t j) * Wa (ix3 0 j d) := by
  unfold merged
  pointwise

theorem resid_at (X : FVec Ideal S32x2048x1024 .f32) (M : FVec Ideal S32x6144 .f32) (G : FVec Ideal S32x2048x1024 .f32)
    (Wo : FVec Ideal S1x1024x1024 .f32) (b : Fin 32) (t : Fin 2048) (d : Fin 1024) :
    resid X M G Wo (ix3 b t d) = MergeSpec.resid (fun d => X (ix3 b t d)) (fun d => M (ix2 b (ProjSpec.part 2 d))) (fun d => G (ix3 b t d))
      (fun k d => Wo (ix3 0 k d)) d := by
  unfold resid MergeSpec.resid ProjSpec.part
  pointwise

theorem hidden_at (X : FVec Ideal S32x2048x1024 .f32) (N : FVec Ideal S1x1024 .f32) (M : FVec Ideal S32x6144 .f32)
    (b : Fin 32) (t : Fin 2048) (d : Fin 1024) :
    hidden X N M (ix3 b t d) = MergeSpec.scaled (fun d => X (ix3 b t d)) (fun d => N (ix2 0 d)) (fun d => M (ix2 b (ProjSpec.part 4 d))) d
      + M (ix2 b (ProjSpec.part 3 d)) := by
  unfold hidden MergeSpec.scaled ProjSpec.part
  pointwise

theorem logits_at (H : FVec Ideal S32x2048x1024 .f32) (R : FVec Ideal S1x1024x16 .f32) (b : Fin 32) (t : Fin 2048) (e : Fin 16) :
    logits H R (ix3 b t e) = MergeSpec.logit (fun d => H (ix3 b t d)) (fun k e => R (ix3 0 k e)) e := by
  unfold logits MergeSpec.logit
  pointwise

theorem tops_at (L : FVec Ideal S32x2048x16 .f32) (b : Fin 32) (t : Fin 2048) :
    tops L (ix2 b t) = MergeSpec.top (fun e => L (ix3 b t e)) := by
  unfold tops MergeSpec.top
  pointwise
  exact max_eq_right ((Finset.le_fold_max _).2 (Or.inl le_rfl))

theorem expos_at (L : FVec Ideal S32x2048x16 .f32) (b : Fin 32) (t : Fin 2048) (e : Fin 16) :
    expos L (ix3 b t e) = Ideal.exp (L (ix3 b t e) - tops L (ix2 b t)) := by
  unfold expos
  pointwise

theorem shares_at (E : FVec Ideal S32x2048x16 .f32) (b : Fin 32) (t : Fin 2048) (e : Fin 16) :
    shares E (ix3 b e t) = Ideal.div (E (ix3 b t e)) (∑ i : Fin 16, E (ix3 b t i)) := by
  unfold shares
  pointwise

end Cert.Proof.MergeRef

end
-- ==== Proof.MergeJoin.lean ====
module

public import proofs.«01_k».proof.Proof.MergeRef

/-!
The merge's reference is, token by token, what the merge gives.
-/

@[expose] public section

set_option maxRecDepth 16384

noncomputable section

namespace Cert.Proof.MergeJoin

open Idealize.ShloMosaic Idealize.ShloMosaic.TcCoe Cert.Reference3Ideal Cert.Reference3Ideal.Gen

section
variable (A : MergeSpec.Args)

/-- The sums of both directions, by heads. -/
def hd : FVec Ideal S32x2048x8x64 .f32 := MergeRef.heads A.yf A.yb

/-- The recurrence's normed output. -/
def nd : FVec Ideal S32x2048x512 .f32 := MergeRef.normed (MergeRef.unit (hd A)) A.lw A.lb A.bo

/-- The recurrence's gated output. -/
def gd : FVec Ideal S32x2048x512 .f32 := mulf (nd A) (MergeRef.lowRank A.zl A.g2)

/-- The merged branches. -/
def mg : FVec Ideal S32x2048x1024 .f32 := MergeRef.merged (MergeRef.gates A.gt) (gd A) A.av A.wr A.wa

/-- The residual. -/
def rs : FVec Ideal S32x2048x1024 .f32 := MergeRef.resid A.x A.md (mg A) A.wo

/-- The second hidden rows. -/
def hn : FVec Ideal S32x2048x1024 .f32 := MergeRef.hidden (rs A) A.n2 A.md

/-- The scores. -/
def lg : FVec Ideal S32x2048x16 .f32 := MergeRef.logits (hn A) A.rt

/-- The shares. -/
def sh : FVec Ideal S32x16x2048 .f32 := MergeRef.shares (MergeRef.expos (lg A))

variable (b : Fin 32) (t : Fin 2048)

/-- The sum of both directions in a token. -/
def both (j : Fin 512) : EReal := A.yf (ix3 b t j) + A.yb (ix3 b t j)

theorem hd_at (j : Fin 512) (i : Fin 64) : hd A (ix4 b t ⟨j.val / 64, by omega⟩ i) = both A b t (MergeSpec.headAt j i) :=
  MergeRef.heads_at A.yf A.yb b t ⟨j.val / 64, by omega⟩ i

theorem hd_self (j : Fin 512) : hd A (ix4 b t ⟨j.val / 64, by omega⟩ ⟨j.val % 64, by omega⟩) = both A b t j :=
  (hd_at A b t j ⟨j.val % 64, by omega⟩).trans (congrArg (both A b t) (Fin.ext (by show j.val / 64 * 64 + j.val % 64 = j.val; omega)))

theorem mean_at (j : Fin 512) : MergeRef.means (hd A) (ix4 b t ⟨j.val / 64, by omega⟩ 0) = MergeSpec.mean (both A b t) j :=
  (MergeRef.means_at (hd A) b t ⟨j.val / 64, by omega⟩).trans
    (congrArg (Ideal.div · _) (Finset.sum_congr rfl fun i _ => hd_at A b t j i))

theorem dev_at (j : Fin 512) (i : Fin 64) : MergeRef.devs (hd A) (ix4 b t ⟨j.val / 64, by omega⟩ i)
    = both A b t (MergeSpec.headAt j i) - MergeSpec.mean (both A b t) j :=
  (MergeRef.devs_at (hd A) b t ⟨j.val / 64, by omega⟩ i).trans (congrArg₂ (· - ·) (hd_at A b t j i) (mean_at A b t j))

theorem var_at (j : Fin 512) : MergeRef.means (mulf (MergeRef.devs (hd A)) (MergeRef.devs (hd A))) (ix4 b t ⟨j.val / 64, by omega⟩ 0)
    = MergeSpec.var (both A b t) j :=
  (MergeRef.means_at _ b t ⟨j.val / 64, by omega⟩).trans
    (congrArg (Ideal.div · _) (Finset.sum_congr rfl fun i _ => congrArg₂ (· * ·) (dev_at A b t j i) (dev_at A b t j i)))

theorem nd_at (j : Fin 512) : nd A (ix3 b t j) = A.o b t j := by
  refine (MergeRef.normed_at (MergeRef.unit (hd A)) A.lw A.lb A.bo b t j).trans ?_
  have h1 : MergeRef.devs (hd A) (ix4 b t ⟨j.val / 64, by omega⟩ ⟨j.val % 64, by omega⟩) = both A b t j - MergeSpec.mean (both A b t) j :=
    (MergeRef.devs_at (hd A) b t ⟨j.val / 64, by omega⟩ ⟨j.val % 64, by omega⟩).trans (congrArg₂ (· - ·) (hd_self A b t j) (mean_at A b t j))
  have h2 : MergeRef.unit (hd A) (ix4 b t ⟨j.val / 64, by omega⟩ ⟨j.val % 64, by omega⟩)
      = (both A b t j - MergeSpec.mean (both A b t) j) * Ideal.rsqrt (MergeSpec.var (both A b t) j + Ideal.ofBits .f32 0x3A27C5AC#32) :=
    (MergeRef.unit_at (hd A) b t ⟨j.val / 64, by omega⟩ ⟨j.val % 64, by omega⟩).trans
      (congrArg₂ (· * ·) h1 (congrArg (fun v => Ideal.rsqrt (v + _)) (var_at A b t j)))
  exact congrArg (fun v => v * A.lw (ix2 0 j) + A.lb (ix2 0 j) + A.bo (ix3 b t j)) h2

theorem gd_at (j : Fin 512) : gd A (ix3 b t j)
    = MergeSpec.gated (A.o b t) (fun k => A.zl (ix3 b t ⟨256 + k.val, by omega⟩)) (fun k j => A.g2 (ix3 0 k j)) j :=
  congrArg₂ (· * ·) (nd_at A b t j) (MergeRef.lowRank_at A.zl A.g2 b t j)

theorem mg_at (d : Fin 1024) : mg A (ix3 b t d) = A.mix b t d :=
  (MergeRef.merged_at (MergeRef.gates A.gt) (gd A) A.av A.wr A.wa b t d).trans
    (congrArg₂ (· + ·)
      (congrArg₂ (· * ·) (MergeRef.gates_at A.gt b t ⟨d.val, by omega⟩) (Finset.sum_congr rfl fun j _ => congrArg (· * _) (gd_at A b t j)))
      (congrArg (· * _) (MergeRef.gates_at A.gt b t ⟨1024 + d.val, by omega⟩)))

theorem rs_at (d : Fin 1024) : rs A (ix3 b t d) = A.x1 b t d :=
  (MergeRef.resid_at A.x A.md (mg A) A.wo b t d).trans
    (congrArg (fun g => MergeSpec.resid (fun d => A.x (ix3 b t d)) (fun d => A.md (ix2 b (ProjSpec.part 2 d))) g (fun k d => A.wo (ix3 0 k d)) d)
      (funext fun d => mg_at A b t d))

theorem hn_at (d : Fin 1024) : hn A (ix3 b t d) = A.h2 b t d :=
  (MergeRef.hidden_at (rs A) A.n2 A.md b t d).trans
    (congrArg (fun x => MergeSpec.scaled x (fun d => A.n2 (ix2 0 d)) (fun d => A.md (ix2 b (ProjSpec.part 4 d))) d + A.md (ix2 b (ProjSpec.part 3 d)))
      (funext fun d => rs_at A b t d))

theorem lg_at (e : Fin 16) : lg A (ix3 b t e) = MergeSpec.logit (A.h2 b t) (fun k e => A.rt (ix3 0 k e)) e :=
  (MergeRef.logits_at (hn A) A.rt b t e).trans
    (congrArg (fun h => MergeSpec.logit h (fun k e => A.rt (ix3 0 k e)) e) (funext fun d => hn_at A b t d))

theorem ex_at (e : Fin 16) : MergeRef.expos (lg A) (ix3 b t e)
    = Ideal.exp (MergeSpec.logit (A.h2 b t) (fun k e => A.rt (ix3 0 k e)) e - MergeSpec.top (MergeSpec.logit (A.h2 b t) fun k e => A.rt (ix3 0 k e))) :=
  (MergeRef.expos_at (lg A) b t e).trans (congrArg₂ (fun x y => Ideal.exp (x - y)) (lg_at A b t e)
    ((MergeRef.tops_at (lg A) b t).trans (congrArg MergeSpec.top (funext fun e => lg_at A b t e))))

theorem sh_at (e : Fin 16) : sh A (ix3 b e t) = A.aff b t e :=
  (MergeRef.shares_at (MergeRef.expos (lg A)) b t e).trans
    (congrArg₂ Ideal.div (ex_at A b t e) (Finset.sum_congr rfl fun i _ => ex_at A b t i))

end

variable (m : (ℓ : Loc nD τ sig) → Buf (Elt Ideal) ℓ) (c : Dev nD)

/-- The reference's memory holds the arguments. -/
structure Mem (A : MergeSpec.Args) : Prop where
  yf : m (c.tc.loc main_arg0) = A.yf
  yb : m (c.tc.loc main_arg1) = A.yb
  bo : m (c.tc.loc main_arg2) = A.bo
  zl : m (c.tc.loc main_arg3) = A.zl
  av : m (c.tc.loc main_arg4) = A.av
  gt : m (c.tc.loc main_arg5) = A.gt
  x : m (c.tc.loc main_arg6) = A.x
  md : m (c.tc.loc main_arg7) = A.md
  lw : m (c.tc.loc main_arg8) = A.lw
  lb : m (c.tc.loc main_arg9) = A.lb
  g2 : m (c.tc.loc main_arg10) = A.g2
  wr : m (c.tc.loc main_arg11) = A.wr
  wa : m (c.tc.loc main_arg12) = A.wa
  wo : m (c.tc.loc main_arg13) = A.wo
  n2 : m (c.tc.loc main_arg14) = A.n2
  rt : m (c.tc.loc main_arg15) = A.rt

/-- The arguments that the memory holds. -/
def read : MergeSpec.Args where
  yf := m (c.tc.loc main_arg0)
  yb := m (c.tc.loc main_arg1)
  bo := m (c.tc.loc main_arg2)
  zl := m (c.tc.loc main_arg3)
  av := m (c.tc.loc main_arg4)
  gt := m (c.tc.loc main_arg5)
  x := m (c.tc.loc main_arg6)
  md := m (c.tc.loc main_arg7)
  lw := m (c.tc.loc main_arg8)
  lb := m (c.tc.loc main_arg9)
  g2 := m (c.tc.loc main_arg10)
  wr := m (c.tc.loc main_arg11)
  wa := m (c.tc.loc main_arg12)
  wo := m (c.tc.loc main_arg13)
  n2 := m (c.tc.loc main_arg14)
  rt := m (c.tc.loc main_arg15)

theorem read_eq {A : MergeSpec.Args} (h : Mem m c A) : read m c = A := by
  obtain ⟨yf, yb, bo, zl, av, gt, x, md, lw, lb, g2, wr, wa, wo, n2, rt⟩ := A
  obtain ⟨h0, h1, h2, h3, h4, h5, h6, h7, h8, h9, h10, h11, h12, h13, h14, h15⟩ := h
  simp only at h0 h1 h2 h3 h4 h5 h6 h7 h8 h9 h10 h11 h12 h13 h14 h15
  unfold read
  rw [h0, h1, h2, h3, h4, h5, h6, h7, h8, h9, h10, h11, h12, h13, h14, h15]

/-- The three results are the stages put together. -/
theorem out0 : Value.res_out0 m c = rs (read m c) := rfl
theorem out1 : Value.res_out1 m c = truncf .bf16 (hn (read m c)) bitsLt_bf16_f32 := rfl
theorem out2 : Value.res_out2 m c = sh (read m c) := rfl

end Cert.Proof.MergeJoin

end
-- ==== Proof.MergeGiven.lean ====
module

public import proofs.«01_k».proof.Defs
public import proofs.«01_k».proof.Proof.Given
public import proofs.«01_k».proof.Proof.MergeSpec

/-!
What the merge's precondition says: the recurrence's outputs, the second norm's gain, its shift and scale and the router's
weights are finite.
-/

@[expose] public section

set_option maxRecDepth 16384

noncomputable section

namespace Cert.Proof.MergeGiven

open Idealize.ShloMosaic Cert.Pre_finite_norms Cert.Pre_finite_norms.Facts

/-- The side conditions of the precondition's operations. -/
instance facts : Cert.Pre_finite_norms.Facts := by constructor <;> decide

/-- What the precondition gives, array by array. -/
theorem all (A : MergeSpec.Args)
    (h : fn (F := Ideal) A.yf A.yb A.bo A.zl A.av A.gt A.x A.md A.lw A.lb A.g2 A.wr A.wa A.wo A.n2 A.rt = fun _ => 1#1) :
    (∀ i, Sums.IsNum (A.yf i)) ∧ (∀ i, Sums.IsNum (A.yb i)) ∧ (∀ i, Sums.IsNum (A.n2 i))
      ∧ (∀ (b : Fin 32) (d : Fin 1024), Sums.IsNum (A.md (ix2 b (ProjSpec.part 4 d))))
      ∧ (∀ (b : Fin 32) (d : Fin 1024), Sums.IsNum (A.md (ix2 b (ProjSpec.part 3 d)))) ∧ (∀ i, Sums.IsNum (A.rt i)) := by
  unfold fn fn_part1 at h
  dsimp only at h
  obtain ⟨h, hr⟩ := Given.both h
  obtain ⟨h, hn⟩ := Given.both h
  obtain ⟨h, hm⟩ := Given.both h
  obtain ⟨hy, hz⟩ := Given.both h
  have cut (b : Fin 32) (j : Fin 2048) : Sums.IsNum (A.md (ix2 b ⟨3072 + j.val, by omega⟩)) := by
    have h1 := Given.finite hm (ix2 b j)
    pointwise at h1
    exact h1
  refine ⟨Given.finite hy, Given.finite hz, Given.finite hn, fun b d => ?_, fun b d => ?_, Given.finite hr⟩
  · exact (congrArg (fun j => Sums.IsNum (A.md (ix2 b j))) (Fin.ext (by show 3072 + (1024 + d.val) = 4 * 1024 + d.val; omega))).mp
      (cut b ⟨1024 + d.val, by omega⟩)
  · exact (congrArg (fun j => Sums.IsNum (A.md (ix2 b j))) (Fin.ext (by show 3072 + d.val = 3 * 1024 + d.val; omega))).mp
      (cut b ⟨d.val, by omega⟩)

end Cert.Proof.MergeGiven

end
-- ==== Proof.MergeMeet.lean ====
module

public import proofs.«01_k».proof.Defs
public import proofs.«01_k».proof.Proof.ProjMeet
public import proofs.«01_k».proof.Proof.MergeOut
public import proofs.«01_k».proof.Proof.MergeJoin
public import proofs.«01_k».proof.Proof.MergeGiven

/-!
The merge's program and its reference end with the same three arrays.
-/

@[expose] public section

set_option maxRecDepth 16384

noncomputable section

namespace Cert.Proof.MergeMeet

open Idealize.ShloMosaic Idealize.ShloMosaic.TcCoe Idealize.SL.Sem

theorem rs_arr (A : MergeSpec.Args) : MergeJoin.rs A = MergeOut.resArr A := ProjMeet.ext3 fun b t d => MergeJoin.rs_at A b t d

theorem hn_arr (A : MergeSpec.Args) : truncf (F := Ideal) .bf16 (MergeJoin.hn A) Cert.Reference3Ideal.Gen.bitsLt_bf16_f32 = MergeOut.hidArr A :=
  ProjMeet.ext3 fun b t d => MergeJoin.hn_at A b t d

theorem sh_arr (A : MergeSpec.Args) : MergeJoin.sh A = MergeOut.affArr A := ProjMeet.ext3 fun b e t => MergeJoin.sh_at A b t e

section
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)
  {A : MergeSpec.Args} (H : MergeBlocks.Mem m c A) (H' : MergeJoin.Mem m' c A)
  (hpre : Cert.Pre_finite_norms.fn (F := Ideal) A.yf A.yb A.bo A.zl A.av A.gt A.x A.md A.lw A.lb A.g2 A.wr A.wa A.wo A.n2 A.rt = fun _ => 1#1)

include H H' hpre

theorem same0 : Cert.Reference3Ideal.Value.res_out0 m' c = (Cert.Kernel3Ideal.Gen.dats m 0 c).arrAt 16 Cert.Kernel3Ideal.cfg0.N := by
  obtain ⟨fy, fz, fn, fs, fh, fr⟩ := MergeGiven.all A hpre
  exact (MergeJoin.out0 m' c).trans ((congrArg MergeJoin.rs (MergeJoin.read_eq m' c H')).trans
    ((rs_arr A).trans (MergeOut.final16 m c H fy fz).symm))

theorem same1 : Cert.Reference3Ideal.Value.res_out1 m' c = (Cert.Kernel3Ideal.Gen.dats m 0 c).arrAt 17 Cert.Kernel3Ideal.cfg0.N := by
  obtain ⟨fy, fz, fn, fs, fh, fr⟩ := MergeGiven.all A hpre
  exact (MergeJoin.out1 m' c).trans ((congrArg (fun A => truncf (F := Ideal) .bf16 (MergeJoin.hn A) Cert.Reference3Ideal.Gen.bitsLt_bf16_f32)
    (MergeJoin.read_eq m' c H')).trans ((hn_arr A).trans (MergeOut.final17 m c H fy fz).symm))

theorem same2 : Cert.Reference3Ideal.Value.res_out2 m' c = (Cert.Kernel3Ideal.Gen.dats m 0 c).arrAt 18 Cert.Kernel3Ideal.cfg0.N := by
  obtain ⟨fy, fz, fn, fs, fh, fr⟩ := MergeGiven.all A hpre
  exact (MergeJoin.out2 m' c).trans ((congrArg MergeJoin.sh (MergeJoin.read_eq m' c H')).trans
    ((sh_arr A).trans (MergeOut.final18 m c H fy fz fn fs fh fr).symm))

end

/-- The reference leaves its arguments unchanged; it has no semaphore. -/
theorem frame_ri : Cert.quiescent_Reference3Ideal (hReference3Ideal := Cert.Reference3Ideal.Gen.facts) := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

/-- The arguments that the program's memory holds. -/
def held (m : (ℓ : Loc Cert.Kernel3Ideal.nD Cert.Kernel3Ideal.τ Cert.Kernel3Ideal.sig) → Buf (Elt Ideal) ℓ) (c : Dev Cert.Kernel3Ideal.nD) :
    MergeSpec.Args where
  yf := m (c.tc.loc Cert.Kernel3Ideal.main_arg0)
  yb := m (c.tc.loc Cert.Kernel3Ideal.main_arg1)
  bo := m (c.tc.loc Cert.Kernel3Ideal.main_arg2)
  zl := m (c.tc.loc Cert.Kernel3Ideal.main_arg3)
  av := m (c.tc.loc Cert.Kernel3Ideal.main_arg4)
  gt := m (c.tc.loc Cert.Kernel3Ideal.main_arg5)
  x := m (c.tc.loc Cert.Kernel3Ideal.main_arg6)
  md := m (c.tc.loc Cert.Kernel3Ideal.main_arg7)
  lw := m (c.tc.loc Cert.Kernel3Ideal.main_arg8)
  lb := m (c.tc.loc Cert.Kernel3Ideal.main_arg9)
  g2 := m (c.tc.loc Cert.Kernel3Ideal.main_arg10)
  wr := m (c.tc.loc Cert.Kernel3Ideal.main_arg11)
  wa := m (c.tc.loc Cert.Kernel3Ideal.main_arg12)
  wo := m (c.tc.loc Cert.Kernel3Ideal.main_arg13)
  n2 := m (c.tc.loc Cert.Kernel3Ideal.main_arg14)
  rt := m (c.tc.loc Cert.Kernel3Ideal.main_arg15)

/-- With equal arguments under the precondition the two programs end with the same three arrays. -/
theorem same : Cert.algebraic_Kernel3Ideal_Reference3Ideal_pre_finite_norms (hKernel3Ideal := Cert.Kernel3Ideal.Gen.facts)
    (hReference3Ideal := Cert.Reference3Ideal.Gen.facts) (hPre_finite_norms := MergeGiven.facts) := fun m ρ m' ρ' hpre hag =>
  ⟨fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N,
    Cert.Kernel3Ideal.Value.run_blocks m ρ,
    (θ_run Cert.Reference3Ideal.defs _ _).mono (fun r h c => by
      have H : MergeBlocks.Mem m c (held m c) := ⟨rfl, rfl, rfl, rfl, rfl, rfl, rfl, rfl, rfl, rfl, rfl, rfl, rfl, rfl, rfl, rfl⟩
      obtain ⟨a0, a1, a2, a3, a4, a5, a6, a7, a8, a9, a10, a11, a12, a13, a14, a15⟩ := hag c
      have H' : MergeJoin.Mem m' c (held m c) := ⟨a0, a1, a2, a3, a4, a5, a6, a7, a8, a9, a10, a11, a12, a13, a14, a15⟩
      obtain ⟨h0, h1, h2, hr⟩ := h c
      exact ⟨h0.trans (same0 m m' c H H' (hpre c)), h1.trans (same1 m m' c H H' (hpre c)), h2.trans (same2 m m' c H H' (hpre c)), hr⟩)
      (Cert.Reference3Ideal.Value.run (F := Ideal) m' ρ')⟩

end Cert.Proof.MergeMeet

end
-- ==== Proof.AttnSpec.lean ====
module

public import proofs.«01_k».proof.Proof.MergeNum

/-!
The windowed attention of one sample: queries and keys normed head by head and turned by their row and column, one softmax over
the window's keys, the context's keys and a sink.
-/

@[expose] public section

noncomputable section

namespace Cert.Proof.AttnSpec

open Idealize.ShloMosaic

/-- The frequency of place `d` of a head. -/
def freq (d : Fin 64) : EReal :=
  Ideal.pow (Ideal.ofBits .f32 0x461C4000#32) (Ideal.div (-((d.val % 16 : ℕ) : EReal)) (Ideal.ofBits .f32 0x41800000#32))

/-- The angle of token `l` at place `d`: the row for the first half of a head, the column for the second, times the frequency. -/
def angle (l : Fin 2048) (d : Fin 64) : EReal :=
  (if d.val < 32 then ((l.val / 64 : ℕ) : EReal) else ((l.val % 64 : ℕ) : EReal)) * freq d

/-- A head normed by its mean square, with a gain. -/
def nrm (x g : Fin 64 → EReal) (d : Fin 64) : EReal :=
  x d * Ideal.rsqrt (Ideal.div (∑ i : Fin 64, x i * x i) (Ideal.ofBits .f32 0x42800000#32) + Ideal.ofBits .f32 0x358637BD#32) * g d

/-- The place sixteen further. -/
def up (d : Fin 64) : Fin 64 := ⟨(d.val + 16) % 64, Nat.mod_lt _ (by norm_num)⟩

/-- The place sixteen before. -/
def down (d : Fin 64) : Fin 64 := ⟨(d.val + 48) % 64, Nat.mod_lt _ (by norm_num)⟩

/-- A head turned by token `l`'s angles: places `d` and `d + 16` of each half are a pair. -/
def turn (x : Fin 64 → EReal) (l : Fin 2048) (d : Fin 64) : EReal :=
  if d.val % 32 < 16 then x d * Ideal.cos (angle l d) - x (up d) * Ideal.sin (angle l d)
  else x (down d) * Ideal.sin (angle l d) + x d * Ideal.cos (angle l d)

/-- Column of place `d` of query head `a`. -/
def qcol (a : Fin 8) (d : Fin 64) : Fin 512 := ⟨a.val * 64 + d.val, by omega⟩

/-- Column of place `d` of key head `n`. -/
def kcol (n : Fin 2) (d : Fin 64) : Fin 256 := ⟨n.val * 64 + d.val, by omega⟩

/-- Column of place `d` of value head `n`. -/
def vcol (n : Fin 2) (d : Fin 64) : Fin 256 := ⟨128 + n.val * 64 + d.val, by omega⟩

/-- The key head that query head `a` looks at. -/
def kvOf (a : Fin 8) : Fin 2 := ⟨a.val / 4, by omega⟩

def query (q : Fin 2048 → Fin 512 → EReal) (g : Fin 64 → EReal) (a : Fin 8) (l : Fin 2048) (d : Fin 64) : EReal :=
  turn (nrm (fun d => q l (qcol a d)) g) l d

def key (kv : Fin 2048 → Fin 256 → EReal) (g : Fin 64 → EReal) (n : Fin 2) (d : Fin 64) (l : Fin 2048) : EReal :=
  turn (nrm (fun d => kv l (kcol n d)) g) l d

def keyc (kc : Fin 256 → Fin 256 → EReal) (g : Fin 64 → EReal) (n : Fin 2) (d : Fin 64) (l : Fin 256) : EReal :=
  nrm (fun d => kc l (kcol n d)) g d

/-- A sequence with 128 zeros before and behind. -/
def padded (f : Fin 2048 → EReal) (p : ℕ) : EReal := if h : 128 ≤ p ∧ p < 2176 then f ⟨p - 128, by omega⟩ else 0

/-- Whether token `l` sees place `j` of the three blocks around its own. -/
def seen (l : Fin 2048) (j : ℕ) : Prop :=
  l.val % 128 ≤ j ∧ j ≤ l.val % 128 + 256 ∧ 128 ≤ l.val / 128 * 128 + j ∧ l.val / 128 * 128 + j < 2176

instance (l : Fin 2048) (j : ℕ) : Decidable (seen l j) := by unfold seen; infer_instance

/-- The scores of token `l` under query head `a`: 384 of the window, 256 of the context. -/
def score (q : Fin 2048 → Fin 512 → EReal) (kv : Fin 2048 → Fin 256 → EReal) (kc : Fin 256 → Fin 256 → EReal) (gq gk : Fin 64 → EReal)
    (a : Fin 8) (l : Fin 2048) (j : Fin 640) : EReal :=
  if h : j.val < 384 then
    if seen l j.val then
      (∑ d : Fin 64, query q gq a l d * padded (key kv gk (kvOf a) d) (l.val / 128 * 128 + j.val)) * Ideal.ofBits .f32 0x3E000000#32
    else Ideal.ofBits .f32 0xF149F2CA#32
  else (∑ d : Fin 64, query q gq a l d * keyc kc gk (kvOf a) d ⟨j.val - 384, by omega⟩) * Ideal.ofBits .f32 0x3E000000#32

/-- The values beside the scores. -/
def val (kv : Fin 2048 → Fin 256 → EReal) (kc : Fin 256 → Fin 256 → EReal) (n : Fin 2) (d : Fin 64) (l : Fin 2048) (j : Fin 640) : EReal :=
  if h : j.val < 384 then padded (fun t => kv t (vcol n d)) (l.val / 128 * 128 + j.val) else kc ⟨j.val - 384, by omega⟩ (vcol n d)

/-- The largest of the scores and the sink. -/
def top (s : Fin 640 → EReal) (k : EReal) : EReal := max (Finset.univ.fold max (Ideal.ofBits .f32 0xFF800000#32) s) k

/-- The softmax's weights on the values, the sink taking its share. -/
def att (s : Fin 640 → EReal) (k : EReal) (v : Fin 640 → EReal) : EReal :=
  (∑ j : Fin 640, Ideal.exp (s j - top s k) * v j)
    * Ideal.div 1 (∑ j : Fin 640, Ideal.exp (s j - top s k) + Ideal.exp (k - top s k))

/-- The attention's result at token `l`, head `a`, place `d`. -/
def out (q : Fin 2048 → Fin 512 → EReal) (kv : Fin 2048 → Fin 256 → EReal) (kc : Fin 256 → Fin 256 → EReal) (gq gk : Fin 64 → EReal)
    (sk : Fin 8 → EReal) (l : Fin 2048) (a : Fin 8) (d : Fin 64) : EReal :=
  att (score q kv kc gq gk a l) (sk a) (val kv kc (kvOf a) d l)

end Cert.Proof.AttnSpec

end
-- ==== Proof.AttnNum.lean ====
module

public import proofs.«01_k».proof.Proof.AttnSpec

/-!
The attention's arithmetic on lanes: two heads of 64 lie in 128 lanes, the head's sum is a product with a matrix of ones, a
product with a head's lanes set to zero leaves the other head out.
-/

@[expose] public section

noncomputable section

namespace Cert.Proof.AttnNum

open Idealize.ShloMosaic Cert.Proof.Sums Cert.Proof.AttnSpec

/-- Lane of place `d` of the head in half `e`. -/
def lane (e : Fin 2) (d : Fin 64) : Fin 128 := ⟨e.val * 64 + d.val, by omega⟩

theorem lane_sum {M : Type} [AddCommMonoid M] (f : Fin 128 → M) : ∑ k : Fin 128, f k = ∑ e : Fin 2, ∑ d : Fin 64, f (lane e d) :=
  sum_rows (m := 2) (n := 64) (by norm_num) f

theorem lane_cases (j : Fin 128) : ∃ e d, j = lane e d :=
  ⟨⟨j.val / 64, by omega⟩, ⟨j.val % 64, by omega⟩, Fin.ext (by show j.val = j.val / 64 * 64 + j.val % 64; omega)⟩

/-- Entry `(k, c)` of the matrix that is one where the two lanes lie in one head. -/
def one (k c : Fin 128) : EReal := if k.val / 64 = c.val / 64 then 1 else 0

theorem one_lane (e e' : Fin 2) (d d' : Fin 64) : one (lane e d) (lane e' d') = if e = e' then 1 else 0 := by
  unfold one lane
  refine if_congr ?_ rfl rfl
  rw [Fin.ext_iff]
  show (e.val * 64 + d.val) / 64 = (e'.val * 64 + d'.val) / 64 ↔ _
  omega

/-- A product with the matrix of ones sums over the head; the second product is of zeros. -/
theorem head_sum (x : Fin 128 → EReal) (hx : ∀ k, IsNum (x k)) (e : Fin 2) (d : Fin 64) :
    (∑ k : Fin 128, x k * one k (lane e d) + ∑ k : Fin 128, (x k - x k) * one k (lane e d)) * Ideal.ofBits .f32 0x3C800000#32
      = Ideal.div (∑ i : Fin 64, x (lane e i)) (Ideal.ofBits .f32 0x42800000#32) := by
  have h0 : ∑ k : Fin 128, (x k - x k) * one k (lane e d) = 0 :=
    Finset.sum_eq_zero fun k _ => by rw [MergeNum.sub_self (hx k), zero_mul]
  have h1 : ∑ k : Fin 128, x k * one k (lane e d) = ∑ i : Fin 64, x (lane e i) := by
    rw [lane_sum, Finset.sum_eq_single e]
    · refine Finset.sum_congr rfl fun i _ => ?_
      rw [one_lane, if_pos rfl, mul_one]
    · intro a _ ha
      refine Finset.sum_eq_zero fun i _ => ?_
      rw [one_lane, if_neg ha, mul_zero]
    · intro h
      exact absurd (Finset.mem_univ _) h
  rw [h0, h1, add_zero, MergeNum.mul_inv64]

/-- The norm that a row of lanes computes. -/
def kn (x g : Fin 128 → EReal) (j : Fin 128) : EReal :=
  x j * Ideal.rsqrt ((∑ k : Fin 128, x k * x k * one k j + ∑ k : Fin 128, (x k * x k - x k * x k) * one k j)
    * Ideal.ofBits .f32 0x3C800000#32 + Ideal.ofBits .f32 0x358637BD#32) * g j

theorem kn_eq (x g : Fin 128 → EReal) (X G : Fin 64 → EReal) (e : Fin 2) (d : Fin 64) (hn : ∀ k, IsNum (x k))
    (hx : ∀ d, x (lane e d) = X d) (hg : ∀ d, g (lane e d) = G d) : kn x g (lane e d) = nrm X G d := by
  unfold kn nrm
  rw [head_sum (fun k => x k * x k) (fun k => (hn k).mul (hn k)), hx, hg]
  simp only [hx]

/-- The turn that a row of lanes computes. -/
def kt (y C S : Fin 128 → EReal) (j : Fin 128) : EReal :=
  y j * C j + (if j.val % 32 < 16 then y ⟨(j.val + 128 - 112) % 128, Nat.mod_lt _ (by norm_num)⟩
    else y ⟨(j.val + 128 - 16) % 128, Nat.mod_lt _ (by norm_num)⟩) * S j

/-- The sign of place `d`. -/
def sgn (d : Fin 64) : EReal := if d.val % 32 < 16 then Ideal.ofBits .f32 0xBF800000#32 else Ideal.ofBits .f32 0x3F800000#32

theorem cm1 : Ideal.ofBits .f32 0xBF800000#32 = ((-1 : ℝ) : EReal) := by
  simp [Ideal.ofBits, Ideal.ieee]
  norm_num
  rw [← EReal.coe_mul]
  norm_num

theorem c1 : Ideal.ofBits .f32 0x3F800000#32 = ((1 : ℝ) : EReal) := by
  simp [Ideal.ofBits, Ideal.ieee]
  norm_num
  rw [← EReal.coe_mul]
  norm_num

theorem kt_eq (y C S : Fin 128 → EReal) (Y : Fin 64 → EReal) (l : Fin 2048) (e : Fin 2) (d : Fin 64)
    (hy : ∀ d, y (lane e d) = Y d) (hC : ∀ d, C (lane e d) = Ideal.cos (angle l d))
    (hS : ∀ d, S (lane e d) = Ideal.sin (angle l d) * sgn d) : kt y C S (lane e d) = turn Y l d := by
  unfold kt turn
  rw [hC, hS, hy]
  have hm : (lane e d).val % 32 = d.val % 32 := by show (e.val * 64 + d.val) % 32 = _; omega
  by_cases h : d.val % 32 < 16
  · rw [if_pos (by rw [hm]; exact h), if_pos h]
    have e1 : (⟨((lane e d).val + 128 - 112) % 128, Nat.mod_lt _ (by norm_num)⟩ : Fin 128) = lane e (up d) := by
      refine Fin.ext ?_
      show (e.val * 64 + d.val + 128 - 112) % 128 = e.val * 64 + (d.val + 16) % 64
      omega
    rw [e1, hy]
    unfold sgn
    rw [if_pos h, cm1, EReal.coe_neg, EReal.coe_one, mul_neg, mul_one, mul_neg, sub_eq_add_neg]
  · rw [if_neg (by rw [hm]; exact h), if_neg h]
    have e1 : (⟨((lane e d).val + 128 - 16) % 128, Nat.mod_lt _ (by norm_num)⟩ : Fin 128) = lane e (down d) := by
      refine Fin.ext ?_
      show (e.val * 64 + d.val + 128 - 16) % 128 = e.val * 64 + (d.val + 48) % 64
      omega
    rw [e1, hy]
    unfold sgn
    rw [if_neg h, c1, EReal.coe_one, mul_one, add_comm]

theorem c8 : Ideal.ofBits .f32 0x3E000000#32 = ((1 / 8 : ℝ) : EReal) := by
  simp [Ideal.ofBits, Ideal.ieee]
  norm_num
  rw [← EReal.coe_mul]
  norm_num

/-- A product over lanes with one head's lanes at zero. -/
theorem dot_lane (u w : Fin 128 → EReal) (Q K : Fin 64 → EReal) (n : Fin 2) (hQ : ∀ d, IsNum (Q d)) (hK : ∀ d, IsNum (K d))
    (hu : ∀ e d, u (lane e d) = if e = n then Q d * Ideal.ofBits .f32 0x3E000000#32 else 0) (hw : ∀ d, w (lane n d) = K d) :
    ∑ k : Fin 128, u k * w k = (∑ d : Fin 64, Q d * K d) * Ideal.ofBits .f32 0x3E000000#32 := by
  rw [lane_sum, Finset.sum_eq_single n, sum_mul _ (fun d => (hQ d).mul (hK d)) ⟨_, c8⟩]
  · refine Finset.sum_congr rfl fun d _ => ?_
    rw [hu, if_pos rfl, hw, mul_right_comm]
  · intro a _ ha
    refine Finset.sum_eq_zero fun i _ => ?_
    rw [hu, if_neg ha, zero_mul]
  · intro h
    exact absurd (Finset.mem_univ _) h

/-! Which values are numbers. -/

theorem c10000 : ∃ r : ℝ, Ideal.ofBits .f32 0x461C4000#32 = (r : EReal) := ⟨_, by simp [Ideal.ofBits, Ideal.ieee]; rfl⟩

theorem c16 : Ideal.ofBits .f32 0x41800000#32 = ((16 : ℝ) : EReal) := by
  simp [Ideal.ofBits, Ideal.ieee]
  norm_num
  rw [← EReal.coe_mul]
  norm_num

theorem natNum (n : ℕ) : IsNum (n : EReal) := ⟨n, rfl⟩

theorem freqNum (d : Fin 64) : IsNum (freq d) := by
  unfold freq
  obtain ⟨r, hr⟩ := c10000
  have h : ∃ s : ℝ, Ideal.div (-((d.val % 16 : ℕ) : EReal)) (Ideal.ofBits .f32 0x41800000#32) = (s : EReal) := by
    rw [c16, Ideal.div_coe (by norm_num)]
    obtain ⟨s, hs⟩ := natNum (d.val % 16)
    rw [hs, ← EReal.coe_neg, ← EReal.coe_mul]
    exact ⟨_, rfl⟩
  obtain ⟨s, hs⟩ := h
  rw [hr, hs]
  exact ⟨_, rfl⟩

theorem angleNum (l : Fin 2048) (d : Fin 64) : IsNum (angle l d) := by
  unfold angle
  exact (IsNum.ite (natNum _) (natNum _)).mul (freqNum d)

theorem cosNum {x : EReal} (h : IsNum x) : IsNum (Ideal.cos x) := by
  obtain ⟨r, rfl⟩ := h
  exact ⟨_, rfl⟩

theorem sinNum {x : EReal} (h : IsNum x) : IsNum (Ideal.sin x) := by
  obtain ⟨r, rfl⟩ := h
  exact ⟨_, rfl⟩

theorem nrmNum {x g : Fin 64 → EReal} (hx : ∀ d, IsNum (x d)) (hg : ∀ d, IsNum (g d)) (d : Fin 64) : IsNum (nrm x g d) := by
  unfold nrm
  refine ((hx d).mul ?_).mul (hg d)
  obtain ⟨ep, hep, he⟩ := MergeNum.ceps
  have hs : ∃ s : ℝ, 0 ≤ s ∧ ∑ i : Fin 64, x i * x i = (s : EReal) := by
    obtain ⟨s, hs⟩ := IsNum.sum Finset.univ fun i => (hx i).mul (hx i)
    refine ⟨s, ?_, hs⟩
    have h0 : (0 : EReal) ≤ ∑ i : Fin 64, x i * x i := Finset.sum_nonneg fun i _ => by
      obtain ⟨y, hy⟩ := hx i
      rw [hy, ← EReal.coe_mul]
      exact_mod_cast mul_self_nonneg y
    rw [hs] at h0
    exact_mod_cast h0
  obtain ⟨s, hs0, hs⟩ := hs
  rw [hs, MergeNum.c64, Ideal.div_coe (by norm_num), he, ← EReal.coe_mul, ← EReal.coe_add, Ideal.rsqrt_coe]
  have hp : 0 < s * (1 / 64 : ℝ) + ep := by positivity
  rw [if_neg (not_lt.mpr hp.le), if_neg hp.ne']
  exact ⟨_, rfl⟩

theorem turnNum {x : Fin 64 → EReal} (hx : ∀ d, IsNum (x d)) (l : Fin 2048) (d : Fin 64) : IsNum (turn x l d) := by
  unfold turn
  have hc := cosNum (angleNum l d)
  have hs := sinNum (angleNum l d)
  exact IsNum.ite (MergeNum.sub_num ((hx _).mul hc) ((hx _).mul hs)) (((hx _).mul hs).add ((hx _).mul hc))

theorem paddedNum {f : Fin 2048 → EReal} (hf : ∀ l, IsNum (f l)) (p : ℕ) : IsNum (padded f p) := by
  unfold padded
  split
  · exact hf _
  · exact IsNum.zero

theorem cmask : ∃ r : ℝ, Ideal.ofBits .f32 0xF149F2CA#32 = (r : EReal) := ⟨_, by simp [Ideal.ofBits, Ideal.ieee]; rfl⟩

section
variable {q : Fin 2048 → Fin 512 → EReal} {kv : Fin 2048 → Fin 256 → EReal} {kc : Fin 256 → Fin 256 → EReal} {gq gk : Fin 64 → EReal}
  (hq : ∀ l c, IsNum (q l c)) (hk : ∀ l n d, IsNum (kv l (kcol n d))) (hc : ∀ l n d, IsNum (kc l (kcol n d)))
  (hgq : ∀ d, IsNum (gq d)) (hgk : ∀ d, IsNum (gk d))

include hq hgq in
theorem queryNum (a : Fin 8) (l : Fin 2048) (d : Fin 64) : IsNum (query q gq a l d) :=
  turnNum (nrmNum (fun d => hq l (qcol a d)) hgq) l d

include hk hgk in
theorem keyNum (n : Fin 2) (d : Fin 64) (l : Fin 2048) : IsNum (key kv gk n d l) :=
  turnNum (nrmNum (fun d => hk l n d) hgk) l d

include hc hgk in
theorem keycNum (n : Fin 2) (d : Fin 64) (l : Fin 256) : IsNum (keyc kc gk n d l) :=
  nrmNum (fun d => hc l n d) hgk d

include hq hk hc hgq hgk in
theorem scoreNum (a : Fin 8) (l : Fin 2048) (j : Fin 640) : IsNum (score q kv kc gq gk a l j) := by
  have h8 : IsNum (Ideal.ofBits .f32 0x3E000000#32) := ⟨_, c8⟩
  unfold score
  split
  · exact IsNum.ite ((IsNum.sum _ fun d => (queryNum hq hgq a l d).mul (paddedNum (fun t => keyNum hk hgk _ d t) _)).mul h8) cmask
  · exact (IsNum.sum _ fun d => (queryNum hq hgq a l d).mul (keycNum hc hgk _ d _)).mul h8

end

end Cert.Proof.AttnNum

end
-- ==== Proof.AttnBody.lean ====
module

public import proofs.«01_k».proof.Proof.Gen.Kernel4Ideal.Skeleton
public import proofs.«01_k».proof.Proof.AttnNum
public import Idealize.ShloMosaic.Lib.WordCmp

/-!
The attention's stages at an index. A block of 128 queries has four slabs of two heads; four heads that share a key head are
stacked to 512 rows.
-/

@[expose] public section

set_option maxRecDepth 16384

noncomputable section

namespace Cert.Proof.AttnBody

open Idealize.ShloMosaic Cert.Kernel4Ideal Cert.Kernel4Ideal.Gen Cert.Proof.Sums Cert.Proof.AttnSpec Cert.Proof.AttnNum

theorem shift6 : ∀ a : Fin 128, IntOp.shrsi ArithUnit.vector (BitVec.ofNat 32 a.val) 6#32 = BitVec.ofNat 32 (a.val / 64) := by decide +kernel

theorem ones_at (r c : Fin 128) : (k0_pay15 (F := Ideal) (ix2 r c) : EReal) = one r c := by
  unfold k0_pay15
  pointwise
  rw [shift6, shift6, WordCmp.cmpi_eq_ofNat (by omega) (by omega)]
  unfold one
  exact WordCmp.select_decide _ _ _

theorem firsts {α : Type} (j : Fin 128) (x y : α) :
    Scalar.select (IntOp.cmpi .slt (IntOp.andi (BitVec.ofNat 32 j.val) 31#32) 16#32) x y = if j.val % 32 < 16 then x else y := by
  have h : ∀ j : Fin 128, IntOp.cmpi .slt (IntOp.andi (BitVec.ofNat 32 j.val) 31#32) 16#32 = if j.val % 32 < 16 then 1#1 else 0#1 := by
    decide +kernel
  rw [h]
  split <;> rfl

theorem lows {α : Type} (j : Fin 128) (x y : α) :
    Scalar.select (IntOp.cmpi .slt (BitVec.ofNat 32 j.val) 64#32) x y = if j.val < 64 then x else y := by
  have h : ∀ j : Fin 128, IntOp.cmpi .slt (BitVec.ofNat 32 j.val) 64#32 = if j.val < 64 then 1#1 else 0#1 := by decide +kernel
  rw [h]
  split <;> rfl

theorem highs {α : Type} (j : Fin 128) (x y : α) :
    Scalar.select (IntOp.cmpi .sge (BitVec.ofNat 32 j.val) 64#32) x y = if j.val < 64 then y else x := by
  have h : ∀ j : Fin 128, IntOp.cmpi .sge (BitVec.ofNat 32 j.val) 64#32 = if j.val < 64 then 0#1 else 1#1 := by decide +kernel
  rw [h]
  split <;> rfl

/-- A slab of two heads: normed, turned and scaled. -/
theorem slab_at (C S : FVec Ideal S128x128 .f32) (q : Vec Ideal S1x128x128 .f32) (g : Vec Ideal S1x128 .f32) (r j : Fin 128) :
    (k0_pay23 (k0_pay15 (F := Ideal)) C S q g (ix2 r j) : EReal)
      = kt (kn (fun k => q (ix3 0 r k)) fun k => g (ix2 0 k)) (fun k => C (ix2 r k)) (fun k => S (ix2 r k)) j
          * Ideal.ofBits .f32 0x3E000000#32 := by
  unfold k0_pay23
  pointwise
  simp only [ones_at, firsts]
  rfl

theorem keys_at (x : Vec Ideal S1x2048x128 .f32) (g : Vec Ideal S1x128 .f32) (C S : Vec Ideal S2048x128 .f32) (r : Fin 2048) (j : Fin 128) :
    (k0_pay12 (k0_pay9 (k0_pay15 (F := Ideal)) (k0_pay16 g) x) (k0_pay10 C) (k0_pay11 S) (iota Kind.tc S2048x128 32 [1] iota_S2048x128_d1_w32) (ix2 r j) : EReal)
      = kt (kn (fun k => x (ix3 0 r k)) fun k => g (ix2 0 k)) (fun k => C (ix2 r k)) (fun k => S (ix2 r k)) j := by
  unfold k0_pay12 k0_pay9 k0_pay16 k0_pay10 k0_pay11
  pointwise
  simp only [ones_at, firsts]
  rfl

theorem keysc_at (x : Vec Ideal S1x256x128 .f32) (g : Vec Ideal S1x128 .f32) (r : Fin 256) (j : Fin 128) :
    (k0_pay17 (k0_pay14 (k0_pay15 (F := Ideal)) (k0_pay16 g) x) (ix2 r j) : EReal)
      = kn (fun k => x (ix3 0 r k)) (fun k => g (ix2 0 k)) j := by
  unfold k0_pay17 k0_pay14 k0_pay16
  pointwise
  simp only [ones_at]
  rfl

theorem vals_at (x : Vec Ideal S1x2048x128 .f32) (r : Fin 2048) (j : Fin 128) : (k0_pay13 x (ix2 r j) : EReal) = x (ix3 0 r j) := by
  unfold k0_pay13
  pointwise

theorem valsc_at (x : Vec Ideal S1x256x128 .f32) (r : Fin 256) (j : Fin 128) : (k0_pay18 x (ix2 r j) : EReal) = x (ix3 0 r j) := by
  unfold k0_pay18
  pointwise

theorem zeros_at (r j : Fin 128) : (k0_pay5 (F := Ideal) (ix2 r j) : EReal) = 0 ∧ (k0_pay6 (F := Ideal) (ix2 r j) : EReal) = 0
    ∧ (k0_pay7 (F := Ideal) (ix2 r j) : EReal) = 0 ∧ (k0_pay8 (F := Ideal) (ix2 r j) : EReal) = 0 := by
  unfold k0_pay5 k0_pay6 k0_pay7 k0_pay8 k0_pay4
  refine ⟨?_, ?_, ?_, ?_⟩ <;> pointwise

/-- Row `r` of head `g` of four stacked. -/
def row (g : Fin 4) (r : Fin 128) : Fin 512 := ⟨g.val * 128 + r.val, by omega⟩

/-- The four rows of a stack of four. -/
theorem stack {α : Type} (A B C D : Fin 128 → α) (g : Fin 4) (r : Fin 128) :
    (if h : (row g r).val < 128 then A ⟨(row g r).val, h⟩ else if h : (row g r).val - 128 < 128 then B ⟨(row g r).val - 128, h⟩
      else if h : (row g r).val - 128 - 128 < 128 then C ⟨(row g r).val - 128 - 128, h⟩
      else D ⟨(row g r).val - 128 - 128 - 128, by have := (row g r).isLt; omega⟩)
      = (match g with | 0 => A | 1 => B | 2 => C | 3 => D) r := by
  match g with
  | 0 => rw [dif_pos (by show 0 * 128 + r.val < 128; omega)]; exact congrArg A (Fin.ext (by show 0 * 128 + r.val = _; omega))
  | 1 =>
    rw [dif_neg (by show ¬(1 * 128 + r.val < 128); omega), dif_pos (by show 1 * 128 + r.val - 128 < 128; omega)]
    exact congrArg B (Fin.ext (by show 1 * 128 + r.val - 128 = _; omega))
  | 2 =>
    rw [dif_neg (by show ¬(2 * 128 + r.val < 128); omega), dif_neg (by show ¬(2 * 128 + r.val - 128 < 128); omega),
      dif_pos (by show 2 * 128 + r.val - 128 - 128 < 128; omega)]
    exact congrArg C (Fin.ext (by show 2 * 128 + r.val - 128 - 128 = _; omega))
  | 3 =>
    rw [dif_neg (by show ¬(3 * 128 + r.val < 128); omega), dif_neg (by show ¬(3 * 128 + r.val - 128 < 128); omega),
      dif_neg (by show ¬(3 * 128 + r.val - 128 - 128 < 128); omega)]
    exact congrArg D (Fin.ext (by show 3 * 128 + r.val - 128 - 128 - 128 = _; omega))

theorem lo_word : ∀ (B : Fin 16) (r : Fin 128),
    IntOp.maxsi (BitVec.ofNat 32 r.val) (Scalar.subi (128#32) (BitVec.ofNat 32 (128 * B.val))) = BitVec.ofNat 32 (max r.val (128 - 128 * B.val)) := by
  decide +kernel

theorem hi_word : ∀ (B : Fin 16) (r : Fin 128),
    IntOp.minsi (IntOp.addi (BitVec.ofNat 32 r.val) 256#32) (Scalar.subi (2175#32) (BitVec.ofNat 32 (128 * B.val)))
      = BitVec.ofNat 32 (min (r.val + 256) (2175 - 128 * B.val)) := by
  decide +kernel

/-- Token `r` of block `B`. -/
def tok (B : Fin 16) (r : Fin 128) : Fin 2048 := ⟨128 * B.val + r.val, by omega⟩

theorem hid_word (B : Fin 16) (r : Fin 128) (j : Fin 384) :
    Scalar.select (IntOp.cmpi CmpIPredicate.slt (BitVec.ofNat 32 j.val)
        (IntOp.maxsi (BitVec.ofNat 32 r.val) (Scalar.subi (128#32) (BitVec.ofNat 32 (128 * B.val))))) (1 : EReal)
      (Scalar.select (IntOp.cmpi CmpIPredicate.sgt (BitVec.ofNat 32 j.val)
        (IntOp.minsi (IntOp.addi (BitVec.ofNat 32 r.val) 256#32) (Scalar.subi (2175#32) (BitVec.ofNat 32 (128 * B.val))))) 1 0)
      = if seen (tok B r) j.val then 0 else 1 := by
  rw [lo_word, hi_word, WordCmp.cmpi_slt_ofNat (by omega) (by omega), WordCmp.cmpi_sgt_ofNat (by omega) (by omega),
    WordCmp.select_decide, WordCmp.select_decide]
  have h1 : (tok B r).val % 128 = r.val := by show (128 * B.val + r.val) % 128 = _; omega
  have h2 : (tok B r).val / 128 = B.val := by show (128 * B.val + r.val) / 128 = _; omega
  have hs : seen (tok B r) j.val ↔ ¬(j.val < max r.val (128 - 128 * B.val)) ∧ ¬(min (r.val + 256) (2175 - 128 * B.val) < j.val) := by
    unfold seen
    rw [h1, h2]
    omega
  by_cases h : seen (tok B r) j.val
  · rw [if_pos h, if_neg (hs.1 h).1, if_neg (hs.1 h).2]
  · rw [if_neg h]
    by_cases h3 : j.val < max r.val (128 - 128 * B.val)
    · rw [if_pos h3]
    · rw [if_neg h3, if_pos (by_contra fun h4 => h (hs.2 ⟨h3, h4⟩))]

/-- The mask: one where a place of the window is hidden. -/
theorem hid_at (B : Fin 16) (g : Fin 4) (r : Fin 128) (j : Fin 384) :
    (k0_pay35 (F := Ideal) (iota Kind.tc S128x384 32 [0] iota_S128x384_d0_w32) (iota Kind.tc S128x384 32 [1] iota_S128x384_d1_w32)
      (BitVec.ofNat 32 (128 * B.val)) (ix2 (row g r) j) : EReal) = if seen (tok B r) j.val then 0 else 1 := by
  unfold k0_pay35
  pointwise
  have hr : (row g r).val = g.val * 128 + r.val := rfl
  have e (n : ℕ) (hn : n = r.val) := (congrArg (fun n : ℕ => Scalar.select (IntOp.cmpi CmpIPredicate.slt (BitVec.ofNat 32 j.val)
        (IntOp.maxsi (BitVec.ofNat 32 n) (Scalar.subi (128#32) (BitVec.ofNat 32 (128 * B.val))))) (1 : EReal)
      (Scalar.select (IntOp.cmpi CmpIPredicate.sgt (BitVec.ofNat 32 j.val)
        (IntOp.minsi (IntOp.addi (BitVec.ofNat 32 n) 256#32) (Scalar.subi (2175#32) (BitVec.ofNat 32 (128 * B.val))))) 1 0)) hn).trans
      (hid_word B r j)
  by_cases g0 : (row g r).val < 128
  · rw [dif_pos g0]
    exact e _ (by omega)
  rw [dif_neg g0]
  by_cases g1 : (row g r).val - 128 < 128
  · rw [dif_pos g1]
    exact e _ (by omega)
  rw [dif_neg g1]
  by_cases g2 : (row g r).val - 128 - 128 < 128
  · rw [dif_pos g2]
    exact e _ (by omega)
  rw [dif_neg g2]
  exact e _ (by omega)

theorem lane_low (e : Fin 2) (d : Fin 64) : (lane e d).val < 64 ↔ e = 0 := by
  rw [Fin.ext_iff]
  show e.val * 64 + d.val < 64 ↔ e.val = 0
  omega

/-- Half a slab's turn leads from one head's lanes to the other's. -/
theorem lane_roll (e e' : Fin 2) (d : Fin 64) (h : e ≠ e') : (⟨((lane e d).val + 128 - 64) % 128, Nat.mod_lt _ (by norm_num)⟩ : Fin 128) = lane e' d := by
  refine Fin.ext ?_
  have h' : e.val ≠ e'.val := fun hh => h (Fin.ext hh)
  show (e.val * 64 + d.val + 128 - 64) % 128 = e'.val * 64 + d.val
  omega

/-- The first key head's queries, stacked. -/
theorem q0_at (a b : FVec Ideal S128x128 .f32) (g : Fin 4) (r : Fin 128) (e : Fin 2) (d : Fin 64) :
    (k0_pay36 k0_pay19 a b (ix2 (row g r) (lane e d)) : EReal) = if e = 0 then
      (match g with | 0 => a (ix2 r (lane 0 d)) | 1 => a (ix2 r (lane 1 d)) | 2 => b (ix2 r (lane 0 d)) | 3 => b (ix2 r (lane 1 d)) : EReal) else 0 := by
  unfold k0_pay36 k0_pay19
  pointwise
  simp only [lows, lane_low]
  refine (stack (fun r => if e = 0 then a (ix2 r (lane e d)) else 0) (fun r => if e = 0 then a (ix2 r ⟨((lane e d).val + 128 - 64) % 128, Nat.mod_lt _ (by norm_num)⟩) else 0)
    (fun r => if e = 0 then b (ix2 r (lane e d)) else 0) (fun r => if e = 0 then b (ix2 r ⟨((lane e d).val + 128 - 64) % 128, Nat.mod_lt _ (by norm_num)⟩) else 0) g r).trans ?_
  by_cases h : e = 0
  · subst h
    match g with
    | 0 => rfl
    | 1 => exact congrArg (fun l => (a (ix2 r l) : EReal)) (lane_roll 0 1 d (by decide))
    | 2 => rfl
    | 3 => exact congrArg (fun l => (b (ix2 r l) : EReal)) (lane_roll 0 1 d (by decide))
  · match g with
    | 0 => simp only [if_neg h]
    | 1 => simp only [if_neg h]
    | 2 => simp only [if_neg h]
    | 3 => simp only [if_neg h]

/-- The second key head's queries, stacked. -/
theorem q1_at (a b : FVec Ideal S128x128 .f32) (g : Fin 4) (r : Fin 128) (e : Fin 2) (d : Fin 64) :
    (k0_pay42 k0_pay20 a b (ix2 (row g r) (lane e d)) : EReal) = if e = 1 then
      (match g with | 0 => a (ix2 r (lane 0 d)) | 1 => a (ix2 r (lane 1 d)) | 2 => b (ix2 r (lane 0 d)) | 3 => b (ix2 r (lane 1 d)) : EReal) else 0 := by
  unfold k0_pay42 k0_pay20
  pointwise
  simp only [highs, lane_low]
  refine (stack (fun r => if e = 0 then 0 else a (ix2 r ⟨((lane e d).val + 128 - 64) % 128, Nat.mod_lt _ (by norm_num)⟩)) (fun r => if e = 0 then 0 else a (ix2 r (lane e d)))
    (fun r => if e = 0 then 0 else b (ix2 r ⟨((lane e d).val + 128 - 64) % 128, Nat.mod_lt _ (by norm_num)⟩)) (fun r => if e = 0 then 0 else b (ix2 r (lane e d))) g r).trans ?_
  match e with
  | 0 =>
    match g with
    | 0 => rfl
    | 1 => rfl
    | 2 => rfl
    | 3 => rfl
  | 1 =>
    match g with
    | 0 => exact congrArg (fun l => (a (ix2 r l) : EReal)) (lane_roll 1 0 d (by decide))
    | 1 => rfl
    | 2 => exact congrArg (fun l => (b (ix2 r l) : EReal)) (lane_roll 1 0 d (by decide))
    | 3 => rfl

theorem sinks_at (a b c d : Elt Ideal .f32) (g : Fin 4) (r : Fin 128) :
    (k0_pay45 a b c d (ix2 (row g r) 0) : EReal) = (match g with | 0 => a | 1 => b | 2 => c | 3 => d : EReal) := by
  unfold k0_pay45
  pointwise
  exact (stack (fun _ => (a : EReal)) (fun _ => b) (fun _ => c) (fun _ => d) g r).trans (by match g with | 0 => rfl | 1 => rfl | 2 => rfl | 3 => rfl)

/-- Window and context, one under the other. -/
def both (w : Vec Ideal S384x128 .bf16) (c : Vec Ideal S256x128 .bf16) (x : Fin 640) (j : Fin 128) : EReal :=
  if h : x.val < 384 then w (ix2 ⟨x.val, h⟩ j) else c (ix2 ⟨x.val - 384, by omega⟩ j)

theorem both_at (w : Vec Ideal S384x128 .bf16) (c : Vec Ideal S256x128 .bf16) (x : Fin 640) (j : Fin 128) :
    (k0_pay37 (F := Ideal) c w (ix2 x j) : EReal) = both w c x j := by
  unfold k0_pay37
  pointwise
  rfl

theorem half_lt (p : Prop) [Decidable p] {α : Type} (x y : α) :
    (if Ideal.ofBits FTy.f32 0x3F000000#32 < (if p then 0 else 1 : EReal) then x else y) = if p then y else x := by
  have h : Ideal.ofBits FTy.f32 0x3F000000#32 = ((1 / 2 : ℝ) : EReal) := by
    simp [Ideal.ofBits, Ideal.ieee]
    norm_num
    rw [← EReal.coe_mul]
    norm_num
  rw [h]
  by_cases hp : p
  · rw [if_pos hp, if_pos hp, if_neg]
    have : ((1 / 2 : ℝ) : EReal) ≥ ((0 : ℝ) : EReal) := by exact_mod_cast (by norm_num : (0 : ℝ) ≤ 1 / 2)
    exact not_lt.mpr this
  · rw [if_neg hp, if_neg hp, if_pos]
    have : ((1 / 2 : ℝ) : EReal) < ((1 : ℝ) : EReal) := by exact_mod_cast (by norm_num : (1 / 2 : ℝ) < 1)
    exact this

/-- The scores of a stack of four heads. -/
theorem score_at (B : Fin 16) (q : FVec Ideal S512x128 .bf16) (w : Vec Ideal S384x128 .bf16) (c : Vec Ideal S256x128 .bf16) (g : Fin 4) (r : Fin 128) (j : Fin 640) :
    (k0_pay123 (k0_pay35 (F := Ideal) (iota Kind.tc S128x384 32 [0] iota_S128x384_d0_w32) (iota Kind.tc S128x384 32 [1] iota_S128x384_d1_w32)
        (BitVec.ofNat 32 (128 * B.val))) q (k0_pay37 c w) (ix2 (row g r) j) : EReal)
      = if j.val < 384 then if seen (tok B r) j.val then ∑ k : Fin 128, q (ix2 (row g r) k) * both w c j k else Ideal.ofBits .f32 0xF149F2CA#32
        else ∑ k : Fin 128, q (ix2 (row g r) k) * both w c j k := by
  unfold k0_pay123
  pointwise
  simp only [both_at]
  by_cases h : j.val < 384
  · rw [dif_pos h, if_pos h]
    exact (if_congr (iff_of_eq (congrArg (fun z : EReal => Ideal.ofBits FTy.f32 0x3F000000#32 < z) (hid_at B g r ⟨j.val, h⟩))) rfl rfl).trans
      (half_lt _ _ _)
  · rw [dif_neg h, if_neg h]
    refine Finset.sum_congr rfl fun k _ => congrArg (fun x => q (ix2 (row g r) k) * both w c x k) (Fin.ext ?_)
    show 384 + (j.val - 384) = j.val
    omega

/-- A stack's softmax on its values. -/
def heads (s : FVec Ideal S512x1 .f32) (h : FVec Ideal S512x640 .f32) (v : FVec Ideal S640x128 .bf16) : FVec Ideal S512x128 .f32 :=
  k0_pay159 v (k0_pay144 s h (k0_pay135 h)) (k0_pay152 s h (k0_pay135 h))

theorem heads_at (s : FVec Ideal S512x1 .f32) (h : FVec Ideal S512x640 .f32) (v : FVec Ideal S640x128 .bf16) (r : Fin 512) (j : Fin 128) :
    (heads s h v (ix2 r j) : EReal) = att (fun x => h (ix2 r x)) (s (ix2 r 0)) fun x => v (ix2 x j) := by
  unfold heads k0_pay159 k0_pay152 k0_pay144 k0_pay136 k0_pay135
  pointwise
  rfl

end Cert.Proof.AttnBody

end
-- ==== Proof.AttnPieces.lean ====
module

public import proofs.«01_k».proof.Proof.Gen.Kernel4Ideal.Value
public import proofs.«01_k».proof.Proof.AttnBody

/-!
What the attention stores, block by block of 128 queries and slab by slab: one form for all sixteen stores.
-/

@[expose] public section

set_option maxRecDepth 65536

noncomputable section

namespace Cert.Proof.AttnPieces

open Idealize.ShloMosaic Idealize.ShloMosaic.TcCoe Cert.Kernel4Ideal Cert.Kernel4Ideal.Gen Cert.Proof.AttnBody

/-- The scores of the first key head's queries. -/
def s0 (st : BitVec 32) (C S : Vec Ideal S128x128 .f32) (q0 q1 : Vec Ideal S1x128x128 .f32) (g : Vec Ideal S1x128 .f32)
    (KW : Vec Ideal S384x128 .bf16) (KC : Vec Ideal S256x128 .bf16) : FVec Ideal S512x640 .f32 :=
  k0_pay123 (k0_pay35 (F := Ideal) (iota Kind.tc S128x384 32 [0] iota_S128x384_d0_w32) (iota Kind.tc S128x384 32 [1] iota_S128x384_d1_w32) st)
    (k0_pay36 k0_pay19 (k0_pay23 (k0_pay15 (F := Ideal)) (k0_pay21 C) (k0_pay22 S) q0 g) (k0_pay23 (k0_pay15 (F := Ideal)) (k0_pay21 C) (k0_pay22 S) q1 g))
    (k0_pay37 KC KW)

/-- The scores of the second key head's queries. -/
def s1 (st : BitVec 32) (C S : Vec Ideal S128x128 .f32) (q2 q3 : Vec Ideal S1x128x128 .f32) (g : Vec Ideal S1x128 .f32)
    (KW : Vec Ideal S384x128 .bf16) (KC : Vec Ideal S256x128 .bf16) : FVec Ideal S512x640 .f32 :=
  k0_pay123 (k0_pay35 (F := Ideal) (iota Kind.tc S128x384 32 [0] iota_S128x384_d0_w32) (iota Kind.tc S128x384 32 [1] iota_S128x384_d1_w32) st)
    (k0_pay42 k0_pay20 (k0_pay23 (k0_pay15 (F := Ideal)) (k0_pay21 C) (k0_pay22 S) q2 g) (k0_pay23 (k0_pay15 (F := Ideal)) (k0_pay21 C) (k0_pay22 S) q3 g))
    (k0_pay37 KC KW)

/-- The four slabs of a block's result, from the two key heads' stacks. -/
def o0 (o : FVec Ideal S512x128 .f32) : FVec Ideal S1x128x128 .f32 := k0_pay175 k0_pay19 (k0_pay168 o) (k0_pay169 o)
def o1 (o : FVec Ideal S512x128 .f32) : FVec Ideal S1x128x128 .f32 := k0_pay176 k0_pay19 (k0_pay170 o) (k0_pay171 o)
def o2 (o : FVec Ideal S512x128 .f32) : FVec Ideal S1x128x128 .f32 := k0_pay177 k0_pay19 (k0_pay172 o) (k0_pay173 o)
def o3 (o : FVec Ideal S512x128 .f32) : FVec Ideal S1x128x128 .f32 := k0_pay178 k0_pay19 o (k0_pay174 o) 64#32

variable (i : grid0.Coords) (x0 : Vec Ideal S1x512x512 .f32) (x3 x4 : Vec Ideal S2048x128 .f32) (x5 : Vec Ideal S1x128 .f32) (x7 : Vec Ideal S8 .f32)
  (K V : Vec Ideal S2304x128 .bf16) (KC VC : Vec Ideal S256x128 .bf16)

/-- Where block `sb` of a grid point begins, as a word. -/
def wrd (i : grid0.Coords) (sb : ℕ) : BitVec 32 := Scalar.muli (Scalar.addi (Scalar.muli (BitVec.ofNat 32 (i 1).val) 4#32) (BitVec.ofNat 32 sb)) 128#32

theorem wrd_eq (i : grid0.Coords) (sb : Fin 4) : wrd i sb.val = BitVec.ofNat 32 (128 * (4 * (i 1).val + sb.val)) := by
  have h : ∀ (b : Fin 4) (sb : Fin 4), Scalar.muli (Scalar.addi (Scalar.muli (BitVec.ofNat 32 b.val) 4#32) (BitVec.ofNat 32 sb.val)) 128#32
      = BitVec.ofNat 32 (128 * (4 * b.val + sb.val)) := by decide
  exact h (i 1) sb

theorem wrd_nat (i : grid0.Coords) (sb : Fin 4) : BitVec.toNat (Scalar.indexCast (wrd i sb.val)) = 128 * (4 * (i 1).val + sb.val) := by
  have h : ∀ (b : Fin 4) (sb : Fin 4), BitVec.toNat (Scalar.indexCast (BitVec.ofNat 32 (128 * (4 * b.val + sb.val)))) = 128 * (4 * b.val + sb.val) := by
    decide
  rw [wrd_eq]
  exact h (i 1) sb

theorem inb128 (sb : Fin 4) : ∀ a : Fin 2, (![BitVec.toNat (Scalar.indexCast (wrd i sb.val)), 0] : Fin 2 → ℕ) a + S128x128.size a ≤ S2048x128.size a := by
  rw [wrd_nat]
  have h1 : (i 1).val < 4 := (i 1).isLt
  have h2 := sb.isLt
  intro a
  match a with
  | 0 => show 128 * (4 * (i 1).val + sb.val) + 128 ≤ 2048; omega
  | 1 => show 0 + 128 ≤ 128; omega

theorem inb384 (sb : Fin 4) : ∀ a : Fin 2, (![BitVec.toNat (Scalar.indexCast (wrd i sb.val)), 0] : Fin 2 → ℕ) a + S384x128.size a ≤ S2304x128.size a := by
  rw [wrd_nat]
  have h1 : (i 1).val < 4 := (i 1).isLt
  have h2 := sb.isLt
  intro a
  match a with
  | 0 => show 128 * (4 * (i 1).val + sb.val) + 384 ≤ 2304; omega
  | 1 => show 0 + 128 ≤ 128; omega

theorem inbq (sb m : Fin 4) : ∀ a : Fin 3, (![0, sb.val * 128, m.val * 128] : Fin 3 → ℕ) a + S1x128x128.size a ≤ S1x512x512.size a := by
  intro a
  match a with
  | 0 => show 0 + 1 ≤ 1; omega
  | 1 => show sb.val * 128 + 128 ≤ 512; omega
  | 2 => show m.val * 128 + 128 ≤ 512; omega

theorem inb8 (k : Fin 8) : ∀ a : Fin 1, (![k.val] : Fin 1 → ℕ) a + S1.size a ≤ S8.size a := by
  intro a
  match a with
  | 0 => show k.val + 1 ≤ 8; omega

/-- A block's rows of a rope table. -/
def tbl (sb : Fin 4) (x : Vec Ideal S2048x128 .f32) : Vec Ideal S128x128 .f32 :=
  View.ld x (Rect.unit (s := S2048x128) ![BitVec.toNat (Scalar.indexCast (wrd i sb.val)), 0] S128x128.size (inb128 i sb))

/-- A block's window. -/
def win (sb : Fin 4) (x : Vec Ideal S2304x128 .bf16) : Vec Ideal S384x128 .bf16 :=
  View.ld x (Rect.unit (s := S2304x128) ![BitVec.toNat (Scalar.indexCast (wrd i sb.val)), 0] S384x128.size (inb384 i sb))

/-- A block's slab of queries. -/
def slab (sb m : Fin 4) : Vec Ideal S1x128x128 .f32 :=
  View.ld x0 (Rect.unit (s := S1x512x512) ![0, sb.val * 128, m.val * 128] S1x128x128.size (inbq sb m))

def gain : Vec Ideal S1x128 .f32 := View.ld x5 (Rect.unit (s := S1x128) ![0, 0] S1x128.size inb_S1x128_S1x128_0_0)

def snk (k : Fin 8) : Elt Ideal .f32 := View.ld x7 (Rect.unit (s := S8) ![k.val] S1.size (inb8 k)) (Shape.Idx.first (s := S1) (by decide))

/-- The first key head's stack of a block. -/
def a0 (sb : Fin 4) : FVec Ideal S512x128 .f32 :=
  heads (k0_pay45 (snk x7 0) (snk x7 1) (snk x7 2) (snk x7 3))
    (s0 (wrd i sb.val) (tbl i sb x3) (tbl i sb x4) (slab x0 sb 0) (slab x0 sb 1) (gain x5) (win i sb K) KC) (k0_pay37 VC (win i sb V))

/-- The second key head's stack of a block. -/
def a1 (sb : Fin 4) : FVec Ideal S512x128 .f32 :=
  heads (k0_pay45 (snk x7 4) (snk x7 5) (snk x7 6) (snk x7 7))
    (s1 (wrd i sb.val) (tbl i sb x3) (tbl i sb x4) (slab x0 sb 2) (slab x0 sb 3) (gain x5) (win i sb K) KC) (k0_pay37 VC (win i sb V))

/-- One store. -/
def piece (sb m : Fin 4) (o : FVec Ideal S1x128x128 .f32) : View.Piece (Elt Ideal) S1x512x512 .f32 :=
  ⟨Rect.unit (s := S1x512x512) ![0, sb.val * 128, m.val * 128] S1x128x128.size (inbq sb m), o⟩

/-- A block's four stores, the last first. -/
def four (sb : Fin 4) : List (View.Piece (Elt Ideal) S1x512x512 .f32) :=
  [piece sb 3 (o3 (a1 i x0 x3 x4 x5 x7 K V KC VC sb)), piece sb 2 (o2 (a1 i x0 x3 x4 x5 x7 K V KC VC sb)),
    piece sb 1 (o1 (a0 i x0 x3 x4 x5 x7 K V KC VC sb)), piece sb 0 (o0 (a0 i x0 x3 x4 x5 x7 K V KC VC sb))]

/-- The sixteen stores, the last first. -/
def pieces : List (View.Piece (Elt Ideal) S1x512x512 .f32) :=
  four i x0 x3 x4 x5 x7 K V KC VC 3 ++ (four i x0 x3 x4 x5 x7 K V KC VC 2 ++ (four i x0 x3 x4 x5 x7 K V KC VC 1 ++ four i x0 x3 x4 x5 x7 K V KC VC 0))

def whole (x : Vec Ideal S256x128 .bf16) : Vec Ideal S256x128 .bf16 :=
  View.ld x (Rect.unit (s := S256x128) ![0, 0] S256x128.size inb_S256x128_S256x128_0_0)

/-- What a run that is not a sample's first stores. -/
theorem run_B (c : Dev nD) (i : grid0.Coords)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : ¬cond0_0 i)
    (x0 : Vec Ideal S1x512x512 .f32) (x1 : Vec Ideal S1x2048x256 .f32) (x2 : Vec Ideal S1x256x256 .f32) (x3 : Vec Ideal S2048x128 .f32)
    (x4 : Vec Ideal S2048x128 .f32) (x5 : Vec Ideal S1x128 .f32) (x6 : Vec Ideal S1x128 .f32) (x7 : Vec Ideal S8 .f32)
    (xs0 xs1 : Vec Ideal S2304x128 .bf16) (xs2 xs3 : Vec Ideal S256x128 .bf16) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 xs3).1 = pieces i x0 x3 x4 x5 x7 xs0 xs1 (whole xs2) (whole xs3) := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  rfl

/-- What a sample's first run stores: the same, from the scratch it has just filled. -/
theorem run_A (c : Dev nD) (i : grid0.Coords)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : cond0_0 i)
    (x0 : Vec Ideal S1x512x512 .f32) (x1 : Vec Ideal S1x2048x256 .f32) (x2 : Vec Ideal S1x256x256 .f32) (x3 : Vec Ideal S2048x128 .f32)
    (x4 : Vec Ideal S2048x128 .f32) (x5 : Vec Ideal S1x128 .f32) (x6 : Vec Ideal S1x128 .f32) (x7 : Vec Ideal S8 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1
      = pieces i x0 x3 x4 x5 x7 (arg11.view.read (Elt Ideal) (arg11.view.writes (Elt Ideal) arg11.view.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1))
          (arg12.view.read (Elt Ideal) (arg12.view.writes (Elt Ideal) arg12.view.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1))
          (arg13.view.readCov (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 (Rect.unit (s := S256x128) ![0, 0] S256x128.size inb_S256x128_S256x128_0_0).toLoadRect)
          (arg14.view.readCov (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.val (Rect.unit (s := S256x128) ![0, 0] S256x128.size inb_S256x128_S256x128_0_0).toLoadRect) := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  rfl

/-- The keys a sample's first run leaves, as stores. -/
def kpieces (x1 : Vec Ideal S1x2048x256 .f32) (x6 : Vec Ideal S1x128 .f32) : List (View.Piece (Elt Ideal) S2304x128 .bf16) :=
  [⟨Rect.unit (s := S2304x128) ![128, 0] S2048x128.size inb_S2304x128_S2048x128_128_0, k0_pay12 (k0_pay9 (k0_pay15 (F := Ideal)) (k0_pay16
      (View.ld x6 (Rect.unit (s := S1x128) ![0, 0] S1x128.size inb_S1x128_S1x128_0_0)))
      (View.ld x1 (Rect.unit (s := S1x2048x256) ![0, 0, 0] S1x2048x128.size inb_S1x2048x256_S1x2048x128_0_0_0)))
      (k0_pay10 (View.ld x3 (Rect.unit (s := S2048x128) ![0, 0] S2048x128.size inb_S2048x128_S2048x128_0_0)))
      (k0_pay11 (View.ld x4 (Rect.unit (s := S2048x128) ![0, 0] S2048x128.size inb_S2048x128_S2048x128_0_0))) (iota Kind.tc S2048x128 32 [1] iota_S2048x128_d1_w32)⟩,
    ⟨Rect.unit (s := S2304x128) ![2176, 0] S128x128.size inb_S2304x128_S128x128_2176_0, k0_pay7 (F := Ideal)⟩,
    ⟨Rect.unit (s := S2304x128) ![0, 0] S128x128.size inb_S2304x128_S128x128_0_0, k0_pay5 (F := Ideal)⟩]

/-- The values it leaves. -/
def vpieces (x1 : Vec Ideal S1x2048x256 .f32) : List (View.Piece (Elt Ideal) S2304x128 .bf16) :=
  [⟨Rect.unit (s := S2304x128) ![128, 0] S2048x128.size inb_S2304x128_S2048x128_128_0, k0_pay13
      (View.ld x1 (Rect.unit (s := S1x2048x256) ![0, 0, 128] S1x2048x128.size inb_S1x2048x256_S1x2048x128_0_0_128))⟩,
    ⟨Rect.unit (s := S2304x128) ![2176, 0] S128x128.size inb_S2304x128_S128x128_2176_0, k0_pay8 (F := Ideal)⟩,
    ⟨Rect.unit (s := S2304x128) ![0, 0] S128x128.size inb_S2304x128_S128x128_0_0, k0_pay6 (F := Ideal)⟩]

/-- The context's keys and values it leaves. -/
def kcpiece (x2 : Vec Ideal S1x256x256 .f32) (x6 : Vec Ideal S1x128 .f32) : List (View.Piece (Elt Ideal) S256x128 .bf16) :=
  [⟨Rect.unit (s := S256x128) ![0, 0] S256x128.size inb_S256x128_S256x128_0_0, k0_pay17 (k0_pay14 (k0_pay15 (F := Ideal)) (k0_pay16
      (View.ld x6 (Rect.unit (s := S1x128) ![0, 0] S1x128.size inb_S1x128_S1x128_0_0)))
      (View.ld x2 (Rect.unit (s := S1x256x256) ![0, 0, 0] S1x256x128.size inb_S1x256x256_S1x256x128_0_0_0)))⟩]

def vcpiece (x2 : Vec Ideal S1x256x256 .f32) : List (View.Piece (Elt Ideal) S256x128 .bf16) :=
  [⟨Rect.unit (s := S256x128) ![0, 0] S256x128.size inb_S256x128_S256x128_0_0, k0_pay18
      (View.ld x2 (Rect.unit (s := S1x256x256) ![0, 0, 128] S1x256x128.size inb_S1x256x256_S1x256x128_0_0_128))⟩]

theorem fill_A (c : Dev nD) (i : grid0.Coords)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : cond0_0 i)
    (x0 : Vec Ideal S1x512x512 .f32) (x1 : Vec Ideal S1x2048x256 .f32) (x2 : Vec Ideal S1x256x256 .f32) (x3 : Vec Ideal S2048x128 .f32)
    (x4 : Vec Ideal S2048x128 .f32) (x5 : Vec Ideal S1x128 .f32) (x6 : Vec Ideal S1x128 .f32) (x7 : Vec Ideal S8 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 = kpieces x3 x4 x1 x6
      ∧ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 = vpieces x1
      ∧ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 = kcpiece x2 x6
      ∧ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.val = vcpiece x2 := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread]
  exact ⟨rfl, rfl, rfl, rfl⟩

end Cert.Proof.AttnPieces

end
-- ==== Proof.AttnStep.lean ====
module

public import proofs.«01_k».proof.Proof.AttnPieces

/-!
What one grid point of the attention stores: the attention's result at its 512 tokens.
-/

@[expose] public section

set_option maxRecDepth 16384

noncomputable section

namespace Cert.Proof.AttnStep

open Idealize.ShloMosaic Cert.Kernel4Ideal Cert.Kernel4Ideal.Gen Cert.Proof.Sums Cert.Proof.AttnSpec Cert.Proof.AttnNum Cert.Proof.AttnBody
  Cert.Proof.AttnPieces

/-- What the scores are made of is numbers. -/
structure Nums (q : Fin 2048 → Fin 512 → EReal) (kv : Fin 2048 → Fin 256 → EReal) (kc : Fin 256 → Fin 256 → EReal) (gq gk : Fin 64 → EReal) : Prop where
  q : ∀ l c, IsNum (q l c)
  k : ∀ l n d, IsNum (kv l (kcol n d))
  c : ∀ l n d, IsNum (kc l (kcol n d))
  gq : ∀ d, IsNum (gq d)
  gk : ∀ d, IsNum (gk d)

/-- What the scratch holds of a sample: padded keys and values, the context's keys and values. -/
structure Scr (kv : Fin 2048 → Fin 256 → EReal) (kc : Fin 256 → Fin 256 → EReal) (gk : Fin 64 → EReal)
    (K V : Vec Ideal S2304x128 .bf16) (KC VC : Vec Ideal S256x128 .bf16) : Prop where
  k : ∀ (p : Fin 2304) (n : Fin 2) (d : Fin 64), K (ix2 p (lane n d)) = padded (key kv gk n d) p.val
  v : ∀ (p : Fin 2304) (n : Fin 2) (d : Fin 64), V (ix2 p (lane n d)) = padded (fun t => kv t (vcol n d)) p.val
  ck : ∀ (p : Fin 256) (n : Fin 2) (d : Fin 64), KC (ix2 p (lane n d)) = keyc kc gk n d p
  cv : ∀ (p : Fin 256) (n : Fin 2) (d : Fin 64), VC (ix2 p (lane n d)) = kc p (vcol n d)

/-- What the input windows hold at grid point `T` of a sample. -/
structure Wins (q : Fin 2048 → Fin 512 → EReal) (gq : Fin 64 → EReal) (sk : Fin 8 → EReal) (i : grid0.Coords)
    (x0 : Vec Ideal S1x512x512 .f32) (x3 x4 : Vec Ideal S2048x128 .f32) (x5 : Vec Ideal S1x128 .f32) (x7 : Vec Ideal S8 .f32) : Prop where
  q : ∀ (r c : Fin 512) (l : Fin 2048), l.val = 512 * (i 1).val + r.val → x0 (ix3 0 r c) = q l c
  cos : ∀ (l : Fin 2048) (e : Fin 2) (d : Fin 64), x3 (ix2 l (lane e d)) = Ideal.cos (angle l d)
  sin : ∀ (l : Fin 2048) (e : Fin 2) (d : Fin 64), x4 (ix2 l (lane e d)) = Ideal.sin (angle l d) * sgn d
  g : ∀ (e : Fin 2) (d : Fin 64), x5 (ix2 0 (lane e d)) = gq d
  sk : ∀ a : Fin 8, x7 (ix1 a) = sk a

/-- Block `sb` of grid point `i` among a sample's sixteen. -/
def blk (i : grid0.Coords) (sb : Fin 4) : Fin 16 := ⟨4 * (i 1).val + sb.val, by have h : (i 1).val < 4 := (i 1).isLt; omega⟩

theorem tbl_at (i : grid0.Coords) (sb : Fin 4) (x : Vec Ideal S2048x128 .f32) (r j : Fin 128) : tbl i sb x (ix2 r j) = x (ix2 (tok (blk i sb) r) j) := by
  refine congrArg x (funext fun a => Fin.ext ?_)
  match a with
  | ⟨0, _⟩ =>
    show BitVec.toNat (Scalar.indexCast (wrd i sb.val)) + 1 * r.val = 128 * (4 * (i 1).val + sb.val) + r.val
    rw [wrd_nat]
    omega
  | ⟨1, _⟩ => show 0 + 1 * j.val = j.val; omega

theorem win_at (i : grid0.Coords) (sb : Fin 4) (x : Vec Ideal S2304x128 .bf16) (r : Fin 384) (j : Fin 128) :
    win i sb x (ix2 r j) = x (ix2 ⟨128 * (blk i sb).val + r.val, by have := (blk i sb).isLt; omega⟩ j) := by
  refine congrArg x (funext fun a => Fin.ext ?_)
  match a with
  | ⟨0, _⟩ =>
    show BitVec.toNat (Scalar.indexCast (wrd i sb.val)) + 1 * r.val = 128 * (4 * (i 1).val + sb.val) + r.val
    rw [wrd_nat]
    omega
  | ⟨1, _⟩ => show 0 + 1 * j.val = j.val; omega

theorem slab_ld (x0 : Vec Ideal S1x512x512 .f32) (sb m : Fin 4) (r j : Fin 128) :
    slab x0 sb m (ix3 0 r j) = x0 (ix3 0 ⟨sb.val * 128 + r.val, by omega⟩ ⟨m.val * 128 + j.val, by omega⟩) := by
  refine congrArg x0 (funext fun a => Fin.ext ?_)
  match a with
  | ⟨0, _⟩ => rfl
  | ⟨1, _⟩ => show sb.val * 128 + 1 * r.val = sb.val * 128 + r.val; omega
  | ⟨2, _⟩ => show m.val * 128 + 1 * j.val = m.val * 128 + j.val; omega

theorem gain_at (x : Vec Ideal S1x128 .f32) (j : Fin 128) : gain x (ix2 0 j) = x (ix2 0 j) := by
  refine congrArg x (funext fun a => Fin.ext ?_)
  match a with
  | ⟨0, _⟩ => rfl
  | ⟨1, _⟩ => show 0 + 1 * j.val = j.val; omega

theorem snk_at (x : Vec Ideal S8 .f32) (k : Fin 8) : snk x k = x (ix1 k) := by
  refine congrArg x (funext fun a => Fin.ext ?_)
  match a with
  | ⟨0, _⟩ => show k.val + 1 * 0 = k.val; omega

theorem same21 (x : Vec Ideal S128x128 .f32) (r j : Fin 128) : (k0_pay21 x (ix2 r j) : EReal) = x (ix2 r j) := by
  unfold k0_pay21
  pointwise

theorem same22 (x : Vec Ideal S128x128 .f32) (r j : Fin 128) : (k0_pay22 x (ix2 r j) : EReal) = x (ix2 r j) := by
  unfold k0_pay22
  pointwise

section
variable {q : Fin 2048 → Fin 512 → EReal} {kv : Fin 2048 → Fin 256 → EReal} {kc : Fin 256 → Fin 256 → EReal} {gq gk : Fin 64 → EReal}
  {sk : Fin 8 → EReal} {i : grid0.Coords} {x0 : Vec Ideal S1x512x512 .f32} {x3 x4 : Vec Ideal S2048x128 .f32} {x5 : Vec Ideal S1x128 .f32}
  {x7 : Vec Ideal S8 .f32} {K V : Vec Ideal S2304x128 .bf16} {KC VC : Vec Ideal S256x128 .bf16}
  (N : Nums q kv kc gq gk) (W : Wins q gq sk i x0 x3 x4 x5 x7) (H : Scr kv kc gk K V KC VC)

/-- Query head of half `e` of slab `m`. -/
def hd (m : Fin 4) (e : Fin 2) : Fin 8 := ⟨2 * m.val + e.val, by omega⟩

include N W in
theorem slab_query (sb m : Fin 4) (r : Fin 128) (e : Fin 2) (d : Fin 64) :
    (k0_pay23 (k0_pay15 (F := Ideal)) (k0_pay21 (tbl i sb x3)) (k0_pay22 (tbl i sb x4)) (slab x0 sb m) (gain x5) (ix2 r (lane e d)) : EReal)
      = query q gq (hd m e) (tok (blk i sb) r) d * Ideal.ofBits .f32 0x3E000000#32 := by
  rw [slab_at]
  refine congrArg (· * _) ?_
  have hq (e : Fin 2) (d : Fin 64) : slab x0 sb m (ix3 0 r (lane e d)) = q (tok (blk i sb) r) (qcol (hd m e) d) := by
    rw [slab_ld, W.q _ _ (tok (blk i sb) r) (by show 128 * (4 * (i 1).val + sb.val) + r.val = 512 * (i 1).val + (sb.val * 128 + r.val); omega)]
    refine congrArg (q _) (Fin.ext ?_)
    show m.val * 128 + (e.val * 64 + d.val) = (2 * m.val + e.val) * 64 + d.val
    omega
  refine kt_eq _ _ _ _ _ e d (fun d => kn_eq _ _ _ _ e d (fun k => ?_) (fun d => hq e d) (fun d => (gain_at x5 _).trans (W.g e d)))
    (fun d => ((same21 _ _ _).trans (tbl_at i sb x3 r _)).trans (W.cos _ e d)) (fun d => ((same22 _ _ _).trans (tbl_at i sb x4 r _)).trans (W.sin _ e d))
  obtain ⟨e', d', rfl⟩ := lane_cases k
  rw [hq]
  exact N.q _ _

include H in
theorem keys_ok (sb : Fin 4) (n : Fin 2) (d : Fin 64) (r : Fin 128) (j : Fin 640) (h : j.val < 384) :
    both (win i sb K) KC j (lane n d) = padded (key kv gk n d) ((tok (blk i sb) r).val / 128 * 128 + j.val) := by
  unfold both
  rw [dif_pos h, win_at, H.k]
  refine congrArg _ ?_
  show 128 * (blk i sb).val + j.val = (128 * (blk i sb).val + r.val) / 128 * 128 + j.val
  omega

include H in
theorem keysc_ok (sb : Fin 4) (n : Fin 2) (d : Fin 64) (j : Fin 640) (h : ¬j.val < 384) :
    both (win i sb K) KC j (lane n d) = keyc kc gk n d ⟨j.val - 384, by omega⟩ := by
  unfold both
  rw [dif_neg h, H.ck]

include H in
theorem vals_ok (sb : Fin 4) (n : Fin 2) (d : Fin 64) (r : Fin 128) (j : Fin 640) :
    both (win i sb V) VC j (lane n d) = val kv kc n d (tok (blk i sb) r) j := by
  unfold both val
  by_cases h : j.val < 384
  · rw [dif_pos h, dif_pos h, win_at, H.v]
    refine congrArg _ ?_
    show 128 * (blk i sb).val + j.val = (128 * (blk i sb).val + r.val) / 128 * 128 + j.val
    omega
  · rw [dif_neg h, dif_neg h, H.cv]

include N W H in
/-- A stack's scores are the attention's, when its queries are one key head's. -/
theorem score_ok (Q : FVec Ideal S512x128 .bf16) (sb : Fin 4) (n : Fin 2) (g : Fin 4) (r : Fin 128) (a : Fin 8) (ha : kvOf a = n)
    (hQ : ∀ e d, (Q (ix2 (row g r) (lane e d)) : EReal) = if e = n then query q gq a (tok (blk i sb) r) d * Ideal.ofBits .f32 0x3E000000#32 else 0) (j : Fin 640) :
    (k0_pay123 (k0_pay35 (F := Ideal) (iota Kind.tc S128x384 32 [0] iota_S128x384_d0_w32) (iota Kind.tc S128x384 32 [1] iota_S128x384_d1_w32)
        (wrd i sb.val)) Q (k0_pay37 KC (win i sb K)) (ix2 (row g r) j) : EReal) = score q kv kc gq gk a (tok (blk i sb) r) j := by
  subst ha
  rw [wrd_eq, show 128 * (4 * (i 1).val + sb.val) = 128 * (blk i sb).val from rfl, score_at]
  unfold score
  by_cases h : j.val < 384
  · rw [if_pos h, dif_pos h]
    refine if_congr Iff.rfl ?_ rfl
    exact dot_lane _ _ _ _ (kvOf a) (fun d => queryNum N.q N.gq a _ d) (fun d => paddedNum (fun t => keyNum N.k N.gk _ d t) _) hQ
      (fun d => keys_ok H sb _ d r j h)
  · rw [if_neg h, dif_neg h]
    exact dot_lane _ _ _ _ (kvOf a) (fun d => queryNum N.q N.gq a _ d) (fun d => keycNum N.c N.gk _ d _) hQ (fun d => keysc_ok H sb _ d j h)

include N W H in
theorem a0_at (sb g : Fin 4) (r : Fin 128) (d : Fin 64) :
    (a0 i x0 x3 x4 x5 x7 K V KC VC sb (ix2 (row g r) (lane 0 d)) : EReal) = out q kv kc gq gk sk (tok (blk i sb) r) ⟨g.val, by omega⟩ d := by
  have ha : kvOf ⟨g.val, by omega⟩ = 0 := Fin.ext (by show g.val / 4 = 0; omega)
  unfold a0
  rw [heads_at]
  unfold out
  rw [ha]
  have e1 : (fun x => (s0 (wrd i sb.val) (tbl i sb x3) (tbl i sb x4) (slab x0 sb 0) (slab x0 sb 1) (gain x5) (win i sb K) KC (ix2 (row g r) x) : EReal))
      = score q kv kc gq gk ⟨g.val, by omega⟩ (tok (blk i sb) r) := funext fun x => by
    unfold s0
    refine score_ok N W H _ sb 0 g r _ ha (fun e d => (q0_at _ _ g r e d).trans (if_congr Iff.rfl ?_ rfl)) x
    match g with
    | 0 => exact slab_query N W sb 0 r 0 d
    | 1 => exact slab_query N W sb 0 r 1 d
    | 2 => exact slab_query N W sb 1 r 0 d
    | 3 => exact slab_query N W sb 1 r 1 d
  have e2 : (k0_pay45 (snk x7 0) (snk x7 1) (snk x7 2) (snk x7 3) (ix2 (row g r) 0) : EReal) = sk ⟨g.val, by omega⟩ := by
    rw [sinks_at]
    match g with
    | 0 => exact (snk_at x7 0).trans (W.sk 0)
    | 1 => exact (snk_at x7 1).trans (W.sk 1)
    | 2 => exact (snk_at x7 2).trans (W.sk 2)
    | 3 => exact (snk_at x7 3).trans (W.sk 3)
  have e3 : (fun x => (k0_pay37 (F := Ideal) VC (win i sb V) (ix2 x (lane 0 d)) : EReal)) = val kv kc 0 d (tok (blk i sb) r) :=
    funext fun x => (both_at _ _ _ _).trans (vals_ok H sb 0 d r x)
  rw [e1, e2, e3]

include N W H in
theorem a1_at (sb g : Fin 4) (r : Fin 128) (d : Fin 64) :
    (a1 i x0 x3 x4 x5 x7 K V KC VC sb (ix2 (row g r) (lane 1 d)) : EReal) = out q kv kc gq gk sk (tok (blk i sb) r) ⟨4 + g.val, by omega⟩ d := by
  have ha : kvOf ⟨4 + g.val, by omega⟩ = 1 := Fin.ext (by show (4 + g.val) / 4 = 1; omega)
  unfold a1
  rw [heads_at]
  unfold out
  rw [ha]
  have e1 : (fun x => (s1 (wrd i sb.val) (tbl i sb x3) (tbl i sb x4) (slab x0 sb 2) (slab x0 sb 3) (gain x5) (win i sb K) KC (ix2 (row g r) x) : EReal))
      = score q kv kc gq gk ⟨4 + g.val, by omega⟩ (tok (blk i sb) r) := funext fun x => by
    unfold s1
    refine score_ok N W H _ sb 1 g r _ ha (fun e d => (q1_at _ _ g r e d).trans (if_congr Iff.rfl ?_ rfl)) x
    match g with
    | 0 => exact slab_query N W sb 2 r 0 d
    | 1 => exact slab_query N W sb 2 r 1 d
    | 2 => exact slab_query N W sb 3 r 0 d
    | 3 => exact slab_query N W sb 3 r 1 d
  have e2 : (k0_pay45 (snk x7 4) (snk x7 5) (snk x7 6) (snk x7 7) (ix2 (row g r) 0) : EReal) = sk ⟨4 + g.val, by omega⟩ := by
    rw [sinks_at]
    match g with
    | 0 => exact (snk_at x7 4).trans (W.sk 4)
    | 1 => exact (snk_at x7 5).trans (W.sk 5)
    | 2 => exact (snk_at x7 6).trans (W.sk 6)
    | 3 => exact (snk_at x7 7).trans (W.sk 7)
  have e3 : (fun x => (k0_pay37 (F := Ideal) VC (win i sb V) (ix2 x (lane 1 d)) : EReal)) = val kv kc 1 d (tok (blk i sb) r) :=
    funext fun x => (both_at _ _ _ _).trans (vals_ok H sb 1 d r x)
  rw [e1, e2, e3]

end

/-- Half a slab from one row of heads, half from another. -/
theorem o0_at (o : FVec Ideal S512x128 .f32) (r : Fin 128) (e : Fin 2) (d : Fin 64) :
    (o0 o (ix3 0 r (lane e d)) : EReal) = o (ix2 (row (match e with | 0 => 0 | 1 => 1) r) (lane 0 d)) := by
  unfold o0 k0_pay175 k0_pay168 k0_pay169 k0_pay19
  pointwise
  simp only [lows, lane_low]
  match e with
  | 0 => exact congrArg (fun x => (o (ix2 x (lane 0 d)) : EReal)) (Fin.ext (by show r.val = 0 * 128 + r.val; omega))
  | 1 => exact congrArg₂ (fun x y => (o (ix2 x y) : EReal)) (Fin.ext (by show 128 + r.val = 1 * 128 + r.val; omega)) (lane_roll 1 0 d (by decide))

theorem o1_at (o : FVec Ideal S512x128 .f32) (r : Fin 128) (e : Fin 2) (d : Fin 64) :
    (o1 o (ix3 0 r (lane e d)) : EReal) = o (ix2 (row (match e with | 0 => 2 | 1 => 3) r) (lane 0 d)) := by
  unfold o1 k0_pay176 k0_pay170 k0_pay171 k0_pay19
  pointwise
  simp only [lows, lane_low]
  match e with
  | 0 => exact congrArg (fun x => (o (ix2 x (lane 0 d)) : EReal)) (Fin.ext (by show 256 + r.val = 2 * 128 + r.val; omega))
  | 1 => exact congrArg₂ (fun x y => (o (ix2 x y) : EReal)) (Fin.ext (by show 384 + r.val = 3 * 128 + r.val; omega)) (lane_roll 1 0 d (by decide))

theorem o2_at (o : FVec Ideal S512x128 .f32) (r : Fin 128) (e : Fin 2) (d : Fin 64) :
    (o2 o (ix3 0 r (lane e d)) : EReal) = o (ix2 (row (match e with | 0 => 0 | 1 => 1) r) (lane 1 d)) := by
  unfold o2 k0_pay177 k0_pay172 k0_pay173 k0_pay19
  pointwise
  simp only [lows, lane_low]
  match e with
  | 0 => exact congrArg₂ (fun x y => (o (ix2 x y) : EReal)) (Fin.ext (by show r.val = 0 * 128 + r.val; omega)) (lane_roll 0 1 d (by decide))
  | 1 => exact congrArg (fun x => (o (ix2 x (lane 1 d)) : EReal)) (Fin.ext (by show 128 + r.val = 1 * 128 + r.val; omega))

theorem o3_at (o : FVec Ideal S512x128 .f32) (r : Fin 128) (e : Fin 2) (d : Fin 64) :
    (o3 o (ix3 0 r (lane e d)) : EReal) = o (ix2 (row (match e with | 0 => 2 | 1 => 3) r) (lane 1 d)) := by
  unfold o3 k0_pay178 k0_pay174 k0_pay19
  pointwise
  simp only [lows, lane_low]
  match e with
  | 0 => exact congrArg₂ (fun x y => (o (ix2 x y) : EReal)) (Fin.ext (by show 256 + r.val = 2 * 128 + r.val; omega)) (lane_roll 0 1 d (by decide))
  | 1 => exact congrArg (fun x => (o (ix2 x (lane 1 d)) : EReal)) (Fin.ext (by show 384 + r.val = 3 * 128 + r.val; omega))

/-- The result as one block of 512 tokens. -/
def block (q : Fin 2048 → Fin 512 → EReal) (kv : Fin 2048 → Fin 256 → EReal) (kc : Fin 256 → Fin 256 → EReal) (gq gk : Fin 64 → EReal)
    (sk : Fin 8 → EReal) (T : Fin 4) : Vec Ideal S1x512x512 .f32 := fun y =>
  out q kv kc gq gk sk ⟨512 * T.val + (y 1).val, by have h : (y 1).val < 512 := (y 1).isLt; have := T.isLt; omega⟩
    ⟨(y 2).val / 64, by have h : (y 2).val < 512 := (y 2).isLt; omega⟩ ⟨(y 2).val % 64, Nat.mod_lt _ (by norm_num)⟩

section
variable {q : Fin 2048 → Fin 512 → EReal} {kv : Fin 2048 → Fin 256 → EReal} {kc : Fin 256 → Fin 256 → EReal} {gq gk : Fin 64 → EReal}
  {sk : Fin 8 → EReal} {i : grid0.Coords} {x0 : Vec Ideal S1x512x512 .f32} {x3 x4 : Vec Ideal S2048x128 .f32} {x5 : Vec Ideal S1x128 .f32}
  {x7 : Vec Ideal S8 .f32} {K V : Vec Ideal S2304x128 .bf16} {KC VC : Vec Ideal S256x128 .bf16}
  (N : Nums q kv kc gq gk) (W : Wins q gq sk i x0 x3 x4 x5 x7) (H : Scr kv kc gk K V KC VC)

/-- A store that holds the result at its own rows and heads agrees with the block. -/
theorem piece_ok (T : Fin 4) (hT : (i 1).val = T.val) (sb m : Fin 4) (o : FVec Ideal S1x128x128 .f32)
    (ho : ∀ r e d, (o (ix3 0 r (lane e d)) : EReal) = out q kv kc gq gk sk (tok (blk i sb) r) (hd m e) d) (x : (piece sb m o).1.shape.Idx) :
    (piece sb m o).2 x = block q kv kc gq gk sk T ((piece sb m o).1.emb x) := by
  obtain ⟨z, r, j, rfl⟩ : ∃ (z : Fin 1) (r j : Fin 128), x = ix3 z r j :=
    ⟨x 0, x 1, x 2, funext fun a => by match a with | ⟨0, _⟩ => rfl | ⟨1, _⟩ => rfl | ⟨2, _⟩ => rfl⟩
  obtain rfl : z = 0 := Subsingleton.elim _ _
  obtain ⟨e, d, rfl⟩ := lane_cases j
  refine (ho r e d).trans ?_
  have h1 : ((piece sb m o).1.emb (ix3 0 r (lane e d)) 1).val = sb.val * 128 + 1 * r.val := rfl
  have h2 : ((piece sb m o).1.emb (ix3 0 r (lane e d)) 2).val = m.val * 128 + 1 * (e.val * 64 + d.val) := rfl
  unfold block
  congr 1
  · refine Fin.ext ?_
    show 128 * (4 * (i 1).val + sb.val) + r.val = 512 * T.val + ((piece sb m o).1.emb (ix3 0 r (lane e d)) 1).val
    rw [h1]
    omega
  · refine Fin.ext ?_
    show 2 * m.val + e.val = ((piece sb m o).1.emb (ix3 0 r (lane e d)) 2).val / 64
    rw [h2]
    omega
  · refine Fin.ext ?_
    show d.val = ((piece sb m o).1.emb (ix3 0 r (lane e d)) 2).val % 64
    rw [h2]
    omega

include N W H in
theorem four_ok (T : Fin 4) (hT : (i 1).val = T.val) (sb : Fin 4) : ∀ p ∈ four i x0 x3 x4 x5 x7 K V KC VC sb, ∀ x : p.1.shape.Idx,
    p.2 x = block q kv kc gq gk sk T (p.1.emb x) := by
  intro p hp
  unfold four at hp
  simp only [List.mem_cons, List.not_mem_nil, or_false] at hp
  rcases hp with rfl | rfl | rfl | rfl
  · refine piece_ok T hT sb 3 _ fun r e d => (o3_at _ r e d).trans ?_
    match e with
    | 0 => exact a1_at N W H sb 2 r d
    | 1 => exact a1_at N W H sb 3 r d
  · refine piece_ok T hT sb 2 _ fun r e d => (o2_at _ r e d).trans ?_
    match e with
    | 0 => exact a1_at N W H sb 0 r d
    | 1 => exact a1_at N W H sb 1 r d
  · refine piece_ok T hT sb 1 _ fun r e d => (o1_at _ r e d).trans ?_
    match e with
    | 0 => exact a0_at N W H sb 2 r d
    | 1 => exact a0_at N W H sb 3 r d
  · refine piece_ok T hT sb 0 _ fun r e d => (o0_at _ r e d).trans ?_
    match e with
    | 0 => exact a0_at N W H sb 0 r d
    | 1 => exact a0_at N W H sb 1 r d

include N W H in
/-- Every store of a grid point holds the result at its rows and heads. -/
theorem pieces_ok (T : Fin 4) (hT : (i 1).val = T.val) : ∀ p ∈ pieces i x0 x3 x4 x5 x7 K V KC VC, ∀ x : p.1.shape.Idx,
    p.2 x = block q kv kc gq gk sk T (p.1.emb x) := by
  intro p hp
  unfold pieces at hp
  simp only [List.mem_append] at hp
  rcases hp with h | h | h | h
  · exact four_ok N W H T hT 3 p h
  · exact four_ok N W H T hT 2 p h
  · exact four_ok N W H T hT 1 p h
  · exact four_ok N W H T hT 0 p h

end

end Cert.Proof.AttnStep

end
-- ==== Proof.AttnPoint.lean ====
module

public import proofs.«01_k».proof.Proof.AttnStep

/-!
What a grid point of the attention leaves in its block and in the scratch, both at a sample's first point and after it.
-/

@[expose] public section

set_option maxRecDepth 16384

noncomputable section

namespace Cert.Proof.AttnPoint

open Idealize.ShloMosaic Cert.Kernel4Ideal Cert.Kernel4Ideal.Gen Cert.Proof.Sums Cert.Proof.AttnSpec Cert.Proof.AttnNum Cert.Proof.AttnBody
  Cert.Proof.AttnPieces Cert.Proof.AttnStep

/-- What a sample's first point reads to fill the scratch. -/
structure Fills (kv : Fin 2048 → Fin 256 → EReal) (kc : Fin 256 → Fin 256 → EReal) (gk : Fin 64 → EReal) (x1 : Vec Ideal S1x2048x256 .f32)
    (x2 : Vec Ideal S1x256x256 .f32) (x6 : Vec Ideal S1x128 .f32) : Prop where
  k : ∀ (l : Fin 2048) (c : Fin 256), x1 (ix3 0 l c) = kv l c
  c : ∀ (l c : Fin 256), x2 (ix3 0 l c) = kc l c
  g : ∀ (e : Fin 2) (d : Fin 64), x6 (ix2 0 (lane e d)) = gk d

/-- The half a lane is in, and its place there. -/
def half (j : Fin 128) : Fin 2 := ⟨j.val / 64, by omega⟩
def place (j : Fin 128) : Fin 64 := ⟨j.val % 64, by omega⟩

theorem half_lane (e : Fin 2) (d : Fin 64) : half (lane e d) = e := Fin.ext (by show (e.val * 64 + d.val) / 64 = e.val; omega)
theorem place_lane (e : Fin 2) (d : Fin 64) : place (lane e d) = d := Fin.ext (by show (e.val * 64 + d.val) % 64 = d.val; omega)

/-- Rows padded with zeros, in the scratch's layout. -/
def pad (f : Fin 2 → Fin 64 → Fin 2048 → EReal) : Vec Ideal S2304x128 .bf16 := fun y => padded (f (half (y 1)) (place (y 1))) (y 0).val

theorem padded_in (f : Fin 2048 → EReal) (r : Fin 2048) : padded f (128 + r.val) = f r := by
  unfold padded
  rw [dif_pos ⟨by omega, by omega⟩]
  exact congrArg f (Fin.ext (by show 128 + r.val - 128 = r.val; omega))

theorem padded_out (f : Fin 2048 → EReal) (p : ℕ) (h : p < 128 ∨ 2176 ≤ p) : padded f p = 0 := by
  unfold padded
  rw [dif_neg (by omega)]

/-- Three stores that leave padded rows. -/
theorem pad_ok (f : Fin 2 → Fin 64 → Fin 2048 → EReal) (w : FVec Ideal S2048x128 .bf16) (z1 z0 : FVec Ideal S128x128 .bf16)
    (hw : ∀ r e d, (w (ix2 r (lane e d)) : EReal) = f e d r) (h1 : ∀ r j, (z1 (ix2 r j) : EReal) = 0) (h0 : ∀ r j, (z0 (ix2 r j) : EReal) = 0) :
    ∀ p ∈ ([⟨Rect.unit (s := S2304x128) ![128, 0] S2048x128.size inb_S2304x128_S2048x128_128_0, w⟩,
      ⟨Rect.unit (s := S2304x128) ![2176, 0] S128x128.size inb_S2304x128_S128x128_2176_0, z1⟩,
      ⟨Rect.unit (s := S2304x128) ![0, 0] S128x128.size inb_S2304x128_S128x128_0_0, z0⟩] : List (View.Piece (Elt Ideal) S2304x128 .bf16)),
      ∀ x : p.1.shape.Idx, p.2 x = pad f (p.1.emb x) := by
  intro p hp
  simp only [List.mem_cons, List.not_mem_nil, or_false] at hp
  rcases hp with rfl | rfl | rfl
  · intro x
    obtain ⟨r, j, rfl⟩ : ∃ (r : Fin 2048) (j : Fin 128), x = ix2 r j :=
      ⟨x 0, x 1, funext fun a => by match a with | ⟨0, _⟩ => rfl | ⟨1, _⟩ => rfl⟩
    obtain ⟨e, d, rfl⟩ := lane_cases j
    refine (hw r e d).trans ?_
    unfold pad
    have e0 : ((Rect.unit (s := S2304x128) ![128, 0] S2048x128.size inb_S2304x128_S2048x128_128_0).emb (ix2 r (lane e d)) 0).val = 128 + r.val := by
      show 128 + 1 * r.val = _; omega
    have e1 : (Rect.unit (s := S2304x128) ![128, 0] S2048x128.size inb_S2304x128_S2048x128_128_0).emb (ix2 r (lane e d)) 1 = lane e d :=
      Fin.ext (by show 0 + 1 * (lane e d).val = _; omega)
    rw [e0, e1, half_lane, place_lane, padded_in]
  · intro x
    obtain ⟨r, j, rfl⟩ : ∃ (r j : Fin 128), x = ix2 r j :=
      ⟨x 0, x 1, funext fun a => by match a with | ⟨0, _⟩ => rfl | ⟨1, _⟩ => rfl⟩
    refine (h1 r j).trans (padded_out _ _ (Or.inr ?_)).symm
    show 2176 ≤ 2176 + 1 * r.val
    omega
  · intro x
    obtain ⟨r, j, rfl⟩ : ∃ (r j : Fin 128), x = ix2 r j :=
      ⟨x 0, x 1, funext fun a => by match a with | ⟨0, _⟩ => rfl | ⟨1, _⟩ => rfl⟩
    refine (h0 r j).trans (padded_out _ _ (Or.inl ?_)).symm
    show 0 + 1 * r.val < 128
    omega

section
variable {q : Fin 2048 → Fin 512 → EReal} {kv : Fin 2048 → Fin 256 → EReal} {kc : Fin 256 → Fin 256 → EReal} {gq gk : Fin 64 → EReal}
  {sk : Fin 8 → EReal} {i : grid0.Coords} {x0 : Vec Ideal S1x512x512 .f32} {x1 : Vec Ideal S1x2048x256 .f32} {x2 : Vec Ideal S1x256x256 .f32}
  {x3 x4 : Vec Ideal S2048x128 .f32} {x5 x6 : Vec Ideal S1x128 .f32} {x7 : Vec Ideal S8 .f32}
  (N : Nums q kv kc gq gk) (W : Wins q gq sk i x0 x3 x4 x5 x7) (L : Fills kv kc gk x1 x2 x6)

theorem zero2 : (![0, 0] : Fin 2 → Nat) = fun _ => 0 := by
  funext a
  match a with
  | 0 => rfl
  | 1 => rfl

theorem ldt (x : Vec Ideal S2048x128 .f32) (r : Fin 2048) (j : Fin 128) :
    (View.ld x (Rect.unit (s := S2048x128) ![0, 0] S2048x128.size inb_S2048x128_S2048x128_0_0) (ix2 r j) : EReal) = x (ix2 r j) :=
  congrFun (View.ld_unit_zero zero2 _ x) _

theorem ldg (x : Vec Ideal S1x128 .f32) (j : Fin 128) :
    (View.ld x (Rect.unit (s := S1x128) ![0, 0] S1x128.size inb_S1x128_S1x128_0_0) (ix2 0 j) : EReal) = x (ix2 0 j) :=
  congrFun (View.ld_unit_zero zero2 _ x) _

include N W L in
theorem kpieces_ok : ∀ p ∈ kpieces x3 x4 x1 x6, ∀ x : p.1.shape.Idx, p.2 x = pad (key kv gk) (p.1.emb x) := by
  unfold kpieces
  refine pad_ok _ _ _ _ (fun r e d => (keys_at _ _ _ _ _ _).trans ?_) (fun r j => (zeros_at r j).2.2.1) fun r j => (zeros_at r j).1
  have hk (e : Fin 2) (d : Fin 64) : (View.ld x1 (Rect.unit (s := S1x2048x256) ![0, 0, 0] S1x2048x128.size inb_S1x2048x256_S1x2048x128_0_0_0) (ix3 0 r (lane e d)) : EReal)
      = kv r (kcol e d) := by
    refine Eq.trans (congrArg x1 (funext fun a => Fin.ext ?_)) (L.k r (kcol e d))
    match a with
    | ⟨0, _⟩ => rfl
    | ⟨1, _⟩ => show 0 + 1 * r.val = r.val; omega
    | ⟨2, _⟩ => show 0 + 1 * (e.val * 64 + d.val) = e.val * 64 + d.val; omega
  refine kt_eq _ _ _ _ _ e d (fun d => kn_eq _ _ _ _ e d (fun k => ?_) (fun d => hk e d) (fun d => (ldg x6 _).trans (L.g e d)))
    (fun d => (ldt x3 r _).trans (W.cos _ e d)) (fun d => (ldt x4 r _).trans (W.sin _ e d))
  obtain ⟨e', d', rfl⟩ := lane_cases k
  rw [hk]
  exact N.k _ _ _

include L in
theorem vpieces_ok : ∀ p ∈ vpieces x1, ∀ x : p.1.shape.Idx, p.2 x = pad (fun n d t => kv t (vcol n d)) (p.1.emb x) := by
  unfold vpieces
  refine pad_ok _ _ _ _ (fun r e d => (vals_at _ _ _).trans ?_) (fun r j => (zeros_at r j).2.2.2) fun r j => (zeros_at r j).2.1
  refine Eq.trans (congrArg x1 (funext fun a => Fin.ext ?_)) (L.k r (vcol e d))
  match a with
  | ⟨0, _⟩ => rfl
  | ⟨1, _⟩ => show 0 + 1 * r.val = r.val; omega
  | ⟨2, _⟩ => show 128 + 1 * (e.val * 64 + d.val) = 128 + e.val * 64 + d.val; omega

/-- The context's keys and values as the scratch holds them. -/
def ckeys (kc : Fin 256 → Fin 256 → EReal) (gk : Fin 64 → EReal) : Vec Ideal S256x128 .bf16 := fun y => keyc kc gk (half (y 1)) (place (y 1)) (y 0)
def cvals (kc : Fin 256 → Fin 256 → EReal) : Vec Ideal S256x128 .bf16 := fun y => kc (y 0) (vcol (half (y 1)) (place (y 1)))

include N L in
theorem kc_ok : k0_pay17 (k0_pay14 (k0_pay15 (F := Ideal)) (k0_pay16
      (View.ld x6 (Rect.unit (s := S1x128) ![0, 0] S1x128.size inb_S1x128_S1x128_0_0)))
      (View.ld x2 (Rect.unit (s := S1x256x256) ![0, 0, 0] S1x256x128.size inb_S1x256x256_S1x256x128_0_0_0))) = ckeys kc gk := by
  funext x
  obtain ⟨r, j, rfl⟩ : ∃ (r : Fin 256) (j : Fin 128), x = ix2 r j :=
    ⟨x 0, x 1, funext fun a => by match a with | ⟨0, _⟩ => rfl | ⟨1, _⟩ => rfl⟩
  obtain ⟨e, d, rfl⟩ := lane_cases j
  refine (keysc_at _ _ _ _).trans ?_
  have hk (e : Fin 2) (d : Fin 64) : (View.ld x2 (Rect.unit (s := S1x256x256) ![0, 0, 0] S1x256x128.size inb_S1x256x256_S1x256x128_0_0_0) (ix3 0 r (lane e d)) : EReal)
      = kc r (kcol e d) := by
    refine Eq.trans (congrArg x2 (funext fun a => Fin.ext ?_)) (L.c r (kcol e d))
    match a with
    | ⟨0, _⟩ => rfl
    | ⟨1, _⟩ => show 0 + 1 * r.val = r.val; omega
    | ⟨2, _⟩ => show 0 + 1 * (e.val * 64 + d.val) = e.val * 64 + d.val; omega
  refine (kn_eq _ _ _ _ e d (fun k => ?_) (fun d => hk e d) (fun d => (ldg x6 _).trans (L.g e d))).trans ?_
  · obtain ⟨e', d', rfl⟩ := lane_cases k
    rw [hk]
    exact N.c _ _ _
  · show _ = keyc kc gk (half (lane e d)) (place (lane e d)) r
    rw [half_lane, place_lane]
    rfl

include L in
theorem vc_ok : k0_pay18 (View.ld x2 (Rect.unit (s := S1x256x256) ![0, 0, 128] S1x256x128.size inb_S1x256x256_S1x256x128_0_0_128)) = cvals kc := by
  funext x
  obtain ⟨r, j, rfl⟩ : ∃ (r : Fin 256) (j : Fin 128), x = ix2 r j :=
    ⟨x 0, x 1, funext fun a => by match a with | ⟨0, _⟩ => rfl | ⟨1, _⟩ => rfl⟩
  obtain ⟨e, d, rfl⟩ := lane_cases j
  refine (valsc_at _ _ _).trans ?_
  show _ = kc r (vcol (half (lane e d)) (place (lane e d)))
  rw [half_lane, place_lane]
  refine Eq.trans (congrArg x2 (funext fun a => Fin.ext ?_)) (L.c r (vcol e d))
  match a with
  | ⟨0, _⟩ => rfl
  | ⟨1, _⟩ => show 0 + 1 * r.val = r.val; omega
  | ⟨2, _⟩ => show 128 + 1 * (e.val * 64 + d.val) = 128 + e.val * 64 + d.val; omega

theorem pad_at (f : Fin 2 → Fin 64 → Fin 2048 → EReal) (p : Fin 2304) (n : Fin 2) (d : Fin 64) : pad f (ix2 p (lane n d)) = padded (f n d) p.val := by
  show padded (f (half (lane n d)) (place (lane n d))) p.val = _
  rw [half_lane, place_lane]

/-- The scratch of a sample. -/
theorem scr_ok : Scr kv kc gk (pad (key kv gk)) (pad fun n d t => kv t (vcol n d)) (ckeys kc gk) (cvals kc) where
  k p n d := pad_at _ p n d
  v p n d := pad_at _ p n d
  ck p n d := by show keyc kc gk (half (lane n d)) (place (lane n d)) p = _; rw [half_lane, place_lane]
  cv p n d := by show kc p (vcol (half (lane n d)) (place (lane n d))) = _; rw [half_lane, place_lane]

include N W L in
theorem keep0 (c : Dev nD)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = pad (key kv gk) := by
  funext y
  unfold sout0_A_0
  refine View.read_writes_apply_of_pieces _ _ (pad (key kv gk)) _ ?_ y (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1]
  exact kpieces_ok N W L

include L in
theorem keep1 (c : Dev nD)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = pad fun n d t => kv t (vcol n d) := by
  funext y
  unfold sout0_A_1
  refine View.read_writes_apply_of_pieces _ _ (pad fun n d t => kv t (vcol n d)) _ ?_ y (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1]
  exact vpieces_ok L

theorem one_ok (w : Vec Ideal S256x128 .bf16) :
    ∀ p ∈ ([⟨Rect.unit (s := S256x128) ![0, 0] S256x128.size inb_S256x128_S256x128_0_0, w⟩] : List (View.Piece (Elt Ideal) S256x128 .bf16)),
      ∀ x : p.1.shape.Idx, p.2 x = w (p.1.emb x) := by
  intro p hp
  simp only [List.mem_cons, List.not_mem_nil, or_false] at hp
  subst hp
  intro x
  refine congrArg w (funext fun a => Fin.ext ?_)
  match a with
  | ⟨0, _⟩ => show (x 0).val = 0 + 1 * (x 0).val; omega
  | ⟨1, _⟩ => show (x 1).val = 0 + 1 * (x 1).val; omega

include N L in
theorem keep2 (c : Dev nD)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : cond0_0 i) :
    sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = ckeys kc gk := by
  funext y
  unfold sout0_A_2
  refine View.read_writes_apply_of_pieces _ _ (ckeys kc gk) _ ?_ y (scover0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1]
  unfold kcpiece
  rw [kc_ok N L]
  exact one_ok _

include L in
theorem keep3 (c : Dev nD)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : cond0_0 i) :
    sout0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = cvals kc := by
  funext y
  unfold sout0_A_3
  refine View.read_writes_apply_of_pieces _ _ (cvals kc) _ ?_ y (scover0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2]
  unfold vcpiece
  rw [vc_ok L]
  exact one_ok _

set_option maxHeartbeats 2000000 in
include N W L in
/-- A sample's first point leaves the attention's result in its block. -/
theorem left_A (T : Fin 4) (hT : (i 1).val = T.val) (c : Dev nD)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = block q kv kc gq gk sk T := by
  have eK : (arg11.view.read (Elt Ideal) (arg11.view.writes (Elt Ideal) arg11.view.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)) = pad (key kv gk) := by
    funext y
    refine View.read_writes_apply_of_pieces _ _ (pad (key kv gk)) _ ?_ y (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
    rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1]
    exact kpieces_ok N W L
  have eV : (arg12.view.read (Elt Ideal) (arg12.view.writes (Elt Ideal) arg12.view.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)) = pad fun n d t => kv t (vcol n d) := by
    funext y
    refine View.read_writes_apply_of_pieces _ _ (pad fun n d t => kv t (vcol n d)) _ ?_ y (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
    rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1]
    exact vpieces_ok L
  have eC : arg13.view.readCov (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 (Rect.unit (s := S256x128) ![0, 0] S256x128.size inb_S256x128_S256x128_0_0).toLoadRect = ckeys kc gk := by
    rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1]
    unfold kcpiece
    rw [kc_ok N L]
    exact View.readCov_cons_toLoadRect _ _ _ _
  have eD : arg14.view.readCov (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.val (Rect.unit (s := S256x128) ![0, 0] S256x128.size inb_S256x128_S256x128_0_0).toLoadRect = cvals kc := by
    rw [(fill_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2]
    unfold vcpiece
    rw [vc_ok L]
    exact View.readCov_cons_toLoadRect _ _ _ _
  funext y
  unfold out0_A_8
  refine View.read_writes_apply_of_pieces _ _ (block q kv kc gq gk sk T) _ ?_ y (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y)
  rw [run_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7, eK, eV, eC, eD]
  exact pieces_ok N W scr_ok T hT

theorem whole_eq (x : Vec Ideal S256x128 .bf16) : whole x = x := by
  unfold whole
  exact View.ld_unit_zero zero2 _ x

include N W in
/-- So does a later one, on the scratch its first left. -/
theorem left_B (T : Fin 4) (hT : (i 1).val = T.val) (c : Dev nD)
    (arg2 : Memref sig .tc .vmem S1x512x512 .f32) (harg2 : arg2.IsWhole) (arg3 : Memref sig .tc .vmem S1x2048x256 .f32) (harg3 : arg3.IsWhole) (arg4 : Memref sig .tc .vmem S1x256x256 .f32) (harg4 : arg4.IsWhole)
    (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .smem S8 .f32) (harg9 : arg9.IsWhole) (arg10 : Memref sig .tc .vmem S1x512x512 .f32) (harg10 : arg10.IsWhole)
    (arg11 : Memref sig .tc .vmem S2304x128 .bf16) (harg11 : arg11.IsWhole) (arg12 : Memref sig .tc .vmem S2304x128 .bf16) (harg12 : arg12.IsWhole) (arg13 : Memref sig .tc .vmem S256x128 .bf16) (harg13 : arg13.IsWhole)
    (arg14 : Memref sig .tc .vmem S256x128 .bf16) (harg14 : arg14.IsWhole) (hc0 : ¬cond0_0 i)
    (xs0 xs1 : Vec Ideal S2304x128 .bf16) (xs2 xs3 : Vec Ideal S256x128 .bf16) (H : Scr kv kc gk xs0 xs1 xs2 xs3) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 xs3 = block q kv kc gq gk sk T := by
  funext y
  unfold out0_B_8
  refine View.read_writes_apply_of_pieces _ _ (block q kv kc gq gk sk T) _ ?_ y (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 xs3 y)
  rw [run_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 xs3, whole_eq, whole_eq]
  exact pieces_ok N W H T hT

end

end Cert.Proof.AttnPoint

end
-- ==== Proof.AttnTables.lean ====
module

public import proofs.«01_k».proof.Proof.AttnPoint
public import Idealize.ShloMosaic.Lib.StableHlo.Run
public import Idealize.ShloMosaic.Lib.Tactic

/-!
The attention's tables of cosines and sines, its gains and its sinks, as the host lays them out before the launch.
-/

@[expose] public section

set_option maxRecDepth 16384

noncomputable section

namespace Cert.Proof.AttnTables

open Idealize.ShloMosaic Idealize.ShloMosaic.TcCoe Cert.Kernel4Ideal Cert.Kernel4Ideal.Gen Cert.Proof.Sums Cert.Proof.AttnSpec Cert.Proof.AttnNum

variable (m : (ℓ : Loc nD τ sig) → Buf (Elt Ideal) ℓ) (c : Dev nD)

/-- The sign of a word, and the quotient and remainder that round down. -/
def sg (x : BitVec 32) : BitVec 32 := if x = 0 then 0 else if x.msb then -1 else 1

def quo (x d : BitVec 32) : BitVec 32 :=
  Scalar.select (IntOp.andi (IntOp.cmpi .ne (sg x) (sg d)) (IntOp.cmpi .ne (IntOp.remsi .host x d) 0#32)) (IntOp.subi (IntOp.divsi .host x d) 1#32)
    (IntOp.divsi .host x d)

def sub1 (d : BitVec 32) : BitVec 32 := Scalar.select (IntOp.cmpi .eq d 0#32) 1#32 d

def rem (x d : BitVec 32) : BitVec 32 :=
  Scalar.select (IntOp.andi (IntOp.cmpi .ne (IntOp.cmpi .slt (IntOp.remsi .host x (sub1 d)) 0#32) (IntOp.cmpi .slt (sub1 d) 0#32))
      (IntOp.cmpi .ne (IntOp.remsi .host x (sub1 d)) 0#32))
    (IntOp.addi (IntOp.remsi .host x (sub1 d)) (sub1 d)) (IntOp.remsi .host x (sub1 d))

theorem quo64 : ∀ r : Fin 2048, quo (BitVec.ofNat 32 r.val) 64#32 = BitVec.ofNat 32 (r.val / 64) := by decide +kernel
theorem quo32 : ∀ r : Fin 64, quo (BitVec.ofNat 32 r.val) 32#32 = BitVec.ofNat 32 (r.val / 32) := by decide +kernel
theorem rem64 : ∀ r : Fin 2048, rem (BitVec.ofNat 32 r.val) 64#32 = BitVec.ofNat 32 (r.val % 64) := by decide +kernel
theorem rem16 : ∀ r : Fin 64, rem (BitVec.ofNat 32 r.val) 16#32 = BitVec.ofNat 32 (r.val % 16) := by decide +kernel
theorem rem32 : ∀ r : Fin 64, rem (BitVec.ofNat 32 r.val) 32#32 = BitVec.ofNat 32 (r.val % 32) := by decide +kernel

theorem v1 (r : Fin 2048) : (V m c main_v1 : Vec Ideal S2048 .i32) (ix1 r) = BitVec.ofNat 32 (r.val / 64) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]
  exact quo64 r

theorem v3 (r : Fin 2048) : (V m c main_v3 : Vec Ideal S2048 .i32) (ix1 r) = BitVec.ofNat 32 (r.val % 64) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]
  exact rem64 r

theorem v6 (r : Fin 64) : (V m c main_v6 : Vec Ideal S64 .i32) (ix1 r) = BitVec.ofNat 32 (r.val % 16) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]
  exact rem16 r

theorem v13 (r : Fin 64) : (V m c main_v13 : Vec Ideal S64 .i32) (ix1 r) = BitVec.ofNat 32 (r.val / 32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]
  exact quo32 r

theorem v23 (r : Fin 64) : (V m c main_v23 : Vec Ideal S64 .i32) (ix1 r) = BitVec.ofNat 32 (r.val % 32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]
  exact rem32 r

/-- A small word as a number. -/
theorem word (k : ℕ) (h : k < 2 ^ 31) : (FloatOps.sitofp (F := Ideal) .f32 (BitVec.ofNat 32 k) : EReal) = ((k : ℕ) : EReal) := by
  have e : (BitVec.ofNat 32 k).toInt = (k : ℤ) := by
    rw [BitVec.toInt_eq_toNat_of_lt (by rw [BitVec.toNat_ofNat]; omega), BitVec.toNat_ofNat]
    omega
  show (((BitVec.ofNat 32 k).toInt : ℝ) : EReal) = _
  rw [e]
  simp

/-- The angles, from the words. -/
theorem v22 : V m c main_v22 = (mulf (select (broadcastInDim S2048x64 ![0, 1] bcast_S1x64_S2048x64_0_1
      (cmpi .eq (broadcastInDim S1x64 ![1] bcast_S64_S1x64_1 (V m c main_v13 : Vec Ideal S64 .i32)) (broadcastInDim S1x64 ![] bcast_S_S1x64 (constantI S_ 32 0#32))))
      (broadcastInDim S2048x64 ![0, 1] bcast_S2048x1_S2048x64_0_1 (broadcastInDim S2048x1 ![0] bcast_S2048_S2048x1_0 (sitofp (F := Ideal) .f32 (V m c main_v1 : Vec Ideal S2048 .i32))))
      (broadcastInDim S2048x64 ![0, 1] bcast_S2048x1_S2048x64_0_1 (broadcastInDim S2048x1 ![0] bcast_S2048_S2048x1_0 (sitofp (F := Ideal) .f32 (V m c main_v3 : Vec Ideal S2048 .i32)))))
    (broadcastInDim S2048x64 ![0, 1] bcast_S1x64_S2048x64_0_1 (broadcastInDim S1x64 ![1] bcast_S64_S1x64_1
      (Host.powf (broadcastInDim S64 ![] bcast_S_S64 (constant (F := Ideal) S_ .f32 0x461C4000#32))
        (Host.divf (Host.negf (sitofp (F := Ideal) .f32 (V m c main_v6 : Vec Ideal S64 .i32))) (broadcastInDim S64 ![] bcast_S_S64 (constant (F := Ideal) S_ .f32 0x41800000#32)))))) : Vec Ideal S2048x64 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]

theorem v22_at (l : Fin 2048) (d : Fin 64) : ((V m c main_v22 : Vec Ideal S2048x64 .f32) (ix2 l d) : EReal) = angle l d := by
  rw [v22]
  have h1 := v1 m c l
  have h3 := v3 m c l
  have h6 := v6 m c d
  have h13 := v13 m c d
  generalize (V m c main_v1 : Vec Ideal S2048 .i32) = a1 at *
  generalize (V m c main_v3 : Vec Ideal S2048 .i32) = a3 at *
  generalize (V m c main_v6 : Vec Ideal S64 .i32) = a6 at *
  generalize (V m c main_v13 : Vec Ideal S64 .i32) = a13 at *
  pointwise
  rw [h1, h3, h6, h13]
  have e16 : d.val % 16 < 2 ^ 31 := by omega
  rw [word _ (show l.val / 64 < 2 ^ 31 by omega), word _ (show l.val % 64 < 2 ^ 31 by omega), word _ e16]
  show _ = (if d.val < 32 then ((l.val / 64 : ℕ) : EReal) else ((l.val % 64 : ℕ) : EReal)) * freq d
  refine congrArg₂ (· * ·) ?_ rfl
  by_cases h : d.val < 32
  · rw [if_pos h, show d.val / 32 = 0 by omega]
    rfl
  · rw [if_neg h, show d.val / 32 = 1 by omega]
    rfl

/-- The sign before a turned partner. -/
theorem v26 : V m c main_v26 = (select (cmpi .slt (V m c main_v23 : Vec Ideal S64 .i32) (broadcastInDim S64 ![] bcast_S_S64 (constantI S_ 32 16#32)))
    (broadcastInDim S64 ![] bcast_S_S64 (constant (F := Ideal) S_ .f32 0xBF800000#32)) (broadcastInDim S64 ![] bcast_S_S64 (constant (F := Ideal) S_ .f32 0x3F800000#32))
      : Vec Ideal S64 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]

theorem below : ∀ d : Fin 64, IntOp.cmpi .slt (BitVec.ofNat 32 (d.val % 32)) 16#32 = if d.val % 32 < 16 then 1#1 else 0#1 := by decide +kernel

theorem v26_at (d : Fin 64) : ((V m c main_v26 : Vec Ideal S64 .f32) (ix1 d) : EReal) = sgn d := by
  rw [v26]
  have h := v23 m c d
  generalize (V m c main_v23 : Vec Ideal S64 .i32) = a at *
  pointwise
  rw [h]
  unfold sgn
  rw [below d]
  by_cases h : d.val % 32 < 16
  · rw [if_pos h, if_pos h]
    rfl
  · rw [if_neg h, if_neg h]
    exact (by simp : (1 : EReal) = Ideal.ofBits .f32 0x3F800000#32)

theorem v35 : V m c main_v35 = (shapeCast S2048x128 (broadcastInDim S1x2048x2x64 ![0, 1, 2, 3] bcast_S1x2048x1x64_S1x2048x2x64_0_1_2_3
    (shapeCast S1x2048x1x64 (Host.cos (F := Ideal) (φ := .f32) (V m c main_v22 : Vec Ideal S2048x64 .f32)) shapeCasts_S2048x64_S1x2048x1x64))
      shapeCasts_S1x2048x2x64_S2048x128 : Vec Ideal S2048x128 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]
  rfl

theorem v38 : V m c main_v38 = (shapeCast S2048x128 (broadcastInDim S1x2048x2x64 ![0, 1, 2, 3] bcast_S1x2048x1x64_S1x2048x2x64_0_1_2_3
    (shapeCast S1x2048x1x64 (mulf (Host.sin (F := Ideal) (φ := .f32) (V m c main_v22 : Vec Ideal S2048x64 .f32))
      (broadcastInDim S2048x64 ![0, 1] bcast_S1x64_S2048x64_0_1 (broadcastInDim S1x64 ![1] bcast_S64_S1x64_1 (V m c main_v26 : Vec Ideal S64 .f32))))
      shapeCasts_S2048x64_S1x2048x1x64)) shapeCasts_S1x2048x2x64_S2048x128 : Vec Ideal S2048x128 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf]
  simp only [StableHlo.TRef.toBuf, StableHlo.TRef.ofBuf, cast_eq]
  rfl

theorem lane_mod (e : Fin 2) (d : Fin 64) (h) : (⟨(lane e d).val % 64, h⟩ : Fin 64) = d :=
  Fin.ext (by show (lane e d).val % 64 = d.val; unfold lane; dsimp only; omega)

/-- A table in the launch's layout, read at a lane. -/
theorem tiled (x : FVec Ideal S2048x64 .f32) (l : Fin 2048) (e : Fin 2) (d : Fin 64) :
    ((shapeCast S2048x128 (broadcastInDim S1x2048x2x64 ![0, 1, 2, 3] bcast_S1x2048x1x64_S1x2048x2x64_0_1_2_3
      (shapeCast S1x2048x1x64 x shapeCasts_S2048x64_S1x2048x1x64)) shapeCasts_S1x2048x2x64_S2048x128 : FVec Ideal S2048x128 .f32) (ix2 l (lane e d)) : EReal)
      = x (ix2 l d) := by
  pointwise
  exact congrArg x (by rw [lane_mod])

theorem cos_at (l : Fin 2048) (e : Fin 2) (d : Fin 64) : ((V m c main_v35 : Vec Ideal S2048x128 .f32) (ix2 l (lane e d)) : EReal) = Ideal.cos (angle l d) := by
  rw [v35]
  exact (tiled _ l e d).trans (congrArg Ideal.cos (v22_at m c l d))

theorem sin_at (l : Fin 2048) (e : Fin 2) (d : Fin 64) :
    ((V m c main_v38 : Vec Ideal S2048x128 .f32) (ix2 l (lane e d)) : EReal) = Ideal.sin (angle l d) * sgn d := by
  rw [v38]
  refine (tiled _ l e d).trans ?_
  have h1 := v22_at m c l d
  have h2 := v26_at m c d
  generalize (V m c main_v22 : Vec Ideal S2048x64 .f32) = a at *
  generalize (V m c main_v26 : Vec Ideal S64 .f32) = b at *
  pointwise
  rw [h1, h2]

theorem v43 : V m c main_v43 = (shapeCast S1x128 (shapeCast S128 (broadcastInDim S2x64 ![0, 1] bcast_S1x64_S2x64_0_1
    (shapeCast S1x64 (shapeCast S64 (m (c.tc.loc main_arg3) : Vec Ideal S1x64 .f32) shapeCasts_S1x64_S64) shapeCasts_S64_S1x64)) shapeCasts_S2x64_S128) shapeCasts_S128_S1x128 : Vec Ideal S1x128 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  try rfl

theorem v43_at (e : Fin 2) (d : Fin 64) : ((V m c main_v43 : Vec Ideal S1x128 .f32) (ix2 0 (lane e d)) : EReal) = (m (c.tc.loc main_arg3) : Vec Ideal S1x64 .f32) (ix2 0 d) := by
  rw [v43]
  generalize (m (c.tc.loc main_arg3) : Vec Ideal S1x64 .f32) = x
  pointwise
  exact congrArg x (by rw [lane_mod])

theorem v48 : V m c main_v48 = (shapeCast S1x128 (shapeCast S128 (broadcastInDim S2x64 ![0, 1] bcast_S1x64_S2x64_0_1
    (shapeCast S1x64 (shapeCast S64 (m (c.tc.loc main_arg4) : Vec Ideal S1x64 .f32) shapeCasts_S1x64_S64) shapeCasts_S64_S1x64)) shapeCasts_S2x64_S128) shapeCasts_S128_S1x128 : Vec Ideal S1x128 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  try rfl

theorem v48_at (e : Fin 2) (d : Fin 64) : ((V m c main_v48 : Vec Ideal S1x128 .f32) (ix2 0 (lane e d)) : EReal) = (m (c.tc.loc main_arg4) : Vec Ideal S1x64 .f32) (ix2 0 d) := by
  rw [v48]
  generalize (m (c.tc.loc main_arg4) : Vec Ideal S1x64 .f32) = x
  pointwise
  exact congrArg x (by rw [lane_mod])

theorem v49 : V m c main_v49 = (shapeCast S8 (m (c.tc.loc main_arg5) : Vec Ideal S1x8 .f32) shapeCasts_S1x8_S8 : Vec Ideal S8 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  try rfl

theorem v49_at (a : Fin 8) : ((V m c main_v49 : Vec Ideal S8 .f32) (ix1 a) : EReal) = (m (c.tc.loc main_arg5) : Vec Ideal S1x8 .f32) (ix2 0 a) := by
  rw [v49]
  generalize (m (c.tc.loc main_arg5) : Vec Ideal S1x8 .f32) = x
  pointwise

end Cert.Proof.AttnTables

end
-- ==== Proof.AttnBlocks.lean ====
module

public import proofs.«01_k».proof.Proof.AttnTables
public import proofs.«01_k».proof.Proof.AttnPoint
public import Idealize.ShloMosaic.Lib.StableHlo.Run
public import Idealize.ShloMosaic.Lib.Tactic

/-!
What the attention's input windows hold at a grid point: point `p` works on batch `p / 4` and the 512 tokens from `p % 4 * 512`.
-/

@[expose] public section

set_option maxRecDepth 16384

noncomputable section

namespace Cert.Proof.AttnBlocks

open Idealize.ShloMosaic Idealize.ShloMosaic.TcCoe Cert.Kernel4Ideal Cert.Kernel4Ideal.Gen
open Cert.Proof.AttnSpec Cert.Proof.AttnNum Cert.Proof.AttnStep Cert.Proof.AttnPoint

/-- The arguments. -/
structure Args where
  q : FVec Ideal S32x2048x512 .f32
  kv : FVec Ideal S32x2048x256 .f32
  kc : FVec Ideal S32x256x256 .f32
  gq : FVec Ideal S1x64 .f32
  gk : FVec Ideal S1x64 .f32
  sk : FVec Ideal S1x8 .f32

/-- One sample's rows of the arguments. -/
def Args.qs (A : Args) (b : Fin 32) : Fin 2048 → Fin 512 → EReal := fun l c => A.q (ix3 b l c)
def Args.kvs (A : Args) (b : Fin 32) : Fin 2048 → Fin 256 → EReal := fun l c => A.kv (ix3 b l c)
def Args.kcs (A : Args) (b : Fin 32) : Fin 256 → Fin 256 → EReal := fun l c => A.kc (ix3 b l c)
def Args.gqs (A : Args) : Fin 64 → EReal := fun d => A.gq (ix2 0 d)
def Args.gks (A : Args) : Fin 64 → EReal := fun d => A.gk (ix2 0 d)
def Args.sks (A : Args) : Fin 8 → EReal := fun a => A.sk (ix2 0 a)

variable (m : (ℓ : Loc nD τ sig) → Buf (Elt Ideal) ℓ) (c : Dev nD) {A : Args}

/-- The argument buffers hold `A`. -/
structure Mem (A : Args) : Prop where
  q : m (c.tc.loc main_arg0) = A.q
  kv : m (c.tc.loc main_arg1) = A.kv
  kc : m (c.tc.loc main_arg2) = A.kc
  gq : m (c.tc.loc main_arg3) = A.gq
  gk : m (c.tc.loc main_arg4) = A.gk
  sk : m (c.tc.loc main_arg5) = A.sk

/-- The batch of a grid point. -/
def batch (t : Fin cfg0.N) : Fin 32 := ⟨t.val / 4, by have h : t.val < 128 := N_0 ▸ t.isLt; omega⟩

/-- The token in row `r` of a grid point's block. -/
def token (t : Fin cfg0.N) (r : Fin 512) : Fin 2048 := ⟨t.val % 4 * 512 + r.val, by omega⟩

/-- The quarter of a sample that a grid point works on. -/
def part (t : Fin cfg0.N) : Fin 4 := ⟨t.val % 4, by omega⟩

theorem second : ∀ t : Fin grid0.N, (grid0.coords t 1).val = t.val % 4 := by decide +kernel
theorem at0 : ∀ t : Fin grid0.N, win0_0.index t 0 = t.val / 4 ∧ win0_0.index t 1 = t.val % 4 ∧ win0_0.index t 2 = 0 := by decide +kernel
theorem at1 : ∀ t : Fin grid0.N, win0_1.index t 0 = t.val / 4 ∧ win0_1.index t 1 = 0 ∧ win0_1.index t 2 = 0 := by decide +kernel
theorem at2 : ∀ t : Fin grid0.N, win0_2.index t 0 = t.val / 4 ∧ win0_2.index t 1 = 0 ∧ win0_2.index t 2 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 := by decide +kernel
theorem at8 : ∀ t : Fin grid0.N, win0_8.index t 0 = t.val / 4 ∧ win0_8.index t 1 = t.val % 4 ∧ win0_8.index t 2 = 0 := by decide +kernel
theorem size8 : ∀ t : Fin grid0.N, win0_8.xsize (grid0.coords t) 0 = 1 ∧ win0_8.xsize (grid0.coords t) 1 = 512 ∧ win0_8.xsize (grid0.coords t) 2 = 512 := by decide +kernel

theorem q_at (H : Mem m c A) (p : Fin cfg0.N) (r : Fin 512) (j : Fin 512) :
    (iblk m c 0 p (ix3 0 r j) : EReal) = A.q (ix3 (batch p) (token p r) j) := by
  unfold iblk
  rw [View.read_apply]
  show V m c main_arg0 _ = _
  rw [V_main_arg0, H.q]
  refine congrArg A.q (funext fun a => Fin.ext ?_)
  match a with
  | ⟨0, _⟩ => show win0_0.index p 0 * 1 + 1 * 0 = p.val / 4; rw [(at0 p).1]; omega
  | ⟨1, _⟩ => show win0_0.index p 1 * 512 + 1 * r.val = p.val % 4 * 512 + r.val; rw [(at0 p).2.1]; omega
  | ⟨2, _⟩ => show win0_0.index p 2 * 512 + 1 * j.val = j.val; rw [(at0 p).2.2]; omega

theorem kv_at (H : Mem m c A) (p : Fin cfg0.N) (l : Fin 2048) (j : Fin 256) :
    (iblk m c 1 p (ix3 0 l j) : EReal) = A.kv (ix3 (batch p) l j) := by
  unfold iblk
  rw [View.read_apply]
  show V m c main_arg1 _ = _
  rw [V_main_arg1, H.kv]
  refine congrArg A.kv (funext fun a => Fin.ext ?_)
  match a with
  | ⟨0, _⟩ => show win0_1.index p 0 * 1 + 1 * 0 = p.val / 4; rw [(at1 p).1]; omega
  | ⟨1, _⟩ => show win0_1.index p 1 * 2048 + 1 * l.val = l.val; rw [(at1 p).2.1]; omega
  | ⟨2, _⟩ => show win0_1.index p 2 * 256 + 1 * j.val = j.val; rw [(at1 p).2.2]; omega

theorem kc_at (H : Mem m c A) (p : Fin cfg0.N) (l : Fin 256) (j : Fin 256) :
    (iblk m c 2 p (ix3 0 l j) : EReal) = A.kc (ix3 (batch p) l j) := by
  unfold iblk
  rw [View.read_apply]
  show V m c main_arg2 _ = _
  rw [V_main_arg2, H.kc]
  refine congrArg A.kc (funext fun a => Fin.ext ?_)
  match a with
  | ⟨0, _⟩ => show win0_2.index p 0 * 1 + 1 * 0 = p.val / 4; rw [(at2 p).1]; omega
  | ⟨1, _⟩ => show win0_2.index p 1 * 256 + 1 * l.val = l.val; rw [(at2 p).2.1]; omega
  | ⟨2, _⟩ => show win0_2.index p 2 * 256 + 1 * j.val = j.val; rw [(at2 p).2.2]; omega

theorem cos_at (p : Fin cfg0.N) (l : Fin 2048) (e : Fin 2) (d : Fin 64) :
    (iblk m c 3 p (ix2 l (lane e d)) : EReal) = Ideal.cos (angle l d) := by
  unfold iblk
  rw [View.read_apply]
  have hi : (((cfg0.win 3).blk p).view.emb (ix2 l (lane e d)) : (⟨2, ![2048, 128]⟩ : Shape).Idx) = ix2 l (lane e d) := by
    refine funext fun a => Fin.ext ?_
    match a with
    | ⟨0, _⟩ => show win0_3.index p 0 * 2048 + 1 * l.val = l.val; rw [(at3 p).1]; omega
    | ⟨1, _⟩ => show win0_3.index p 1 * 128 + 1 * (lane e d).val = (lane e d).val; rw [(at3 p).2]; omega
  exact (congrArg (V m c main_v35 : Vec Ideal ⟨2, ![2048, 128]⟩ .f32) hi).trans (AttnTables.cos_at m c l e d)

theorem sin_at (p : Fin cfg0.N) (l : Fin 2048) (e : Fin 2) (d : Fin 64) :
    (iblk m c 4 p (ix2 l (lane e d)) : EReal) = Ideal.sin (angle l d) * sgn d := by
  unfold iblk
  rw [View.read_apply]
  have hi : (((cfg0.win 4).blk p).view.emb (ix2 l (lane e d)) : (⟨2, ![2048, 128]⟩ : Shape).Idx) = ix2 l (lane e d) := by
    refine funext fun a => Fin.ext ?_
    match a with
    | ⟨0, _⟩ => show win0_4.index p 0 * 2048 + 1 * l.val = l.val; rw [(at4 p).1]; omega
    | ⟨1, _⟩ => show win0_4.index p 1 * 128 + 1 * (lane e d).val = (lane e d).val; rw [(at4 p).2]; omega
  exact (congrArg (V m c main_v38 : Vec Ideal ⟨2, ![2048, 128]⟩ .f32) hi).trans (AttnTables.sin_at m c l e d)

theorem gq_at (H : Mem m c A) (p : Fin cfg0.N) (e : Fin 2) (d : Fin 64) :
    (iblk m c 5 p (ix2 0 (lane e d)) : EReal) = A.gq (ix2 0 d) := by
  unfold iblk
  rw [View.read_apply]
  have hi : (((cfg0.win 5).blk p).view.emb (ix2 0 (lane e d)) : (⟨2, ![1, 128]⟩ : Shape).Idx) = ix2 0 (lane e d) := by
    refine funext fun a => Fin.ext ?_
    match a with
    | ⟨0, _⟩ => show win0_5.index p 0 * 1 + 1 * 0 = 0; rw [(at5 p).1]
    | ⟨1, _⟩ => show win0_5.index p 1 * 128 + 1 * (lane e d).val = (lane e d).val; rw [(at5 p).2]; omega
  exact (congrArg (V m c main_v43 : Vec Ideal ⟨2, ![1, 128]⟩ .f32) hi).trans ((AttnTables.v43_at m c e d).trans (congrFun H.gq _))

theorem gk_at (H : Mem m c A) (p : Fin cfg0.N) (e : Fin 2) (d : Fin 64) :
    (iblk m c 6 p (ix2 0 (lane e d)) : EReal) = A.gk (ix2 0 d) := by
  unfold iblk
  rw [View.read_apply]
  have hi : (((cfg0.win 6).blk p).view.emb (ix2 0 (lane e d)) : (⟨2, ![1, 128]⟩ : Shape).Idx) = ix2 0 (lane e d) := by
    refine funext fun a => Fin.ext ?_
    match a with
    | ⟨0, _⟩ => show win0_6.index p 0 * 1 + 1 * 0 = 0; rw [(at6 p).1]
    | ⟨1, _⟩ => show win0_6.index p 1 * 128 + 1 * (lane e d).val = (lane e d).val; rw [(at6 p).2]; omega
  exact (congrArg (V m c main_v48 : Vec Ideal ⟨2, ![1, 128]⟩ .f32) hi).trans ((AttnTables.v48_at m c e d).trans (congrFun H.gk _))

theorem sk_at (H : Mem m c A) (p : Fin cfg0.N) (a : Fin 8) : (iblk m c 7 p (ix1 a) : EReal) = A.sk (ix2 0 a) := by
  unfold iblk
  rw [View.read_apply]
  have hi : (((cfg0.win 7).blk p).view.emb (ix1 a) : S8.Idx) = ix1 a := by
    refine funext fun k => Fin.ext ?_
    match k with
    | ⟨0, _⟩ => show win0_7.index p 0 * 8 + 1 * a.val = a.val; rw [at7 p]; omega
  exact (congrArg (V m c main_v49 : Vec Ideal S8 .f32) hi).trans ((AttnTables.v49_at m c a).trans (congrFun H.sk _))

/-- The windows that every point reads. -/
theorem wins (H : Mem m c A) (p : Fin cfg0.N) : Wins (A.qs (batch p)) A.gqs A.sks (grid0.coords p)
    (iblk m c 0 p) (iblk m c 3 p) (iblk m c 4 p) (iblk m c 5 p) (iblk m c 7 p) where
  q r j l h := (q_at m c H p r j).trans (congrArg (fun l => A.q (ix3 (batch p) l j)) (Fin.ext (by
    show p.val % 4 * 512 + r.val = l.val
    rw [h, second p]
    omega)))
  cos l e d := cos_at m c p l e d
  sin l e d := sin_at m c p l e d
  g e d := gq_at m c H p e d
  sk a := sk_at m c H p a

/-- The windows that the first point of a sample keeps from. -/
theorem fills (H : Mem m c A) (p : Fin cfg0.N) : Fills (A.kvs (batch p)) (A.kcs (batch p)) A.gks
    (iblk m c 1 p) (iblk m c 2 p) (iblk m c 6 p) where
  k l j := kv_at m c H p l j
  c l j := kc_at m c H p l j
  g e d := gk_at m c H p e d

end Cert.Proof.AttnBlocks

end
-- ==== Proof.AttnOut.lean ====
module

public import proofs.«01_k».proof.Proof.AttnBlocks
public import Idealize.ShloMosaic.Lib.Pipeline.Value

/-!
What the attention leaves: the scratch after every grid point, the block that a point leaves, and the array of all blocks.
-/

@[expose] public section

set_option maxRecDepth 16384

noncomputable section

namespace Cert.Proof.AttnOut

open Idealize.ShloMosaic Idealize.ShloMosaic.TcCoe Cert.Kernel4Ideal Cert.Kernel4Ideal.Gen
open Cert.Proof.AttnSpec Cert.Proof.AttnNum Cert.Proof.AttnStep Cert.Proof.AttnPoint Cert.Proof.AttnBlocks

/-- What the scratch holds while a batch is worked on. -/
structure Kept (A : Args) (b : Fin 32) (K V : Vec Ideal S2304x128 .bf16) (KC VC : Vec Ideal S256x128 .bf16) : Prop where
  k : K = pad (key (A.kvs b) A.gks)
  v : V = pad fun n d t => A.kvs b t (vcol n d)
  ck : KC = ckeys (A.kcs b) A.gks
  cv : VC = cvals (A.kcs b)

/-- The same, of what a point leaves. -/
def Left (A : Args) (b : Fin 32) (s : Vec Ideal S1x512x512 .f32 × Vec Ideal S2304x128 .bf16 × Vec Ideal S2304x128 .bf16 × Vec Ideal S256x128 .bf16 × Vec Ideal S256x128 .bf16) : Prop :=
  Kept A b s.2.1 s.2.2.1 s.2.2.2.1 s.2.2.2.2

theorem Kept.scr {A : Args} {b : Fin 32} {K V : Vec Ideal S2304x128 .bf16} {KC VC : Vec Ideal S256x128 .bf16} (h : Kept A b K V KC VC) :
    Scr (A.kvs b) (A.kcs b) A.gks K V KC VC := by
  obtain ⟨rfl, rfl, rfl, rfl⟩ := h
  exact scr_ok

variable (m : (ℓ : Loc nD τ sig) → Buf (Elt Ideal) ℓ) (c : Dev nD) {A : Args} (H : Mem m c A)
  (hN : ∀ b, Nums (A.qs b) (A.kvs b) (A.kcs b) A.gqs A.gks)

include H hN in
theorem first (p : Fin cfg0.N) (h0 : p.val % 4 = 0) : Left A (batch p) (outsAt0 m c p.val p.isLt) := by
  have W := wins m c H p
  have L := fills m c H p
  have e0 := keep0 (i := grid0.coords p) (x0 := iblk m c 0 p) (x1 := iblk m c 1 p) (x2 := iblk m c 2 p) (x3 := iblk m c 3 p) (x4 := iblk m c 4 p) (x5 := iblk m c 5 p) (x6 := iblk m c 6 p) (x7 := iblk m c 7 p) (hN (batch p)) W L c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) ((hcond0_0 p).mpr h0)
  have e1 := keep1 (i := grid0.coords p) (x0 := iblk m c 0 p) (x1 := iblk m c 1 p) (x2 := iblk m c 2 p) (x3 := iblk m c 3 p) (x4 := iblk m c 4 p) (x5 := iblk m c 5 p) (x6 := iblk m c 6 p) (x7 := iblk m c 7 p) L c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) ((hcond0_0 p).mpr h0)
  have e2 := keep2 (i := grid0.coords p) (x0 := iblk m c 0 p) (x1 := iblk m c 1 p) (x2 := iblk m c 2 p) (x3 := iblk m c 3 p) (x4 := iblk m c 4 p) (x5 := iblk m c 5 p) (x6 := iblk m c 6 p) (x7 := iblk m c 7 p) (hN (batch p)) L c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) ((hcond0_0 p).mpr h0)
  have e3 := keep3 (i := grid0.coords p) (x0 := iblk m c 0 p) (x1 := iblk m c 1 p) (x2 := iblk m c 2 p) (x3 := iblk m c 3 p) (x4 := iblk m c 4 p) (x5 := iblk m c 5 p) (x6 := iblk m c 6 p) (x7 := iblk m c 7 p) L c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) ((hcond0_0 p).mpr h0)
  rw [outsAt0_A m c p h0]
  unfold Left
  dsimp only
  constructor
  · rw [e0]
  · rw [e1]
  · rw [e2]
  · rw [e3]

include H hN in
theorem kept : ∀ (n : ℕ) (h : n < cfg0.N), Left A (batch ⟨n, h⟩) (outsAt0 m c n h)
  | 0, h => first m c H hN ⟨0, h⟩ rfl
  | n + 1, h => by
    by_cases h0 : (n + 1) % 4 = 0
    · exact first m c H hN ⟨n + 1, h⟩ h0
    · have ih := kept n (Nat.lt_of_succ_lt h)
      have e : batch ⟨n, Nat.lt_of_succ_lt h⟩ = batch ⟨n + 1, h⟩ := Fin.ext (by show n / 4 = (n + 1) / 4; omega)
      rw [e] at ih
      have hB := outsAt0_B m c ⟨n + 1, h⟩ h0
      rw [hB]
      exact ih

include H hN in
/-- The block that a point leaves. -/
theorem left (p : Fin cfg0.N) :
    (outsAt0 m c p.val p.isLt).1 = block (A.qs (batch p)) (A.kvs (batch p)) (A.kcs (batch p)) A.gqs A.gks A.sks (part p) := by
  have W := wins m c H p
  by_cases h0 : p.val % 4 = 0
  · have e := left_A (i := grid0.coords p) (x0 := iblk m c 0 p) (x1 := iblk m c 1 p) (x2 := iblk m c 2 p) (x3 := iblk m c 3 p) (x4 := iblk m c 4 p) (x5 := iblk m c 5 p) (x6 := iblk m c 6 p) (x7 := iblk m c 7 p) (hN (batch p)) W (fills m c H p) (part p) (second p) c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) ((hcond0_0 p).mpr h0)
    rw [outsAt0_A m c p h0]
    dsimp only
    rw [e]
  · have hp : p.val - 1 < cfg0.N := Nat.lt_of_le_of_lt (Nat.sub_le _ _) p.isLt
    have hk := kept m c H hN (p.val - 1) hp
    have e : batch ⟨p.val - 1, hp⟩ = batch p := Fin.ext (by show (p.val - 1) / 4 = p.val / 4; omega)
    rw [e] at hk
    have e := left_B (i := grid0.coords p) (x0 := iblk m c 0 p) (x1 := iblk m c 1 p) (x2 := iblk m c 2 p) (x3 := iblk m c 3 p) (x4 := iblk m c 4 p) (x5 := iblk m c 5 p) (x6 := iblk m c 6 p) (x7 := iblk m c 7 p) (hN (batch p)) W (part p) (second p) c (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) (fun h => h0 ((hcond0_0 p).mp h)) _ _ _ _ (Kept.scr hk)
    rw [outsAt0_B m c p h0]
    dsimp only
    rw [e]

/-- The attention's result as an array. -/
def arr (A : Args) : Vec Ideal S32x2048x512 .f32 := fun i =>
  out (A.qs (i 0)) (A.kvs (i 0)) (A.kcs (i 0)) A.gqs A.gks A.sks (i 1)
    ⟨(i 2).val / 64, by have h : (i 2).val < 512 := (i 2).isLt; omega⟩ ⟨(i 2).val % 64, by omega⟩

theorem eq_ix3 {m n : ℕ} (y : (⟨3, ![1, m, n]⟩ : Shape).Idx) : ∃ (r : Fin m) (d : Fin n), y = ix3 0 r d :=
  ⟨y 1, y 2, by
    refine funext fun a => ?_
    match a with
    | ⟨0, _⟩ => exact Subsingleton.elim (α := Fin 1) _ _
    | ⟨1, _⟩ => rfl
    | ⟨2, _⟩ => rfl⟩

include H hN in
theorem flushed8 (p : Fin cfg0.N) : (dats m 0 c).flushed 8 p = ((cfg0.win 8).blk p).view.read (Elt Ideal) (arr A) := by
  rw [Value.flushed8]
  funext y
  obtain ⟨r, d, rfl⟩ := eq_ix3 (m := 512) (n := 512) y
  refine (congrFun (left m c H hN p) _).trans ?_
  rw [View.read_apply]
  have hi : (((cfg0.win 8).blk p).view.emb (ix3 0 r d) : S32x2048x512.Idx) = ix3 (batch p) (token p r) d := by
    refine funext fun a => Fin.ext ?_
    match a with
    | ⟨0, _⟩ => show win0_8.index p 0 * 1 + 1 * 0 = p.val / 4; rw [(at8 p).1]; omega
    | ⟨1, _⟩ => show win0_8.index p 1 * 512 + 1 * r.val = p.val % 4 * 512 + r.val; rw [(at8 p).2.1]; omega
    | ⟨2, _⟩ => show win0_8.index p 2 * 512 + 1 * d.val = d.val; rw [(at8 p).2.2]; omega
  refine Eq.trans ?_ (congrArg (arr A) hi).symm
  refine congrArg (fun l => out _ _ _ _ _ _ l _ _) (Fin.ext ?_)
  show 512 * (p.val % 4) + r.val = p.val % 4 * 512 + r.val
  omega

include H hN in
theorem final8 : (dats m 0 c).arrAt 8 cfg0.N = arr A :=
  (dats m 0 c).arrAt_eq_of_cover 8 (arr A) (fun p _ => flushed8 m c H hN p) fun i => by
    have h0 : (i 0 : Nat) < 32 := (i 0).isLt
    have h1 : (i 1 : Nat) < 2048 := (i 1).isLt
    have h2 : (i 2 : Nat) < 512 := (i 2).isLt
    have hN : (i 0 : Nat) * 4 + (i 1 : Nat) / 512 < cfg0.N := by show _ < grid0.N; rw [N_0]; omega
    refine ⟨⟨(i 0 : Nat) * 4 + (i 1 : Nat) / 512, hN⟩, flush0_8 _, ?_⟩
    generalize hp : (⟨(i 0 : Nat) * 4 + (i 1 : Nat) / 512, hN⟩ : Fin cfg0.N) = p
    have hv : p.val = (i 0 : Nat) * 4 + (i 1 : Nat) / 512 := by rw [← hp]
    show i ∈ ((View.whole main_v50).slice (win0_8.rect p)).set
    rw [View.set_slice_whole, Rect.mem_set_unit]
    intro a
    match a with
    | ⟨0, _⟩ => show win0_8.index p 0 * 1 ≤ (i 0 : Nat) ∧ (i 0 : Nat) < win0_8.index p 0 * 1 + win0_8.xsize (grid0.coords p) 0
                rw [(at8 p).1, (size8 p).1]; omega
    | ⟨1, _⟩ => show win0_8.index p 1 * 512 ≤ (i 1 : Nat) ∧ (i 1 : Nat) < win0_8.index p 1 * 512 + win0_8.xsize (grid0.coords p) 1
                rw [(at8 p).2.1, (size8 p).2.1]; omega
    | ⟨2, _⟩ => show win0_8.index p 2 * 512 ≤ (i 2 : Nat) ∧ (i 2 : Nat) < win0_8.index p 2 * 512 + win0_8.xsize (grid0.coords p) 2
                rw [(at8 p).2.2, (size8 p).2.2]; omega

end Cert.Proof.AttnOut

end
-- ==== Proof.AttnRef.lean ====
module

public import proofs.«01_k».proof.Proof.Gen.Reference4Ideal.Run
public import proofs.«01_k».proof.Proof.AttnSpec
public import proofs.«01_k».proof.Proof.AttnNum
public import Idealize.ShloMosaic.Lib.KernelVsHost

/-!
The reference of the attention's call, read at its places: the queries and the keys, scaled, normalised and turned.
-/

@[expose] public section

set_option maxRecDepth 16384

noncomputable section

namespace Cert.Proof.AttnRef

open Idealize.ShloMosaic Idealize.ShloMosaic.TcCoe Cert.Reference4Ideal Cert.Reference4Ideal.Gen Cert.Reference4Ideal.Value
open Cert.Proof.AttnSpec

variable (V0 : Valuation τ sig (Elt Ideal))

def argQ : FVec Ideal S32x2048x512 .f32 := V0 (Proc.devRef .tc main_arg0)
def argKV : FVec Ideal S32x2048x256 .f32 := V0 (Proc.devRef .tc main_arg1)
def argKC : FVec Ideal S32x256x256 .f32 := V0 (Proc.devRef .tc main_arg2)
def argGQ : FVec Ideal S1x64 .f32 := V0 (Proc.devRef .tc main_arg3)
def argGK : FVec Ideal S1x64 .f32 := V0 (Proc.devRef .tc main_arg4)
def argSK : FVec Ideal S1x8 .f32 := V0 (Proc.devRef .tc main_arg5)

/-- A small word as a number. -/
theorem word (k : ℕ) (h : k < 2 ^ 31) : (FloatOps.sitofp (F := Ideal) .f32 (BitVec.ofNat 32 k) : EReal) = ((k : ℕ) : EReal) := by
  have e : (BitVec.ofNat 32 k).toInt = (k : ℤ) := by
    rw [BitVec.toInt_eq_toNat_of_lt (by rw [BitVec.toNat_ofNat]; omega), BitVec.toNat_ofNat]
    omega
  show (((BitVec.ofNat 32 k).toInt : ℝ) : EReal) = _
  rw [e]
  simp

theorem v2_at (l : Fin 2048) : (res_main_v2 V0 : Vec Ideal S2048 .i32) (ix1 l) = BitVec.ofNat 32 (l.val / 64) := by
  unfold res_main_v2
  pointwise

theorem v6_at (l : Fin 2048) : (res_main_v6 V0 : Vec Ideal S2048 .i32) (ix1 l) = BitVec.ofNat 32 (l.val % 64) := by
  unfold res_main_v6
  pointwise

theorem v34_at (l : Fin 2048) (j : Fin 16) : ((res_main_v34 V0 : Vec Ideal S2048x16 .f32) (ix2 l j) : EReal) = angle l ⟨j.val, by omega⟩ := by
  have h := v2_at V0 l
  unfold res_main_v34
  generalize (res_main_v2 V0 : Vec Ideal S2048 .i32) = a at *
  pointwise
  rw [h, word _ (show l.val / 64 < 2 ^ 31 by omega), word _ (show j.val < 2 ^ 31 by omega)]
  unfold angle freq
  rw [if_pos (show j.val < 32 by omega), show j.val % 16 = j.val by omega]

theorem v64_at (l : Fin 2048) (j : Fin 16) : ((res_main_v64 V0 : Vec Ideal S2048x16 .f32) (ix2 l j) : EReal) = angle l ⟨32 + j.val, by omega⟩ := by
  have h := v6_at V0 l
  unfold res_main_v64
  generalize (res_main_v6 V0 : Vec Ideal S2048 .i32) = a at *
  pointwise
  rw [h, word _ (show l.val % 64 < 2 ^ 31 by omega), word _ (show j.val < 2 ^ 31 by omega)]
  unfold angle freq
  rw [if_neg (show ¬32 + j.val < 32 by omega), show (32 + j.val) % 16 = j.val by omega]

theorem v7_at (b : Fin 32) (l : Fin 2048) (a : Fin 8) (d : Fin 64) : ((res_main_v7 V0 : Vec Ideal S32x2048x8x64 .f32) (ix4 b l a d) : EReal) = argQ V0 (ix3 b l (qcol a d)) := by
  unfold res_main_v7 argQ qcol
  pointwise

theorem v84_at (b : Fin 32) (l : Fin 2048) (n : Fin 2) (d : Fin 64) : ((res_main_v84 V0 : Vec Ideal S32x2048x2x64 .f32) (ix4 b l n d) : EReal) = argKV V0 (ix3 b l (kcol n d)) := by
  unfold res_main_v84 argKV kcol
  pointwise

theorem v21_at (b : Fin 32) (l : Fin 2048) (a : Fin 8) (d : Fin 64) : ((res_main_v21 V0 : Vec Ideal S32x2048x8x64 .f32) (ix4 b l a d) : EReal)
    = nrm (fun d => argQ V0 (ix3 b l (qcol a d))) (fun d => argGQ V0 (ix2 0 d)) d := by
  have h := v7_at V0 b l a
  unfold res_main_v21 nrm argGQ
  generalize (res_main_v7 V0 : Vec Ideal S32x2048x8x64 .f32) = x at *
  pointwise
  simp only [h]

theorem v98_at (b : Fin 32) (l : Fin 2048) (a : Fin 2) (d : Fin 64) : ((res_main_v98 V0 : Vec Ideal S32x2048x2x64 .f32) (ix4 b l a d) : EReal)
    = nrm (fun d => argKV V0 (ix3 b l (kcol a d))) (fun d => argGK V0 (ix2 0 d)) d := by
  have h := v84_at V0 b l a
  unfold res_main_v98 nrm argGK
  generalize (res_main_v84 V0 : Vec Ideal S32x2048x2x64 .f32) = x at *
  pointwise
  simp only [h]

theorem v163_at (b : Fin 32) (l : Fin 256) (n : Fin 2) (d : Fin 64) : ((res_main_v163 V0 : Vec Ideal S32x256x2x64 .f32) (ix4 b l n d) : EReal) = argKC V0 (ix3 b l (kcol n d)) := by
  unfold res_main_v163 argKC kcol
  pointwise

theorem angle_congr (l : Fin 2048) (d d' : Fin 64) (h : d.val < 32 ↔ d'.val < 32) (h2 : d.val % 16 = d'.val % 16) : angle l d = angle l d' := by
  unfold angle freq
  rw [h2, if_congr h rfl rfl]

/-- The turn of a head, spelt by halves and quarters. -/
theorem turn_cases (x : Fin 64 → EReal) (l : Fin 2048) (d : Fin 64) : (
    if h : d.val < 32 then
      if h1 : d.val < 16 then
        x d * Ideal.cos (angle l ⟨d.val, by omega⟩) - x ⟨16 + d.val, by omega⟩ * Ideal.sin (angle l ⟨d.val, by omega⟩)
      else x ⟨d.val - 16, by omega⟩ * Ideal.sin (angle l ⟨d.val - 16, by omega⟩)
        + x ⟨16 + (d.val - 16), by omega⟩ * Ideal.cos (angle l ⟨d.val - 16, by omega⟩)
    else
      if h1 : d.val - 32 < 16 then
        x ⟨32 + (d.val - 32), by omega⟩ * Ideal.cos (angle l ⟨32 + (d.val - 32), by omega⟩)
          - x ⟨32 + (16 + (d.val - 32)), by omega⟩ * Ideal.sin (angle l ⟨32 + (d.val - 32), by omega⟩)
      else x ⟨32 + (d.val - 32 - 16), by omega⟩ * Ideal.sin (angle l ⟨32 + (d.val - 32 - 16), by omega⟩)
        + x ⟨32 + (16 + (d.val - 32 - 16)), by omega⟩ * Ideal.cos (angle l ⟨32 + (d.val - 32 - 16), by omega⟩)) = turn x l d := by
  have hx (a b : Fin 64) (h : a.val = b.val) : x a = x b := congrArg x (Fin.ext h)
  have hu : (up d).val = (d.val + 16) % 64 := rfl
  have hd : (down d).val = (d.val + 48) % 64 := rfl
  unfold turn
  by_cases h : d.val < 32
  · by_cases h1 : d.val < 16
    · rw [dif_pos h, dif_pos h1, if_pos (by omega), hx (up d) ⟨16 + d.val, by omega⟩ (by rw [hu]; dsimp only; omega)]
    · rw [dif_pos h, dif_neg h1, if_neg (by omega), hx (down d) ⟨d.val - 16, by omega⟩ (by rw [hd]; dsimp only; omega),
        hx d ⟨16 + (d.val - 16), by omega⟩ (by dsimp only; omega),
        angle_congr l d ⟨d.val - 16, by omega⟩ (by dsimp only; omega) (by dsimp only; omega)]
  · by_cases h1 : d.val - 32 < 16
    · rw [dif_neg h, dif_pos h1, if_pos (by omega), hx (up d) ⟨32 + (16 + (d.val - 32)), by omega⟩ (by rw [hu]; dsimp only; omega),
        hx d ⟨32 + (d.val - 32), by omega⟩ (by dsimp only; omega),
        angle_congr l d ⟨32 + (d.val - 32), by omega⟩ (by dsimp only; omega) (by dsimp only; omega)]
    · rw [dif_neg h, dif_neg h1, if_neg (by omega), hx (down d) ⟨32 + (d.val - 32 - 16), by omega⟩ (by rw [hd]; dsimp only; omega),
        hx d ⟨32 + (16 + (d.val - 32 - 16)), by omega⟩ (by dsimp only; omega),
        angle_congr l d ⟨32 + (d.val - 32 - 16), by omega⟩ (by dsimp only; omega) (by dsimp only; omega)]

/-- The queries, turned. -/
theorem v182_at (b : Fin 32) (u : Fin 16) (r : Fin 128) (n : Fin 2) (g : Fin 4) (d : Fin 64) (l : Fin 2048) (a : Fin 8) (hl : l.val = u.val * 128 + r.val) (ha : a.val = n.val * 4 + g.val) :
    ((res_main_v182 V0 : Vec Ideal S32x16x128x2x4x64 .f32) (ix6 b u r n g d) : EReal)
    = query (fun l c => argQ V0 (ix3 b l c)) (fun d => argGQ V0 (ix2 0 d)) a l d := by
  have hb : u.val * 128 + r.val < 2048 := by
    clear hl
    omega
  have hc : n.val * 4 + g.val < 8 := by
    clear ha
    omega
  obtain rfl : l = ⟨u.val * 128 + r.val, hb⟩ := Fin.ext hl
  obtain rfl : a = ⟨n.val * 4 + g.val, hc⟩ := Fin.ext ha
  have h := v21_at V0 b ⟨u.val * 128 + r.val, by omega⟩ ⟨n.val * 4 + g.val, by omega⟩
  have h1 := v34_at V0 ⟨u.val * 128 + r.val, by omega⟩
  have h2 := v64_at V0 ⟨u.val * 128 + r.val, by omega⟩
  unfold res_main_v182 res_main_v36 res_main_v38 res_main_v66 res_main_v68 res_main_v39 res_main_v40 res_main_v69 res_main_v70 res_main_v22 res_main_v52
  generalize (res_main_v21 V0 : Vec Ideal S32x2048x8x64 .f32) = x at *
  generalize (res_main_v34 V0 : Vec Ideal S2048x16 .f32) = y at *
  generalize (res_main_v64 V0 : Vec Ideal S2048x16 .f32) = z at *
  pointwise
  simp only [h, h1, h2]
  exact turn_cases _ _ d

end Cert.Proof.AttnRef
end
-- ==== Proof.AttnKeys.lean ====
module

public import proofs.«01_k».proof.Proof.AttnRef

/-!
The reference's keys and values with the zeros before and behind, the blocks around a token, and the mask.
-/

@[expose] public section

set_option maxRecDepth 16384

noncomputable section

namespace Cert.Proof.AttnRef

open Idealize.ShloMosaic Idealize.ShloMosaic.TcCoe Cert.Reference4Ideal Cert.Reference4Ideal.Gen Cert.Reference4Ideal.Value
open Cert.Proof.AttnSpec

variable (V0 : Valuation τ sig (Elt Ideal))

/-- The word zero. -/
theorem word_zero : ((0 : ℕ) : EReal) = 0 := Nat.cast_zero

/-- The keys, turned and padded. -/
theorem v210_at (b : Fin 32) (u : Fin 18) (r : Fin 128) (n : Fin 2) (d : Fin 64) :
    ((res_main_v210 V0 : Vec Ideal S32x18x128x2x64 .f32) (ix5 b u r n d) : EReal)
    = padded (key (fun l c => argKV V0 (ix3 b l c)) (fun d => argGK V0 (ix2 0 d)) n d) (u.val * 128 + r.val) := by
  have h (l) := v98_at V0 b l n
  have h1 := v34_at V0
  have h2 := v64_at V0
  unfold res_main_v210 res_main_v113 res_main_v115 res_main_v143 res_main_v145 res_main_v116 res_main_v117 res_main_v146 res_main_v147 res_main_v99 res_main_v129
  rw [show res_main_v111 V0 = res_main_v34 V0 from rfl, show res_main_v141 V0 = res_main_v64 V0 from rfl]
  generalize (res_main_v98 V0 : Vec Ideal S32x2048x2x64 .f32) = x at *
  generalize (res_main_v34 V0 : Vec Ideal S2048x16 .f32) = y at *
  generalize (res_main_v64 V0 : Vec Ideal S2048x16 .f32) = z at *
  pointwise
  simp only [h, h1, h2]
  unfold padded key
  by_cases hp : 128 ≤ u.val * 128 + r.val ∧ u.val * 128 + r.val - 128 < 2048
  · refine (dif_pos hp).trans (Eq.trans ?_ (dif_pos (show 128 ≤ u.val * 128 + r.val ∧ u.val * 128 + r.val < 2176 by omega)).symm)
    exact turn_cases (nrm (fun d => argKV V0 (ix3 b ⟨u.val * 128 + r.val - 128, by omega⟩ (kcol n d))) (fun d => argGK V0 (ix2 0 d))) ⟨u.val * 128 + r.val - 128, by omega⟩ d
  · refine (dif_neg hp).trans (Eq.trans ?_ (dif_neg (show ¬(128 ≤ u.val * 128 + r.val ∧ u.val * 128 + r.val < 2176) by omega)).symm)
    exact (word 0 (by omega)).trans word_zero

theorem v241_at (b : Fin 32) (u : Fin 18) (r : Fin 128) (n : Fin 2) (d : Fin 64) :
    ((res_main_v241 V0 : Vec Ideal S32x18x128x2x64 .f32) (ix5 b u r n d) : EReal)
    = padded (fun t => argKV V0 (ix3 b t (vcol n d))) (u.val * 128 + r.val) := by
  unfold res_main_v241
  pointwise
  unfold padded
  by_cases hp : 128 ≤ u.val * 128 + r.val ∧ u.val * 128 + r.val - 128 < 2048
  · refine (dif_pos hp).trans (Eq.trans ?_ (dif_pos (show 128 ≤ u.val * 128 + r.val ∧ u.val * 128 + r.val < 2176 by omega)).symm)
    refine congrArg (fun c => argKV V0 (ix3 b _ c)) (Fin.ext ?_)
    show 128 + (n.val * 64 + d.val) = 128 + n.val * 64 + d.val
    omega
  · refine (dif_neg hp).trans (Eq.trans ?_ (dif_neg (show ¬(128 ≤ u.val * 128 + r.val ∧ u.val * 128 + r.val < 2176) by omega)).symm)
    exact (word 0 (by omega)).trans word_zero

/-- The three blocks around each block of tokens. -/
def band (X : FVec Ideal S32x18x128x2x64 .f32) : FVec Ideal S32x16x384x2x64 .f32 :=
  concatenate S32x16x384x2x64 2 [⟨S32x16x128x2x64, extractStridedSlice S32x16x128x2x64 ![0, 0, 0, 0, 0] X slices_S32x18x128x2x64_S32x16x128x2x64_0_0_0_0_0⟩,
    ⟨S32x16x128x2x64, extractStridedSlice S32x16x128x2x64 ![0, 1, 0, 0, 0] X slices_S32x18x128x2x64_S32x16x128x2x64_0_1_0_0_0⟩,
    ⟨S32x16x128x2x64, extractStridedSlice S32x16x128x2x64 ![0, 2, 0, 0, 0] X slices_S32x18x128x2x64_S32x16x128x2x64_0_2_0_0_0⟩]
    concatenates_S32x16x128x2x64_S32x16x128x2x64_S32x16x128x2x64_S32x16x384x2x64_d2

theorem band_at (X : FVec Ideal S32x18x128x2x64 .f32) (b : Fin 32) (u : Fin 16) (j : Fin 384) (n : Fin 2) (d : Fin 64) :
    band X (ix5 b u j n d) = X (ix5 b ⟨u.val + j.val / 128, by omega⟩ ⟨j.val % 128, by omega⟩ n d) := by
  have e (p p' : Fin 18) (q q' : Fin 128) (hp : p.val = p'.val) (hq : q.val = q'.val) : X (ix5 b p q n d) = X (ix5 b p' q' n d) := by
    rw [Fin.ext hp, Fin.ext hq]
  unfold band
  pointwise
  split
  · exact e _ _ _ _ (by dsimp only; omega) (by dsimp only; omega)
  · split
    · exact e _ _ _ _ (by dsimp only; omega) (by dsimp only; omega)
    · exact e _ _ _ _ (by dsimp only; omega) (by dsimp only; omega)

/-- The distance in words: at most 128 to the right. -/
theorem near_pos : ∀ n : Fin 256, IntOp.cmpi .sle (IntOp.absi (BitVec.ofNat 32 n.val)) 128#32 = if n.val ≤ 128 then 1#1 else 0#1 := by decide +kernel

/-- The same to the left. -/
theorem near_neg : ∀ n : Fin 257, IntOp.cmpi .sle (IntOp.absi (0#32 - BitVec.ofNat 32 n.val)) 128#32 = if n.val ≤ 128 then 1#1 else 0#1 := by decide +kernel

/-- A place not before the first. -/
theorem low_at : ∀ t : Fin 2304, IntOp.cmpi .sge (BitVec.ofNat 32 t.val - 128#32) 0#32 = if 128 ≤ t.val then 1#1 else 0#1 := by decide +kernel

/-- A place not behind the last. -/
theorem high_at : ∀ t : Fin 2304, IntOp.cmpi .slt (BitVec.ofNat 32 t.val - 128#32) 2048#32 = if t.val < 2176 then 1#1 else 0#1 := by decide +kernel

theorem near_at (r : Fin 128) (j : Fin 384) (w : BitVec 32) (hw : w = BitVec.ofNat 32 (r.val + 128) - BitVec.ofNat 32 j.val) :
    IntOp.cmpi .sle (IntOp.absi w) 128#32 = if r.val ≤ j.val ∧ j.val ≤ r.val + 256 then 1#1 else 0#1 := by
  by_cases h : j.val ≤ r.val + 128
  · have e : w = BitVec.ofNat 32 (r.val + 128 - j.val) := by
      subst hw
      apply BitVec.eq_of_toNat_eq
      simp only [BitVec.toNat_sub, BitVec.toNat_ofNat]
      omega
    rw [e, near_pos ⟨r.val + 128 - j.val, by omega⟩]
    exact if_congr (by dsimp only; omega) rfl rfl
  · have e : w = 0#32 - BitVec.ofNat 32 (j.val - (r.val + 128)) := by
      subst hw
      apply BitVec.eq_of_toNat_eq
      simp only [BitVec.toNat_sub, BitVec.toNat_ofNat]
      omega
    rw [e, near_neg ⟨j.val - (r.val + 128), by omega⟩]
    exact if_congr (by dsimp only; omega) rfl rfl

theorem and_ite (p q : Prop) [Decidable p] [Decidable q] : IntOp.andi (if p then 1#1 else 0#1) (if q then 1#1 else 0#1) = if p ∧ q then 1#1 else 0#1 := by
  by_cases hp : p <;> by_cases hq : q <;> simp [hp, hq, IntOp.andi]

/-- The places that a token sees. -/
def mask : Vec Ideal S16x128x384 .i1 :=
  andi (andi (cmpi .sle (absi (subi (broadcastInDim S16x128x384 ![0, 1, 2] bcast_S16x128x1_S16x128x384_0_1_2 (shapeCast _ (iotaInDim S2048 32 0) shapeCasts_S2048_S16x128x1)) (broadcastInDim S16x128x384 ![0, 1, 2] bcast_S16x1x384_S16x128x384_0_1_2 (res_main_v195 V0)))) (broadcastInDim S16x128x384 ![] bcast_S_S16x128x384 (constantI S_ 32 128#32))) (broadcastInDim S16x128x384 ![0, 1, 2] bcast_S16x1x384_S16x128x384_0_1_2 (cmpi .sge (res_main_v195 V0) (broadcastInDim S16x1x384 ![] bcast_S_S16x1x384 (constantI S_ 32 0#32))))) (broadcastInDim S16x128x384 ![0, 1, 2] bcast_S16x1x384_S16x128x384_0_1_2 (cmpi .slt (res_main_v195 V0) (broadcastInDim S16x1x384 ![] bcast_S_S16x1x384 (constantI S_ 32 2048#32))))

theorem mask_at (u : Fin 16) (r : Fin 128) (j : Fin 384) (l : Fin 2048) (hl : l.val = u.val * 128 + r.val) :
    mask V0 (ix3 u r j) = if seen l j.val then 1#1 else 0#1 := by
  have e1 : IntOp.addi (IntOp.subi (IntOp.muli (BitVec.ofNat 32 u.val) 128#32) 128#32) (BitVec.ofNat 32 j.val) = BitVec.ofNat 32 (u.val * 128 + j.val) - 128#32 := by
    show BitVec.ofNat 32 u.val * 128#32 - 128#32 + BitVec.ofNat 32 j.val = _
    apply BitVec.eq_of_toNat_eq
    simp only [BitVec.toNat_sub, BitVec.toNat_add, BitVec.toNat_mul, BitVec.toNat_ofNat]
    omega
  have e2 : IntOp.subi (BitVec.ofNat 32 (u.val * 128 + r.val)) (BitVec.ofNat 32 (u.val * 128 + j.val) - 128#32) = BitVec.ofNat 32 (r.val + 128) - BitVec.ofNat 32 j.val := by
    show BitVec.ofNat 32 (u.val * 128 + r.val) - (BitVec.ofNat 32 (u.val * 128 + j.val) - 128#32) = _
    apply BitVec.eq_of_toNat_eq
    simp only [BitVec.toNat_sub, BitVec.toNat_ofNat]
    omega
  unfold mask res_main_v195
  pointwise
  rw [e1, near_at r j _ e2, low_at ⟨u.val * 128 + j.val, by omega⟩, high_at ⟨u.val * 128 + j.val, by omega⟩, and_ite, and_ite]
  refine if_congr ?_ rfl rfl
  unfold seen
  dsimp only
  omega

end Cert.Proof.AttnRef
end
-- ==== Proof.AttnRows.lean ====
module

public import proofs.«01_k».proof.Proof.AttnRef
public import proofs.«01_k».proof.Proof.AttnKeys

/-!
The reference's scores, their softmax and the result, read at their places.
-/

@[expose] public section

set_option maxRecDepth 16384

noncomputable section

namespace Cert.Proof.AttnRef

open Idealize.ShloMosaic Idealize.ShloMosaic.TcCoe Cert.Reference4Ideal Cert.Reference4Ideal.Gen Cert.Reference4Ideal.Value
open Cert.Proof.AttnSpec

variable (V0 : Valuation τ sig (Elt Ideal))

def windowScores (K : FVec Ideal S32x16x384x2x64 .f32) (Q : FVec Ideal S32x16x128x2x4x64 .f32) : FVec Ideal S32x16x2x4x128x384 .f32 :=
  mulf (transpose S32x16x2x4x128x384 [0, 1, 2, 5, 4, 3] (Host.dotGeneral dot_S32x16x384x2x64_S32x16x128x2x4x64_S32x16x2x384x128x4_4_5_2_24_013_013 none K Q) transposes_S32x16x2x384x128x4_S32x16x2x4x128x384_0_1_2_5_4_3) (broadcastInDim S32x16x2x4x128x384 ![] bcast_S_S32x16x2x4x128x384 (constant S_ .f32 0x3E000000#32))

theorem windowScores_at (K : FVec Ideal S32x16x384x2x64 .f32) (Q : FVec Ideal S32x16x128x2x4x64 .f32) (b : Fin 32) (u : Fin 16) (n : Fin 2) (g : Fin 4) (r : Fin 128) (j : Fin 384) :
    windowScores K Q (ix6 b u n g r j) = (∑ d : Fin 64, K (ix5 b u j n d) * Q (ix6 b u r n g d)) * Ideal.ofBits .f32 0x3E000000#32 := by
  unfold windowScores
  pointwise

def contextKeys (K : FVec Ideal S32x256x2x64 .f32) : FVec Ideal S32x256x2x64 .f32 :=
  mulf (mulf K (broadcastInDim S32x256x2x64 ![0, 1, 2, 3] bcast_S32x256x2x1_S32x256x2x64_0_1_2_3 (Host.rsqrt (addf (Host.divf (broadcastInDim S32x256x2x1 ![0, 1, 2] bcast_S32x256x2_S32x256x2x1_0_1_2 (Host.reduceAdd (mulf K K) (constant S_ .f32 0x00000000#32) reducesTo_S32x256x2x64_S32x256x2_d3 h_S_)) (broadcastInDim S32x256x2x1 ![] bcast_S_S32x256x2x1 (constant S_ .f32 0x42800000#32))) (broadcastInDim S32x256x2x1 ![] bcast_S_S32x256x2x1 (constant S_ .f32 0x358637BD#32)))))) (broadcastInDim S32x256x2x64 ![0, 1, 2, 3] bcast_S1x1x1x64_S32x256x2x64_0_1_2_3 (broadcastInDim S1x1x1x64 ![3] bcast_S64_S1x1x1x64_3 (shapeCast _ (argGK V0) shapeCasts_S1x64_S64)))

theorem contextKeys_at (K : FVec Ideal S32x256x2x64 .f32) (b : Fin 32) (l : Fin 256) (n : Fin 2) (d : Fin 64) :
    contextKeys V0 K (ix4 b l n d) = nrm (fun d => K (ix4 b l n d)) (fun d => argGK V0 (ix2 0 d)) d := by
  unfold contextKeys nrm
  pointwise

def contextScores (K : FVec Ideal S32x256x2x64 .f32) (Q : FVec Ideal S32x16x128x2x4x64 .f32) : FVec Ideal S32x16x2x4x128x256 .f32 :=
  mulf (transpose S32x16x2x4x128x256 [0, 3, 1, 5, 4, 2] (Host.dotGeneral dot_S32x256x2x64_S32x16x128x2x4x64_S32x2x256x16x128x4_3_5_1_124_02_03 none K Q) transposes_S32x2x256x16x128x4_S32x16x2x4x128x256_0_3_1_5_4_2) (broadcastInDim S32x16x2x4x128x256 ![] bcast_S_S32x16x2x4x128x256 (constant S_ .f32 0x3E000000#32))

theorem contextScores_at (K : FVec Ideal S32x256x2x64 .f32) (Q : FVec Ideal S32x16x128x2x4x64 .f32) (b : Fin 32) (u : Fin 16) (n : Fin 2) (g : Fin 4) (r : Fin 128) (j : Fin 256) :
    contextScores K Q (ix6 b u n g r j) = (∑ d : Fin 64, K (ix4 b j n d) * Q (ix6 b u r n g d)) * Ideal.ofBits .f32 0x3E000000#32 := by
  unfold contextScores
  pointwise

/-- All scores of a token: the window's under the mask, the context's and the sink's. -/
def allScores (M : Vec Ideal S16x128x384 .i1) (W : FVec Ideal S32x16x2x4x128x384 .f32) (C : FVec Ideal S32x16x2x4x128x256 .f32) (S : FVec Ideal S1x8 .f32) : FVec Ideal S32x16x2x4x128x641 .f32 :=
  concatenate S32x16x2x4x128x641 5 [⟨S32x16x2x4x128x384, select (broadcastInDim S32x16x2x4x128x384 ![1, 2, 3, 4, 5] bcast_S16x1x1x128x384_S32x16x2x4x128x384_1_2_3_4_5 (broadcastInDim S16x1x1x128x384 ![0, 3, 4] bcast_S16x128x384_S16x1x1x128x384_0_3_4 M)) W (broadcastInDim S32x16x2x4x128x384 ![] bcast_S_S32x16x2x4x128x384 (id (constant S_ .f32 0xF149F2CA#32)))⟩,
    ⟨S32x16x2x4x128x256, C⟩,
    ⟨S32x16x2x4x128x1, broadcastInDim S32x16x2x4x128x1 ![2, 3, 4, 5] bcast_S2x4x1x1_S32x16x2x4x128x1_2_3_4_5 (shapeCast _ (shapeCast _ S shapeCasts_S1x8_S8) shapeCasts_S8_S2x4x1x1)⟩]
    concatenates_S32x16x2x4x128x384_S32x16x2x4x128x256_S32x16x2x4x128x1_S32x16x2x4x128x641_d5

theorem v228_eq : res_main_v228 V0 = allScores (mask V0) (windowScores (band (res_main_v210 V0)) (res_main_v182 V0))
    (contextScores (contextKeys V0 (res_main_v163 V0)) (res_main_v182 V0)) (argSK V0) := rfl

theorem allScores_at (M : Vec Ideal S16x128x384 .i1) (W : FVec Ideal S32x16x2x4x128x384 .f32) (C : FVec Ideal S32x16x2x4x128x256 .f32) (S : FVec Ideal S1x8 .f32)
    (b : Fin 32) (u : Fin 16) (n : Fin 2) (g : Fin 4) (r : Fin 128) (j : Fin 641) : (allScores M W C S (ix6 b u n g r j) : EReal) =
    if h : j.val < 384 then Scalar.select (M (ix3 u r ⟨j.val, h⟩)) (W (ix6 b u n g r ⟨j.val, h⟩)) (Ideal.ofBits .f32 0xF149F2CA#32)
    else if h1 : j.val < 640 then C (ix6 b u n g r ⟨j.val - 384, by omega⟩) else S (ix2 0 ⟨n.val * 4 + g.val, by omega⟩) := by
  unfold allScores
  pointwise
  by_cases h : j.val < 384
  · rw [dif_pos h, dif_pos h]
    rfl
  · rw [dif_neg h, dif_neg h]
    by_cases h1 : j.val < 640
    · rw [dif_pos (by omega), dif_pos h1]
    · rw [dif_neg (by omega), dif_neg h1]
      try rfl

/-- One row of scores. -/
def rowOf (x : FVec Ideal S32x16x2x4x128x641 .f32) (b : Fin 32) (u : Fin 16) (n : Fin 2) (g : Fin 4) (r : Fin 128) : Fin 641 → EReal := fun k => x (ix6 b u n g r k)

/-- The indices of one row of scores. -/
theorem row_iff (b : Fin 32) (u : Fin 16) (n : Fin 2) (g : Fin 4) (r : Fin 128) (i : S32x16x2x4x128x641.Idx) :
    reducesTo_S32x16x2x4x128x641_S32x16x2x4x128_d5.drop i = ix5 b u n g r ↔ ∃ k : Fin 641, ix6 b u n g r k = i := by
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem row_inj (b : Fin 32) (u : Fin 16) (n : Fin 2) (g : Fin 4) (r : Fin 128) :
    Function.Injective fun k : Fin 641 => (ix6 b u n g r k : S32x16x2x4x128x641.Idx) := fun _ _ e => congrFun e 5

/-- The sum of one row. -/
theorem row_sum (x : FVec Ideal S32x16x2x4x128x641 .f32) (b : Fin 32) (u : Fin 16) (n : Fin 2) (g : Fin 4) (r : Fin 128) :
    Ideal.hostReduceAdd reducesTo_S32x16x2x4x128x641_S32x16x2x4x128_d5 x 0 (ix5 b u n g r) = ∑ k : Fin 641, rowOf x b u n g r k := by
  unfold Ideal.hostReduceAdd
  rw [zero_add]
  exact Finset.sum_filter_eq_sum_of_fiber _ _ (row_inj b u n g r) (row_iff b u n g r) _

/-- The largest entries of all rows. -/
def topsOf (x : FVec Ideal S32x16x2x4x128x641 .f32) : FVec Ideal S32x16x2x4x128 .f32 :=
  maximumf (broadcastInDim S32x16x2x4x128 ![] bcast_S_S32x16x2x4x128 (constant S_ .f32 0xFF800000#32)) (Host.reduce FloatOps.maximumf x (constant S_ .f32 0xFF800000#32) reducesTo_S32x16x2x4x128x641_S32x16x2x4x128_d5 h_S_)

/-- A fold over one row. -/
theorem row_fold {α : Type} (f : α → α → α) [Std.Commutative f] [Std.Associative f] (x : S32x16x2x4x128x641.Idx → α) (z : S_.Idx → α)
    (b : Fin 32) (u : Fin 16) (n : Fin 2) (g : Fin 4) (r : Fin 128) :
    Host.reduce f x z reducesTo_S32x16x2x4x128x641_S32x16x2x4x128_d5 h_S_ (ix5 b u n g r) = Finset.univ.fold f (z (Shape.Idx.first h_S_)) fun k : Fin 641 => x (ix6 b u n g r k) :=
  (Host.reduce_eq_fold f x z reducesTo_S32x16x2x4x128x641_S32x16x2x4x128_d5 h_S_ (ix5 b u n g r)).trans
    (Finset.fold_filter_eq_fold_of_fiber f (fun i => reducesTo_S32x16x2x4x128x641_S32x16x2x4x128_d5.drop i = ix5 b u n g r)
      (fun k : Fin 641 => (ix6 b u n g r k : S32x16x2x4x128x641.Idx)) (row_inj b u n g r) (row_iff b u n g r) (z (Shape.Idx.first h_S_)) x)

/-- The larger of a constant and an entry. -/
theorem over_at (y : FVec Ideal S32x16x2x4x128 .f32) (i : S32x16x2x4x128.Idx) :
    (maximumf (broadcastInDim S32x16x2x4x128 ![] bcast_S_S32x16x2x4x128 (constant S_ .f32 0xFF800000#32)) y i : EReal) = max (Ideal.ofBits .f32 0xFF800000#32) (y i) := rfl

/-- A fold by an operation that is the maximum. -/
theorem fold_max_of (f : EReal → EReal → EReal) [Std.Commutative f] [Std.Associative f] (hf : f = max) (c : EReal) (v : Fin 641 → EReal) :
    Finset.univ.fold f c v = Finset.univ.fold max c v := by
  subst hf
  rfl

theorem top_of_row (x : FVec Ideal S32x16x2x4x128x641 .f32) (b : Fin 32) (u : Fin 16) (n : Fin 2) (g : Fin 4) (r : Fin 128) :
    (Host.reduce FloatOps.maximumf x (constant S_ .f32 0xFF800000#32) reducesTo_S32x16x2x4x128x641_S32x16x2x4x128_d5 h_S_ (ix5 b u n g r) : Ideal .f32)
    = Finset.univ.fold max (Ideal.ofBits .f32 0xFF800000#32) (rowOf x b u n g r) :=
  (row_fold (α := Ideal .f32) FloatOps.maximumf x (constant S_ .f32 0xFF800000#32) b u n g r).trans
    (fold_max_of (FloatOps.maximumf (F := Ideal) (φ := .f32)) rfl _ _)

theorem topsOf_at (x : FVec Ideal S32x16x2x4x128x641 .f32) (b : Fin 32) (u : Fin 16) (n : Fin 2) (g : Fin 4) (r : Fin 128) :
    (topsOf x (ix5 b u n g r) : EReal) = Finset.univ.fold max (Ideal.ofBits .f32 0xFF800000#32) (rowOf x b u n g r) := by
  have e := top_of_row x b u n g r
  unfold topsOf
  generalize Host.reduce FloatOps.maximumf x (constant S_ .f32 0xFF800000#32) reducesTo_S32x16x2x4x128x641_S32x16x2x4x128_d5 h_S_ = y at *
  refine (over_at y _).trans ((congrArg (max (Ideal.ofBits .f32 0xFF800000#32)) e).trans ?_)
  exact max_eq_right ((Finset.le_fold_max _).mpr (Or.inl (le_refl _)))

/-- The exponentials of all rows, each from its largest entry down. -/
def expsOf (x : FVec Ideal S32x16x2x4x128x641 .f32) (t : FVec Ideal S32x16x2x4x128 .f32) : FVec Ideal S32x16x2x4x128x641 .f32 :=
  Host.exp (subf x (broadcastInDim S32x16x2x4x128x641 ![0, 1, 2, 3, 4, 5] bcast_S32x16x2x4x128x1_S32x16x2x4x128x641_0_1_2_3_4_5 (broadcastInDim S32x16x2x4x128x1 ![0, 1, 2, 3, 4] bcast_S32x16x2x4x128_S32x16x2x4x128x1_0_1_2_3_4 t)))

theorem expsOf_at (x : FVec Ideal S32x16x2x4x128x641 .f32) (t : FVec Ideal S32x16x2x4x128 .f32) (b : Fin 32) (u : Fin 16) (n : Fin 2) (g : Fin 4) (r : Fin 128) (j : Fin 641) :
    rowOf (expsOf x t) b u n g r j = Ideal.exp (rowOf x b u n g r j - t (ix5 b u n g r)) := by
  unfold rowOf expsOf
  pointwise

theorem v235_eq : res_main_v235 V0 = expsOf (res_main_v228 V0) (topsOf (res_main_v228 V0)) := rfl

/-- The exponentials of a row, from its largest entry down. -/
theorem v235_at (b : Fin 32) (u : Fin 16) (n : Fin 2) (g : Fin 4) (r : Fin 128) (j : Fin 641) : rowOf (res_main_v235 V0) b u n g r j =
    Ideal.exp (rowOf (res_main_v228 V0) b u n g r j - Finset.univ.fold max (Ideal.ofBits .f32 0xFF800000#32) (rowOf (res_main_v228 V0) b u n g r)) := by
  rw [v235_eq, expsOf_at, topsOf_at]

/-- The weights of a row. -/
theorem v239_at (b : Fin 32) (u : Fin 16) (n : Fin 2) (g : Fin 4) (r : Fin 128) (j : Fin 641) : rowOf (res_main_v239 V0) b u n g r j =
    Ideal.div (rowOf (res_main_v235 V0) b u n g r j) (∑ k : Fin 641, rowOf (res_main_v235 V0) b u n g r k) := by
  unfold res_main_v239
  generalize (res_main_v235 V0 : Vec Ideal S32x16x2x4x128x641 .f32) = x at *
  unfold rowOf
  pointwise
  exact congrArg (Ideal.div _) (row_sum x b u n g r)

/-- The result from the band's values, the context's and the weights. -/
def result (V : FVec Ideal S32x16x384x2x64 .f32) (VC : FVec Ideal S32x256x256 .f32) (P : FVec Ideal S32x16x2x4x128x641 .f32) : FVec Ideal S32x2048x512 .f32 :=
  shapeCast _ (addf (transpose S32x16x128x2x4x64 [0, 1, 5, 2, 4, 3] (Host.dotGeneral dot_S32x16x384x2x64_S32x16x2x4x128x384_S32x16x2x64x4x128_2_5_4_34_013_012 none V
      (extractStridedSlice S32x16x2x4x128x384 ![0, 0, 0, 0, 0, 0] P slices_S32x16x2x4x128x641_S32x16x2x4x128x384_0_0_0_0_0_0)) transposes_S32x16x2x64x4x128_S32x16x128x2x4x64_0_1_5_2_4_3)
    (transpose S32x16x128x2x4x64 [0, 3, 5, 1, 4, 2] (Host.dotGeneral dot_S32x256x2x64_S32x16x2x4x128x256_S32x2x64x16x4x128_1_5_3_134_02_02 none
      (shapeCast _ (extractStridedSlice S32x256x128 ![0, 0, 128] VC slices_S32x256x256_S32x256x128_0_0_128) shapeCasts_S32x256x128_S32x256x2x64)
      (extractStridedSlice S32x16x2x4x128x256 ![0, 0, 0, 0, 0, 384] P slices_S32x16x2x4x128x641_S32x16x2x4x128x256_0_0_0_0_0_384)) transposes_S32x2x64x16x4x128_S32x16x128x2x4x64_0_3_5_1_4_2)) shapeCasts_S32x16x128x2x4x64_S32x2048x512

theorem result_at (V : FVec Ideal S32x16x384x2x64 .f32) (VC : FVec Ideal S32x256x256 .f32) (P : FVec Ideal S32x16x2x4x128x641 .f32)
    (b : Fin 32) (l : Fin 2048) (c : Fin 512) : (result V VC P (ix3 b l c) : EReal) =
    ∑ x : Fin 384, (V (ix5 b ⟨l.val / 128, by omega⟩ x ⟨c.val / 256, by omega⟩ ⟨c.val % 64, by omega⟩) : EReal) * P (ix6 b ⟨l.val / 128, by omega⟩ ⟨c.val / 256, by omega⟩ ⟨c.val / 64 % 4, by omega⟩ ⟨l.val % 128, by omega⟩ ⟨x.val, by omega⟩)
    + ∑ x : Fin 256, (VC (ix3 b x ⟨128 + (c.val / 256 * 64 + c.val % 64), by omega⟩) : EReal) * P (ix6 b ⟨l.val / 128, by omega⟩ ⟨c.val / 256, by omega⟩ ⟨c.val / 64 % 4, by omega⟩ ⟨l.val % 128, by omega⟩ ⟨384 + x.val, by omega⟩) := by
  unfold result
  pointwise

end Cert.Proof.AttnRef
end
-- ==== Proof.AttnSoft.lean ====
module

public import proofs.«01_k».proof.Proof.AttnSpec
public import proofs.«01_k».proof.Proof.Sums

/-!
The softmax over the scores and the sink, with each weight divided by the sum, is the spec's, which divides once at the end. The scores
and the sink are finite; the values may be infinite.
-/

@[expose] public section

noncomputable section

namespace Cert.Proof.AttnSoft

open Idealize.ShloMosaic Cert.Proof.AttnSpec Cert.Proof.Sums

/-- A factor that is positive and finite goes into a sum, whatever the terms. -/
theorem sum_mul_pos {ι : Type} (s : Finset ι) (f : ι → EReal) {c : EReal} (h0 : 0 ≤ c) (hc : c ≠ ⊤) : (∑ i ∈ s, f i) * c = ∑ i ∈ s, f i * c := by
  classical
  induction s using Finset.induction_on with
  | empty => simp
  | insert a t ha ih => rw [Finset.sum_insert ha, Finset.sum_insert ha, EReal.right_distrib_of_nonneg_of_ne_top h0 hc, ih]

theorem low : Ideal.ofBits .f32 0xFF800000#32 = ⊥ := by simp [Ideal.ofBits, Ideal.ieee]

/-- The largest of finitely many finite numbers and one more. -/
theorem topNum {s : Fin 640 → EReal} {k : EReal} (hs : ∀ j, IsNum (s j)) (hk : IsNum k) : IsNum (top s k) := by
  have h1 : top s k ≠ ⊥ := by
    obtain ⟨r, rfl⟩ := hk
    have h : ((r : ℝ) : EReal) ≤ top s r := le_max_right _ _
    intro e
    rw [e] at h
    exact absurd (le_bot_iff.mp h) (EReal.coe_ne_bot r)
  have h2 : top s k ≠ ⊤ := by
    have h : top s k < ⊤ := by
      unfold top
      refine max_lt ?_ ?_
      · rw [Finset.fold_max_lt]
        refine ⟨?_, fun j _ => ?_⟩
        · rw [low]
          exact bot_lt_top
        · obtain ⟨r, hr⟩ := hs j
          rw [hr]
          exact EReal.coe_lt_top r
      · obtain ⟨r, rfl⟩ := hk
        exact EReal.coe_lt_top r
    exact h.ne
  exact ⟨_, (EReal.coe_toReal h2 h1).symm⟩

/-- The largest of the scores with the sink behind them. -/
theorem top_all (S : Fin 641 → EReal) (s : Fin 640 → EReal) (k : EReal) (h1 : ∀ j : Fin 640, S ⟨j.val, by omega⟩ = s j) (h2 : S ⟨640, by omega⟩ = k) :
    Finset.univ.fold max (Ideal.ofBits .f32 0xFF800000#32) S = top s k := by
  refine le_antisymm ?_ ?_
  · rw [Finset.fold_max_le]
    refine ⟨by rw [low]; exact bot_le, fun j _ => ?_⟩
    by_cases h : j.val < 640
    · rw [show S j = s ⟨j.val, h⟩ from h1 ⟨j.val, h⟩]
      refine le_trans ?_ (le_max_left _ _)
      exact (Finset.le_fold_max _).mpr (Or.inr ⟨_, Finset.mem_univ _, le_refl _⟩)
    · have e : j = ⟨640, by omega⟩ := Fin.ext (by have := j.isLt; show j.val = 640; omega)
      rw [e, h2]
      exact le_max_right _ _
  · unfold top
    refine max_le ?_ ?_
    · rw [Finset.fold_max_le]
      refine ⟨by rw [low]; exact bot_le, fun j _ => ?_⟩
      rw [← h1 j]
      exact (Finset.le_fold_max _).mpr (Or.inr ⟨_, Finset.mem_univ _, le_refl _⟩)
    · rw [← h2]
      exact (Finset.le_fold_max _).mpr (Or.inr ⟨_, Finset.mem_univ _, le_refl _⟩)

/-- The exponential of a difference of finite numbers. -/
theorem expNum {x y : EReal} (hx : IsNum x) (hy : IsNum y) : ∃ r : ℝ, 0 < r ∧ Ideal.exp (x - y) = (r : EReal) := by
  obtain ⟨a, rfl⟩ := hx
  obtain ⟨b, rfl⟩ := hy
  exact ⟨Real.exp (a - b), Real.exp_pos _, rfl⟩

/-- A sum of positive finite numbers, with one more. -/
theorem sumPos {n : ℕ} {f : Fin n → EReal} (hf : ∀ j, ∃ r : ℝ, 0 < r ∧ f j = (r : EReal)) {k : EReal} (hk : ∃ r : ℝ, 0 < r ∧ k = (r : EReal)) :
    ∃ r : ℝ, 0 < r ∧ ∑ j, f j + k = (r : EReal) := by
  have h : ∀ t : Finset (Fin n), ∃ r : ℝ, 0 ≤ r ∧ ∑ j ∈ t, f j = (r : EReal) := by
    classical
    intro t
    induction t using Finset.induction_on with
    | empty => exact ⟨0, le_refl _, by simp⟩
    | insert a t ha ih =>
      obtain ⟨r, hr, e⟩ := ih
      obtain ⟨q, hq, e'⟩ := hf a
      exact ⟨q + r, add_nonneg hq.le hr, by rw [Finset.sum_insert ha, e, e', EReal.coe_add]⟩
  obtain ⟨r, hr, e⟩ := h Finset.univ
  obtain ⟨q, hq, rfl⟩ := hk
  exact ⟨r + q, add_pos_of_nonneg_of_pos hr hq, by rw [e, EReal.coe_add]⟩

theorem att_eq (S : Fin 641 → EReal) (s : Fin 640 → EReal) (k : EReal) (v : Fin 640 → EReal) (hs : ∀ j, IsNum (s j)) (hk : IsNum k)
    (h1 : ∀ j : Fin 640, S ⟨j.val, by omega⟩ = s j) (h2 : S ⟨640, by omega⟩ = k) (E : Fin 641 → EReal)
    (hE : ∀ j, E j = Ideal.exp (S j - Finset.univ.fold max (Ideal.ofBits .f32 0xFF800000#32) S)) :
    ∑ x : Fin 384, v ⟨x.val, by omega⟩ * Ideal.div (E ⟨x.val, by omega⟩) (∑ j, E j)
      + ∑ x : Fin 256, v ⟨384 + x.val, by omega⟩ * Ideal.div (E ⟨384 + x.val, by omega⟩) (∑ j, E j) = att s k v := by
  have hT := top_all S s k h1 h2
  have e1 (j : Fin 640) : E ⟨j.val, by omega⟩ = Ideal.exp (s j - top s k) := by rw [hE, hT, h1]
  have e2 : E ⟨640, by omega⟩ = Ideal.exp (k - top s k) := by rw [hE, hT, h2]
  have hsum : ∑ j, E j = ∑ j : Fin 640, Ideal.exp (s j - top s k) + Ideal.exp (k - top s k) := by
    rw [Fin.sum_univ_castSucc]
    exact congrArg₂ (· + ·) (Finset.sum_congr rfl fun j _ => e1 j) e2
  obtain ⟨D, hD, hd⟩ := sumPos (fun j => expNum (hs j) (topNum hs hk)) (expNum hk (topNum hs hk))
  unfold att
  rw [hsum, hd]
  have hD0 : ((D : ℝ) : EReal) ≠ 0 := by rw [Ne, EReal.coe_eq_zero]; exact hD.ne'
  have hdiv (x : EReal) : Ideal.div x (D : EReal) = x * ((D⁻¹ : ℝ) : EReal) := by
    unfold Ideal.div
    rw [if_neg hD0, EReal.coe_inv]
  have hinv : (0 : EReal) ≤ ((D⁻¹ : ℝ) : EReal) := EReal.coe_nonneg.mpr (inv_pos.mpr hD).le
  rw [hdiv 1, one_mul, sum_mul_pos _ _ hinv (EReal.coe_ne_top _)]
  refine Eq.trans ?_ (Fin.sum_univ_add (a := 384) (b := 256) fun j : Fin 640 => Ideal.exp (s j - top s k) * v j * ((D⁻¹ : ℝ) : EReal)).symm
  refine congrArg₂ (· + ·) (Finset.sum_congr rfl fun x _ => ?_) (Finset.sum_congr rfl fun x _ => ?_)
  · rw [hdiv, e1 ⟨x.val, by omega⟩, ← mul_assoc, mul_comm (v _)]
    rfl
  · rw [hdiv, e1 ⟨384 + x.val, by omega⟩, ← mul_assoc, mul_comm (v _)]
    rfl

end Cert.Proof.AttnSoft

end
-- ==== Proof.AttnJoin.lean ====
module

public import proofs.«01_k».proof.Proof.AttnRows
public import proofs.«01_k».proof.Proof.AttnSoft
public import proofs.«01_k».proof.Proof.AttnNum

/-!
The reference's result of the attention's call is the spec's, where the scores are finite.
-/

@[expose] public section

set_option maxRecDepth 16384

noncomputable section

namespace Cert.Proof.AttnRef

open Idealize.ShloMosaic Idealize.ShloMosaic.TcCoe Cert.Reference4Ideal Cert.Reference4Ideal.Gen Cert.Reference4Ideal.Value
open Cert.Proof.AttnSpec Cert.Proof.Sums

variable (V0 : Valuation τ sig (Elt Ideal))

/-- One sample's rows. -/
def qs (b : Fin 32) : Fin 2048 → Fin 512 → EReal := fun l c => argQ V0 (ix3 b l c)
def kvs (b : Fin 32) : Fin 2048 → Fin 256 → EReal := fun l c => argKV V0 (ix3 b l c)
def kcs (b : Fin 32) : Fin 256 → Fin 256 → EReal := fun l c => argKC V0 (ix3 b l c)
def gqs : Fin 64 → EReal := fun d => argGQ V0 (ix2 0 d)
def gks : Fin 64 → EReal := fun d => argGK V0 (ix2 0 d)
def sks : Fin 8 → EReal := fun a => argSK V0 (ix2 0 a)

/-- The places of a token and of a head. -/
def blk (l : Fin 2048) : Fin 16 := ⟨l.val / 128, by omega⟩
def pos (l : Fin 2048) : Fin 128 := ⟨l.val % 128, by omega⟩
def grp (a : Fin 8) : Fin 4 := ⟨a.val % 4, by omega⟩

theorem hl (l : Fin 2048) : l.val = (blk l).val * 128 + (pos l).val := by
  show l.val = l.val / 128 * 128 + l.val % 128
  omega

theorem ha (a : Fin 8) : a.val = (kvOf a).val * 4 + (grp a).val := by
  show a.val = a.val / 4 * 4 + a.val % 4
  omega

theorem padded_congr (f : Fin 2048 → EReal) {p p' : ℕ} (h : p = p') : padded f p = padded f p' := by rw [h]

/-- The keys of the three blocks around a token's. -/
theorem bandKey (b : Fin 32) (l : Fin 2048) (n : Fin 2) (d : Fin 64) (j : Fin 384) :
    (band (res_main_v210 V0) (ix5 b (blk l) j n d) : EReal) = padded (key (kvs V0 b) (gks V0) n d) (l.val / 128 * 128 + j.val) := by
  refine (band_at _ b (blk l) j n d).trans ((v210_at V0 b _ _ n d).trans (padded_congr _ ?_))
  show (l.val / 128 + j.val / 128) * 128 + j.val % 128 = _
  omega

/-- The values of the three blocks around a token's. -/
theorem bandVal (b : Fin 32) (l : Fin 2048) (n : Fin 2) (d : Fin 64) (j : Fin 384) :
    (band (res_main_v241 V0) (ix5 b (blk l) j n d) : EReal) = padded (fun t => kvs V0 b t (vcol n d)) (l.val / 128 * 128 + j.val) := by
  refine (band_at _ b (blk l) j n d).trans ((v241_at V0 b _ _ n d).trans (padded_congr _ ?_))
  show (l.val / 128 + j.val / 128) * 128 + j.val % 128 = _
  omega

theorem bandVal' (b : Fin 32) (l : Fin 2048) (n : Fin 2) (d : Fin 64) (j : Fin 384) :
    (band (res_main_v241 V0) (ix5 b (blk l) j n d) : EReal) = val (kvs V0 b) (kcs V0 b) n d l ⟨j.val, by omega⟩ := by
  refine (bandVal V0 b l n d j).trans ?_
  unfold val
  refine Eq.trans ?_ (dif_pos (show j.val < 384 from j.isLt)).symm
  rfl

/-- The context's values. -/
theorem ctxVal (b : Fin 32) (l : Fin 2048) (n : Fin 2) (d : Fin 64) (j : Fin 256) :
    (argKC V0 (ix3 b j (vcol n d)) : EReal) = val (kvs V0 b) (kcs V0 b) n d l ⟨384 + j.val, by omega⟩ := by
  unfold val
  refine Eq.trans ?_ (dif_neg (show ¬ 384 + j.val < 384 by omega)).symm
  exact congrArg (fun t => argKC V0 (ix3 b t (vcol n d))) (Fin.ext (by show j.val = 384 + j.val - 384; omega))

/-- The keys of the context. -/
theorem ctxKey (b : Fin 32) (n : Fin 2) (d : Fin 64) (j : Fin 256) :
    (contextKeys V0 (res_main_v163 V0) (ix4 b j n d) : EReal) = keyc (kcs V0 b) (gks V0) n d j := by
  refine (contextKeys_at V0 _ b j n d).trans ?_
  exact congrArg (fun f => nrm f (gks V0) d) (funext fun d => v163_at V0 b j n d)

/-- A token's row of scores. -/
def row (b : Fin 32) (l : Fin 2048) (a : Fin 8) : Fin 641 → EReal := rowOf (res_main_v228 V0) b (blk l) (kvOf a) (grp a) (pos l)

theorem pick (p : Prop) [Decidable p] (x y : EReal) : Scalar.select (if p then 1#1 else 0#1) x y = if p then x else y := by
  by_cases h : p
  · rw [if_pos h, if_pos h]
    rfl
  · rw [if_neg h, if_neg h]
    rfl

theorem row_at (b : Fin 32) (l : Fin 2048) (a : Fin 8) (j : Fin 640) :
    row V0 b l a ⟨j.val, by omega⟩ = score (qs V0 b) (kvs V0 b) (kcs V0 b) (gqs V0) (gks V0) a l j := by
  unfold row rowOf
  rw [v228_eq]
  refine (allScores_at _ _ _ _ b (blk l) (kvOf a) (grp a) (pos l) _).trans ?_
  unfold score
  by_cases h : j.val < 384
  · refine (dif_pos h).trans (Eq.trans ?_ (dif_pos h).symm)
    rw [mask_at V0 (blk l) (pos l) ⟨j.val, h⟩ l (hl l)]
    refine (pick _ _ _).trans ?_
    refine congrArg (fun t => if seen l j.val then t else Ideal.ofBits .f32 0xF149F2CA#32) ?_
    refine (windowScores_at _ _ b (blk l) (kvOf a) (grp a) (pos l) ⟨j.val, h⟩).trans ?_
    refine congrArg (· * Ideal.ofBits .f32 0x3E000000#32) (Finset.sum_congr rfl fun d _ => ?_)
    exact (congrArg₂ (fun x y : EReal => x * y) (bandKey V0 b l (kvOf a) d ⟨j.val, h⟩)
      (v182_at V0 b (blk l) (pos l) (kvOf a) (grp a) d l a (hl l) (ha a))).trans (mul_comm _ _)
  · refine (dif_neg h).trans (Eq.trans ((dif_pos j.isLt).trans ?_) (dif_neg h).symm)
    refine (contextScores_at _ _ b (blk l) (kvOf a) (grp a) (pos l) _).trans ?_
    refine congrArg (· * Ideal.ofBits .f32 0x3E000000#32) (Finset.sum_congr rfl fun d _ => ?_)
    exact (congrArg₂ (fun x y : EReal => x * y) (ctxKey V0 b (kvOf a) d ⟨j.val - 384, by omega⟩)
      (v182_at V0 b (blk l) (pos l) (kvOf a) (grp a) d l a (hl l) (ha a))).trans (mul_comm _ _)

theorem row_last (b : Fin 32) (l : Fin 2048) (a : Fin 8) : row V0 b l a ⟨640, by omega⟩ = sks V0 a := by
  unfold row rowOf
  rw [v228_eq]
  refine (allScores_at _ _ _ _ b (blk l) (kvOf a) (grp a) (pos l) _).trans ?_
  refine (dif_neg (by decide)).trans ((dif_neg (by decide)).trans ?_)
  exact congrArg (fun a => argSK V0 (ix2 0 a)) (Fin.ext (ha a).symm)

theorem weight_at (b : Fin 32) (l : Fin 2048) (a : Fin 8) (j : Fin 641) :
    rowOf (res_main_v239 V0) b (blk l) (kvOf a) (grp a) (pos l) j =
    Ideal.div (rowOf (res_main_v235 V0) b (blk l) (kvOf a) (grp a) (pos l) j) (∑ k : Fin 641, rowOf (res_main_v235 V0) b (blk l) (kvOf a) (grp a) (pos l) k) :=
  v239_at V0 b (blk l) (kvOf a) (grp a) (pos l) j

/-- The result at a token, a head and a channel. -/
theorem result_out (b : Fin 32) (l : Fin 2048) (c : Fin 512) (a : Fin 8) (d : Fin 64) (ea : a.val = c.val / 64) (ed : d.val = c.val % 64)
    (hs : ∀ j, IsNum (score (qs V0 b) (kvs V0 b) (kcs V0 b) (gqs V0) (gks V0) a l j)) (hk : IsNum (sks V0 a)) :
    (result (band (res_main_v241 V0)) (argKC V0) (res_main_v239 V0) (ix3 b l c) : EReal) =
    out (qs V0 b) (kvs V0 b) (kcs V0 b) (gqs V0) (gks V0) (sks V0) l a d := by
  have e1 : (⟨c.val / 256, by omega⟩ : Fin 2) = kvOf a := Fin.ext (by show c.val / 256 = a.val / 4; omega)
  have e2 : (⟨c.val / 64 % 4, by omega⟩ : Fin 4) = grp a := Fin.ext (by show c.val / 64 % 4 = a.val % 4; omega)
  have e3 : (⟨c.val % 64, by omega⟩ : Fin 64) = d := Fin.ext ed.symm
  have e4 : (⟨128 + (c.val / 256 * 64 + c.val % 64), by omega⟩ : Fin 256) = vcol (kvOf a) d := Fin.ext (by
    show 128 + (c.val / 256 * 64 + c.val % 64) = 128 + a.val / 4 * 64 + d.val
    omega)
  refine (result_at _ _ _ b l c).trans ?_
  rw [e1, e2, e3, e4]
  unfold out
  refine Eq.trans ?_ (AttnSoft.att_eq (row V0 b l a) _ (sks V0 a) (val (kvs V0 b) (kcs V0 b) (kvOf a) d l) hs hk (row_at V0 b l a) (row_last V0 b l a)
    (rowOf (res_main_v235 V0) b (blk l) (kvOf a) (grp a) (pos l)) (fun j => v235_at V0 b (blk l) (kvOf a) (grp a) (pos l) j))
  refine congrArg₂ (· + ·) (Finset.sum_congr rfl fun x _ => ?_) (Finset.sum_congr rfl fun x _ => ?_)
  · refine congrArg₂ (fun x y : EReal => x * y) (bandVal' V0 b l (kvOf a) d x) (weight_at V0 b l a ⟨x.val, by omega⟩)
  · refine congrArg₂ (fun x y : EReal => x * y) (ctxVal V0 b l (kvOf a) d x) (weight_at V0 b l a ⟨384 + x.val, by omega⟩)

end Cert.Proof.AttnRef
end
-- ==== Proof.AttnGiven.lean ====
module

public import proofs.«01_k».proof.Defs
public import proofs.«01_k».proof.Proof.Given
public import proofs.«01_k».proof.Proof.AttnBlocks
public import proofs.«01_k».proof.Proof.AttnStep

/-!
What the attention's precondition says: the queries, the keys, the gains and the sinks are finite.
-/

@[expose] public section

set_option maxRecDepth 16384

noncomputable section

namespace Cert.Proof.AttnGiven

open Idealize.ShloMosaic Cert.Pre_finite_scores Cert.Pre_finite_scores.Facts

/-- The side conditions of the precondition's operations. -/
instance facts : Cert.Pre_finite_scores.Facts := by constructor <;> decide

/-- What the precondition gives. -/
theorem all (A : AttnBlocks.Args) (h : fn (F := Ideal) A.q A.kv A.kc A.gq A.gk A.sk = fun _ => 1#1) :
    (∀ b, AttnStep.Nums (A.qs b) (A.kvs b) (A.kcs b) A.gqs A.gks) ∧ ∀ a, Sums.IsNum (A.sks a) := by
  unfold fn fn_part1 at h
  dsimp only at h
  obtain ⟨h, hs⟩ := Given.both h
  obtain ⟨h, hgk⟩ := Given.both h
  obtain ⟨h, hgq⟩ := Given.both h
  obtain ⟨h, hc⟩ := Given.both h
  obtain ⟨hq, hk⟩ := Given.both h
  have cutK (b : Fin 32) (l : Fin 2048) (j : Fin 128) : Sums.IsNum (A.kv (ix3 b l ⟨j.val, by omega⟩)) := by
    have h1 := Given.finite hk (ix3 b l j)
    pointwise at h1
    exact h1
  have cutC (b : Fin 32) (l : Fin 256) (j : Fin 128) : Sums.IsNum (A.kc (ix3 b l ⟨j.val, by omega⟩)) := by
    have h1 := Given.finite hc (ix3 b l j)
    pointwise at h1
    exact h1
  exact ⟨fun b => ⟨fun l c => Given.finite hq _, fun l n d => cutK b l ⟨n.val * 64 + d.val, by omega⟩,
    fun l n d => cutC b l ⟨n.val * 64 + d.val, by omega⟩, fun d => Given.finite hgq _, fun d => Given.finite hgk _⟩, fun a => Given.finite hs _⟩

end Cert.Proof.AttnGiven

end
-- ==== Proof.AttnMeet.lean ====
module

public import proofs.«01_k».proof.Defs
public import proofs.«01_k».proof.Proof.ProjMeet
public import proofs.«01_k».proof.Proof.AttnOut
public import proofs.«01_k».proof.Proof.AttnJoin
public import proofs.«01_k».proof.Proof.AttnGiven

/-!
The attention's program and its reference end with the same array.
-/

@[expose] public section

set_option maxRecDepth 16384

noncomputable section

namespace Cert.Proof.AttnMeet

open Idealize.ShloMosaic Idealize.ShloMosaic.TcCoe Idealize.SL.Sem Idealize.ShloMosaic.StableHlo

/-- The reference's result over what a core holds at the launch. -/
def refOut (V0 : Valuation Cert.Reference4Ideal.τ Cert.Reference4Ideal.sig (Elt Ideal)) : FVec Ideal Cert.Reference4Ideal.S32x2048x512 .f32 :=
  AttnRef.result (AttnRef.band (Cert.Reference4Ideal.Value.res_main_v241 V0)) (AttnRef.argKC V0) (Cert.Reference4Ideal.Value.res_main_v239 V0)

theorem refOut_eq (V0 : Valuation Cert.Reference4Ideal.τ Cert.Reference4Ideal.sig (Elt Ideal)) (A : AttnBlocks.Args)
    (hq : AttnRef.argQ V0 = A.q) (hkv : AttnRef.argKV V0 = A.kv) (hkc : AttnRef.argKC V0 = A.kc) (hgq : AttnRef.argGQ V0 = A.gq)
    (hgk : AttnRef.argGK V0 = A.gk) (hsk : AttnRef.argSK V0 = A.sk)
    (hN : ∀ b, AttnStep.Nums (A.qs b) (A.kvs b) (A.kcs b) A.gqs A.gks) (hS : ∀ a, Sums.IsNum (A.sks a)) : refOut V0 = AttnOut.arr A := by
  have e1 (b : Fin 32) : AttnRef.qs V0 b = A.qs b := by unfold AttnRef.qs; rw [hq]; rfl
  have e2 (b : Fin 32) : AttnRef.kvs V0 b = A.kvs b := by unfold AttnRef.kvs; rw [hkv]; rfl
  have e3 (b : Fin 32) : AttnRef.kcs V0 b = A.kcs b := by unfold AttnRef.kcs; rw [hkc]; rfl
  have e4 : AttnRef.gqs V0 = A.gqs := by unfold AttnRef.gqs; rw [hgq]; rfl
  have e5 : AttnRef.gks V0 = A.gks := by unfold AttnRef.gks; rw [hgk]; rfl
  have e6 : AttnRef.sks V0 = A.sks := by unfold AttnRef.sks; rw [hsk]; rfl
  refine ProjMeet.ext3 fun b l c => ?_
  have h := AttnRef.result_out V0 b l c ⟨c.val / 64, by omega⟩ ⟨c.val % 64, by omega⟩ rfl rfl
  rw [e1, e2, e3, e4, e5, e6] at h
  exact h (fun j => AttnNum.scoreNum (hN b).q (hN b).k (hN b).c (hN b).gq (hN b).gk _ l j) (hS _)

/-- The reference leaves its arguments unchanged; it has no semaphore. -/
theorem frame_ri : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The arguments that the program's memory holds. -/
def held (m : (ℓ : Loc Cert.Kernel4Ideal.nD Cert.Kernel4Ideal.τ Cert.Kernel4Ideal.sig) → Buf (Elt Ideal) ℓ) (c : Dev Cert.Kernel4Ideal.nD) :
    AttnBlocks.Args where
  q := m (c.tc.loc Cert.Kernel4Ideal.main_arg0)
  kv := m (c.tc.loc Cert.Kernel4Ideal.main_arg1)
  kc := m (c.tc.loc Cert.Kernel4Ideal.main_arg2)
  gq := m (c.tc.loc Cert.Kernel4Ideal.main_arg3)
  gk := m (c.tc.loc Cert.Kernel4Ideal.main_arg4)
  sk := m (c.tc.loc Cert.Kernel4Ideal.main_arg5)

/-- The reference's run with its result named. -/
theorem run_ref (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ fun r => ∀ c : Dev Cert.Reference4Ideal.nD,
      r.2.mem ((c.tc : Thread Cert.Reference4Ideal.nD Cert.Reference4Ideal.τ).loc Cert.Reference4Ideal.main_v252) = refOut (launchContents m c)
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5) := by
  unfold refOut AttnRef.result AttnRef.band AttnRef.argKC
  exact Cert.Reference4Ideal.Value.run (F := Ideal) m ρ

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

theorem same_out
    (a0 : m' ((c.tc : Thread Cert.Reference4Ideal.nD Cert.Reference4Ideal.τ).loc Cert.Reference4Ideal.main_arg0) = (held m c).q)
    (a1 : m' ((c.tc : Thread Cert.Reference4Ideal.nD Cert.Reference4Ideal.τ).loc Cert.Reference4Ideal.main_arg1) = (held m c).kv)
    (a2 : m' ((c.tc : Thread Cert.Reference4Ideal.nD Cert.Reference4Ideal.τ).loc Cert.Reference4Ideal.main_arg2) = (held m c).kc)
    (a3 : m' ((c.tc : Thread Cert.Reference4Ideal.nD Cert.Reference4Ideal.τ).loc Cert.Reference4Ideal.main_arg3) = (held m c).gq)
    (a4 : m' ((c.tc : Thread Cert.Reference4Ideal.nD Cert.Reference4Ideal.τ).loc Cert.Reference4Ideal.main_arg4) = (held m c).gk)
    (a5 : m' ((c.tc : Thread Cert.Reference4Ideal.nD Cert.Reference4Ideal.τ).loc Cert.Reference4Ideal.main_arg5) = (held m c).sk)
    (hpre : Cert.Pre_finite_scores.fn (F := Ideal) (held m c).q (held m c).kv (held m c).kc (held m c).gq (held m c).gk (held m c).sk = fun _ => 1#1) :
    refOut (launchContents m' c) = (Cert.Kernel4Ideal.Gen.dats m 0 c).arrAt 8 Cert.Kernel4Ideal.cfg0.N := by
  obtain ⟨hN, hS⟩ := AttnGiven.all (held m c) hpre
  have H : AttnBlocks.Mem m c (held m c) := ⟨rfl, rfl, rfl, rfl, rfl, rfl⟩
  exact (refOut_eq (launchContents m' c) (held m c) a0 a1 a2 a3 a4 a5 hN hS).trans (AttnOut.final8 m c H hN).symm

end

/-- With equal arguments under the precondition the two programs end with the same array. -/
theorem same : Cert.algebraic_Kernel4Ideal_Reference4Ideal_pre_finite_scores (hKernel4Ideal := Cert.Kernel4Ideal.Gen.facts)
    (hReference4Ideal := Cert.Reference4Ideal.Gen.facts) (hPre_finite_scores := AttnGiven.facts) := fun m ρ m' ρ' hpre hag =>
  ⟨fun c => (Cert.Kernel4Ideal.Gen.dats m 0 c).arrAt 8 Cert.Kernel4Ideal.cfg0.N,
    Cert.Kernel4Ideal.Value.run_blocks m ρ,
    (θ_run Cert.Reference4Ideal.defs _ _).mono (fun r h c => by
      obtain ⟨a0, a1, a2, a3, a4, a5⟩ := hag c
      exact ⟨(h c).1.trans (same_out m m' c a0 a1 a2 a3 a4 a5 (hpre c)), (h c).2⟩)
      (run_ref m' ρ')⟩

end Cert.Proof.AttnMeet

end
-- ==== Proof.lean ====
module

public import proofs.«01_k».proof.Proof.Gen.KernelIdeal.Value
public import proofs.«01_k».proof.Proof.Gen.ReferenceIdeal.Run
public import proofs.«01_k».proof.Defs
public import proofs.«01_k».proof.Proof.Meet
public import proofs.«01_k».proof.Proof.ProjMeet
public import proofs.«01_k».proof.Proof.MergeMeet
public import proofs.«01_k».proof.Proof.AttnMeet
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference has no semaphore; its run leaves the arguments unchanged. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition, with equal arguments, the kernel and the reference end with the same array. -/
theorem same : Cert.algebraic_KernelIdeal_ReferenceIdeal_pre_routed_and_finite (hKernelIdeal := Cert.KernelIdeal.Gen.facts)
    (hReferenceIdeal := Cert.ReferenceIdeal.Gen.facts) (hPre_routed_and_finite := Given.facts) := fun m ρ m' ρ' hpre hag =>
  ⟨fun c => (Cert.KernelIdeal.Gen.dats m 0 c).arrAt 8 Cert.KernelIdeal.cfg0.N,
    Cert.KernelIdeal.Value.run_blocks m ρ,
    (θ_run Cert.ReferenceIdeal.defs _ _).mono (fun r h c => ⟨(h c).1.trans
      (Meet.results m m' c rfl rfl rfl rfl rfl rfl rfl rfl (hag c).2.1 (hag c).2.2.1 (hag c).2.2.2.1 (hag c).2.2.2.2.1
        (hag c).2.2.2.2.2.1 (hag c).2.2.2.2.2.2.1 (hag c).2.2.2.2.2.2.2 (hpre c)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Given.facts, MergeGiven.facts, AttnGiven.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, ProjMeet.frame_ri,
  fun m ρ _ => Cert.Kernel3.Gen.frame m ρ, fun m ρ _ => Cert.Kernel3Ideal.Gen.frame m ρ, fun m ρ _ => Cert.Kernel3Ideal.Gen.frame m ρ,
  MergeMeet.frame_ri, fun m ρ _ => MergeMeet.frame_ri m ρ trivial,
  fun m ρ _ => Cert.Kernel4.Gen.frame m ρ, fun m ρ _ => Cert.Kernel4Ideal.Gen.frame m ρ, fun m ρ _ => Cert.Kernel4Ideal.Gen.frame m ρ,
  AttnMeet.frame_ri, fun m ρ _ => AttnMeet.frame_ri m ρ trivial,
  trivial, same, trivial, ProjMeet.same, trivial, MergeMeet.same, trivial, AttnMeet.same⟩

end Cert.Proof

end
